-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite [hPre_finite : Cert.Pre_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite [hPre_finite : Cert.Pre_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Kernel11Ideal_pre_finite [hKernel11Ideal : Cert.Kernel11Ideal.Facts] [hPre_finite : Cert.Pre_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Reference11Ideal_pre_finite [hReference11Ideal : Cert.Reference11Ideal.Facts] [hPre_finite : Cert.Pre_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v14)) (v1 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_v16) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v11)) (v1 : (c : Dev Cert.Kernel4Ideal.nD) → Buf (Elt Ideal) ((c.tc : Thread Cert.Kernel4Ideal.nD Cert.Kernel4Ideal.τ).loc Cert.Kernel4Ideal.main_v13)) (v2 : (c : Dev Cert.Kernel4Ideal.nD) → Buf (Elt Ideal) ((c.tc : Thread Cert.Kernel4Ideal.nD Cert.Kernel4Ideal.τ).loc Cert.Kernel4Ideal.main_v15)) (v3 : (c : Dev Cert.Kernel4Ideal.nD) → Buf (Elt Ideal) ((c.tc : Thread Cert.Kernel4Ideal.nD Cert.Kernel4Ideal.τ).loc Cert.Kernel4Ideal.main_v16)) (v4 : (c : Dev Cert.Kernel4Ideal.nD) → Buf (Elt Ideal) ((c.tc : Thread Cert.Kernel4Ideal.nD Cert.Kernel4Ideal.τ).loc Cert.Kernel4Ideal.main_v17)) (v5 : (c : Dev Cert.Kernel4Ideal.nD) → Buf (Elt Ideal) ((c.tc : Thread Cert.Kernel4Ideal.nD Cert.Kernel4Ideal.τ).loc Cert.Kernel4Ideal.main_v18)) (v6 : (c : Dev Cert.Kernel4Ideal.nD) → Buf (Elt Ideal) ((c.tc : Thread Cert.Kernel4Ideal.nD Cert.Kernel4Ideal.τ).loc Cert.Kernel4Ideal.main_v19)) (v7 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_v13) = v1 c
          ∧ r.2.mem ((c.tc : Thread Cert.Kernel4Ideal.nD Cert.Kernel4Ideal.τ).loc Cert.Kernel4Ideal.main_v15) = v2 c
          ∧ r.2.mem ((c.tc : Thread Cert.Kernel4Ideal.nD Cert.Kernel4Ideal.τ).loc Cert.Kernel4Ideal.main_v16) = v3 c
          ∧ r.2.mem ((c.tc : Thread Cert.Kernel4Ideal.nD Cert.Kernel4Ideal.τ).loc Cert.Kernel4Ideal.main_v17) = v4 c
          ∧ r.2.mem ((c.tc : Thread Cert.Kernel4Ideal.nD Cert.Kernel4Ideal.τ).loc Cert.Kernel4Ideal.main_v18) = v5 c
          ∧ r.2.mem ((c.tc : Thread Cert.Kernel4Ideal.nD Cert.Kernel4Ideal.τ).loc Cert.Kernel4Ideal.main_v19) = v6 c
          ∧ r.2.mem ((c.tc : Thread Cert.Kernel4Ideal.nD Cert.Kernel4Ideal.τ).loc Cert.Kernel4Ideal.main_v20) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_v9) = v3 c
          ∧ r.2.mem ((c.tc : Thread Cert.Reference4Ideal.nD Cert.Reference4Ideal.τ).loc Cert.Reference4Ideal.main_v11) = v4 c
          ∧ r.2.mem ((c.tc : Thread Cert.Reference4Ideal.nD Cert.Reference4Ideal.τ).loc Cert.Reference4Ideal.main_v13) = v5 c
          ∧ r.2.mem ((c.tc : Thread Cert.Reference4Ideal.nD Cert.Reference4Ideal.τ).loc Cert.Reference4Ideal.main_v15) = v6 c
          ∧ r.2.mem ((c.tc : Thread Cert.Reference4Ideal.nD Cert.Reference4Ideal.τ).loc Cert.Reference4Ideal.main_v17) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v22)) (v1 : (c : Dev Cert.Kernel5Ideal.nD) → Buf (Elt Ideal) ((c.tc : Thread Cert.Kernel5Ideal.nD Cert.Kernel5Ideal.τ).loc Cert.Kernel5Ideal.main_v24)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_v24) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v12)) (v1 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_v14) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v14)) (v1 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_v16) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v7)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v13)) (v1 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13) = v0 c
          ∧ r.2.mem ((c.tc : Thread Cert.Kernel9Ideal.nD Cert.Kernel9Ideal.τ).loc Cert.Kernel9Ideal.main_v10) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v17)) (v1 : (c : Dev Cert.Kernel10Ideal.nD) → Buf (Elt Ideal) ((c.tc : Thread Cert.Kernel10Ideal.nD Cert.Kernel10Ideal.τ).loc Cert.Kernel10Ideal.main_v24)) (v2 : (c : Dev Cert.Kernel10Ideal.nD) → Buf (Elt Ideal) ((c.tc : Thread Cert.Kernel10Ideal.nD Cert.Kernel10Ideal.τ).loc Cert.Kernel10Ideal.main_v25)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v17) = v0 c
          ∧ r.2.mem ((c.tc : Thread Cert.Kernel10Ideal.nD Cert.Kernel10Ideal.τ).loc Cert.Kernel10Ideal.main_v24) = v1 c
          ∧ r.2.mem ((c.tc : Thread Cert.Kernel10Ideal.nD Cert.Kernel10Ideal.τ).loc Cert.Kernel10Ideal.main_v25) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v30) = v0 c
          ∧ r.2.mem ((c.tc : Thread Cert.Reference10Ideal.nD Cert.Reference10Ideal.τ).loc Cert.Reference10Ideal.main_v64) = v1 c
          ∧ r.2.mem ((c.tc : Thread Cert.Reference10Ideal.nD Cert.Reference10Ideal.τ).loc Cert.Reference10Ideal.main_v70) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_finite [hKernel11Ideal : Cert.Kernel11Ideal.Facts] [hReference11Ideal : Cert.Reference11Ideal.Facts] [hPre_finite : Cert.Pre_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v20)) (v1 : (c : Dev Cert.Kernel11Ideal.nD) → Buf (Elt Ideal) ((c.tc : Thread Cert.Kernel11Ideal.nD Cert.Kernel11Ideal.τ).loc Cert.Kernel11Ideal.main_v22)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v20) = v0 c
          ∧ r.2.mem ((c.tc : Thread Cert.Kernel11Ideal.nD Cert.Kernel11Ideal.τ).loc Cert.Kernel11Ideal.main_v22) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v34) = v0 c
          ∧ r.2.mem ((c.tc : Thread Cert.Reference11Ideal.nD Cert.Reference11Ideal.τ).loc Cert.Reference11Ideal.main_v68) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v12)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v12) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite (hKernel11Ideal := hKernel11Ideal) (hPre_finite := hPre_finite)
    ∧ quiescent_Reference11Ideal (hReference11Ideal := hReference11Ideal)
    ∧ quiescent_Reference11Ideal_pre_finite (hReference11Ideal := hReference11Ideal) (hPre_finite := hPre_finite)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite (hKernel11Ideal := hKernel11Ideal) (hReference11Ideal := hReference11Ideal) (hPre_finite := hPre_finite)
    ∧ preserves_Kernel12_Kernel12Ideal
    ∧ algebraic_Kernel12Ideal_Reference12Ideal (hKernel12Ideal := hKernel12Ideal) (hReference12Ideal := hReference12Ideal)
-- ==== Pre_finite.lean ====
abbrev S4x2064x4096 : Shape := ⟨3, ![4, 2064, 4096]⟩
abbrev S128x4x4096 : Shape := ⟨3, ![128, 4, 4096]⟩
abbrev S2x4096x22016 : Shape := ⟨3, ![2, 4096, 22016]⟩
abbrev S128x2x22016 : Shape := ⟨3, ![128, 2, 22016]⟩
abbrev S3x22016 : Shape := ⟨2, ![3, 22016]⟩
abbrev S22016 : Shape := ⟨1, ![22016]⟩
abbrev S2x4096x39040 : Shape := ⟨3, ![2, 4096, 39040]⟩
abbrev S_ : Shape := ⟨0, ![]⟩

class Facts : Prop where
  bcast_S_S4x2064x4096 : S_.BroadcastsInDim S4x2064x4096 (![] : Fin 0 → Fin S4x2064x4096.rank)
  reducesTo_S4x2064x4096_S_d0_1_2 : S4x2064x4096.ReducesTo [0, 1, 2] S_
  h_S_ : 0 < S_.numel
  bcast_S_S128x4x4096 : S_.BroadcastsInDim S128x4x4096 (![] : Fin 0 → Fin S128x4x4096.rank)
  reducesTo_S128x4x4096_S_d0_1_2 : S128x4x4096.ReducesTo [0, 1, 2] S_
  bcast_S_S2x4096x22016 : S_.BroadcastsInDim S2x4096x22016 (![] : Fin 0 → Fin S2x4096x22016.rank)
  reducesTo_S2x4096x22016_S_d0_1_2 : S2x4096x22016.ReducesTo [0, 1, 2] S_
  bcast_S_S128x2x22016 : S_.BroadcastsInDim S128x2x22016 (![] : Fin 0 → Fin S128x2x22016.rank)
  reducesTo_S128x2x22016_S_d0_1_2 : S128x2x22016.ReducesTo [0, 1, 2] S_
  bcast_S_S3x22016 : S_.BroadcastsInDim S3x22016 (![] : Fin 0 → Fin S3x22016.rank)
  reducesTo_S3x22016_S_d0_1 : S3x22016.ReducesTo [0, 1] S_
  bcast_S_S22016 : S_.BroadcastsInDim S22016 (![] : Fin 0 → Fin S22016.rank)
  reducesTo_S22016_S_d0 : S22016.ReducesTo [0] S_

variable [Facts]

def fn_part1 {F : FTy → Type} [FloatOps F] (main_arg4 : FVec F S3x22016 .f32) (main_arg5 : FVec F S22016 .f32) (main_v13 : IVec S_ 1) (main_v16 : IVec S128x2x22016 1) : IVec S_ 1 :=
  let main_c_5 : IVec S_ 1 := constantI S_ 1 1#1
  let main_v17 : IVec S_ 1 := (fun x v => Host.reduce IntOp.andi x v reducesTo_S128x2x22016_S_d0_1_2 h_S_) main_v16 main_c_5
  let main_v18 : IVec S_ 1 := andi main_v13 main_v17
  let main_v19 : FVec F S3x22016 .f32 := Host.absf main_arg4
  let main_cst_6 : FVec F S_ .f32 := constant S_ .f32 0x7F800000#32
  let main_v20 : FVec F S3x22016 .f32 := broadcastInDim S3x22016 ![] bcast_S_S3x22016 main_cst_6
  let main_v21 : IVec S3x22016 1 := cmpf .olt main_v19 main_v20
  let main_c_7 : IVec S_ 1 := constantI S_ 1 1#1
  let main_v22 : IVec S_ 1 := (fun x v => Host.reduce IntOp.andi x v reducesTo_S3x22016_S_d0_1 h_S_) main_v21 main_c_7
  let main_v23 : IVec S_ 1 := andi main_v18 main_v22
  let main_v24 : FVec F S22016 .f32 := Host.absf main_arg5
  let main_cst_8 : FVec F S_ .f32 := constant S_ .f32 0x7F800000#32
  let main_v25 : FVec F S22016 .f32 := broadcastInDim S22016 ![] bcast_S_S22016 main_cst_8
  let main_v26 : IVec S22016 1 := cmpf .olt main_v24 main_v25
  let main_c_9 : IVec S_ 1 := constantI S_ 1 1#1
  let main_v27 : IVec S_ 1 := (fun x v => Host.reduce IntOp.andi x v reducesTo_S22016_S_d0 h_S_) main_v26 main_c_9
  let main_v28 : IVec S_ 1 := andi main_v23 main_v27
  main_v28

def fn {F : FTy → Type} [FloatOps F] (main_arg0 : FVec F S4x2064x4096 .f32) (main_arg1 : FVec F S128x4x4096 .f32) (main_arg2 : FVec F S2x4096x22016 .f32) (main_arg3 : FVec F S128x2x22016 .f32) (main_arg4 : FVec F S3x22016 .f32) (main_arg5 : FVec F S22016 .f32) (main_arg6 : FVec F S2x4096x39040 .f32) : IVec S_ 1 :=
  let main_v0 : FVec F S4x2064x4096 .f32 := Host.absf main_arg0
  let main_cst : FVec F S_ .f32 := constant S_ .f32 0x7F800000#32
  let main_v1 : FVec F S4x2064x4096 .f32 := broadcastInDim S4x2064x4096 ![] bcast_S_S4x2064x4096 main_cst
  let main_v2 : IVec S4x2064x4096 1 := cmpf .olt main_v0 main_v1
  let main_c : IVec S_ 1 := constantI S_ 1 1#1
  let main_v3 : IVec S_ 1 := (fun x v => Host.reduce IntOp.andi x v reducesTo_S4x2064x4096_S_d0_1_2 h_S_) main_v2 main_c
  let main_v4 : FVec F S128x4x4096 .f32 := Host.absf main_arg1
  let main_cst_0 : FVec F S_ .f32 := constant S_ .f32 0x7F800000#32
  let main_v5 : FVec F S128x4x4096 .f32 := broadcastInDim S128x4x4096 ![] bcast_S_S128x4x4096 main_cst_0
  let main_v6 : IVec S128x4x4096 1 := cmpf .olt main_v4 main_v5
  let main_c_1 : IVec S_ 1 := constantI S_ 1 1#1
  let main_v7 : IVec S_ 1 := (fun x v => Host.reduce IntOp.andi x v reducesTo_S128x4x4096_S_d0_1_2 h_S_) main_v6 main_c_1
  let main_v8 : IVec S_ 1 := andi main_v3 main_v7
  let main_v9 : FVec F S2x4096x22016 .f32 := Host.absf main_arg2
  let main_cst_2 : FVec F S_ .f32 := constant S_ .f32 0x7F800000#32
  let main_v10 : FVec F S2x4096x22016 .f32 := broadcastInDim S2x4096x22016 ![] bcast_S_S2x4096x22016 main_cst_2
  let main_v11 : IVec S2x4096x22016 1 := cmpf .olt main_v9 main_v10
  let main_c_3 : IVec S_ 1 := constantI S_ 1 1#1
  let main_v12 : IVec S_ 1 := (fun x v => Host.reduce IntOp.andi x v reducesTo_S2x4096x22016_S_d0_1_2 h_S_) main_v11 main_c_3
  let main_v13 : IVec S_ 1 := andi main_v8 main_v12
  let main_v14 : FVec F S128x2x22016 .f32 := Host.absf main_arg3
  let main_cst_4 : FVec F S_ .f32 := constant S_ .f32 0x7F800000#32
  let main_v15 : FVec F S128x2x22016 .f32 := broadcastInDim S128x2x22016 ![] bcast_S_S128x2x22016 main_cst_4
  let main_v16 : IVec S128x2x22016 1 := cmpf .olt main_v14 main_v15
  fn_part1 (F := F) main_arg4 main_arg5 main_v13 main_v16
-- ==== Kernel.lean ====
abbrev S4x2064x4096 : Shape := ⟨3, ![4, 2064, 4096]⟩
abbrev S128x4x4096 : Shape := ⟨3, ![128, 4, 4096]⟩
abbrev S4096 : Shape := ⟨1, ![4096]⟩
abbrev S8256x4096 : Shape := ⟨2, ![8256, 4096]⟩
abbrev S512x4096 : Shape := ⟨2, ![512, 4096]⟩
abbrev S_ : Shape := ⟨0, ![]⟩
abbrev S176x4096 : Shape := ⟨2, ![176, 4096]⟩
abbrev S8944x4096 : Shape := ⟨2, ![8944, 4096]⟩
abbrev S1x4096 : Shape := ⟨2, ![1, 4096]⟩
abbrev S4x2048x4096 : Shape := ⟨3, ![4, 2048, 4096]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩

abbrev nBuf : Space → Nat
  | .hbm => 10
  | .vmem => 5
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S4096, .f32⟩
  | .hbm, ⟨3, _⟩ => ⟨S8256x4096, .f32⟩
  | .hbm, ⟨4, _⟩ => ⟨S512x4096, .f32⟩
  | .hbm, ⟨5, _⟩ => ⟨S_, .f32⟩
  | .hbm, ⟨6, _⟩ => ⟨S176x4096, .f32⟩
  | .hbm, ⟨7, _⟩ => ⟨S8944x4096, .f32⟩
  | .hbm, ⟨8, _⟩ => ⟨S1x4096, .f32⟩
  | .hbm, ⟨9, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x256x4096, .f32⟩
  | .local _ .vmem, ⟨4, _⟩ => ⟨S1x256x4096, .f32⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg0 : BitVec 32 := BitVec.ofNat 32 (i 0).val
  let c2064_i32 : BitVec 32 := 2064#32
  let v0 : BitVec 32 := Scalar.muli arg0 c2064_i32
  let c16_i32 : BitVec 32 := 16#32
  let v1 : BitVec 32 := Scalar.addi v0 c16_i32
  let arg1 : BitVec 32 := BitVec.ofNat 32 (i 1).val
  let c256_i32 : BitVec 32 := 256#32
  let v2 : BitVec 32 := Scalar.muli arg1 c256_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c256_i32 : BitVec 32 := 256#32
  let v2 : BitVec 32 := Scalar.muli arg1 c256_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2064x4096 : Shape := ⟨3, ![4, 2064, 4096]⟩
abbrev S128x4x4096 : Shape := ⟨3, ![128, 4, 4096]⟩
abbrev S4096 : Shape := ⟨1, ![4096]⟩
abbrev S_ : Shape := ⟨0, ![]⟩
abbrev S4x2064 : Shape := ⟨2, ![4, 2064]⟩
abbrev S4x2064x1 : Shape := ⟨3, ![4, 2064, 1]⟩
abbrev S1x1x4096 : Shape := ⟨3, ![1, 1, 4096]⟩
abbrev S4x2048x4096 : Shape := ⟨3, ![4, 2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S4096, .f32⟩
  | .hbm, ⟨3, _⟩ => ⟨S4x2064x4096, .f32⟩
  | .hbm, ⟨4, _⟩ => ⟨S_, .f32⟩
  | .hbm, ⟨5, _⟩ => ⟨S4x2064, .f32⟩
  | .hbm, ⟨6, _⟩ => ⟨S4x2064x1, .f32⟩
  | .hbm, ⟨7, _⟩ => ⟨S_, .f32⟩
  | .hbm, ⟨8, _⟩ => ⟨S4x2064x1, .f32⟩
  | .hbm, ⟨9, _⟩ => ⟨S4x2064x1, .f32⟩
  | .hbm, ⟨10, _⟩ => ⟨S_, .f32⟩
  | .hbm, ⟨11, _⟩ => ⟨S4x2064x1, .f32⟩
  | .hbm, ⟨12, _⟩ => ⟨S4x2064x1, .f32⟩
  | .hbm, ⟨13, _⟩ => ⟨S4x2064x1, .f32⟩
  | .hbm, ⟨14, _⟩ => ⟨S4x2064x4096, .f32⟩
  | .hbm, ⟨15, _⟩ => ⟨S4x2064x4096, .f32⟩
  | .hbm, ⟨16, _⟩ => ⟨S1x1x4096, .f32⟩
  | .hbm, ⟨17, _⟩ => ⟨S4x2064x4096, .f32⟩
  | .hbm, ⟨18, _⟩ => ⟨S4x2064x4096, .f32⟩
  | .hbm, ⟨19, _⟩ => ⟨S4x2048x4096, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel2.lean ====
abbrev S4x2064x4096 : Shape := ⟨3, ![4, 2064, 4096]⟩
abbrev S128x4x4096 : Shape := ⟨3, ![128, 4, 4096]⟩
abbrev S4096 : Shape := ⟨1, ![4096]⟩
abbrev S8256x4096 : Shape := ⟨2, ![8256, 4096]⟩
abbrev S512x4096 : Shape := ⟨2, ![512, 4096]⟩
abbrev S_ : Shape := ⟨0, ![]⟩
abbrev S176x4096 : Shape := ⟨2, ![176, 4096]⟩
abbrev S8944x4096 : Shape := ⟨2, ![8944, 4096]⟩
abbrev S1x4096 : Shape := ⟨2, ![1, 4096]⟩
abbrev S688x4096 : Shape := ⟨2, ![688, 4096]⟩
abbrev S344x4096 : Shape := ⟨2, ![344, 4096]⟩
abbrev S344 : Shape := ⟨1, ![344]⟩
abbrev S344x1 : Shape := ⟨2, ![344, 1]⟩

abbrev nBuf : Space → Nat
  | .hbm => 12
  | .vmem => 5
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S4096, .f32⟩
  | .hbm, ⟨3, _⟩ => ⟨S8256x4096, .f32⟩
  | .hbm, ⟨4, _⟩ => ⟨S512x4096, .f32⟩
  | .hbm, ⟨5, _⟩ => ⟨S_, .f32⟩
  | .hbm, ⟨6, _⟩ => ⟨S176x4096, .f32⟩
  | .hbm, ⟨7, _⟩ => ⟨S8944x4096, .f32⟩
  | .hbm, ⟨8, _⟩ => ⟨S1x4096, .f32⟩
  | .hbm, ⟨9, _⟩ => ⟨S688x4096, .f32⟩
  | .hbm, ⟨10, _⟩ => ⟨S512x4096, .f32⟩
  | .hbm, ⟨11, _⟩ => ⟨S128x4x4096, .f32⟩
  | .local _ .vmem, ⟨0, _⟩ => ⟨S344x4096, .f32⟩
  | .local _ .vmem, ⟨1, _⟩ => ⟨S344x4096, .f32⟩
  | .local _ .vmem, ⟨2, _⟩ => ⟨S1x4096, .f32⟩
  | .local _ .vmem, ⟨3, _⟩ => ⟨S344x4096, .f32⟩
  | .local _ .vmem, ⟨4, _⟩ => ⟨S344x4096, .f32⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S344x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S344x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4x2064x4096 : Shape := ⟨3, ![4, 2064, 4096]⟩
abbrev S128x4x4096 : Shape := ⟨3, ![128, 4, 4096]⟩
abbrev S4096 : Shape := ⟨1, ![4096]⟩
abbrev S_ : Shape := ⟨0, ![]⟩
abbrev S128x4 : Shape := ⟨2, ![128, 4]⟩
abbrev S128x4x1 : Shape := ⟨3, ![128, 4, 1]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S4096, .f32⟩
  | .hbm, ⟨3, _⟩ => ⟨S128x4x4096, .f32⟩
  | .hbm, ⟨4, _⟩ => ⟨S_, .f32⟩
  | .hbm, ⟨5, _⟩ => ⟨S128x4, .f32⟩
  | .hbm, ⟨6, _⟩ => ⟨S128x4x1, .f32⟩
  | .hbm, ⟨7, _⟩ => ⟨S_, .f32⟩
  | .hbm, ⟨8, _⟩ => ⟨S128x4x1, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S128x4x1, .f32⟩
  | .hbm, ⟨14, _⟩ => ⟨S128x4x4096, .f32⟩
  | .hbm, ⟨15, _⟩ => ⟨S128x4x4096, .f32⟩
  | .hbm, ⟨16, _⟩ => ⟨S1x1x4096, .f32⟩
  | .hbm, ⟨17, _⟩ => ⟨S128x4x4096, .f32⟩
  | .hbm, ⟨18, _⟩ => ⟨S128x4x4096, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel3.lean ====
abbrev S4x2064x11008 : Shape := ⟨3, ![4, 2064, 11008]⟩
abbrev S128x4x11008 : Shape := ⟨3, ![128, 4, 11008]⟩
abbrev S2x11008x4096 : Shape := ⟨3, ![2, 11008, 4096]⟩
abbrev S4x2064x4096 : Shape := ⟨3, ![4, 2064, 4096]⟩
abbrev S128x4x4096 : Shape := ⟨3, ![128, 4, 4096]⟩
abbrev S8256x11008 : Shape := ⟨2, ![8256, 11008]⟩
abbrev S512x11008 : Shape := ⟨2, ![512, 11008]⟩
abbrev S_ : Shape := ⟨0, ![]⟩
abbrev S176x11008 : Shape := ⟨2, ![176, 11008]⟩
abbrev S8944x11008 : Shape := ⟨2, ![8944, 11008]⟩
abbrev S1x11008x4096 : Shape := ⟨3, ![1, 11008, 4096]⟩
abbrev S11008x4096 : Shape := ⟨2, ![11008, 4096]⟩
abbrev S8256x4096 : Shape := ⟨2, ![8256, 4096]⟩
abbrev S512x4096 : Shape := ⟨2, ![512, 4096]⟩
abbrev S176x4096 : Shape := ⟨2, ![176, 4096]⟩
abbrev S8944x4096 : Shape := ⟨2, ![8944, 4096]⟩
abbrev S688x11008 : Shape := ⟨2, ![688, 11008]⟩
abbrev S11008x256 : Shape := ⟨2, ![11008, 256]⟩
abbrev S688x256 : Shape := ⟨2, ![688, 256]⟩

abbrev nBuf : Space → Nat
  | .hbm => 24
  | .vmem => 8
  | .smem => 0
  | _ => 0

abbrev bufTy : (tb : Table) → Fin (tcTables nBuf tb) → BufTy
  | .hbm, ⟨0, _⟩ => ⟨S4x2064x11008, .f32⟩
  | .hbm, ⟨1, _⟩ => ⟨S128x4x11008, .f32⟩
  | .hbm, ⟨2, _⟩ => ⟨S2x11008x4096, .f32⟩
  | .hbm, ⟨3, _⟩ => ⟨S4x2064x4096, .f32⟩
  | .hbm, ⟨4, _⟩ => ⟨S128x4x4096, .f32⟩
  | .hbm, ⟨5, _⟩ => ⟨S8256x11008, .f32⟩
  | .hbm, ⟨6, _⟩ => ⟨S512x11008, .f32⟩
  | .hbm, ⟨7, _⟩ => ⟨S_, .f32⟩
  | .hbm, ⟨8, _⟩ => ⟨S176x11008, .f32⟩
  | .hbm, ⟨9, _⟩ => ⟨S8944x11008, .f32⟩
  | .hbm, ⟨10, _⟩ => ⟨S8944x11008, .bf16⟩
  | .hbm, ⟨11, _⟩ => ⟨S1x11008x4096, .f32⟩
  | .hbm, ⟨12, _⟩ => ⟨S11008x4096, .f32⟩
  | .hbm, ⟨13, _⟩ => ⟨S11008x4096, .bf16⟩
  | .hbm, ⟨14, _⟩ => ⟨S8256x4096, .f32⟩
  | .hbm, ⟨15, _⟩ => ⟨S512x4096, .f32⟩
  | .hbm, ⟨16, _⟩ => ⟨S_, .f32⟩
  | .hbm, ⟨17, _⟩ => ⟨S176x4096, .f32⟩
  | .hbm, ⟨18, _⟩ => ⟨S8944x4096, .f32⟩
  | .hbm, ⟨19, _⟩ => ⟨S8944x4096, .f32⟩
  | .hbm, ⟨20, _⟩ => ⟨S8256x4096, .f32⟩
  | .hbm, ⟨21, _⟩ => ⟨S4x2064x4096, .f32⟩
  | .hbm, ⟨22, _⟩ => ⟨S512x4096, .f32⟩
  | .hbm, ⟨23, _⟩ => ⟨S128x4x4096, .f32⟩
  | .local _ .vmem, ⟨0, _⟩ => ⟨S688x11008, .bf16⟩
  | .local _ .vmem, ⟨1, _⟩ => ⟨S688x11008, .bf16⟩
  | .local _ .vmem, ⟨2, _⟩ => ⟨S11008x256, .bf16⟩
  | .local _ .vmem, ⟨3, _⟩ => ⟨S11008x256, .bf16⟩
  | .local _ .vmem, ⟨4, _⟩ => ⟨S688x256, .f32⟩
  | .local _ .vmem, ⟨5, _⟩ => ⟨S688x256, .f32⟩
  | .local _ .vmem, ⟨6, _⟩ => ⟨S688x256, .f32⟩
  | .local _ .vmem, ⟨7, _⟩ => ⟨S688x256, .f32⟩
  | _, _ => ⟨S4x2064x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S688x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x2064x11008 : Shape := ⟨3, ![4, 2064, 11008]⟩
abbrev S128x4x11008 : Shape := ⟨3, ![128, 4, 11008]⟩
abbrev S2x11008x4096 : Shape := ⟨3, ![2, 11008, 4096]⟩
abbrev S4x2064x4096 : Shape := ⟨3, ![4, 2064, 4096]⟩
abbrev S128x4x4096 : Shape := ⟨3, ![128, 4, 4096]⟩
abbrev S1x11008x4096 : Shape := ⟨3, ![1, 11008, 4096]⟩
abbrev S11008x4096 : Shape := ⟨2, ![11008, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2064x11008, .f32⟩
  | .hbm, ⟨1, _⟩ => ⟨S128x4x11008, .f32⟩
  | .hbm, ⟨2, _⟩ => ⟨S2x11008x4096, .f32⟩
  | .hbm, ⟨3, _⟩ => ⟨S4x2064x4096, .f32⟩
  | .hbm, ⟨4, _⟩ => ⟨S128x4x4096, .f32⟩
  | .hbm, ⟨5, _⟩ => ⟨S1x11008x4096, .f32⟩
  | .hbm, ⟨6, _⟩ => ⟨S11008x4096, .f32⟩
  | .hbm, ⟨7, _⟩ => ⟨S4x2064x4096, .f32⟩
  | .hbm, ⟨8, _⟩ => ⟨S4x2064x4096, .f32⟩
  | .hbm, ⟨9, _⟩ => ⟨S128x4x4096, .f32⟩
  | .hbm, ⟨10, _⟩ => ⟨S128x4x4096, .f32⟩
  | _, _ => ⟨S4x2064x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S4x2064x4096 : Shape := ⟨3, ![4, 2064, 4096]⟩
abbrev S128x4x4096 : Shape := ⟨3, ![128, 4, 4096]⟩
abbrev S2x4096x39040 : Shape := ⟨3, ![2, 4096, 39040]⟩
abbrev S2x4096x22016 : Shape := ⟨3, ![2, 4096, 22016]⟩
abbrev S2x11008x4096 : Shape := ⟨3, ![2, 11008, 4096]⟩
abbrev S2x4096x4096 : Shape := ⟨3, ![2, 4096, 4096]⟩
abbrev S2x8192x4096 : Shape := ⟨3, ![2, 8192, 4096]⟩
abbrev S128x3x10240 : Shape := ⟨3, ![128, 3, 10240]⟩
abbrev S8256x4096 : Shape := ⟨2, ![8256, 4096]⟩
abbrev S512x4096 : Shape := ⟨2, ![512, 4096]⟩
abbrev S_ : Shape := ⟨0, ![]⟩
abbrev S176x4096 : Shape := ⟨2, ![176, 4096]⟩
abbrev S8944x4096 : Shape := ⟨2, ![8944, 4096]⟩
abbrev S1x4096x39040 : Shape := ⟨3, ![1, 4096, 39040]⟩
abbrev S4096x39040 : Shape := ⟨2, ![4096, 39040]⟩
abbrev S8944x38912 : Shape := ⟨2, ![8944, 38912]⟩
abbrev S4096x22016 : Shape := ⟨2, ![4096, 22016]⟩
abbrev S11008x4096 : Shape := ⟨2, ![11008, 4096]⟩
abbrev S4096x4096 : Shape := ⟨2, ![4096, 4096]⟩
abbrev S8192x4096 : Shape := ⟨2, ![8192, 4096]⟩
abbrev S688x4096 : Shape := ⟨2, ![688, 4096]⟩
abbrev S4096x1024 : Shape := ⟨2, ![4096, 1024]⟩
abbrev S1x16x22016 : Shape := ⟨3, ![1, 16, 22016]⟩
abbrev S1x32x4096 : Shape := ⟨3, ![1, 32, 4096]⟩
abbrev S1x16x4096 : Shape := ⟨3, ![1, 16, 4096]⟩
abbrev S688x1024 : Shape := ⟨2, ![688, 1024]⟩
abbrev S16x22016 : Shape := ⟨2, ![16, 22016]⟩
abbrev S32x4096 : Shape := ⟨2, ![32, 4096]⟩
abbrev S16x4096 : Shape := ⟨2, ![16, 4096]⟩
abbrev S8256x38912 : Shape := ⟨2, ![8256, 38912]⟩
abbrev S4x2064x38912 : Shape := ⟨3, ![4, 2064, 38912]⟩
abbrev S512x38912 : Shape := ⟨2, ![512, 38912]⟩
abbrev S128x4x38912 : Shape := ⟨3, ![128, 4, 38912]⟩
abbrev S128x4x10240 : Shape := ⟨3, ![128, 4, 10240]⟩

abbrev nBuf : Space → Nat
  | .hbm => 36
  | .vmem => 26
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x39040, .f32⟩
  | .hbm, ⟨3, _⟩ => ⟨S2x4096x22016, .f32⟩
  | .hbm, ⟨4, _⟩ => ⟨S2x11008x4096, .f32⟩
  | .hbm, ⟨5, _⟩ => ⟨S2x4096x4096, .f32⟩
  | .hbm, ⟨6, _⟩ => ⟨S2x8192x4096, .f32⟩
  | .hbm, ⟨7, _⟩ => ⟨S2x4096x4096, .f32⟩
  | .hbm, ⟨8, _⟩ => ⟨S128x3x10240, .f32⟩
  | .hbm, ⟨9, _⟩ => ⟨S8256x4096, .f32⟩
  | .hbm, ⟨10, _⟩ => ⟨S512x4096, .f32⟩
  | .hbm, ⟨11, _⟩ => ⟨S_, .f32⟩
  | .hbm, ⟨12, _⟩ => ⟨S176x4096, .f32⟩
  | .hbm, ⟨13, _⟩ => ⟨S8944x4096, .f32⟩
  | .hbm, ⟨14, _⟩ => ⟨S8944x4096, .bf16⟩
  | .hbm, ⟨15, _⟩ => ⟨S1x4096x39040, .f32⟩
  | .hbm, ⟨16, _⟩ => ⟨S4096x39040, .f32⟩
  | .hbm, ⟨17, _⟩ => ⟨S4096x39040, .bf16⟩
  | .hbm, ⟨18, _⟩ => ⟨S8944x38912, .bf16⟩
  | .hbm, ⟨19, _⟩ => ⟨S4096x22016, .bf16⟩
  | .hbm, ⟨20, _⟩ => ⟨S11008x4096, .bf16⟩
  | .hbm, ⟨21, _⟩ => ⟨S4096x4096, .bf16⟩
  | .hbm, ⟨22, _⟩ => ⟨S8192x4096, .bf16⟩
  | .hbm, ⟨23, _⟩ => ⟨S4096x4096, .bf16⟩
  | .hbm, ⟨24, _⟩ => ⟨S8944x38912, .f32⟩
  | .hbm, ⟨25, _⟩ => ⟨S8256x38912, .f32⟩
  | .hbm, ⟨26, _⟩ => ⟨S4x2064x38912, .f32⟩
  | .hbm, ⟨27, _⟩ => ⟨S512x38912, .f32⟩
  | .hbm, ⟨28, _⟩ => ⟨S128x4x38912, .f32⟩
  | .hbm, ⟨29, _⟩ => ⟨S128x4x10240, .f32⟩
  | .hbm, ⟨30, _⟩ => ⟨S128x3x10240, .f32⟩
  | .hbm, ⟨31, _⟩ => ⟨S4096x22016, .f32⟩
  | .hbm, ⟨32, _⟩ => ⟨S11008x4096, .f32⟩
  | .hbm, ⟨33, _⟩ => ⟨S4096x4096, .f32⟩
  | .hbm, ⟨34, _⟩ => ⟨S8192x4096, .f32⟩
  | .hbm, ⟨35, _⟩ => ⟨S4096x4096, .f32⟩
  | .local _ .vmem, ⟨0, _⟩ => ⟨S688x4096, .bf16⟩
  | .local _ .vmem, ⟨1, _⟩ => ⟨S688x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x16x22016, .f32⟩
  | .local _ .vmem, ⟨5, _⟩ => ⟨S1x16x22016, .f32⟩
  | .local _ .vmem, ⟨6, _⟩ => ⟨S1x32x4096, .f32⟩
  | .local _ .vmem, ⟨7, _⟩ => ⟨S1x32x4096, .f32⟩
  | .local _ .vmem, ⟨8, _⟩ => ⟨S1x16x4096, .f32⟩
  | .local _ .vmem, ⟨9, _⟩ => ⟨S1x16x4096, .f32⟩
  | .local _ .vmem, ⟨10, _⟩ => ⟨S1x32x4096, .f32⟩
  | .local _ .vmem, ⟨11, _⟩ => ⟨S1x32x4096, .f32⟩
  | .local _ .vmem, ⟨12, _⟩ => ⟨S1x16x4096, .f32⟩
  | .local _ .vmem, ⟨13, _⟩ => ⟨S1x16x4096, .f32⟩
  | .local _ .vmem, ⟨14, _⟩ => ⟨S688x1024, .bf16⟩
  | .local _ .vmem, ⟨15, _⟩ => ⟨S688x1024, .bf16⟩
  | .local _ .vmem, ⟨16, _⟩ => ⟨S16x22016, .bf16⟩
  | .local _ .vmem, ⟨17, _⟩ => ⟨S16x22016, .bf16⟩
  | .local _ .vmem, ⟨18, _⟩ => ⟨S32x4096, .bf16⟩
  | .local _ .vmem, ⟨19, _⟩ => ⟨S32x4096, .bf16⟩
  | .local _ .vmem, ⟨20, _⟩ => ⟨S16x4096, .bf16⟩
  | .local _ .vmem, ⟨21, _⟩ => ⟨S16x4096, .bf16⟩
  | .local _ .vmem, ⟨22, _⟩ => ⟨S32x4096, .bf16⟩
  | .local _ .vmem, ⟨23, _⟩ => ⟨S32x4096, .bf16⟩
  | .local _ .vmem, ⟨24, _⟩ => ⟨S16x4096, .bf16⟩
  | .local _ .vmem, ⟨25, _⟩ => ⟨S16x4096, .bf16⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![13, 38], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.muli arg0 c38_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x22016 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x22016 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S4x2064x4096 : Shape := ⟨3, ![4, 2064, 4096]⟩
abbrev S128x4x4096 : Shape := ⟨3, ![128, 4, 4096]⟩
abbrev S2x4096x39040 : Shape := ⟨3, ![2, 4096, 39040]⟩
abbrev S2x4096x22016 : Shape := ⟨3, ![2, 4096, 22016]⟩
abbrev S2x11008x4096 : Shape := ⟨3, ![2, 11008, 4096]⟩
abbrev S2x4096x4096 : Shape := ⟨3, ![2, 4096, 4096]⟩
abbrev S2x8192x4096 : Shape := ⟨3, ![2, 8192, 4096]⟩
abbrev S128x3x10240 : Shape := ⟨3, ![128, 3, 10240]⟩
abbrev S1x4096x39040 : Shape := ⟨3, ![1, 4096, 39040]⟩
abbrev S4096x39040 : Shape := ⟨2, ![4096, 39040]⟩
abbrev S4096x38912 : Shape := ⟨2, ![4096, 38912]⟩
abbrev S4x2064x38912 : Shape := ⟨3, ![4, 2064, 38912]⟩
abbrev S128x4x38912 : Shape := ⟨3, ![128, 4, 38912]⟩
abbrev S128x4x10240 : Shape := ⟨3, ![128, 4, 10240]⟩
abbrev S128x7x10240 : Shape := ⟨3, ![128, 7, 10240]⟩
abbrev S1x4096x22016 : Shape := ⟨3, ![1, 4096, 22016]⟩
abbrev S4096x22016 : Shape := ⟨2, ![4096, 22016]⟩
abbrev S1x11008x4096 : Shape := ⟨3, ![1, 11008, 4096]⟩
abbrev S11008x4096 : Shape := ⟨2, ![11008, 4096]⟩
abbrev S1x4096x4096 : Shape := ⟨3, ![1, 4096, 4096]⟩
abbrev S4096x4096 : Shape := ⟨2, ![4096, 4096]⟩
abbrev S1x8192x4096 : Shape := ⟨3, ![1, 8192, 4096]⟩
abbrev S8192x4096 : Shape := ⟨2, ![8192, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x39040, .f32⟩
  | .hbm, ⟨3, _⟩ => ⟨S2x4096x22016, .f32⟩
  | .hbm, ⟨4, _⟩ => ⟨S2x11008x4096, .f32⟩
  | .hbm, ⟨5, _⟩ => ⟨S2x4096x4096, .f32⟩
  | .hbm, ⟨6, _⟩ => ⟨S2x8192x4096, .f32⟩
  | .hbm, ⟨7, _⟩ => ⟨S2x4096x4096, .f32⟩
  | .hbm, ⟨8, _⟩ => ⟨S128x3x10240, .f32⟩
  | .hbm, ⟨9, _⟩ => ⟨S1x4096x39040, .f32⟩
  | .hbm, ⟨10, _⟩ => ⟨S4096x39040, .f32⟩
  | .hbm, ⟨11, _⟩ => ⟨S4096x38912, .f32⟩
  | .hbm, ⟨12, _⟩ => ⟨S4x2064x38912, .f32⟩
  | .hbm, ⟨13, _⟩ => ⟨S128x4x38912, .f32⟩
  | .hbm, ⟨14, _⟩ => ⟨S128x4x10240, .f32⟩
  | .hbm, ⟨15, _⟩ => ⟨S128x7x10240, .f32⟩
  | .hbm, ⟨16, _⟩ => ⟨S128x3x10240, .f32⟩
  | .hbm, ⟨17, _⟩ => ⟨S1x4096x22016, .f32⟩
  | .hbm, ⟨18, _⟩ => ⟨S4096x22016, .f32⟩
  | .hbm, ⟨19, _⟩ => ⟨S1x11008x4096, .f32⟩
  | .hbm, ⟨20, _⟩ => ⟨S11008x4096, .f32⟩
  | .hbm, ⟨21, _⟩ => ⟨S1x4096x4096, .f32⟩
  | .hbm, ⟨22, _⟩ => ⟨S4096x4096, .f32⟩
  | .hbm, ⟨23, _⟩ => ⟨S1x8192x4096, .f32⟩
  | .hbm, ⟨24, _⟩ => ⟨S8192x4096, .f32⟩
  | .hbm, ⟨25, _⟩ => ⟨S1x4096x4096, .f32⟩
  | .hbm, ⟨26, _⟩ => ⟨S4096x4096, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel5.lean ====
abbrev S4x2064x8192 : Shape := ⟨3, ![4, 2064, 8192]⟩
abbrev S128x4x8192 : Shape := ⟨3, ![128, 4, 8192]⟩
abbrev S2x8192x4096 : Shape := ⟨3, ![2, 8192, 4096]⟩
abbrev S4x2064x38912 : Shape := ⟨3, ![4, 2064, 38912]⟩
abbrev S128x4x38912 : Shape := ⟨3, ![128, 4, 38912]⟩
abbrev S4x2064x4096 : Shape := ⟨3, ![4, 2064, 4096]⟩
abbrev S128x4x4096 : Shape := ⟨3, ![128, 4, 4096]⟩
abbrev S8256x38912 : Shape := ⟨2, ![8256, 38912]⟩
abbrev S512x38912 : Shape := ⟨2, ![512, 38912]⟩
abbrev S_ : Shape := ⟨0, ![]⟩
abbrev S176x38912 : Shape := ⟨2, ![176, 38912]⟩
abbrev S8944x38912 : Shape := ⟨2, ![8944, 38912]⟩
abbrev S8256x4096 : Shape := ⟨2, ![8256, 4096]⟩
abbrev S512x4096 : Shape := ⟨2, ![512, 4096]⟩
abbrev S176x4096 : Shape := ⟨2, ![176, 4096]⟩
abbrev S8944x4096 : Shape := ⟨2, ![8944, 4096]⟩
abbrev S8256x8192 : Shape := ⟨2, ![8256, 8192]⟩
abbrev S1x8192x4096 : Shape := ⟨3, ![1, 8192, 4096]⟩
abbrev S8192x4096 : Shape := ⟨2, ![8192, 4096]⟩
abbrev S512x8192 : Shape := ⟨2, ![512, 8192]⟩
abbrev S176x8192 : Shape := ⟨2, ![176, 8192]⟩
abbrev S688x8192 : Shape := ⟨2, ![688, 8192]⟩
abbrev S8192x256 : Shape := ⟨2, ![8192, 256]⟩
abbrev S688x256 : Shape := ⟨2, ![688, 256]⟩

abbrev nBuf : Space → Nat
  | .hbm => 35
  | .vmem => 13
  | .smem => 0
  | _ => 0

abbrev bufTy : (tb : Table) → Fin (tcTables nBuf tb) → BufTy
  | .hbm, ⟨0, _⟩ => ⟨S4x2064x8192, .f32⟩
  | .hbm, ⟨1, _⟩ => ⟨S128x4x8192, .f32⟩
  | .hbm, ⟨2, _⟩ => ⟨S2x8192x4096, .f32⟩
  | .hbm, ⟨3, _⟩ => ⟨S4x2064x38912, .f32⟩
  | .hbm, ⟨4, _⟩ => ⟨S128x4x38912, .f32⟩
  | .hbm, ⟨5, _⟩ => ⟨S4x2064x4096, .f32⟩
  | .hbm, ⟨6, _⟩ => ⟨S128x4x4096, .f32⟩
  | .hbm, ⟨7, _⟩ => ⟨S8256x38912, .f32⟩
  | .hbm, ⟨8, _⟩ => ⟨S512x38912, .f32⟩
  | .hbm, ⟨9, _⟩ => ⟨S_, .f32⟩
  | .hbm, ⟨10, _⟩ => ⟨S176x38912, .f32⟩
  | .hbm, ⟨11, _⟩ => ⟨S8944x38912, .f32⟩
  | .hbm, ⟨12, _⟩ => ⟨S8944x38912, .bf16⟩
  | .hbm, ⟨13, _⟩ => ⟨S8256x4096, .f32⟩
  | .hbm, ⟨14, _⟩ => ⟨S512x4096, .f32⟩
  | .hbm, ⟨15, _⟩ => ⟨S_, .f32⟩
  | .hbm, ⟨16, _⟩ => ⟨S176x4096, .f32⟩
  | .hbm, ⟨17, _⟩ => ⟨S8944x4096, .f32⟩
  | .hbm, ⟨18, _⟩ => ⟨S8944x4096, .bf16⟩
  | .hbm, ⟨19, _⟩ => ⟨S8256x8192, .f32⟩
  | .hbm, ⟨20, _⟩ => ⟨S8256x8192, .bf16⟩
  | .hbm, ⟨21, _⟩ => ⟨S1x8192x4096, .f32⟩
  | .hbm, ⟨22, _⟩ => ⟨S8192x4096, .f32⟩
  | .hbm, ⟨23, _⟩ => ⟨S8192x4096, .bf16⟩
  | .hbm, ⟨24, _⟩ => ⟨S512x8192, .f32⟩
  | .hbm, ⟨25, _⟩ => ⟨S_, .f32⟩
  | .hbm, ⟨26, _⟩ => ⟨S176x8192, .f32⟩
  | .hbm, ⟨27, _⟩ => ⟨S688x8192, .f32⟩
  | .hbm, ⟨28, _⟩ => ⟨S688x8192, .bf16⟩
  | .hbm, ⟨29, _⟩ => ⟨S8944x4096, .bf16⟩
  | .hbm, ⟨30, _⟩ => ⟨S8944x4096, .f32⟩
  | .hbm, ⟨31, _⟩ => ⟨S8256x4096, .f32⟩
  | .hbm, ⟨32, _⟩ => ⟨S4x2064x4096, .f32⟩
  | .hbm, ⟨33, _⟩ => ⟨S512x4096, .f32⟩
  | .hbm, ⟨34, _⟩ => ⟨S128x4x4096, .f32⟩
  | .local _ .vmem, ⟨0, _⟩ => ⟨S688x8192, .bf16⟩
  | .local _ .vmem, ⟨1, _⟩ => ⟨S688x8192, .bf16⟩
  | .local _ .vmem, ⟨2, _⟩ => ⟨S8192x256, .bf16⟩
  | .local _ .vmem, ⟨3, _⟩ => ⟨S8192x256, .bf16⟩
  | .local _ .vmem, ⟨4, _⟩ => ⟨S688x8192, .bf16⟩
  | .local _ .vmem, ⟨5, _⟩ => ⟨S688x256, .bf16⟩
  | .local _ .vmem, ⟨6, _⟩ => ⟨S688x256, .bf16⟩
  | .local _ .vmem, ⟨7, _⟩ => ⟨S688x256, .bf16⟩
  | .local _ .vmem, ⟨8, _⟩ => ⟨S688x256, .bf16⟩
  | .local _ .vmem, ⟨9, _⟩ => ⟨S688x256, .bf16⟩
  | .local _ .vmem, ⟨10, _⟩ => ⟨S688x256, .bf16⟩
  | .local _ .vmem, ⟨11, _⟩ => ⟨S688x256, .bf16⟩
  | .local _ .vmem, ⟨12, _⟩ => ⟨S688x256, .bf16⟩
  | _, _ => ⟨S4x2064x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![13, 16], ![false, false]⟩

def k0_cond1 (i : grid0.Coords) : BitVec 1 :=
  let arg0 : BitVec 32 := BitVec.ofNat 32 (i 0).val
  let c12_i32 : BitVec 32 := 12#32
  let v0 : BitVec 1 := Scalar.cmpi .slt arg0 c12_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c12_i32_0 : BitVec 32 := 12#32
  let v3 : BitVec 1 := Scalar.cmpi .eq arg0 c12_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S688x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S688x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S688x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S688x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S4x2064x8192 : Shape := ⟨3, ![4, 2064, 8192]⟩
abbrev S128x4x8192 : Shape := ⟨3, ![128, 4, 8192]⟩
abbrev S2x8192x4096 : Shape := ⟨3, ![2, 8192, 4096]⟩
abbrev S4x2064x38912 : Shape := ⟨3, ![4, 2064, 38912]⟩
abbrev S128x4x38912 : Shape := ⟨3, ![128, 4, 38912]⟩
abbrev S4x2064x4096 : Shape := ⟨3, ![4, 2064, 4096]⟩
abbrev S128x4x4096 : Shape := ⟨3, ![128, 4, 4096]⟩
abbrev S1x8192x4096 : Shape := ⟨3, ![1, 8192, 4096]⟩
abbrev S8192x4096 : Shape := ⟨2, ![8192, 4096]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4x2064x8192, .f32⟩
  | .hbm, ⟨1, _⟩ => ⟨S128x4x8192, .f32⟩
  | .hbm, ⟨2, _⟩ => ⟨S2x8192x4096, .f32⟩
  | .hbm, ⟨3, _⟩ => ⟨S4x2064x38912, .f32⟩
  | .hbm, ⟨4, _⟩ => ⟨S128x4x38912, .f32⟩
  | .hbm, ⟨5, _⟩ => ⟨S4x2064x4096, .f32⟩
  | .hbm, ⟨6, _⟩ => ⟨S128x4x4096, .f32⟩
  | .hbm, ⟨7, _⟩ => ⟨S1x8192x4096, .f32⟩
  | .hbm, ⟨8, _⟩ => ⟨S8192x4096, .f32⟩
  | .hbm, ⟨9, _⟩ => ⟨S4x2064x4096, .f32⟩
  | .hbm, ⟨10, _⟩ => ⟨S4x2064x4096, .f32⟩
  | .hbm, ⟨11, _⟩ => ⟨S4x2064x4096, .f32⟩
  | .hbm, ⟨12, _⟩ => ⟨S4x2064x4096, .f32⟩
  | .hbm, ⟨13, _⟩ => ⟨S_, .f32⟩
  | .hbm, ⟨14, _⟩ => ⟨S4x2064x4096, .f32⟩
  | .hbm, ⟨15, _⟩ => ⟨S4x2064x4096, .f32⟩
  | .hbm, ⟨16, _⟩ => ⟨S_, .f32⟩
  | .hbm, ⟨17, _⟩ => ⟨S4x2064x4096, .f32⟩
  | .hbm, ⟨18, _⟩ => ⟨S4x2064x4096, .f32⟩
  | .hbm, ⟨19, _⟩ => ⟨S4x2064x4096, .f32⟩
  | .hbm, ⟨20, _⟩ => ⟨S4x2064x4096, .f32⟩
  | .hbm, ⟨21, _⟩ => ⟨S4x2064x4096, .f32⟩
  | .hbm, ⟨22, _⟩ => ⟨S_, .f32⟩
  | .hbm, ⟨23, _⟩ => ⟨S4x2064x4096, .f32⟩
  | .hbm, ⟨24, _⟩ => ⟨S4x2064x4096, .f32⟩
  | .hbm, ⟨25, _⟩ => ⟨S_, .f32⟩
  | .hbm, ⟨26, _⟩ => ⟨S4x2064x4096, .f32⟩
  | .hbm, ⟨27, _⟩ => ⟨S4x2064x4096, .f32⟩
  | .hbm, ⟨28, _⟩ => ⟨S4x2064x4096, .f32⟩
  | .hbm, ⟨29, _⟩ => ⟨S4x2064x4096, .f32⟩
  | .hbm, ⟨30, _⟩ => ⟨S4x2064x4096, .f32⟩
  | .hbm, ⟨31, _⟩ => ⟨S1x8192x4096, .f32⟩
  | .hbm, ⟨32, _⟩ => ⟨S8192x4096, .f32⟩
  | .hbm, ⟨33, _⟩ => ⟨S128x4x4096, .f32⟩
  | .hbm, ⟨34, _⟩ => ⟨S128x4x4096, .f32⟩
  | .hbm, ⟨35, _⟩ => ⟨S128x4x4096, .f32⟩
  | .hbm, ⟨36, _⟩ => ⟨S128x4x4096, .f32⟩
  | .hbm, ⟨37, _⟩ => ⟨S_, .f32⟩
  | .hbm, ⟨38, _⟩ => ⟨S128x4x4096, .f32⟩
  | .hbm, ⟨39, _⟩ => ⟨S128x4x4096, .f32⟩
  | .hbm, ⟨40, _⟩ => ⟨S_, .f32⟩
  | .hbm, ⟨41, _⟩ => ⟨S128x4x4096, .f32⟩
  | .hbm, ⟨42, _⟩ => ⟨S128x4x4096, .f32⟩
  | .hbm, ⟨43, _⟩ => ⟨S128x4x4096, .f32⟩
  | .hbm, ⟨44, _⟩ => ⟨S128x4x4096, .f32⟩
  | .hbm, ⟨45, _⟩ => ⟨S128x4x4096, .f32⟩
  | .hbm, ⟨46, _⟩ => ⟨S_, .f32⟩
  | .hbm, ⟨47, _⟩ => ⟨S128x4x4096, .f32⟩
  | .hbm, ⟨48, _⟩ => ⟨S128x4x4096, .f32⟩
  | .hbm, ⟨49, _⟩ => ⟨S_, .f32⟩
  | .hbm, ⟨50, _⟩ => ⟨S128x4x4096, .f32⟩
  | .hbm, ⟨51, _⟩ => ⟨S128x4x4096, .f32⟩
  | .hbm, ⟨52, _⟩ => ⟨S128x4x4096, .f32⟩
  | .hbm, ⟨53, _⟩ => ⟨S128x4x4096, .f32⟩
  | .hbm, ⟨54, _⟩ => ⟨S128x4x4096, .f32⟩
  | _, _ => ⟨S4x2064x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel6.lean ====
abbrev S4x2064x4096 : Shape := ⟨3, ![4, 2064, 4096]⟩
abbrev S128x4x4096 : Shape := ⟨3, ![128, 4, 4096]⟩
abbrev S2x4096x4096 : Shape := ⟨3, ![2, 4096, 4096]⟩
abbrev S8256x4096 : Shape := ⟨2, ![8256, 4096]⟩
abbrev S1x4096x4096 : Shape := ⟨3, ![1, 4096, 4096]⟩
abbrev S4096x4096 : Shape := ⟨2, ![4096, 4096]⟩
abbrev S512x4096 : Shape := ⟨2, ![512, 4096]⟩
abbrev S_ : Shape := ⟨0, ![]⟩
abbrev S176x4096 : Shape := ⟨2, ![176, 4096]⟩
abbrev S688x4096 : Shape := ⟨2, ![688, 4096]⟩
abbrev S8944x4096 : Shape := ⟨2, ![8944, 4096]⟩
abbrev S4096x1024 : Shape := ⟨2, ![4096, 1024]⟩
abbrev S688x1024 : Shape := ⟨2, ![688, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x4096, .f32⟩
  | .hbm, ⟨3, _⟩ => ⟨S8256x4096, .f32⟩
  | .hbm, ⟨4, _⟩ => ⟨S8256x4096, .bf16⟩
  | .hbm, ⟨5, _⟩ => ⟨S1x4096x4096, .f32⟩
  | .hbm, ⟨6, _⟩ => ⟨S4096x4096, .f32⟩
  | .hbm, ⟨7, _⟩ => ⟨S4096x4096, .bf16⟩
  | .hbm, ⟨8, _⟩ => ⟨S512x4096, .f32⟩
  | .hbm, ⟨9, _⟩ => ⟨S_, .f32⟩
  | .hbm, ⟨10, _⟩ => ⟨S176x4096, .f32⟩
  | .hbm, ⟨11, _⟩ => ⟨S688x4096, .f32⟩
  | .hbm, ⟨12, _⟩ => ⟨S688x4096, .bf16⟩
  | .hbm, ⟨13, _⟩ => ⟨S8944x4096, .bf16⟩
  | .hbm, ⟨14, _⟩ => ⟨S8944x4096, .f32⟩
  | .hbm, ⟨15, _⟩ => ⟨S8256x4096, .f32⟩
  | .hbm, ⟨16, _⟩ => ⟨S4x2064x4096, .f32⟩
  | .hbm, ⟨17, _⟩ => ⟨S512x4096, .f32⟩
  | .hbm, ⟨18, _⟩ => ⟨S128x4x4096, .f32⟩
  | .local _ .vmem, ⟨0, _⟩ => ⟨S688x4096, .bf16⟩
  | .local _ .vmem, ⟨1, _⟩ => ⟨S688x4096, .bf16⟩
  | .local _ .vmem, ⟨2, _⟩ => ⟨S4096x1024, .bf16⟩
  | .local _ .vmem, ⟨3, _⟩ => ⟨S4096x1024, .bf16⟩
  | .local _ .vmem, ⟨4, _⟩ => ⟨S688x4096, .bf16⟩
  | .local _ .vmem, ⟨5, _⟩ => ⟨S688x1024, .bf16⟩
  | .local _ .vmem, ⟨6, _⟩ => ⟨S688x1024, .bf16⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 4], ![false, false]⟩

def k0_cond1 (i : grid0.Coords) : BitVec 1 :=
  let arg0 : BitVec 32 := BitVec.ofNat 32 (i 0).val
  let c12_i32 : BitVec 32 := 12#32
  let v0 : BitVec 1 := Scalar.cmpi .slt arg0 c12_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c12_i32_0 : BitVec 32 := 12#32
  let v3 : BitVec 1 := Scalar.cmpi .eq arg0 c12_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S688x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x2064x4096 : Shape := ⟨3, ![4, 2064, 4096]⟩
abbrev S128x4x4096 : Shape := ⟨3, ![128, 4, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x4096, .f32⟩
  | .hbm, ⟨3, _⟩ => ⟨S1x4096x4096, .f32⟩
  | .hbm, ⟨4, _⟩ => ⟨S4096x4096, .f32⟩
  | .hbm, ⟨5, _⟩ => ⟨S4x2064x4096, .f32⟩
  | .hbm, ⟨6, _⟩ => ⟨S1x4096x4096, .f32⟩
  | .hbm, ⟨7, _⟩ => ⟨S4096x4096, .f32⟩
  | .hbm, ⟨8, _⟩ => ⟨S128x4x4096, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4x2064x4096 : Shape := ⟨3, ![4, 2064, 4096]⟩
abbrev S128x4x4096 : Shape := ⟨3, ![128, 4, 4096]⟩
abbrev S2x4096x4096 : Shape := ⟨3, ![2, 4096, 4096]⟩
abbrev S8256x4096 : Shape := ⟨2, ![8256, 4096]⟩
abbrev S512x4096 : Shape := ⟨2, ![512, 4096]⟩
abbrev S_ : Shape := ⟨0, ![]⟩
abbrev S176x4096 : Shape := ⟨2, ![176, 4096]⟩
abbrev S8944x4096 : Shape := ⟨2, ![8944, 4096]⟩
abbrev S1x4096x4096 : Shape := ⟨3, ![1, 4096, 4096]⟩
abbrev S4096x4096 : Shape := ⟨2, ![4096, 4096]⟩
abbrev S688x4096 : Shape := ⟨2, ![688, 4096]⟩
abbrev S4096x1024 : Shape := ⟨2, ![4096, 1024]⟩
abbrev S688x1024 : Shape := ⟨2, ![688, 1024]⟩

abbrev nBuf : Space → Nat
  | .hbm => 24
  | .vmem => 8
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x4096, .f32⟩
  | .hbm, ⟨3, _⟩ => ⟨S4x2064x4096, .f32⟩
  | .hbm, ⟨4, _⟩ => ⟨S128x4x4096, .f32⟩
  | .hbm, ⟨5, _⟩ => ⟨S8256x4096, .f32⟩
  | .hbm, ⟨6, _⟩ => ⟨S512x4096, .f32⟩
  | .hbm, ⟨7, _⟩ => ⟨S_, .f32⟩
  | .hbm, ⟨8, _⟩ => ⟨S176x4096, .f32⟩
  | .hbm, ⟨9, _⟩ => ⟨S8944x4096, .f32⟩
  | .hbm, ⟨10, _⟩ => ⟨S8944x4096, .bf16⟩
  | .hbm, ⟨11, _⟩ => ⟨S1x4096x4096, .f32⟩
  | .hbm, ⟨12, _⟩ => ⟨S4096x4096, .f32⟩
  | .hbm, ⟨13, _⟩ => ⟨S4096x4096, .bf16⟩
  | .hbm, ⟨14, _⟩ => ⟨S8256x4096, .f32⟩
  | .hbm, ⟨15, _⟩ => ⟨S512x4096, .f32⟩
  | .hbm, ⟨16, _⟩ => ⟨S_, .f32⟩
  | .hbm, ⟨17, _⟩ => ⟨S176x4096, .f32⟩
  | .hbm, ⟨18, _⟩ => ⟨S8944x4096, .f32⟩
  | .hbm, ⟨19, _⟩ => ⟨S8944x4096, .f32⟩
  | .hbm, ⟨20, _⟩ => ⟨S8256x4096, .f32⟩
  | .hbm, ⟨21, _⟩ => ⟨S4x2064x4096, .f32⟩
  | .hbm, ⟨22, _⟩ => ⟨S512x4096, .f32⟩
  | .hbm, ⟨23, _⟩ => ⟨S128x4x4096, .f32⟩
  | .local _ .vmem, ⟨0, _⟩ => ⟨S688x4096, .bf16⟩
  | .local _ .vmem, ⟨1, _⟩ => ⟨S688x4096, .bf16⟩
  | .local _ .vmem, ⟨2, _⟩ => ⟨S4096x1024, .bf16⟩
  | .local _ .vmem, ⟨3, _⟩ => ⟨S4096x1024, .bf16⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x2064x4096 : Shape := ⟨3, ![4, 2064, 4096]⟩
abbrev S128x4x4096 : Shape := ⟨3, ![128, 4, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x4096, .f32⟩
  | .hbm, ⟨3, _⟩ => ⟨S4x2064x4096, .f32⟩
  | .hbm, ⟨4, _⟩ => ⟨S128x4x4096, .f32⟩
  | .hbm, ⟨5, _⟩ => ⟨S1x4096x4096, .f32⟩
  | .hbm, ⟨6, _⟩ => ⟨S4096x4096, .f32⟩
  | .hbm, ⟨7, _⟩ => ⟨S4x2064x4096, .f32⟩
  | .hbm, ⟨8, _⟩ => ⟨S4x2064x4096, .f32⟩
  | .hbm, ⟨9, _⟩ => ⟨S128x4x4096, .f32⟩
  | .hbm, ⟨10, _⟩ => ⟨S128x4x4096, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S4x2064x38912 : Shape := ⟨3, ![4, 2064, 38912]⟩
abbrev S128x4x38912 : Shape := ⟨3, ![128, 4, 38912]⟩
abbrev S3x4096 : Shape := ⟨2, ![3, 4096]⟩
abbrev S8256x38912 : Shape := ⟨2, ![8256, 38912]⟩
abbrev S512x38912 : Shape := ⟨2, ![512, 38912]⟩
abbrev S_ : Shape := ⟨0, ![]⟩
abbrev S176x38912 : Shape := ⟨2, ![176, 38912]⟩
abbrev S8944x38912 : Shape := ⟨2, ![8944, 38912]⟩
abbrev S8256x4096 : Shape := ⟨2, ![8256, 4096]⟩
abbrev S4x2x4096 : Shape := ⟨3, ![4, 2, 4096]⟩
abbrev S2064x512 : Shape := ⟨2, ![2064, 512]⟩
abbrev S3x512 : Shape := ⟨2, ![3, 512]⟩
abbrev S1x2x512 : Shape := ⟨3, ![1, 2, 512]⟩
abbrev S1x512 : Shape := ⟨2, ![1, 512]⟩
abbrev S8x512 : Shape := ⟨2, ![8, 512]⟩
abbrev S2x512 : Shape := ⟨2, ![2, 512]⟩
abbrev S4x2064x4096 : Shape := ⟨3, ![4, 2064, 4096]⟩

abbrev nBuf : Space → Nat
  | .hbm => 13
  | .vmem => 12
  | .smem => 0
  | _ => 0

abbrev bufTy : (tb : Table) → Fin (tcTables nBuf tb) → BufTy
  | .hbm, ⟨0, _⟩ => ⟨S4x2064x38912, .f32⟩
  | .hbm, ⟨1, _⟩ => ⟨S128x4x38912, .f32⟩
  | .hbm, ⟨2, _⟩ => ⟨S3x4096, .f32⟩
  | .hbm, ⟨3, _⟩ => ⟨S8256x38912, .f32⟩
  | .hbm, ⟨4, _⟩ => ⟨S512x38912, .f32⟩
  | .hbm, ⟨5, _⟩ => ⟨S_, .f32⟩
  | .hbm, ⟨6, _⟩ => ⟨S176x38912, .f32⟩
  | .hbm, ⟨7, _⟩ => ⟨S8944x38912, .f32⟩
  | .hbm, ⟨8, _⟩ => ⟨S8944x38912, .bf16⟩
  | .hbm, ⟨9, _⟩ => ⟨S8256x4096, .bf16⟩
  | .hbm, ⟨10, _⟩ => ⟨S4x2x4096, .f32⟩
  | .hbm, ⟨11, _⟩ => ⟨S8256x4096, .f32⟩
  | .hbm, ⟨12, _⟩ => ⟨S4x2064x4096, .f32⟩
  | .local _ .vmem, ⟨0, _⟩ => ⟨S2064x512, .bf16⟩
  | .local _ .vmem, ⟨1, _⟩ => ⟨S2064x512, .bf16⟩
  | .local _ .vmem, ⟨2, _⟩ => ⟨S2064x512, .bf16⟩
  | .local _ .vmem, ⟨3, _⟩ => ⟨S2064x512, .bf16⟩
  | .local _ .vmem, ⟨4, _⟩ => ⟨S2064x512, .bf16⟩
  | .local _ .vmem, ⟨5, _⟩ => ⟨S2064x512, .bf16⟩
  | .local _ .vmem, ⟨6, _⟩ => ⟨S3x512, .f32⟩
  | .local _ .vmem, ⟨7, _⟩ => ⟨S3x512, .f32⟩
  | .local _ .vmem, ⟨8, _⟩ => ⟨S2064x512, .bf16⟩
  | .local _ .vmem, ⟨9, _⟩ => ⟨S2064x512, .bf16⟩
  | .local _ .vmem, ⟨10, _⟩ => ⟨S1x2x512, .f32⟩
  | .local _ .vmem, ⟨11, _⟩ => ⟨S1x2x512, .f32⟩
  | _, _ => ⟨S4x2064x38912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2064x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4x2064x38912 : Shape := ⟨3, ![4, 2064, 38912]⟩
abbrev S128x4x38912 : Shape := ⟨3, ![128, 4, 38912]⟩
abbrev S3x4096 : Shape := ⟨2, ![3, 4096]⟩
abbrev S_ : Shape := ⟨0, ![]⟩
abbrev S4x2x4096 : Shape := ⟨3, ![4, 2, 4096]⟩
abbrev S4x2064x4096 : Shape := ⟨3, ![4, 2064, 4096]⟩
abbrev S4x2066x4096 : Shape := ⟨3, ![4, 2066, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x2064x38912, .f32⟩
  | .hbm, ⟨1, _⟩ => ⟨S128x4x38912, .f32⟩
  | .hbm, ⟨2, _⟩ => ⟨S3x4096, .f32⟩
  | .hbm, ⟨3, _⟩ => ⟨S_, .f32⟩
  | .hbm, ⟨4, _⟩ => ⟨S4x2x4096, .f32⟩
  | .hbm, ⟨5, _⟩ => ⟨S4x2064x4096, .f32⟩
  | .hbm, ⟨6, _⟩ => ⟨S4x2064x4096, .f32⟩
  | .hbm, ⟨7, _⟩ => ⟨S4x2064x4096, .f32⟩
  | .hbm, ⟨8, _⟩ => ⟨S4x2064x4096, .f32⟩
  | .hbm, ⟨9, _⟩ => ⟨S4x2066x4096, .f32⟩
  | .hbm, ⟨10, _⟩ => ⟨S1x4096, .f32⟩
  | .hbm, ⟨11, _⟩ => ⟨S4096, .f32⟩
  | .hbm, ⟨12, _⟩ => ⟨S4x2064x4096, .f32⟩
  | .hbm, ⟨13, _⟩ => ⟨S1x1x4096, .f32⟩
  | .hbm, ⟨14, _⟩ => ⟨S4x2064x4096, .f32⟩
  | .hbm, ⟨15, _⟩ => ⟨S4x2064x4096, .f32⟩
  | .hbm, ⟨16, _⟩ => ⟨S_, .f32⟩
  | .hbm, ⟨17, _⟩ => ⟨S4x2064x4096, .f32⟩
  | .hbm, ⟨18, _⟩ => ⟨S4x2064x4096, .f32⟩
  | .hbm, ⟨19, _⟩ => ⟨S1x4096, .f32⟩
  | .hbm, ⟨20, _⟩ => ⟨S4096, .f32⟩
  | .hbm, ⟨21, _⟩ => ⟨S4x2064x4096, .f32⟩
  | .hbm, ⟨22, _⟩ => ⟨S1x1x4096, .f32⟩
  | .hbm, ⟨23, _⟩ => ⟨S4x2064x4096, .f32⟩
  | .hbm, ⟨24, _⟩ => ⟨S4x2064x4096, .f32⟩
  | .hbm, ⟨25, _⟩ => ⟨S4x2064x4096, .f32⟩
  | .hbm, ⟨26, _⟩ => ⟨S1x4096, .f32⟩
  | .hbm, ⟨27, _⟩ => ⟨S4096, .f32⟩
  | .hbm, ⟨28, _⟩ => ⟨S4x2064x4096, .f32⟩
  | .hbm, ⟨29, _⟩ => ⟨S1x1x4096, .f32⟩
  | .hbm, ⟨30, _⟩ => ⟨S4x2064x4096, .f32⟩
  | .hbm, ⟨31, _⟩ => ⟨S4x2064x4096, .f32⟩
  | .hbm, ⟨32, _⟩ => ⟨S4x2064x4096, .f32⟩
  | .hbm, ⟨33, _⟩ => ⟨S4x2x4096, .f32⟩
  | .hbm, ⟨34, _⟩ => ⟨S4x2064x4096, .f32⟩
  | _, _ => ⟨S4x2064x38912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Kernel9.lean ====
abbrev S4x2064x38912 : Shape := ⟨3, ![4, 2064, 38912]⟩
abbrev S128x4x38912 : Shape := ⟨3, ![128, 4, 38912]⟩
abbrev S128x2x4096 : Shape := ⟨3, ![128, 2, 4096]⟩
abbrev S3x4096 : Shape := ⟨2, ![3, 4096]⟩
abbrev S8256x38912 : Shape := ⟨2, ![8256, 38912]⟩
abbrev S512x38912 : Shape := ⟨2, ![512, 38912]⟩
abbrev S_ : Shape := ⟨0, ![]⟩
abbrev S176x38912 : Shape := ⟨2, ![176, 38912]⟩
abbrev S8944x38912 : Shape := ⟨2, ![8944, 38912]⟩
abbrev S174x4x4096 : Shape := ⟨3, ![174, 4, 4096]⟩
abbrev S696x4096 : Shape := ⟨2, ![696, 4096]⟩
abbrev S688x4096 : Shape := ⟨2, ![688, 4096]⟩
abbrev S688x512 : Shape := ⟨2, ![688, 512]⟩
abbrev S3x512 : Shape := ⟨2, ![3, 512]⟩
abbrev S1x512 : Shape := ⟨2, ![1, 512]⟩
abbrev S512x4096 : Shape := ⟨2, ![512, 4096]⟩
abbrev S128x4x4096 : Shape := ⟨3, ![128, 4, 4096]⟩

abbrev nBuf : Space → Nat
  | .hbm => 22
  | .vmem => 14
  | .smem => 0
  | _ => 0

abbrev bufTy : (tb : Table) → Fin (tcTables nBuf tb) → BufTy
  | .hbm, ⟨0, _⟩ => ⟨S4x2064x38912, .f32⟩
  | .hbm, ⟨1, _⟩ => ⟨S128x4x38912, .f32⟩
  | .hbm, ⟨2, _⟩ => ⟨S128x2x4096, .f32⟩
  | .hbm, ⟨3, _⟩ => ⟨S3x4096, .f32⟩
  | .hbm, ⟨4, _⟩ => ⟨S8256x38912, .f32⟩
  | .hbm, ⟨5, _⟩ => ⟨S512x38912, .f32⟩
  | .hbm, ⟨6, _⟩ => ⟨S_, .f32⟩
  | .hbm, ⟨7, _⟩ => ⟨S176x38912, .f32⟩
  | .hbm, ⟨8, _⟩ => ⟨S8944x38912, .f32⟩
  | .hbm, ⟨9, _⟩ => ⟨S8944x38912, .bf16⟩
  | .hbm, ⟨10, _⟩ => ⟨S_, .i32⟩
  | .hbm, ⟨11, _⟩ => ⟨S_, .f32⟩
  | .hbm, ⟨12, _⟩ => ⟨S174x4x4096, .f32⟩
  | .hbm, ⟨13, _⟩ => ⟨S696x4096, .f32⟩
  | .hbm, ⟨14, _⟩ => ⟨S688x4096, .bf16⟩
  | .hbm, ⟨15, _⟩ => ⟨S688x4096, .f32⟩
  | .hbm, ⟨16, _⟩ => ⟨S512x4096, .f32⟩
  | .hbm, ⟨17, _⟩ => ⟨S128x4x4096, .f32⟩
  | .hbm, ⟨18, _⟩ => ⟨S128x2x4096, .f32⟩
  | .hbm, ⟨19, _⟩ => ⟨S688x4096, .f32⟩
  | .hbm, ⟨20, _⟩ => ⟨S512x4096, .f32⟩
  | .hbm, ⟨21, _⟩ => ⟨S128x4x4096, .f32⟩
  | .local _ .vmem, ⟨0, _⟩ => ⟨S688x512, .bf16⟩
  | .local _ .vmem, ⟨1, _⟩ => ⟨S688x512, .bf16⟩
  | .local _ .vmem, ⟨2, _⟩ => ⟨S688x512, .bf16⟩
  | .local _ .vmem, ⟨3, _⟩ => ⟨S688x512, .bf16⟩
  | .local _ .vmem, ⟨4, _⟩ => ⟨S688x512, .bf16⟩
  | .local _ .vmem, ⟨5, _⟩ => ⟨S688x512, .bf16⟩
  | .local _ .vmem, ⟨6, _⟩ => ⟨S688x512, .f32⟩
  | .local _ .vmem, ⟨7, _⟩ => ⟨S688x512, .f32⟩
  | .local _ .vmem, ⟨8, _⟩ => ⟨S3x512, .f32⟩
  | .local _ .vmem, ⟨9, _⟩ => ⟨S3x512, .f32⟩
  | .local _ .vmem, ⟨10, _⟩ => ⟨S688x512, .bf16⟩
  | .local _ .vmem, ⟨11, _⟩ => ⟨S688x512, .bf16⟩
  | .local _ .vmem, ⟨12, _⟩ => ⟨S688x512, .f32⟩
  | .local _ .vmem, ⟨13, _⟩ => ⟨S688x512, .f32⟩
  | _, _ => ⟨S4x2064x38912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c12_i32 : BitVec 32 := 12#32
  let c0_i32 : BitVec 32 := 0#32
  ![c12_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi arg0 c24_i32
  let c12_i32 : BitVec 32 := 12#32
  let c0_i32 : BitVec 32 := 0#32
  ![c12_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c12_i32 : BitVec 32 := 12#32
  let c0_i32 : BitVec 32 := 0#32
  ![c12_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4x2064x38912 : Shape := ⟨3, ![4, 2064, 38912]⟩
abbrev S128x4x38912 : Shape := ⟨3, ![128, 4, 38912]⟩
abbrev S128x2x4096 : Shape := ⟨3, ![128, 2, 4096]⟩
abbrev S3x4096 : Shape := ⟨2, ![3, 4096]⟩
abbrev S128x4x4096 : Shape := ⟨3, ![128, 4, 4096]⟩
abbrev S128x6x4096 : Shape := ⟨3, ![128, 6, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4x2064x38912, .f32⟩
  | .hbm, ⟨1, _⟩ => ⟨S128x4x38912, .f32⟩
  | .hbm, ⟨2, _⟩ => ⟨S128x2x4096, .f32⟩
  | .hbm, ⟨3, _⟩ => ⟨S3x4096, .f32⟩
  | .hbm, ⟨4, _⟩ => ⟨S128x4x4096, .f32⟩
  | .hbm, ⟨5, _⟩ => ⟨S128x4x4096, .f32⟩
  | .hbm, ⟨6, _⟩ => ⟨S128x4x4096, .f32⟩
  | .hbm, ⟨7, _⟩ => ⟨S128x4x4096, .f32⟩
  | .hbm, ⟨8, _⟩ => ⟨S128x6x4096, .f32⟩
  | .hbm, ⟨9, _⟩ => ⟨S1x4096, .f32⟩
  | .hbm, ⟨10, _⟩ => ⟨S4096, .f32⟩
  | .hbm, ⟨11, _⟩ => ⟨S128x4x4096, .f32⟩
  | .hbm, ⟨12, _⟩ => ⟨S1x1x4096, .f32⟩
  | .hbm, ⟨13, _⟩ => ⟨S128x4x4096, .f32⟩
  | .hbm, ⟨14, _⟩ => ⟨S128x4x4096, .f32⟩
  | .hbm, ⟨15, _⟩ => ⟨S_, .f32⟩
  | .hbm, ⟨16, _⟩ => ⟨S128x4x4096, .f32⟩
  | .hbm, ⟨17, _⟩ => ⟨S128x4x4096, .f32⟩
  | .hbm, ⟨18, _⟩ => ⟨S1x4096, .f32⟩
  | .hbm, ⟨19, _⟩ => ⟨S4096, .f32⟩
  | .hbm, ⟨20, _⟩ => ⟨S128x4x4096, .f32⟩
  | .hbm, ⟨21, _⟩ => ⟨S1x1x4096, .f32⟩
  | .hbm, ⟨22, _⟩ => ⟨S128x4x4096, .f32⟩
  | .hbm, ⟨23, _⟩ => ⟨S128x4x4096, .f32⟩
  | .hbm, ⟨24, _⟩ => ⟨S128x4x4096, .f32⟩
  | .hbm, ⟨25, _⟩ => ⟨S1x4096, .f32⟩
  | .hbm, ⟨26, _⟩ => ⟨S4096, .f32⟩
  | .hbm, ⟨27, _⟩ => ⟨S128x4x4096, .f32⟩
  | .hbm, ⟨28, _⟩ => ⟨S1x1x4096, .f32⟩
  | .hbm, ⟨29, _⟩ => ⟨S128x4x4096, .f32⟩
  | .hbm, ⟨30, _⟩ => ⟨S128x4x4096, .f32⟩
  | .hbm, ⟨31, _⟩ => ⟨S128x4x4096, .f32⟩
  | .hbm, ⟨32, _⟩ => ⟨S128x2x4096, .f32⟩
  | .hbm, ⟨33, _⟩ => ⟨S128x4x4096, .f32⟩
  | _, _ => ⟨S4x2064x38912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel10.lean ====
abbrev S4x2064x4096 : Shape := ⟨3, ![4, 2064, 4096]⟩
abbrev S128x4x4096 : Shape := ⟨3, ![128, 4, 4096]⟩
abbrev S2x4096x22016 : Shape := ⟨3, ![2, 4096, 22016]⟩
abbrev S128x2x22016 : Shape := ⟨3, ![128, 2, 22016]⟩
abbrev S3x22016 : Shape := ⟨2, ![3, 22016]⟩
abbrev S22016 : Shape := ⟨1, ![22016]⟩
abbrev S2x4096x39040 : Shape := ⟨3, ![2, 4096, 39040]⟩
abbrev S8256x4096 : Shape := ⟨2, ![8256, 4096]⟩
abbrev S512x4096 : Shape := ⟨2, ![512, 4096]⟩
abbrev S_ : Shape := ⟨0, ![]⟩
abbrev S176x4096 : Shape := ⟨2, ![176, 4096]⟩
abbrev S8944x4096 : Shape := ⟨2, ![8944, 4096]⟩
abbrev S1x4096x22016 : Shape := ⟨3, ![1, 4096, 22016]⟩
abbrev S4096x22016 : Shape := ⟨2, ![4096, 22016]⟩
abbrev S174x4x22016 : Shape := ⟨3, ![174, 4, 22016]⟩
abbrev S696x22016 : Shape := ⟨2, ![696, 22016]⟩
abbrev S1x22016 : Shape := ⟨2, ![1, 22016]⟩
abbrev S8944x11008 : Shape := ⟨2, ![8944, 11008]⟩
abbrev S13x2x2x11008 : Shape := ⟨4, ![13, 2, 2, 11008]⟩
abbrev S2x688x11008 : Shape := ⟨3, ![2, 688, 11008]⟩
abbrev S4096x39040 : Shape := ⟨2, ![4096, 39040]⟩
abbrev S688x4096 : Shape := ⟨2, ![688, 4096]⟩
abbrev S4096x256 : Shape := ⟨2, ![4096, 256]⟩
abbrev S696x256 : Shape := ⟨2, ![696, 256]⟩
abbrev S3x256 : Shape := ⟨2, ![3, 256]⟩
abbrev S1x256 : Shape := ⟨2, ![1, 256]⟩
abbrev S1x16x39040 : Shape := ⟨3, ![1, 16, 39040]⟩
abbrev S688x256 : Shape := ⟨2, ![688, 256]⟩
abbrev S1x2x2x256 : Shape := ⟨4, ![1, 2, 2, 256]⟩
abbrev S2x688x256 : Shape := ⟨3, ![2, 688, 256]⟩
abbrev S16x39040 : Shape := ⟨2, ![16, 39040]⟩
abbrev S2x696x256 : Shape := ⟨3, ![2, 696, 256]⟩
abbrev S43x2x8x256 : Shape := ⟨4, ![43, 2, 8, 256]⟩
abbrev S1x688x256 : Shape := ⟨3, ![1, 688, 256]⟩
abbrev S1x1x8x256 : Shape := ⟨4, ![1, 1, 8, 256]⟩
abbrev S8x256 : Shape := ⟨2, ![8, 256]⟩
abbrev S1x8x256 : Shape := ⟨3, ![1, 8, 256]⟩
abbrev S2x256 : Shape := ⟨2, ![2, 256]⟩
abbrev S1x1x2x256 : Shape := ⟨4, ![1, 1, 2, 256]⟩
abbrev S688x1 : Shape := ⟨2, ![688, 1]⟩
abbrev S4x2x2x11008 : Shape := ⟨4, ![4, 2, 2, 11008]⟩
abbrev S4x1x2x11008 : Shape := ⟨4, ![4, 1, 2, 11008]⟩
abbrev S4x2x11008 : Shape := ⟨3, ![4, 2, 11008]⟩
abbrev S4x2x22016 : Shape := ⟨3, ![4, 2, 22016]⟩
abbrev S1x512x11008 : Shape := ⟨3, ![1, 512, 11008]⟩
abbrev S512x11008 : Shape := ⟨2, ![512, 11008]⟩
abbrev S512x22016 : Shape := ⟨2, ![512, 22016]⟩
abbrev S128x4x22016 : Shape := ⟨3, ![128, 4, 22016]⟩

abbrev nBuf : Space → Nat
  | .hbm => 39
  | .vmem => 30
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x22016, .f32⟩
  | .hbm, ⟨3, _⟩ => ⟨S128x2x22016, .f32⟩
  | .hbm, ⟨4, _⟩ => ⟨S3x22016, .f32⟩
  | .hbm, ⟨5, _⟩ => ⟨S22016, .f32⟩
  | .hbm, ⟨6, _⟩ => ⟨S2x4096x39040, .f32⟩
  | .hbm, ⟨7, _⟩ => ⟨S8256x4096, .f32⟩
  | .hbm, ⟨8, _⟩ => ⟨S512x4096, .f32⟩
  | .hbm, ⟨9, _⟩ => ⟨S_, .f32⟩
  | .hbm, ⟨10, _⟩ => ⟨S176x4096, .f32⟩
  | .hbm, ⟨11, _⟩ => ⟨S8944x4096, .f32⟩
  | .hbm, ⟨12, _⟩ => ⟨S8944x4096, .bf16⟩
  | .hbm, ⟨13, _⟩ => ⟨S1x4096x22016, .f32⟩
  | .hbm, ⟨14, _⟩ => ⟨S4096x22016, .f32⟩
  | .hbm, ⟨15, _⟩ => ⟨S4096x22016, .bf16⟩
  | .hbm, ⟨16, _⟩ => ⟨S_, .i32⟩
  | .hbm, ⟨17, _⟩ => ⟨S_, .f32⟩
  | .hbm, ⟨18, _⟩ => ⟨S174x4x22016, .f32⟩
  | .hbm, ⟨19, _⟩ => ⟨S696x22016, .f32⟩
  | .hbm, ⟨20, _⟩ => ⟨S1x22016, .f32⟩
  | .hbm, ⟨21, _⟩ => ⟨S8944x11008, .bf16⟩
  | .hbm, ⟨22, _⟩ => ⟨S13x2x2x11008, .f32⟩
  | .hbm, ⟨23, _⟩ => ⟨S2x688x11008, .f32⟩
  | .hbm, ⟨24, _⟩ => ⟨S4096x39040, .bf16⟩
  | .hbm, ⟨25, _⟩ => ⟨S4x2x2x11008, .f32⟩
  | .hbm, ⟨26, _⟩ => ⟨S4x1x2x11008, .f32⟩
  | .hbm, ⟨27, _⟩ => ⟨S4x2x11008, .f32⟩
  | .hbm, ⟨28, _⟩ => ⟨S4x1x2x11008, .f32⟩
  | .hbm, ⟨29, _⟩ => ⟨S4x2x11008, .f32⟩
  | .hbm, ⟨30, _⟩ => ⟨S4x2x22016, .f32⟩
  | .hbm, ⟨31, _⟩ => ⟨S1x512x11008, .f32⟩
  | .hbm, ⟨32, _⟩ => ⟨S512x11008, .f32⟩
  | .hbm, ⟨33, _⟩ => ⟨S1x512x11008, .f32⟩
  | .hbm, ⟨34, _⟩ => ⟨S512x11008, .f32⟩
  | .hbm, ⟨35, _⟩ => ⟨S512x22016, .f32⟩
  | .hbm, ⟨36, _⟩ => ⟨S128x4x22016, .f32⟩
  | .hbm, ⟨37, _⟩ => ⟨S128x2x22016, .f32⟩
  | .hbm, ⟨38, _⟩ => ⟨S4096x39040, .f32⟩
  | .local _ .vmem, ⟨0, _⟩ => ⟨S688x4096, .bf16⟩
  | .local _ .vmem, ⟨1, _⟩ => ⟨S688x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S696x256, .f32⟩
  | .local _ .vmem, ⟨7, _⟩ => ⟨S696x256, .f32⟩
  | .local _ .vmem, ⟨8, _⟩ => ⟨S696x256, .f32⟩
  | .local _ .vmem, ⟨9, _⟩ => ⟨S696x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x16x39040, .f32⟩
  | .local _ .vmem, ⟨19, _⟩ => ⟨S1x16x39040, .f32⟩
  | .local _ .vmem, ⟨20, _⟩ => ⟨S688x256, .bf16⟩
  | .local _ .vmem, ⟨21, _⟩ => ⟨S688x256, .bf16⟩
  | .local _ .vmem, ⟨22, _⟩ => ⟨S1x2x2x256, .f32⟩
  | .local _ .vmem, ⟨23, _⟩ => ⟨S1x2x2x256, .f32⟩
  | .local _ .vmem, ⟨24, _⟩ => ⟨S2x688x256, .f32⟩
  | .local _ .vmem, ⟨25, _⟩ => ⟨S2x688x256, .f32⟩
  | .local _ .vmem, ⟨26, _⟩ => ⟨S16x39040, .bf16⟩
  | .local _ .vmem, ⟨27, _⟩ => ⟨S16x39040, .bf16⟩
  | .local _ .vmem, ⟨28, _⟩ => ⟨S2x696x256, .f32⟩
  | .local _ .vmem, ⟨29, _⟩ => ⟨S43x2x8x256, .f32⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![13, 43], ![false, false]⟩

def k0_cond2 (i : grid0.Coords) : BitVec 1 :=
  let arg0 : BitVec 32 := BitVec.ofNat 32 (i 0).val
  let c12_i32 : BitVec 32 := 12#32
  let v9 : BitVec 1 := Scalar.cmpi .slt arg0 c12_i32
  let v10 : BitVec 32 := Scalar.extui v9
  let c0_i32_6 : BitVec 32 := 0#32
  let v11 : BitVec 1 := Scalar.cmpi .ne v10 c0_i32_6
  v11

def k0_off1 (i : grid0.Coords) : Fin 4 → Nat :=
  let arg1 : BitVec 32 := BitVec.ofNat 32 (i 1).val
  let v40 : Index := Scalar.indexCast arg1
  let c0_25 : Index := 0#32
  let c0_26 : Index := 0#32
  let c0_27 : Index := 0#32
  ![v40.toNat, 0, 0, 0]
def k0_off2 (i : grid0.Coords) : Fin 4 → Nat :=
  let arg1 : BitVec 32 := BitVec.ofNat 32 (i 1).val
  let v48 : Index := Scalar.indexCast arg1
  let c1_32 : Index := 1#32
  let c0_33 : Index := 0#32
  let c0_34 : Index := 0#32
  ![v48.toNat, 1, 0, 0]
def k0_cond3 (i : grid0.Coords) : BitVec 1 :=
  let arg0 : BitVec 32 := BitVec.ofNat 32 (i 0).val
  let c12_i32_7 : BitVec 32 := 12#32
  let v12 : BitVec 1 := Scalar.cmpi .eq arg0 c12_i32_7
  let v13 : BitVec 32 := Scalar.extui v12
  let c0_i32_8 : BitVec 32 := 0#32
  let v14 : BitVec 1 := Scalar.cmpi .ne v13 c0_i32_8
  v14

def k0_off3 (i : grid0.Coords) : Fin 4 → Nat :=
  let arg1 : BitVec 32 := BitVec.ofNat 32 (i 1).val
  let v138 : Index := Scalar.indexCast arg1
  let c0_74 : Index := 0#32
  let c0_75 : Index := 0#32
  let c0_76 : Index := 0#32
  ![v138.toNat, 0, 0, 0]
def k0_off4 (i : grid0.Coords) : Fin 4 → Nat :=
  let arg1 : BitVec 32 := BitVec.ofNat 32 (i 1).val
  let v148 : Index := Scalar.indexCast arg1
  let c1_84 : Index := 1#32
  let c0_85 : Index := 0#32
  let c0_86 : Index := 0#32
  ![v148.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c0_i32 : BitVec 32 := 0#32
  let v1 : BitVec 32 := Scalar.select v0 arg1 c0_i32
  let c43_i32 : BitVec 32 := 43#32
  let v2 : BitVec 32 := Scalar.addi v1 c43_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c1_i32 : BitVec 32 := 1#32
  let c0_i32 : BitVec 32 := 0#32
  let c0_i32_0 : BitVec 32 := 0#32
  ![c1_i32.toNat, v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, c0_i32_1.toNat, v1.toNat]

def cc0_transform_13 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S696x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S696x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x16x39040 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S688x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x688x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x39040 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference10Ideal.lean ====
abbrev S4x2064x4096 : Shape := ⟨3, ![4, 2064, 4096]⟩
abbrev S128x4x4096 : Shape := ⟨3, ![128, 4, 4096]⟩
abbrev S2x4096x22016 : Shape := ⟨3, ![2, 4096, 22016]⟩
abbrev S128x2x22016 : Shape := ⟨3, ![128, 2, 22016]⟩
abbrev S3x22016 : Shape := ⟨2, ![3, 22016]⟩
abbrev S22016 : Shape := ⟨1, ![22016]⟩
abbrev S2x4096x39040 : Shape := ⟨3, ![2, 4096, 39040]⟩
abbrev S1x4096x22016 : Shape := ⟨3, ![1, 4096, 22016]⟩
abbrev S4096x22016 : Shape := ⟨2, ![4096, 22016]⟩
abbrev S_ : Shape := ⟨0, ![]⟩
abbrev S4x2x22016 : Shape := ⟨3, ![4, 2, 22016]⟩
abbrev S4x2064x22016 : Shape := ⟨3, ![4, 2064, 22016]⟩
abbrev S4x2066x22016 : Shape := ⟨3, ![4, 2066, 22016]⟩
abbrev S1x22016 : Shape := ⟨2, ![1, 22016]⟩
abbrev S1x1x22016 : Shape := ⟨3, ![1, 1, 22016]⟩
abbrev S4x2064x11008 : Shape := ⟨3, ![4, 2064, 11008]⟩
abbrev S128x4x22016 : Shape := ⟨3, ![128, 4, 22016]⟩
abbrev S128x6x22016 : Shape := ⟨3, ![128, 6, 22016]⟩
abbrev S128x4x11008 : Shape := ⟨3, ![128, 4, 11008]⟩
abbrev S1x4096x39040 : Shape := ⟨3, ![1, 4096, 39040]⟩
abbrev S4096x39040 : Shape := ⟨2, ![4096, 39040]⟩

abbrev nBuf : Space → Nat
  | .hbm => 97
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x22016, .f32⟩
  | .hbm, ⟨3, _⟩ => ⟨S128x2x22016, .f32⟩
  | .hbm, ⟨4, _⟩ => ⟨S3x22016, .f32⟩
  | .hbm, ⟨5, _⟩ => ⟨S22016, .f32⟩
  | .hbm, ⟨6, _⟩ => ⟨S2x4096x39040, .f32⟩
  | .hbm, ⟨7, _⟩ => ⟨S1x4096x22016, .f32⟩
  | .hbm, ⟨8, _⟩ => ⟨S4096x22016, .f32⟩
  | .hbm, ⟨9, _⟩ => ⟨S_, .f32⟩
  | .hbm, ⟨10, _⟩ => ⟨S4x2x22016, .f32⟩
  | .hbm, ⟨11, _⟩ => ⟨S4x2064x22016, .f32⟩
  | .hbm, ⟨12, _⟩ => ⟨S4x2066x22016, .f32⟩
  | .hbm, ⟨13, _⟩ => ⟨S1x22016, .f32⟩
  | .hbm, ⟨14, _⟩ => ⟨S22016, .f32⟩
  | .hbm, ⟨15, _⟩ => ⟨S4x2064x22016, .f32⟩
  | .hbm, ⟨16, _⟩ => ⟨S1x1x22016, .f32⟩
  | .hbm, ⟨17, _⟩ => ⟨S4x2064x22016, .f32⟩
  | .hbm, ⟨18, _⟩ => ⟨S4x2064x22016, .f32⟩
  | .hbm, ⟨19, _⟩ => ⟨S_, .f32⟩
  | .hbm, ⟨20, _⟩ => ⟨S4x2064x22016, .f32⟩
  | .hbm, ⟨21, _⟩ => ⟨S4x2064x22016, .f32⟩
  | .hbm, ⟨22, _⟩ => ⟨S1x22016, .f32⟩
  | .hbm, ⟨23, _⟩ => ⟨S22016, .f32⟩
  | .hbm, ⟨24, _⟩ => ⟨S4x2064x22016, .f32⟩
  | .hbm, ⟨25, _⟩ => ⟨S1x1x22016, .f32⟩
  | .hbm, ⟨26, _⟩ => ⟨S4x2064x22016, .f32⟩
  | .hbm, ⟨27, _⟩ => ⟨S4x2064x22016, .f32⟩
  | .hbm, ⟨28, _⟩ => ⟨S4x2064x22016, .f32⟩
  | .hbm, ⟨29, _⟩ => ⟨S1x22016, .f32⟩
  | .hbm, ⟨30, _⟩ => ⟨S22016, .f32⟩
  | .hbm, ⟨31, _⟩ => ⟨S4x2064x22016, .f32⟩
  | .hbm, ⟨32, _⟩ => ⟨S1x1x22016, .f32⟩
  | .hbm, ⟨33, _⟩ => ⟨S4x2064x22016, .f32⟩
  | .hbm, ⟨34, _⟩ => ⟨S4x2064x22016, .f32⟩
  | .hbm, ⟨35, _⟩ => ⟨S4x2064x22016, .f32⟩
  | .hbm, ⟨36, _⟩ => ⟨S1x1x22016, .f32⟩
  | .hbm, ⟨37, _⟩ => ⟨S4x2064x22016, .f32⟩
  | .hbm, ⟨38, _⟩ => ⟨S4x2064x22016, .f32⟩
  | .hbm, ⟨39, _⟩ => ⟨S4x2x22016, .f32⟩
  | .hbm, ⟨40, _⟩ => ⟨S4x2064x11008, .f32⟩
  | .hbm, ⟨41, _⟩ => ⟨S4x2064x11008, .f32⟩
  | .hbm, ⟨42, _⟩ => ⟨S4x2064x11008, .f32⟩
  | .hbm, ⟨43, _⟩ => ⟨S4x2064x11008, .f32⟩
  | .hbm, ⟨44, _⟩ => ⟨S_, .f32⟩
  | .hbm, ⟨45, _⟩ => ⟨S4x2064x11008, .f32⟩
  | .hbm, ⟨46, _⟩ => ⟨S4x2064x11008, .f32⟩
  | .hbm, ⟨47, _⟩ => ⟨S_, .f32⟩
  | .hbm, ⟨48, _⟩ => ⟨S4x2064x11008, .f32⟩
  | .hbm, ⟨49, _⟩ => ⟨S4x2064x11008, .f32⟩
  | .hbm, ⟨50, _⟩ => ⟨S4x2064x11008, .f32⟩
  | .hbm, ⟨51, _⟩ => ⟨S4x2064x11008, .f32⟩
  | .hbm, ⟨52, _⟩ => ⟨S1x4096x22016, .f32⟩
  | .hbm, ⟨53, _⟩ => ⟨S4096x22016, .f32⟩
  | .hbm, ⟨54, _⟩ => ⟨S128x4x22016, .f32⟩
  | .hbm, ⟨55, _⟩ => ⟨S128x6x22016, .f32⟩
  | .hbm, ⟨56, _⟩ => ⟨S1x22016, .f32⟩
  | .hbm, ⟨57, _⟩ => ⟨S22016, .f32⟩
  | .hbm, ⟨58, _⟩ => ⟨S128x4x22016, .f32⟩
  | .hbm, ⟨59, _⟩ => ⟨S1x1x22016, .f32⟩
  | .hbm, ⟨60, _⟩ => ⟨S128x4x22016, .f32⟩
  | .hbm, ⟨61, _⟩ => ⟨S128x4x22016, .f32⟩
  | .hbm, ⟨62, _⟩ => ⟨S_, .f32⟩
  | .hbm, ⟨63, _⟩ => ⟨S128x4x22016, .f32⟩
  | .hbm, ⟨64, _⟩ => ⟨S128x4x22016, .f32⟩
  | .hbm, ⟨65, _⟩ => ⟨S1x22016, .f32⟩
  | .hbm, ⟨66, _⟩ => ⟨S22016, .f32⟩
  | .hbm, ⟨67, _⟩ => ⟨S128x4x22016, .f32⟩
  | .hbm, ⟨68, _⟩ => ⟨S1x1x22016, .f32⟩
  | .hbm, ⟨69, _⟩ => ⟨S128x4x22016, .f32⟩
  | .hbm, ⟨70, _⟩ => ⟨S128x4x22016, .f32⟩
  | .hbm, ⟨71, _⟩ => ⟨S128x4x22016, .f32⟩
  | .hbm, ⟨72, _⟩ => ⟨S1x22016, .f32⟩
  | .hbm, ⟨73, _⟩ => ⟨S22016, .f32⟩
  | .hbm, ⟨74, _⟩ => ⟨S128x4x22016, .f32⟩
  | .hbm, ⟨75, _⟩ => ⟨S1x1x22016, .f32⟩
  | .hbm, ⟨76, _⟩ => ⟨S128x4x22016, .f32⟩
  | .hbm, ⟨77, _⟩ => ⟨S128x4x22016, .f32⟩
  | .hbm, ⟨78, _⟩ => ⟨S128x4x22016, .f32⟩
  | .hbm, ⟨79, _⟩ => ⟨S1x1x22016, .f32⟩
  | .hbm, ⟨80, _⟩ => ⟨S128x4x22016, .f32⟩
  | .hbm, ⟨81, _⟩ => ⟨S128x4x22016, .f32⟩
  | .hbm, ⟨82, _⟩ => ⟨S128x2x22016, .f32⟩
  | .hbm, ⟨83, _⟩ => ⟨S128x4x11008, .f32⟩
  | .hbm, ⟨84, _⟩ => ⟨S128x4x11008, .f32⟩
  | .hbm, ⟨85, _⟩ => ⟨S128x4x11008, .f32⟩
  | .hbm, ⟨86, _⟩ => ⟨S128x4x11008, .f32⟩
  | .hbm, ⟨87, _⟩ => ⟨S_, .f32⟩
  | .hbm, ⟨88, _⟩ => ⟨S128x4x11008, .f32⟩
  | .hbm, ⟨89, _⟩ => ⟨S128x4x11008, .f32⟩
  | .hbm, ⟨90, _⟩ => ⟨S_, .f32⟩
  | .hbm, ⟨91, _⟩ => ⟨S128x4x11008, .f32⟩
  | .hbm, ⟨92, _⟩ => ⟨S128x4x11008, .f32⟩
  | .hbm, ⟨93, _⟩ => ⟨S128x4x11008, .f32⟩
  | .hbm, ⟨94, _⟩ => ⟨S128x4x11008, .f32⟩
  | .hbm, ⟨95, _⟩ => ⟨S1x4096x39040, .f32⟩
  | .hbm, ⟨96, _⟩ => ⟨S4096x39040, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_1 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Kernel11.lean ====
abbrev S4x2064x4096 : Shape := ⟨3, ![4, 2064, 4096]⟩
abbrev S128x4x4096 : Shape := ⟨3, ![128, 4, 4096]⟩
abbrev S2x4096x22016 : Shape := ⟨3, ![2, 4096, 22016]⟩
abbrev S128x2x22016 : Shape := ⟨3, ![128, 2, 22016]⟩
abbrev S3x22016 : Shape := ⟨2, ![3, 22016]⟩
abbrev S22016 : Shape := ⟨1, ![22016]⟩
abbrev S2x4096x39040 : Shape := ⟨3, ![2, 4096, 39040]⟩
abbrev S8256x4096 : Shape := ⟨2, ![8256, 4096]⟩
abbrev S512x4096 : Shape := ⟨2, ![512, 4096]⟩
abbrev S_ : Shape := ⟨0, ![]⟩
abbrev S176x4096 : Shape := ⟨2, ![176, 4096]⟩
abbrev S8944x4096 : Shape := ⟨2, ![8944, 4096]⟩
abbrev S1x4096x22016 : Shape := ⟨3, ![1, 4096, 22016]⟩
abbrev S4096x22016 : Shape := ⟨2, ![4096, 22016]⟩
abbrev S174x4x22016 : Shape := ⟨3, ![174, 4, 22016]⟩
abbrev S696x22016 : Shape := ⟨2, ![696, 22016]⟩
abbrev S1x22016 : Shape := ⟨2, ![1, 22016]⟩
abbrev S8944x11008 : Shape := ⟨2, ![8944, 11008]⟩
abbrev S13x2x2x11008 : Shape := ⟨4, ![13, 2, 2, 11008]⟩
abbrev S2x688x11008 : Shape := ⟨3, ![2, 688, 11008]⟩
abbrev S4096x39040 : Shape := ⟨2, ![4096, 39040]⟩
abbrev S688x4096 : Shape := ⟨2, ![688, 4096]⟩
abbrev S4096x256 : Shape := ⟨2, ![4096, 256]⟩
abbrev S696x256 : Shape := ⟨2, ![696, 256]⟩
abbrev S3x256 : Shape := ⟨2, ![3, 256]⟩
abbrev S1x256 : Shape := ⟨2, ![1, 256]⟩
abbrev S1x16x39040 : Shape := ⟨3, ![1, 16, 39040]⟩
abbrev S688x256 : Shape := ⟨2, ![688, 256]⟩
abbrev S1x2x2x256 : Shape := ⟨4, ![1, 2, 2, 256]⟩
abbrev S2x688x256 : Shape := ⟨3, ![2, 688, 256]⟩
abbrev S16x39040 : Shape := ⟨2, ![16, 39040]⟩
abbrev S2x696x256 : Shape := ⟨3, ![2, 696, 256]⟩
abbrev S43x2x8x256 : Shape := ⟨4, ![43, 2, 8, 256]⟩
abbrev S1x688x256 : Shape := ⟨3, ![1, 688, 256]⟩
abbrev S1x1x8x256 : Shape := ⟨4, ![1, 1, 8, 256]⟩
abbrev S8x256 : Shape := ⟨2, ![8, 256]⟩
abbrev S1x8x256 : Shape := ⟨3, ![1, 8, 256]⟩
abbrev S2x256 : Shape := ⟨2, ![2, 256]⟩
abbrev S1x1x2x256 : Shape := ⟨4, ![1, 1, 2, 256]⟩
abbrev S688x1 : Shape := ⟨2, ![688, 1]⟩
abbrev S4x2x2x11008 : Shape := ⟨4, ![4, 2, 2, 11008]⟩
abbrev S4x1x2x11008 : Shape := ⟨4, ![4, 1, 2, 11008]⟩
abbrev S4x2x11008 : Shape := ⟨3, ![4, 2, 11008]⟩
abbrev S4x2x22016 : Shape := ⟨3, ![4, 2, 22016]⟩
abbrev S8256x11008 : Shape := ⟨2, ![8256, 11008]⟩
abbrev S4x2064x11008 : Shape := ⟨3, ![4, 2064, 11008]⟩
abbrev S512x11008 : Shape := ⟨2, ![512, 11008]⟩
abbrev S128x4x11008 : Shape := ⟨3, ![128, 4, 11008]⟩

abbrev nBuf : Space → Nat
  | .hbm => 36
  | .vmem => 30
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x22016, .f32⟩
  | .hbm, ⟨3, _⟩ => ⟨S128x2x22016, .f32⟩
  | .hbm, ⟨4, _⟩ => ⟨S3x22016, .f32⟩
  | .hbm, ⟨5, _⟩ => ⟨S22016, .f32⟩
  | .hbm, ⟨6, _⟩ => ⟨S2x4096x39040, .f32⟩
  | .hbm, ⟨7, _⟩ => ⟨S8256x4096, .f32⟩
  | .hbm, ⟨8, _⟩ => ⟨S512x4096, .f32⟩
  | .hbm, ⟨9, _⟩ => ⟨S_, .f32⟩
  | .hbm, ⟨10, _⟩ => ⟨S176x4096, .f32⟩
  | .hbm, ⟨11, _⟩ => ⟨S8944x4096, .f32⟩
  | .hbm, ⟨12, _⟩ => ⟨S8944x4096, .bf16⟩
  | .hbm, ⟨13, _⟩ => ⟨S1x4096x22016, .f32⟩
  | .hbm, ⟨14, _⟩ => ⟨S4096x22016, .f32⟩
  | .hbm, ⟨15, _⟩ => ⟨S4096x22016, .bf16⟩
  | .hbm, ⟨16, _⟩ => ⟨S_, .i32⟩
  | .hbm, ⟨17, _⟩ => ⟨S_, .f32⟩
  | .hbm, ⟨18, _⟩ => ⟨S174x4x22016, .f32⟩
  | .hbm, ⟨19, _⟩ => ⟨S696x22016, .f32⟩
  | .hbm, ⟨20, _⟩ => ⟨S1x22016, .f32⟩
  | .hbm, ⟨21, _⟩ => ⟨S8944x11008, .bf16⟩
  | .hbm, ⟨22, _⟩ => ⟨S13x2x2x11008, .f32⟩
  | .hbm, ⟨23, _⟩ => ⟨S2x688x11008, .f32⟩
  | .hbm, ⟨24, _⟩ => ⟨S4096x39040, .bf16⟩
  | .hbm, ⟨25, _⟩ => ⟨S4x2x2x11008, .f32⟩
  | .hbm, ⟨26, _⟩ => ⟨S4x1x2x11008, .f32⟩
  | .hbm, ⟨27, _⟩ => ⟨S4x2x11008, .f32⟩
  | .hbm, ⟨28, _⟩ => ⟨S4x1x2x11008, .f32⟩
  | .hbm, ⟨29, _⟩ => ⟨S4x2x11008, .f32⟩
  | .hbm, ⟨30, _⟩ => ⟨S4x2x22016, .f32⟩
  | .hbm, ⟨31, _⟩ => ⟨S8944x11008, .f32⟩
  | .hbm, ⟨32, _⟩ => ⟨S8256x11008, .f32⟩
  | .hbm, ⟨33, _⟩ => ⟨S4x2064x11008, .f32⟩
  | .hbm, ⟨34, _⟩ => ⟨S512x11008, .f32⟩
  | .hbm, ⟨35, _⟩ => ⟨S128x4x11008, .f32⟩
  | .local _ .vmem, ⟨0, _⟩ => ⟨S688x4096, .bf16⟩
  | .local _ .vmem, ⟨1, _⟩ => ⟨S688x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S696x256, .f32⟩
  | .local _ .vmem, ⟨7, _⟩ => ⟨S696x256, .f32⟩
  | .local _ .vmem, ⟨8, _⟩ => ⟨S696x256, .f32⟩
  | .local _ .vmem, ⟨9, _⟩ => ⟨S696x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x16x39040, .f32⟩
  | .local _ .vmem, ⟨19, _⟩ => ⟨S1x16x39040, .f32⟩
  | .local _ .vmem, ⟨20, _⟩ => ⟨S688x256, .bf16⟩
  | .local _ .vmem, ⟨21, _⟩ => ⟨S688x256, .bf16⟩
  | .local _ .vmem, ⟨22, _⟩ => ⟨S1x2x2x256, .f32⟩
  | .local _ .vmem, ⟨23, _⟩ => ⟨S1x2x2x256, .f32⟩
  | .local _ .vmem, ⟨24, _⟩ => ⟨S2x688x256, .f32⟩
  | .local _ .vmem, ⟨25, _⟩ => ⟨S2x688x256, .f32⟩
  | .local _ .vmem, ⟨26, _⟩ => ⟨S16x39040, .bf16⟩
  | .local _ .vmem, ⟨27, _⟩ => ⟨S16x39040, .bf16⟩
  | .local _ .vmem, ⟨28, _⟩ => ⟨S2x696x256, .f32⟩
  | .local _ .vmem, ⟨29, _⟩ => ⟨S43x2x8x256, .f32⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![13, 43], ![false, false]⟩

def k0_cond2 (i : grid0.Coords) : BitVec 1 :=
  let arg0 : BitVec 32 := BitVec.ofNat 32 (i 0).val
  let c12_i32 : BitVec 32 := 12#32
  let v9 : BitVec 1 := Scalar.cmpi .slt arg0 c12_i32
  let v10 : BitVec 32 := Scalar.extui v9
  let c0_i32_6 : BitVec 32 := 0#32
  let v11 : BitVec 1 := Scalar.cmpi .ne v10 c0_i32_6
  v11

def k0_off1 (i : grid0.Coords) : Fin 4 → Nat :=
  let arg1 : BitVec 32 := BitVec.ofNat 32 (i 1).val
  let v40 : Index := Scalar.indexCast arg1
  let c0_25 : Index := 0#32
  let c0_26 : Index := 0#32
  let c0_27 : Index := 0#32
  ![v40.toNat, 0, 0, 0]
def k0_off2 (i : grid0.Coords) : Fin 4 → Nat :=
  let arg1 : BitVec 32 := BitVec.ofNat 32 (i 1).val
  let v48 : Index := Scalar.indexCast arg1
  let c1_32 : Index := 1#32
  let c0_33 : Index := 0#32
  let c0_34 : Index := 0#32
  ![v48.toNat, 1, 0, 0]
def k0_cond3 (i : grid0.Coords) : BitVec 1 :=
  let arg0 : BitVec 32 := BitVec.ofNat 32 (i 0).val
  let c12_i32_7 : BitVec 32 := 12#32
  let v12 : BitVec 1 := Scalar.cmpi .eq arg0 c12_i32_7
  let v13 : BitVec 32 := Scalar.extui v12
  let c0_i32_8 : BitVec 32 := 0#32
  let v14 : BitVec 1 := Scalar.cmpi .ne v13 c0_i32_8
  v14

def k0_off3 (i : grid0.Coords) : Fin 4 → Nat :=
  let arg1 : BitVec 32 := BitVec.ofNat 32 (i 1).val
  let v138 : Index := Scalar.indexCast arg1
  let c0_74 : Index := 0#32
  let c0_75 : Index := 0#32
  let c0_76 : Index := 0#32
  ![v138.toNat, 0, 0, 0]
def k0_off4 (i : grid0.Coords) : Fin 4 → Nat :=
  let arg1 : BitVec 32 := BitVec.ofNat 32 (i 1).val
  let v148 : Index := Scalar.indexCast arg1
  let c1_84 : Index := 1#32
  let c0_85 : Index := 0#32
  let c0_86 : Index := 0#32
  ![v148.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c0_i32 : BitVec 32 := 0#32
  let v1 : BitVec 32 := Scalar.select v0 arg1 c0_i32
  let c43_i32 : BitVec 32 := 43#32
  let v2 : BitVec 32 := Scalar.addi v1 c43_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c1_i32 : BitVec 32 := 1#32
  let c0_i32 : BitVec 32 := 0#32
  let c0_i32_0 : BitVec 32 := 0#32
  ![c1_i32.toNat, v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, c0_i32_1.toNat, v1.toNat]

def cc0_transform_13 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S696x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S696x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x16x39040 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S688x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x688x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x39040 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference11Ideal.lean ====
abbrev S4x2064x4096 : Shape := ⟨3, ![4, 2064, 4096]⟩
abbrev S128x4x4096 : Shape := ⟨3, ![128, 4, 4096]⟩
abbrev S2x4096x22016 : Shape := ⟨3, ![2, 4096, 22016]⟩
abbrev S128x2x22016 : Shape := ⟨3, ![128, 2, 22016]⟩
abbrev S3x22016 : Shape := ⟨2, ![3, 22016]⟩
abbrev S22016 : Shape := ⟨1, ![22016]⟩
abbrev S2x4096x39040 : Shape := ⟨3, ![2, 4096, 39040]⟩
abbrev S1x4096x22016 : Shape := ⟨3, ![1, 4096, 22016]⟩
abbrev S4096x22016 : Shape := ⟨2, ![4096, 22016]⟩
abbrev S_ : Shape := ⟨0, ![]⟩
abbrev S4x2x22016 : Shape := ⟨3, ![4, 2, 22016]⟩
abbrev S4x2064x22016 : Shape := ⟨3, ![4, 2064, 22016]⟩
abbrev S4x2066x22016 : Shape := ⟨3, ![4, 2066, 22016]⟩
abbrev S1x22016 : Shape := ⟨2, ![1, 22016]⟩
abbrev S1x1x22016 : Shape := ⟨3, ![1, 1, 22016]⟩
abbrev S4x2064x11008 : Shape := ⟨3, ![4, 2064, 11008]⟩
abbrev S128x4x22016 : Shape := ⟨3, ![128, 4, 22016]⟩
abbrev S128x6x22016 : Shape := ⟨3, ![128, 6, 22016]⟩
abbrev S128x4x11008 : Shape := ⟨3, ![128, 4, 11008]⟩

abbrev nBuf : Space → Nat
  | .hbm => 95
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S128x4x4096, .f32⟩
  | .hbm, ⟨2, _⟩ => ⟨S2x4096x22016, .f32⟩
  | .hbm, ⟨3, _⟩ => ⟨S128x2x22016, .f32⟩
  | .hbm, ⟨4, _⟩ => ⟨S3x22016, .f32⟩
  | .hbm, ⟨5, _⟩ => ⟨S22016, .f32⟩
  | .hbm, ⟨6, _⟩ => ⟨S2x4096x39040, .f32⟩
  | .hbm, ⟨7, _⟩ => ⟨S1x4096x22016, .f32⟩
  | .hbm, ⟨8, _⟩ => ⟨S4096x22016, .f32⟩
  | .hbm, ⟨9, _⟩ => ⟨S_, .f32⟩
  | .hbm, ⟨10, _⟩ => ⟨S4x2x22016, .f32⟩
  | .hbm, ⟨11, _⟩ => ⟨S4x2064x22016, .f32⟩
  | .hbm, ⟨12, _⟩ => ⟨S4x2066x22016, .f32⟩
  | .hbm, ⟨13, _⟩ => ⟨S1x22016, .f32⟩
  | .hbm, ⟨14, _⟩ => ⟨S22016, .f32⟩
  | .hbm, ⟨15, _⟩ => ⟨S4x2064x22016, .f32⟩
  | .hbm, ⟨16, _⟩ => ⟨S1x1x22016, .f32⟩
  | .hbm, ⟨17, _⟩ => ⟨S4x2064x22016, .f32⟩
  | .hbm, ⟨18, _⟩ => ⟨S4x2064x22016, .f32⟩
  | .hbm, ⟨19, _⟩ => ⟨S_, .f32⟩
  | .hbm, ⟨20, _⟩ => ⟨S4x2064x22016, .f32⟩
  | .hbm, ⟨21, _⟩ => ⟨S4x2064x22016, .f32⟩
  | .hbm, ⟨22, _⟩ => ⟨S1x22016, .f32⟩
  | .hbm, ⟨23, _⟩ => ⟨S22016, .f32⟩
  | .hbm, ⟨24, _⟩ => ⟨S4x2064x22016, .f32⟩
  | .hbm, ⟨25, _⟩ => ⟨S1x1x22016, .f32⟩
  | .hbm, ⟨26, _⟩ => ⟨S4x2064x22016, .f32⟩
  | .hbm, ⟨27, _⟩ => ⟨S4x2064x22016, .f32⟩
  | .hbm, ⟨28, _⟩ => ⟨S4x2064x22016, .f32⟩
  | .hbm, ⟨29, _⟩ => ⟨S1x22016, .f32⟩
  | .hbm, ⟨30, _⟩ => ⟨S22016, .f32⟩
  | .hbm, ⟨31, _⟩ => ⟨S4x2064x22016, .f32⟩
  | .hbm, ⟨32, _⟩ => ⟨S1x1x22016, .f32⟩
  | .hbm, ⟨33, _⟩ => ⟨S4x2064x22016, .f32⟩
  | .hbm, ⟨34, _⟩ => ⟨S4x2064x22016, .f32⟩
  | .hbm, ⟨35, _⟩ => ⟨S4x2064x22016, .f32⟩
  | .hbm, ⟨36, _⟩ => ⟨S1x1x22016, .f32⟩
  | .hbm, ⟨37, _⟩ => ⟨S4x2064x22016, .f32⟩
  | .hbm, ⟨38, _⟩ => ⟨S4x2064x22016, .f32⟩
  | .hbm, ⟨39, _⟩ => ⟨S4x2x22016, .f32⟩
  | .hbm, ⟨40, _⟩ => ⟨S4x2064x11008, .f32⟩
  | .hbm, ⟨41, _⟩ => ⟨S4x2064x11008, .f32⟩
  | .hbm, ⟨42, _⟩ => ⟨S4x2064x11008, .f32⟩
  | .hbm, ⟨43, _⟩ => ⟨S4x2064x11008, .f32⟩
  | .hbm, ⟨44, _⟩ => ⟨S_, .f32⟩
  | .hbm, ⟨45, _⟩ => ⟨S4x2064x11008, .f32⟩
  | .hbm, ⟨46, _⟩ => ⟨S4x2064x11008, .f32⟩
  | .hbm, ⟨47, _⟩ => ⟨S_, .f32⟩
  | .hbm, ⟨48, _⟩ => ⟨S4x2064x11008, .f32⟩
  | .hbm, ⟨49, _⟩ => ⟨S4x2064x11008, .f32⟩
  | .hbm, ⟨50, _⟩ => ⟨S4x2064x11008, .f32⟩
  | .hbm, ⟨51, _⟩ => ⟨S4x2064x11008, .f32⟩
  | .hbm, ⟨52, _⟩ => ⟨S1x4096x22016, .f32⟩
  | .hbm, ⟨53, _⟩ => ⟨S4096x22016, .f32⟩
  | .hbm, ⟨54, _⟩ => ⟨S128x4x22016, .f32⟩
  | .hbm, ⟨55, _⟩ => ⟨S128x6x22016, .f32⟩
  | .hbm, ⟨56, _⟩ => ⟨S1x22016, .f32⟩
  | .hbm, ⟨57, _⟩ => ⟨S22016, .f32⟩
  | .hbm, ⟨58, _⟩ => ⟨S128x4x22016, .f32⟩
  | .hbm, ⟨59, _⟩ => ⟨S1x1x22016, .f32⟩
  | .hbm, ⟨60, _⟩ => ⟨S128x4x22016, .f32⟩
  | .hbm, ⟨61, _⟩ => ⟨S128x4x22016, .f32⟩
  | .hbm, ⟨62, _⟩ => ⟨S_, .f32⟩
  | .hbm, ⟨63, _⟩ => ⟨S128x4x22016, .f32⟩
  | .hbm, ⟨64, _⟩ => ⟨S128x4x22016, .f32⟩
  | .hbm, ⟨65, _⟩ => ⟨S1x22016, .f32⟩
  | .hbm, ⟨66, _⟩ => ⟨S22016, .f32⟩
  | .hbm, ⟨67, _⟩ => ⟨S128x4x22016, .f32⟩
  | .hbm, ⟨68, _⟩ => ⟨S1x1x22016, .f32⟩
  | .hbm, ⟨69, _⟩ => ⟨S128x4x22016, .f32⟩
  | .hbm, ⟨70, _⟩ => ⟨S128x4x22016, .f32⟩
  | .hbm, ⟨71, _⟩ => ⟨S128x4x22016, .f32⟩
  | .hbm, ⟨72, _⟩ => ⟨S1x22016, .f32⟩
  | .hbm, ⟨73, _⟩ => ⟨S22016, .f32⟩
  | .hbm, ⟨74, _⟩ => ⟨S128x4x22016, .f32⟩
  | .hbm, ⟨75, _⟩ => ⟨S1x1x22016, .f32⟩
  | .hbm, ⟨76, _⟩ => ⟨S128x4x22016, .f32⟩
  | .hbm, ⟨77, _⟩ => ⟨S128x4x22016, .f32⟩
  | .hbm, ⟨78, _⟩ => ⟨S128x4x22016, .f32⟩
  | .hbm, ⟨79, _⟩ => ⟨S1x1x22016, .f32⟩
  | .hbm, ⟨80, _⟩ => ⟨S128x4x22016, .f32⟩
  | .hbm, ⟨81, _⟩ => ⟨S128x4x22016, .f32⟩
  | .hbm, ⟨82, _⟩ => ⟨S128x2x22016, .f32⟩
  | .hbm, ⟨83, _⟩ => ⟨S128x4x11008, .f32⟩
  | .hbm, ⟨84, _⟩ => ⟨S128x4x11008, .f32⟩
  | .hbm, ⟨85, _⟩ => ⟨S128x4x11008, .f32⟩
  | .hbm, ⟨86, _⟩ => ⟨S128x4x11008, .f32⟩
  | .hbm, ⟨87, _⟩ => ⟨S_, .f32⟩
  | .hbm, ⟨88, _⟩ => ⟨S128x4x11008, .f32⟩
  | .hbm, ⟨89, _⟩ => ⟨S128x4x11008, .f32⟩
  | .hbm, ⟨90, _⟩ => ⟨S_, .f32⟩
  | .hbm, ⟨91, _⟩ => ⟨S128x4x11008, .f32⟩
  | .hbm, ⟨92, _⟩ => ⟨S128x4x11008, .f32⟩
  | .hbm, ⟨93, _⟩ => ⟨S128x4x11008, .f32⟩
  | .hbm, ⟨94, _⟩ => ⟨S128x4x11008, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_1 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Kernel12.lean ====
abbrev S128x128 : Shape := ⟨2, ![128, 128]⟩
abbrev S2x128x128x64x128 : Shape := ⟨5, ![2, 128, 128, 64, 128]⟩
abbrev S128x4x1024 : Shape := ⟨3, ![128, 4, 1024]⟩
abbrev S128x4x8192 : Shape := ⟨3, ![128, 4, 8192]⟩
abbrev S512x1024 : Shape := ⟨2, ![512, 1024]⟩
abbrev S_ : Shape := ⟨0, ![]⟩
abbrev S176x1024 : Shape := ⟨2, ![176, 1024]⟩
abbrev S688x1024 : Shape := ⟨2, ![688, 1024]⟩
abbrev S512x8192 : Shape := ⟨2, ![512, 8192]⟩
abbrev S176x8192 : Shape := ⟨2, ![176, 8192]⟩
abbrev S688x8192 : Shape := ⟨2, ![688, 8192]⟩
abbrev S1x2x128x64x128 : Shape := ⟨5, ![1, 2, 128, 64, 128]⟩
abbrev S8x1024 : Shape := ⟨2, ![8, 1024]⟩
abbrev S8x8192 : Shape := ⟨2, ![8, 8192]⟩
abbrev S120x128 : Shape := ⟨2, ![120, 128]⟩
abbrev S8x1 : Shape := ⟨2, ![8, 1]⟩
abbrev S8x128 : Shape := ⟨2, ![8, 128]⟩
abbrev S120x1024 : Shape := ⟨2, ![120, 1024]⟩
abbrev S128x1024 : Shape := ⟨2, ![128, 1024]⟩
abbrev S1024x128 : Shape := ⟨2, ![1024, 128]⟩
abbrev S1x1x16x64x128 : Shape := ⟨5, ![1, 1, 16, 64, 128]⟩
abbrev S16x64x128 : Shape := ⟨3, ![16, 64, 128]⟩
abbrev S64x128 : Shape := ⟨2, ![64, 128]⟩
abbrev S1x1 : Shape := ⟨2, ![1, 1]⟩
abbrev S1x1x1x64x128 : Shape := ⟨5, ![1, 1, 1, 64, 128]⟩
abbrev S1x128x128x64x128 : Shape := ⟨5, ![1, 128, 128, 64, 128]⟩
abbrev S128x128x64x128 : Shape := ⟨4, ![128, 128, 64, 128]⟩

abbrev nBuf : Space → Nat
  | .hbm => 23
  | .vmem => 12
  | .smem => 1
  | _ => 0

abbrev bufTy : (tb : Table) → Fin (tcTables nBuf tb) → BufTy
  | .hbm, ⟨0, _⟩ => ⟨S128x128, .f32⟩
  | .hbm, ⟨1, _⟩ => ⟨S2x128x128x64x128, .f32⟩
  | .hbm, ⟨2, _⟩ => ⟨S128x4x1024, .f32⟩
  | .hbm, ⟨3, _⟩ => ⟨S128x4x1024, .f32⟩
  | .hbm, ⟨4, _⟩ => ⟨S128x4x8192, .f32⟩
  | .hbm, ⟨5, _⟩ => ⟨S512x1024, .f32⟩
  | .hbm, ⟨6, _⟩ => ⟨S_, .f32⟩
  | .hbm, ⟨7, _⟩ => ⟨S176x1024, .f32⟩
  | .hbm, ⟨8, _⟩ => ⟨S688x1024, .f32⟩
  | .hbm, ⟨9, _⟩ => ⟨S512x1024, .f32⟩
  | .hbm, ⟨10, _⟩ => ⟨S_, .f32⟩
  | .hbm, ⟨11, _⟩ => ⟨S176x1024, .f32⟩
  | .hbm, ⟨12, _⟩ => ⟨S688x1024, .f32⟩
  | .hbm, ⟨13, _⟩ => ⟨S512x8192, .f32⟩
  | .hbm, ⟨14, _⟩ => ⟨S_, .f32⟩
  | .hbm, ⟨15, _⟩ => ⟨S176x8192, .f32⟩
  | .hbm, ⟨16, _⟩ => ⟨S688x8192, .f32⟩
  | .hbm, ⟨17, _⟩ => ⟨S_, .f32⟩
  | .hbm, ⟨18, _⟩ => ⟨S688x8192, .f32⟩
  | .hbm, ⟨19, _⟩ => ⟨S2x128x128x64x128, .f32⟩
  | .hbm, ⟨20, _⟩ => ⟨S688x8192, .f32⟩
  | .hbm, ⟨21, _⟩ => ⟨S1x128x128x64x128, .f32⟩
  | .hbm, ⟨22, _⟩ => ⟨S128x128x64x128, .f32⟩
  | .local _ .vmem, ⟨0, _⟩ => ⟨S1x2x128x64x128, .f32⟩
  | .local _ .vmem, ⟨1, _⟩ => ⟨S1x2x128x64x128, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x8192, .f32⟩
  | .local _ .vmem, ⟨7, _⟩ => ⟨S8x8192, .f32⟩
  | .local _ .vmem, ⟨8, _⟩ => ⟨S1x2x128x64x128, .f32⟩
  | .local _ .vmem, ⟨9, _⟩ => ⟨S1x2x128x64x128, .f32⟩
  | .local _ .vmem, ⟨10, _⟩ => ⟨S8x8192, .f32⟩
  | .local _ .vmem, ⟨11, _⟩ => ⟨S8x8192, .f32⟩
  | .local _ .smem, ⟨0, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def k0_off1 (i : grid0.Coords) (c0_i32_21 : BitVec 32) : Fin 2 → Nat :=
  let arg0 : BitVec 32 := BitVec.ofNat 32 (i 0).val
  let c2_i32 : BitVec 32 := 2#32
  let v61 : BitVec 32 := Scalar.muli arg0 c2_i32
  let v62 : BitVec 32 := Scalar.addi v61 c0_i32_21
  let v63 : Index := Scalar.indexCast v62
  let c0_22 : Index := 0#32
  ![v63.toNat, 0]
def k0_off2 (i : grid0.Coords) (c0_i32_29 : BitVec 32) : Fin 2 → Nat :=
  let arg0 : BitVec 32 := BitVec.ofNat 32 (i 0).val
  let c2_i32_28 : BitVec 32 := 2#32
  let v73 : BitVec 32 := Scalar.muli arg0 c2_i32_28
  let v74 : BitVec 32 := Scalar.addi v73 c0_i32_29
  let v75 : Index := Scalar.indexCast v74
  let c1 : Index := 1#32
  ![v75.toNat, 1]
def k0_off3 (i : grid0.Coords) (c0_i32_36 : BitVec 32) : Fin 2 → Nat :=
  let arg0 : BitVec 32 := BitVec.ofNat 32 (i 0).val
  let c2_i32_35 : BitVec 32 := 2#32
  let v85 : BitVec 32 := Scalar.muli arg0 c2_i32_35
  let v86 : BitVec 32 := Scalar.addi v85 c0_i32_36
  let v87 : Index := Scalar.indexCast v86
  let c2 : Index := 2#32
  ![v87.toNat, 2]
def k0_off4 (i : grid0.Coords) (c0_i32_43 : BitVec 32) : Fin 2 → Nat :=
  let arg0 : BitVec 32 := BitVec.ofNat 32 (i 0).val
  let c2_i32_42 : BitVec 32 := 2#32
  let v97 : BitVec 32 := Scalar.muli arg0 c2_i32_42
  let v98 : BitVec 32 := Scalar.addi v97 c0_i32_43
  let v99 : Index := Scalar.indexCast v98
  let c3 : Index := 3#32
  ![v99.toNat, 3]
def k0_off5 (i : grid0.Coords) (c0_i32_50 : BitVec 32) : Fin 2 → Nat :=
  let arg0 : BitVec 32 := BitVec.ofNat 32 (i 0).val
  let c2_i32_49 : BitVec 32 := 2#32
  let v109 : BitVec 32 := Scalar.muli arg0 c2_i32_49
  let v110 : BitVec 32 := Scalar.addi v109 c0_i32_50
  let v111 : Index := Scalar.indexCast v110
  let c4 : Index := 4#32
  ![v111.toNat, 4]
def k0_off6 (i : grid0.Coords) (c0_i32_57 : BitVec 32) : Fin 2 → Nat :=
  let arg0 : BitVec 32 := BitVec.ofNat 32 (i 0).val
  let c2_i32_56 : BitVec 32 := 2#32
  let v121 : BitVec 32 := Scalar.muli arg0 c2_i32_56
  let v122 : BitVec 32 := Scalar.addi v121 c0_i32_57
  let v123 : Index := Scalar.indexCast v122
  let c5 : Index := 5#32
  ![v123.toNat, 5]
def k0_off7 (i : grid0.Coords) (c0_i32_64 : BitVec 32) : Fin 2 → Nat :=
  let arg0 : BitVec 32 := BitVec.ofNat 32 (i 0).val
  let c2_i32_63 : BitVec 32 := 2#32
  let v133 : BitVec 32 := Scalar.muli arg0 c2_i32_63
  let v134 : BitVec 32 := Scalar.addi v133 c0_i32_64
  let v135 : Index := Scalar.indexCast v134
  let c6 : Index := 6#32
  ![v135.toNat, 6]
def k0_off8 (i : grid0.Coords) (c0_i32_71 : BitVec 32) : Fin 2 → Nat :=
  let arg0 : BitVec 32 := BitVec.ofNat 32 (i 0).val
  let c2_i32_70 : BitVec 32 := 2#32
  let v145 : BitVec 32 := Scalar.muli arg0 c2_i32_70
  let v146 : BitVec 32 := Scalar.addi v145 c0_i32_71
  let v147 : Index := Scalar.indexCast v146
  let c7 : Index := 7#32
  ![v147.toNat, 7]
def k0_off9 (i : grid0.Coords) (c0_i32_78 : BitVec 32) : Fin 2 → Nat :=
  let arg0 : BitVec 32 := BitVec.ofNat 32 (i 0).val
  let c2_i32_77 : BitVec 32 := 2#32
  let v157 : BitVec 32 := Scalar.muli arg0 c2_i32_77
  let v158 : BitVec 32 := Scalar.addi v157 c0_i32_78
  let v159 : Index := Scalar.indexCast v158
  let c8 : Index := 8#32
  ![v159.toNat, 8]
def k0_off10 (i : grid0.Coords) (c0_i32_85 : BitVec 32) : Fin 2 → Nat :=
  let arg0 : BitVec 32 := BitVec.ofNat 32 (i 0).val
  let c2_i32_84 : BitVec 32 := 2#32
  let v169 : BitVec 32 := Scalar.muli arg0 c2_i32_84
  let v170 : BitVec 32 := Scalar.addi v169 c0_i32_85
  let v171 : Index := Scalar.indexCast v170
  let c9 : Index := 9#32
  ![v171.toNat, 9]
def k0_off11 (i : grid0.Coords) (c0_i32_92 : BitVec 32) : Fin 2 → Nat :=
  let arg0 : BitVec 32 := BitVec.ofNat 32 (i 0).val
  let c2_i32_91 : BitVec 32 := 2#32
  let v181 : BitVec 32 := Scalar.muli arg0 c2_i32_91
  let v182 : BitVec 32 := Scalar.addi v181 c0_i32_92
  let v183 : Index := Scalar.indexCast v182
  let c10 : Index := 10#32
  ![v183.toNat, 10]
def k0_off12 (i : grid0.Coords) (c0_i32_99 : BitVec 32) : Fin 2 → Nat :=
  let arg0 : BitVec 32 := BitVec.ofNat 32 (i 0).val
  let c2_i32_98 : BitVec 32 := 2#32
  let v193 : BitVec 32 := Scalar.muli arg0 c2_i32_98
  let v194 : BitVec 32 := Scalar.addi v193 c0_i32_99
  let v195 : Index := Scalar.indexCast v194
  let c11 : Index := 11#32
  ![v195.toNat, 11]
def k0_off13 (i : grid0.Coords) (c0_i32_106 : BitVec 32) : Fin 2 → Nat :=
  let arg0 : BitVec 32 := BitVec.ofNat 32 (i 0).val
  let c2_i32_105 : BitVec 32 := 2#32
  let v205 : BitVec 32 := Scalar.muli arg0 c2_i32_105
  let v206 : BitVec 32 := Scalar.addi v205 c0_i32_106
  let v207 : Index := Scalar.indexCast v206
  let c12 : Index := 12#32
  ![v207.toNat, 12]
def k0_off14 (i : grid0.Coords) (c0_i32_113 : BitVec 32) : Fin 2 → Nat :=
  let arg0 : BitVec 32 := BitVec.ofNat 32 (i 0).val
  let c2_i32_112 : BitVec 32 := 2#32
  let v217 : BitVec 32 := Scalar.muli arg0 c2_i32_112
  let v218 : BitVec 32 := Scalar.addi v217 c0_i32_113
  let v219 : Index := Scalar.indexCast v218
  let c13 : Index := 13#32
  ![v219.toNat, 13]
def k0_off15 (i : grid0.Coords) (c0_i32_120 : BitVec 32) : Fin 2 → Nat :=
  let arg0 : BitVec 32 := BitVec.ofNat 32 (i 0).val
  let c2_i32_119 : BitVec 32 := 2#32
  let v229 : BitVec 32 := Scalar.muli arg0 c2_i32_119
  let v230 : BitVec 32 := Scalar.addi v229 c0_i32_120
  let v231 : Index := Scalar.indexCast v230
  let c14 : Index := 14#32
  ![v231.toNat, 14]
def k0_off16 (i : grid0.Coords) (c0_i32_127 : BitVec 32) : Fin 2 → Nat :=
  let arg0 : BitVec 32 := BitVec.ofNat 32 (i 0).val
  let c2_i32_126 : BitVec 32 := 2#32
  let v241 : BitVec 32 := Scalar.muli arg0 c2_i32_126
  let v242 : BitVec 32 := Scalar.addi v241 c0_i32_127
  let v243 : Index := Scalar.indexCast v242
  let c15 : Index := 15#32
  ![v243.toNat, 15]
def k0_off17 (i : grid0.Coords) (c0_i32_283 : BitVec 32) : Fin 2 → Nat :=
  let arg0 : BitVec 32 := BitVec.ofNat 32 (i 0).val
  let c2_i32_282 : BitVec 32 := 2#32
  let v492 : BitVec 32 := Scalar.muli arg0 c2_i32_282
  let v493 : BitVec 32 := Scalar.addi v492 c0_i32_283
  let v494 : Index := Scalar.indexCast v493
  let c16_284 : Index := 16#32
  ![v494.toNat, 16]
def k0_off18 (i : grid0.Coords) (c0_i32_291 : BitVec 32) : Fin 2 → Nat :=
  let arg0 : BitVec 32 := BitVec.ofNat 32 (i 0).val
  let c2_i32_290 : BitVec 32 := 2#32
  let v504 : BitVec 32 := Scalar.muli arg0 c2_i32_290
  let v505 : BitVec 32 := Scalar.addi v504 c0_i32_291
  let v506 : Index := Scalar.indexCast v505
  let c17 : Index := 17#32
  ![v506.toNat, 17]
def k0_off19 (i : grid0.Coords) (c0_i32_298 : BitVec 32) : Fin 2 → Nat :=
  let arg0 : BitVec 32 := BitVec.ofNat 32 (i 0).val
  let c2_i32_297 : BitVec 32 := 2#32
  let v516 : BitVec 32 := Scalar.muli arg0 c2_i32_297
  let v517 : BitVec 32 := Scalar.addi v516 c0_i32_298
  let v518 : Index := Scalar.indexCast v517
  let c18 : Index := 18#32
  ![v518.toNat, 18]
def k0_off20 (i : grid0.Coords) (c0_i32_305 : BitVec 32) : Fin 2 → Nat :=
  let arg0 : BitVec 32 := BitVec.ofNat 32 (i 0).val
  let c2_i32_304 : BitVec 32 := 2#32
  let v528 : BitVec 32 := Scalar.muli arg0 c2_i32_304
  let v529 : BitVec 32 := Scalar.addi v528 c0_i32_305
  let v530 : Index := Scalar.indexCast v529
  let c19 : Index := 19#32
  ![v530.toNat, 19]
def k0_off21 (i : grid0.Coords) (c0_i32_312 : BitVec 32) : Fin 2 → Nat :=
  let arg0 : BitVec 32 := BitVec.ofNat 32 (i 0).val
  let c2_i32_311 : BitVec 32 := 2#32
  let v540 : BitVec 32 := Scalar.muli arg0 c2_i32_311
  let v541 : BitVec 32 := Scalar.addi v540 c0_i32_312
  let v542 : Index := Scalar.indexCast v541
  let c20 : Index := 20#32
  ![v542.toNat, 20]
def k0_off22 (i : grid0.Coords) (c0_i32_319 : BitVec 32) : Fin 2 → Nat :=
  let arg0 : BitVec 32 := BitVec.ofNat 32 (i 0).val
  let c2_i32_318 : BitVec 32 := 2#32
  let v552 : BitVec 32 := Scalar.muli arg0 c2_i32_318
  let v553 : BitVec 32 := Scalar.addi v552 c0_i32_319
  let v554 : Index := Scalar.indexCast v553
  let c21 : Index := 21#32
  ![v554.toNat, 21]
def k0_off23 (i : grid0.Coords) (c0_i32_326 : BitVec 32) : Fin 2 → Nat :=
  let arg0 : BitVec 32 := BitVec.ofNat 32 (i 0).val
  let c2_i32_325 : BitVec 32 := 2#32
  let v564 : BitVec 32 := Scalar.muli arg0 c2_i32_325
  let v565 : BitVec 32 := Scalar.addi v564 c0_i32_326
  let v566 : Index := Scalar.indexCast v565
  let c22 : Index := 22#32
  ![v566.toNat, 22]
def k0_off24 (i : grid0.Coords) (c0_i32_333 : BitVec 32) : Fin 2 → Nat :=
  let arg0 : BitVec 32 := BitVec.ofNat 32 (i 0).val
  let c2_i32_332 : BitVec 32 := 2#32
  let v576 : BitVec 32 := Scalar.muli arg0 c2_i32_332
  let v577 : BitVec 32 := Scalar.addi v576 c0_i32_333
  let v578 : Index := Scalar.indexCast v577
  let c23 : Index := 23#32
  ![v578.toNat, 23]
def k0_off25 (i : grid0.Coords) (c0_i32_340 : BitVec 32) : Fin 2 → Nat :=
  let arg0 : BitVec 32 := BitVec.ofNat 32 (i 0).val
  let c2_i32_339 : BitVec 32 := 2#32
  let v588 : BitVec 32 := Scalar.muli arg0 c2_i32_339
  let v589 : BitVec 32 := Scalar.addi v588 c0_i32_340
  let v590 : Index := Scalar.indexCast v589
  let c24 : Index := 24#32
  ![v590.toNat, 24]
def k0_off26 (i : grid0.Coords) (c0_i32_347 : BitVec 32) : Fin 2 → Nat :=
  let arg0 : BitVec 32 := BitVec.ofNat 32 (i 0).val
  let c2_i32_346 : BitVec 32 := 2#32
  let v600 : BitVec 32 := Scalar.muli arg0 c2_i32_346
  let v601 : BitVec 32 := Scalar.addi v600 c0_i32_347
  let v602 : Index := Scalar.indexCast v601
  let c25 : Index := 25#32
  ![v602.toNat, 25]
def k0_off27 (i : grid0.Coords) (c0_i32_354 : BitVec 32) : Fin 2 → Nat :=
  let arg0 : BitVec 32 := BitVec.ofNat 32 (i 0).val
  let c2_i32_353 : BitVec 32 := 2#32
  let v612 : BitVec 32 := Scalar.muli arg0 c2_i32_353
  let v613 : BitVec 32 := Scalar.addi v612 c0_i32_354
  let v614 : Index := Scalar.indexCast v613
  let c26 : Index := 26#32
  ![v614.toNat, 26]
def k0_off28 (i : grid0.Coords) (c0_i32_361 : BitVec 32) : Fin 2 → Nat :=
  let arg0 : BitVec 32 := BitVec.ofNat 32 (i 0).val
  let c2_i32_360 : BitVec 32 := 2#32
  let v624 : BitVec 32 := Scalar.muli arg0 c2_i32_360
  let v625 : BitVec 32 := Scalar.addi v624 c0_i32_361
  let v626 : Index := Scalar.indexCast v625
  let c27 : Index := 27#32
  ![v626.toNat, 27]
def k0_off29 (i : grid0.Coords) (c0_i32_368 : BitVec 32) : Fin 2 → Nat :=
  let arg0 : BitVec 32 := BitVec.ofNat 32 (i 0).val
  let c2_i32_367 : BitVec 32 := 2#32
  let v636 : BitVec 32 := Scalar.muli arg0 c2_i32_367
  let v637 : BitVec 32 := Scalar.addi v636 c0_i32_368
  let v638 : Index := Scalar.indexCast v637
  let c28 : Index := 28#32
  ![v638.toNat, 28]
def k0_off30 (i : grid0.Coords) (c0_i32_375 : BitVec 32) : Fin 2 → Nat :=
  let arg0 : BitVec 32 := BitVec.ofNat 32 (i 0).val
  let c2_i32_374 : BitVec 32 := 2#32
  let v648 : BitVec 32 := Scalar.muli arg0 c2_i32_374
  let v649 : BitVec 32 := Scalar.addi v648 c0_i32_375
  let v650 : Index := Scalar.indexCast v649
  let c29 : Index := 29#32
  ![v650.toNat, 29]
def k0_off31 (i : grid0.Coords) (c0_i32_382 : BitVec 32) : Fin 2 → Nat :=
  let arg0 : BitVec 32 := BitVec.ofNat 32 (i 0).val
  let c2_i32_381 : BitVec 32 := 2#32
  let v660 : BitVec 32 := Scalar.muli arg0 c2_i32_381
  let v661 : BitVec 32 := Scalar.addi v660 c0_i32_382
  let v662 : Index := Scalar.indexCast v661
  let c30 : Index := 30#32
  ![v662.toNat, 30]
def k0_off32 (i : grid0.Coords) (c0_i32_389 : BitVec 32) : Fin 2 → Nat :=
  let arg0 : BitVec 32 := BitVec.ofNat 32 (i 0).val
  let c2_i32_388 : BitVec 32 := 2#32
  let v672 : BitVec 32 := Scalar.muli arg0 c2_i32_388
  let v673 : BitVec 32 := Scalar.addi v672 c0_i32_389
  let v674 : Index := Scalar.indexCast v673
  let c31 : Index := 31#32
  ![v674.toNat, 31]
def k0_off33 (i : grid0.Coords) (c0_i32_545 : BitVec 32) : Fin 2 → Nat :=
  let arg0 : BitVec 32 := BitVec.ofNat 32 (i 0).val
  let c2_i32_544 : BitVec 32 := 2#32
  let v923 : BitVec 32 := Scalar.muli arg0 c2_i32_544
  let v924 : BitVec 32 := Scalar.addi v923 c0_i32_545
  let v925 : Index := Scalar.indexCast v924
  let c32_546 : Index := 32#32
  ![v925.toNat, 32]
def k0_off34 (i : grid0.Coords) (c0_i32_553 : BitVec 32) : Fin 2 → Nat :=
  let arg0 : BitVec 32 := BitVec.ofNat 32 (i 0).val
  let c2_i32_552 : BitVec 32 := 2#32
  let v935 : BitVec 32 := Scalar.muli arg0 c2_i32_552
  let v936 : BitVec 32 := Scalar.addi v935 c0_i32_553
  let v937 : Index := Scalar.indexCast v936
  let c33 : Index := 33#32
  ![v937.toNat, 33]
def k0_off35 (i : grid0.Coords) (c0_i32_560 : BitVec 32) : Fin 2 → Nat :=
  let arg0 : BitVec 32 := BitVec.ofNat 32 (i 0).val
  let c2_i32_559 : BitVec 32 := 2#32
  let v947 : BitVec 32 := Scalar.muli arg0 c2_i32_559
  let v948 : BitVec 32 := Scalar.addi v947 c0_i32_560
  let v949 : Index := Scalar.indexCast v948
  let c34 : Index := 34#32
  ![v949.toNat, 34]
def k0_off36 (i : grid0.Coords) (c0_i32_567 : BitVec 32) : Fin 2 → Nat :=
  let arg0 : BitVec 32 := BitVec.ofNat 32 (i 0).val
  let c2_i32_566 : BitVec 32 := 2#32
  let v959 : BitVec 32 := Scalar.muli arg0 c2_i32_566
  let v960 : BitVec 32 := Scalar.addi v959 c0_i32_567
  let v961 : Index := Scalar.indexCast v960
  let c35 : Index := 35#32
  ![v961.toNat, 35]
def k0_off37 (i : grid0.Coords) (c0_i32_574 : BitVec 32) : Fin 2 → Nat :=
  let arg0 : BitVec 32 := BitVec.ofNat 32 (i 0).val
  let c2_i32_573 : BitVec 32 := 2#32
  let v971 : BitVec 32 := Scalar.muli arg0 c2_i32_573
  let v972 : BitVec 32 := Scalar.addi v971 c0_i32_574
  let v973 : Index := Scalar.indexCast v972
  let c36 : Index := 36#32
  ![v973.toNat, 36]
def k0_off38 (i : grid0.Coords) (c0_i32_581 : BitVec 32) : Fin 2 → Nat :=
  let arg0 : BitVec 32 := BitVec.ofNat 32 (i 0).val
  let c2_i32_580 : BitVec 32 := 2#32
  let v983 : BitVec 32 := Scalar.muli arg0 c2_i32_580
  let v984 : BitVec 32 := Scalar.addi v983 c0_i32_581
  let v985 : Index := Scalar.indexCast v984
  let c37 : Index := 37#32
  ![v985.toNat, 37]
def k0_off39 (i : grid0.Coords) (c0_i32_588 : BitVec 32) : Fin 2 → Nat :=
  let arg0 : BitVec 32 := BitVec.ofNat 32 (i 0).val
  let c2_i32_587 : BitVec 32 := 2#32
  let v995 : BitVec 32 := Scalar.muli arg0 c2_i32_587
  let v996 : BitVec 32 := Scalar.addi v995 c0_i32_588
  let v997 : Index := Scalar.indexCast v996
  let c38 : Index := 38#32
  ![v997.toNat, 38]
def k0_off40 (i : grid0.Coords) (c0_i32_595 : BitVec 32) : Fin 2 → Nat :=
  let arg0 : BitVec 32 := BitVec.ofNat 32 (i 0).val
  let c2_i32_594 : BitVec 32 := 2#32
  let v1007 : BitVec 32 := Scalar.muli arg0 c2_i32_594
  let v1008 : BitVec 32 := Scalar.addi v1007 c0_i32_595
  let v1009 : Index := Scalar.indexCast v1008
  let c39 : Index := 39#32
  ![v1009.toNat, 39]
def k0_off41 (i : grid0.Coords) (c0_i32_602 : BitVec 32) : Fin 2 → Nat :=
  let arg0 : BitVec 32 := BitVec.ofNat 32 (i 0).val
  let c2_i32_601 : BitVec 32 := 2#32
  let v1019 : BitVec 32 := Scalar.muli arg0 c2_i32_601
  let v1020 : BitVec 32 := Scalar.addi v1019 c0_i32_602
  let v1021 : Index := Scalar.indexCast v1020
  let c40 : Index := 40#32
  ![v1021.toNat, 40]
def k0_off42 (i : grid0.Coords) (c0_i32_609 : BitVec 32) : Fin 2 → Nat :=
  let arg0 : BitVec 32 := BitVec.ofNat 32 (i 0).val
  let c2_i32_608 : BitVec 32 := 2#32
  let v1031 : BitVec 32 := Scalar.muli arg0 c2_i32_608
  let v1032 : BitVec 32 := Scalar.addi v1031 c0_i32_609
  let v1033 : Index := Scalar.indexCast v1032
  let c41 : Index := 41#32
  ![v1033.toNat, 41]
def k0_off43 (i : grid0.Coords) (c0_i32_616 : BitVec 32) : Fin 2 → Nat :=
  let arg0 : BitVec 32 := BitVec.ofNat 32 (i 0).val
  let c2_i32_615 : BitVec 32 := 2#32
  let v1043 : BitVec 32 := Scalar.muli arg0 c2_i32_615
  let v1044 : BitVec 32 := Scalar.addi v1043 c0_i32_616
  let v1045 : Index := Scalar.indexCast v1044
  let c42 : Index := 42#32
  ![v1045.toNat, 42]
def k0_off44 (i : grid0.Coords) (c0_i32_623 : BitVec 32) : Fin 2 → Nat :=
  let arg0 : BitVec 32 := BitVec.ofNat 32 (i 0).val
  let c2_i32_622 : BitVec 32 := 2#32
  let v1055 : BitVec 32 := Scalar.muli arg0 c2_i32_622
  let v1056 : BitVec 32 := Scalar.addi v1055 c0_i32_623
  let v1057 : Index := Scalar.indexCast v1056
  let c43 : Index := 43#32
  ![v1057.toNat, 43]
def k0_off45 (i : grid0.Coords) (c0_i32_630 : BitVec 32) : Fin 2 → Nat :=
  let arg0 : BitVec 32 := BitVec.ofNat 32 (i 0).val
  let c2_i32_629 : BitVec 32 := 2#32
  let v1067 : BitVec 32 := Scalar.muli arg0 c2_i32_629
  let v1068 : BitVec 32 := Scalar.addi v1067 c0_i32_630
  let v1069 : Index := Scalar.indexCast v1068
  let c44 : Index := 44#32
  ![v1069.toNat, 44]
def k0_off46 (i : grid0.Coords) (c0_i32_637 : BitVec 32) : Fin 2 → Nat :=
  let arg0 : BitVec 32 := BitVec.ofNat 32 (i 0).val
  let c2_i32_636 : BitVec 32 := 2#32
  let v1079 : BitVec 32 := Scalar.muli arg0 c2_i32_636
  let v1080 : BitVec 32 := Scalar.addi v1079 c0_i32_637
  let v1081 : Index := Scalar.indexCast v1080
  let c45 : Index := 45#32
  ![v1081.toNat, 45]
def k0_off47 (i : grid0.Coords) (c0_i32_644 : BitVec 32) : Fin 2 → Nat :=
  let arg0 : BitVec 32 := BitVec.ofNat 32 (i 0).val
  let c2_i32_643 : BitVec 32 := 2#32
  let v1091 : BitVec 32 := Scalar.muli arg0 c2_i32_643
  let v1092 : BitVec 32 := Scalar.addi v1091 c0_i32_644
  let v1093 : Index := Scalar.indexCast v1092
  let c46 : Index := 46#32
  ![v1093.toNat, 46]
def k0_off48 (i : grid0.Coords) (c0_i32_651 : BitVec 32) : Fin 2 → Nat :=
  let arg0 : BitVec 32 := BitVec.ofNat 32 (i 0).val
  let c2_i32_650 : BitVec 32 := 2#32
  let v1103 : BitVec 32 := Scalar.muli arg0 c2_i32_650
  let v1104 : BitVec 32 := Scalar.addi v1103 c0_i32_651
  let v1105 : Index := Scalar.indexCast v1104
  let c47 : Index := 47#32
  ![v1105.toNat, 47]
def k0_off49 (i : grid0.Coords) (c0_i32_807 : BitVec 32) : Fin 2 → Nat :=
  let arg0 : BitVec 32 := BitVec.ofNat 32 (i 0).val
  let c2_i32_806 : BitVec 32 := 2#32
  let v1354 : BitVec 32 := Scalar.muli arg0 c2_i32_806
  let v1355 : BitVec 32 := Scalar.addi v1354 c0_i32_807
  let v1356 : Index := Scalar.indexCast v1355
  let c48_808 : Index := 48#32
  ![v1356.toNat, 48]
def k0_off50 (i : grid0.Coords) (c0_i32_815 : BitVec 32) : Fin 2 → Nat :=
  let arg0 : BitVec 32 := BitVec.ofNat 32 (i 0).val
  let c2_i32_814 : BitVec 32 := 2#32
  let v1366 : BitVec 32 := Scalar.muli arg0 c2_i32_814
  let v1367 : BitVec 32 := Scalar.addi v1366 c0_i32_815
  let v1368 : Index := Scalar.indexCast v1367
  let c49 : Index := 49#32
  ![v1368.toNat, 49]
def k0_off51 (i : grid0.Coords) (c0_i32_822 : BitVec 32) : Fin 2 → Nat :=
  let arg0 : BitVec 32 := BitVec.ofNat 32 (i 0).val
  let c2_i32_821 : BitVec 32 := 2#32
  let v1378 : BitVec 32 := Scalar.muli arg0 c2_i32_821
  let v1379 : BitVec 32 := Scalar.addi v1378 c0_i32_822
  let v1380 : Index := Scalar.indexCast v1379
  let c50 : Index := 50#32
  ![v1380.toNat, 50]
def k0_off52 (i : grid0.Coords) (c0_i32_829 : BitVec 32) : Fin 2 → Nat :=
  let arg0 : BitVec 32 := BitVec.ofNat 32 (i 0).val
  let c2_i32_828 : BitVec 32 := 2#32
  let v1390 : BitVec 32 := Scalar.muli arg0 c2_i32_828
  let v1391 : BitVec 32 := Scalar.addi v1390 c0_i32_829
  let v1392 : Index := Scalar.indexCast v1391
  let c51 : Index := 51#32
  ![v1392.toNat, 51]
def k0_off53 (i : grid0.Coords) (c0_i32_836 : BitVec 32) : Fin 2 → Nat :=
  let arg0 : BitVec 32 := BitVec.ofNat 32 (i 0).val
  let c2_i32_835 : BitVec 32 := 2#32
  let v1402 : BitVec 32 := Scalar.muli arg0 c2_i32_835
  let v1403 : BitVec 32 := Scalar.addi v1402 c0_i32_836
  let v1404 : Index := Scalar.indexCast v1403
  let c52 : Index := 52#32
  ![v1404.toNat, 52]
def k0_off54 (i : grid0.Coords) (c0_i32_843 : BitVec 32) : Fin 2 → Nat :=
  let arg0 : BitVec 32 := BitVec.ofNat 32 (i 0).val
  let c2_i32_842 : BitVec 32 := 2#32
  let v1414 : BitVec 32 := Scalar.muli arg0 c2_i32_842
  let v1415 : BitVec 32 := Scalar.addi v1414 c0_i32_843
  let v1416 : Index := Scalar.indexCast v1415
  let c53 : Index := 53#32
  ![v1416.toNat, 53]
def k0_off55 (i : grid0.Coords) (c0_i32_850 : BitVec 32) : Fin 2 → Nat :=
  let arg0 : BitVec 32 := BitVec.ofNat 32 (i 0).val
  let c2_i32_849 : BitVec 32 := 2#32
  let v1426 : BitVec 32 := Scalar.muli arg0 c2_i32_849
  let v1427 : BitVec 32 := Scalar.addi v1426 c0_i32_850
  let v1428 : Index := Scalar.indexCast v1427
  let c54 : Index := 54#32
  ![v1428.toNat, 54]
def k0_off56 (i : grid0.Coords) (c0_i32_857 : BitVec 32) : Fin 2 → Nat :=
  let arg0 : BitVec 32 := BitVec.ofNat 32 (i 0).val
  let c2_i32_856 : BitVec 32 := 2#32
  let v1438 : BitVec 32 := Scalar.muli arg0 c2_i32_856
  let v1439 : BitVec 32 := Scalar.addi v1438 c0_i32_857
  let v1440 : Index := Scalar.indexCast v1439
  let c55 : Index := 55#32
  ![v1440.toNat, 55]
def k0_off57 (i : grid0.Coords) (c0_i32_864 : BitVec 32) : Fin 2 → Nat :=
  let arg0 : BitVec 32 := BitVec.ofNat 32 (i 0).val
  let c2_i32_863 : BitVec 32 := 2#32
  let v1450 : BitVec 32 := Scalar.muli arg0 c2_i32_863
  let v1451 : BitVec 32 := Scalar.addi v1450 c0_i32_864
  let v1452 : Index := Scalar.indexCast v1451
  let c56 : Index := 56#32
  ![v1452.toNat, 56]
def k0_off58 (i : grid0.Coords) (c0_i32_871 : BitVec 32) : Fin 2 → Nat :=
  let arg0 : BitVec 32 := BitVec.ofNat 32 (i 0).val
  let c2_i32_870 : BitVec 32 := 2#32
  let v1462 : BitVec 32 := Scalar.muli arg0 c2_i32_870
  let v1463 : BitVec 32 := Scalar.addi v1462 c0_i32_871
  let v1464 : Index := Scalar.indexCast v1463
  let c57 : Index := 57#32
  ![v1464.toNat, 57]
def k0_off59 (i : grid0.Coords) (c0_i32_878 : BitVec 32) : Fin 2 → Nat :=
  let arg0 : BitVec 32 := BitVec.ofNat 32 (i 0).val
  let c2_i32_877 : BitVec 32 := 2#32
  let v1474 : BitVec 32 := Scalar.muli arg0 c2_i32_877
  let v1475 : BitVec 32 := Scalar.addi v1474 c0_i32_878
  let v1476 : Index := Scalar.indexCast v1475
  let c58 : Index := 58#32
  ![v1476.toNat, 58]
def k0_off60 (i : grid0.Coords) (c0_i32_885 : BitVec 32) : Fin 2 → Nat :=
  let arg0 : BitVec 32 := BitVec.ofNat 32 (i 0).val
  let c2_i32_884 : BitVec 32 := 2#32
  let v1486 : BitVec 32 := Scalar.muli arg0 c2_i32_884
  let v1487 : BitVec 32 := Scalar.addi v1486 c0_i32_885
  let v1488 : Index := Scalar.indexCast v1487
  let c59 : Index := 59#32
  ![v1488.toNat, 59]
def k0_off61 (i : grid0.Coords) (c0_i32_892 : BitVec 32) : Fin 2 → Nat :=
  let arg0 : BitVec 32 := BitVec.ofNat 32 (i 0).val
  let c2_i32_891 : BitVec 32 := 2#32
  let v1498 : BitVec 32 := Scalar.muli arg0 c2_i32_891
  let v1499 : BitVec 32 := Scalar.addi v1498 c0_i32_892
  let v1500 : Index := Scalar.indexCast v1499
  let c60 : Index := 60#32
  ![v1500.toNat, 60]
def k0_off62 (i : grid0.Coords) (c0_i32_899 : BitVec 32) : Fin 2 → Nat :=
  let arg0 : BitVec 32 := BitVec.ofNat 32 (i 0).val
  let c2_i32_898 : BitVec 32 := 2#32
  let v1510 : BitVec 32 := Scalar.muli arg0 c2_i32_898
  let v1511 : BitVec 32 := Scalar.addi v1510 c0_i32_899
  let v1512 : Index := Scalar.indexCast v1511
  let c61 : Index := 61#32
  ![v1512.toNat, 61]
def k0_off63 (i : grid0.Coords) (c0_i32_906 : BitVec 32) : Fin 2 → Nat :=
  let arg0 : BitVec 32 := BitVec.ofNat 32 (i 0).val
  let c2_i32_905 : BitVec 32 := 2#32
  let v1522 : BitVec 32 := Scalar.muli arg0 c2_i32_905
  let v1523 : BitVec 32 := Scalar.addi v1522 c0_i32_906
  let v1524 : Index := Scalar.indexCast v1523
  let c62 : Index := 62#32
  ![v1524.toNat, 62]
def k0_off64 (i : grid0.Coords) (c0_i32_913 : BitVec 32) : Fin 2 → Nat :=
  let arg0 : BitVec 32 := BitVec.ofNat 32 (i 0).val
  let c2_i32_912 : BitVec 32 := 2#32
  let v1534 : BitVec 32 := Scalar.muli arg0 c2_i32_912
  let v1535 : BitVec 32 := Scalar.addi v1534 c0_i32_913
  let v1536 : Index := Scalar.indexCast v1535
  let c63 : Index := 63#32
  ![v1536.toNat, 63]
def k0_off65 (i : grid0.Coords) (c0_i32_1069 : BitVec 32) : Fin 2 → Nat :=
  let arg0 : BitVec 32 := BitVec.ofNat 32 (i 0).val
  let c2_i32_1068 : BitVec 32 := 2#32
  let v1785 : BitVec 32 := Scalar.muli arg0 c2_i32_1068
  let v1786 : BitVec 32 := Scalar.addi v1785 c0_i32_1069
  let v1787 : Index := Scalar.indexCast v1786
  let c64_1070 : Index := 64#32
  ![v1787.toNat, 64]
def k0_off66 (i : grid0.Coords) (c0_i32_1077 : BitVec 32) : Fin 2 → Nat :=
  let arg0 : BitVec 32 := BitVec.ofNat 32 (i 0).val
  let c2_i32_1076 : BitVec 32 := 2#32
  let v1797 : BitVec 32 := Scalar.muli arg0 c2_i32_1076
  let v1798 : BitVec 32 := Scalar.addi v1797 c0_i32_1077
  let v1799 : Index := Scalar.indexCast v1798
  let c65 : Index := 65#32
  ![v1799.toNat, 65]
def k0_off67 (i : grid0.Coords) (c0_i32_1084 : BitVec 32) : Fin 2 → Nat :=
  let arg0 : BitVec 32 := BitVec.ofNat 32 (i 0).val
  let c2_i32_1083 : BitVec 32 := 2#32
  let v1809 : BitVec 32 := Scalar.muli arg0 c2_i32_1083
  let v1810 : BitVec 32 := Scalar.addi v1809 c0_i32_1084
  let v1811 : Index := Scalar.indexCast v1810
  let c66 : Index := 66#32
  ![v1811.toNat, 66]
def k0_off68 (i : grid0.Coords) (c0_i32_1091 : BitVec 32) : Fin 2 → Nat :=
  let arg0 : BitVec 32 := BitVec.ofNat 32 (i 0).val
  let c2_i32_1090 : BitVec 32 := 2#32
  let v1821 : BitVec 32 := Scalar.muli arg0 c2_i32_1090
  let v1822 : BitVec 32 := Scalar.addi v1821 c0_i32_1091
  let v1823 : Index := Scalar.indexCast v1822
  let c67 : Index := 67#32
  ![v1823.toNat, 67]
def k0_off69 (i : grid0.Coords) (c0_i32_1098 : BitVec 32) : Fin 2 → Nat :=
  let arg0 : BitVec 32 := BitVec.ofNat 32 (i 0).val
  let c2_i32_1097 : BitVec 32 := 2#32
  let v1833 : BitVec 32 := Scalar.muli arg0 c2_i32_1097
  let v1834 : BitVec 32 := Scalar.addi v1833 c0_i32_1098
  let v1835 : Index := Scalar.indexCast v1834
  let c68 : Index := 68#32
  ![v1835.toNat, 68]
def k0_off70 (i : grid0.Coords) (c0_i32_1105 : BitVec 32) : Fin 2 → Nat :=
  let arg0 : BitVec 32 := BitVec.ofNat 32 (i 0).val
  let c2_i32_1104 : BitVec 32 := 2#32
  let v1845 : BitVec 32 := Scalar.muli arg0 c2_i32_1104
  let v1846 : BitVec 32 := Scalar.addi v1845 c0_i32_1105
  let v1847 : Index := Scalar.indexCast v1846
  let c69 : Index := 69#32
  ![v1847.toNat, 69]
def k0_off71 (i : grid0.Coords) (c0_i32_1112 : BitVec 32) : Fin 2 → Nat :=
  let arg0 : BitVec 32 := BitVec.ofNat 32 (i 0).val
  let c2_i32_1111 : BitVec 32 := 2#32
  let v1857 : BitVec 32 := Scalar.muli arg0 c2_i32_1111
  let v1858 : BitVec 32 := Scalar.addi v1857 c0_i32_1112
  let v1859 : Index := Scalar.indexCast v1858
  let c70 : Index := 70#32
  ![v1859.toNat, 70]
def k0_off72 (i : grid0.Coords) (c0_i32_1119 : BitVec 32) : Fin 2 → Nat :=
  let arg0 : BitVec 32 := BitVec.ofNat 32 (i 0).val
  let c2_i32_1118 : BitVec 32 := 2#32
  let v1869 : BitVec 32 := Scalar.muli arg0 c2_i32_1118
  let v1870 : BitVec 32 := Scalar.addi v1869 c0_i32_1119
  let v1871 : Index := Scalar.indexCast v1870
  let c71 : Index := 71#32
  ![v1871.toNat, 71]
def k0_off73 (i : grid0.Coords) (c0_i32_1126 : BitVec 32) : Fin 2 → Nat :=
  let arg0 : BitVec 32 := BitVec.ofNat 32 (i 0).val
  let c2_i32_1125 : BitVec 32 := 2#32
  let v1881 : BitVec 32 := Scalar.muli arg0 c2_i32_1125
  let v1882 : BitVec 32 := Scalar.addi v1881 c0_i32_1126
  let v1883 : Index := Scalar.indexCast v1882
  let c72 : Index := 72#32
  ![v1883.toNat, 72]
def k0_off74 (i : grid0.Coords) (c0_i32_1133 : BitVec 32) : Fin 2 → Nat :=
  let arg0 : BitVec 32 := BitVec.ofNat 32 (i 0).val
  let c2_i32_1132 : BitVec 32 := 2#32
  let v1893 : BitVec 32 := Scalar.muli arg0 c2_i32_1132
  let v1894 : BitVec 32 := Scalar.addi v1893 c0_i32_1133
  let v1895 : Index := Scalar.indexCast v1894
  let c73 : Index := 73#32
  ![v1895.toNat, 73]
def k0_off75 (i : grid0.Coords) (c0_i32_1140 : BitVec 32) : Fin 2 → Nat :=
  let arg0 : BitVec 32 := BitVec.ofNat 32 (i 0).val
  let c2_i32_1139 : BitVec 32 := 2#32
  let v1905 : BitVec 32 := Scalar.muli arg0 c2_i32_1139
  let v1906 : BitVec 32 := Scalar.addi v1905 c0_i32_1140
  let v1907 : Index := Scalar.indexCast v1906
  let c74 : Index := 74#32
  ![v1907.toNat, 74]
def k0_off76 (i : grid0.Coords) (c0_i32_1147 : BitVec 32) : Fin 2 → Nat :=
  let arg0 : BitVec 32 := BitVec.ofNat 32 (i 0).val
  let c2_i32_1146 : BitVec 32 := 2#32
  let v1917 : BitVec 32 := Scalar.muli arg0 c2_i32_1146
  let v1918 : BitVec 32 := Scalar.addi v1917 c0_i32_1147
  let v1919 : Index := Scalar.indexCast v1918
  let c75 : Index := 75#32
  ![v1919.toNat, 75]
def k0_off77 (i : grid0.Coords) (c0_i32_1154 : BitVec 32) : Fin 2 → Nat :=
  let arg0 : BitVec 32 := BitVec.ofNat 32 (i 0).val
  let c2_i32_1153 : BitVec 32 := 2#32
  let v1929 : BitVec 32 := Scalar.muli arg0 c2_i32_1153
  let v1930 : BitVec 32 := Scalar.addi v1929 c0_i32_1154
  let v1931 : Index := Scalar.indexCast v1930
  let c76 : Index := 76#32
  ![v1931.toNat, 76]
def k0_off78 (i : grid0.Coords) (c0_i32_1161 : BitVec 32) : Fin 2 → Nat :=
  let arg0 : BitVec 32 := BitVec.ofNat 32 (i 0).val
  let c2_i32_1160 : BitVec 32 := 2#32
  let v1941 : BitVec 32 := Scalar.muli arg0 c2_i32_1160
  let v1942 : BitVec 32 := Scalar.addi v1941 c0_i32_1161
  let v1943 : Index := Scalar.indexCast v1942
  let c77 : Index := 77#32
  ![v1943.toNat, 77]
def k0_off79 (i : grid0.Coords) (c0_i32_1168 : BitVec 32) : Fin 2 → Nat :=
  let arg0 : BitVec 32 := BitVec.ofNat 32 (i 0).val
  let c2_i32_1167 : BitVec 32 := 2#32
  let v1953 : BitVec 32 := Scalar.muli arg0 c2_i32_1167
  let v1954 : BitVec 32 := Scalar.addi v1953 c0_i32_1168
  let v1955 : Index := Scalar.indexCast v1954
  let c78 : Index := 78#32
  ![v1955.toNat, 78]
def k0_off80 (i : grid0.Coords) (c0_i32_1175 : BitVec 32) : Fin 2 → Nat :=
  let arg0 : BitVec 32 := BitVec.ofNat 32 (i 0).val
  let c2_i32_1174 : BitVec 32 := 2#32
  let v1965 : BitVec 32 := Scalar.muli arg0 c2_i32_1174
  let v1966 : BitVec 32 := Scalar.addi v1965 c0_i32_1175
  let v1967 : Index := Scalar.indexCast v1966
  let c79 : Index := 79#32
  ![v1967.toNat, 79]
def k0_off81 (i : grid0.Coords) (c0_i32_1331 : BitVec 32) : Fin 2 → Nat :=
  let arg0 : BitVec 32 := BitVec.ofNat 32 (i 0).val
  let c2_i32_1330 : BitVec 32 := 2#32
  let v2216 : BitVec 32 := Scalar.muli arg0 c2_i32_1330
  let v2217 : BitVec 32 := Scalar.addi v2216 c0_i32_1331
  let v2218 : Index := Scalar.indexCast v2217
  let c80_1332 : Index := 80#32
  ![v2218.toNat, 80]
def k0_off82 (i : grid0.Coords) (c0_i32_1339 : BitVec 32) : Fin 2 → Nat :=
  let arg0 : BitVec 32 := BitVec.ofNat 32 (i 0).val
  let c2_i32_1338 : BitVec 32 := 2#32
  let v2228 : BitVec 32 := Scalar.muli arg0 c2_i32_1338
  let v2229 : BitVec 32 := Scalar.addi v2228 c0_i32_1339
  let v2230 : Index := Scalar.indexCast v2229
  let c81 : Index := 81#32
  ![v2230.toNat, 81]
def k0_off83 (i : grid0.Coords) (c0_i32_1346 : BitVec 32) : Fin 2 → Nat :=
  let arg0 : BitVec 32 := BitVec.ofNat 32 (i 0).val
  let c2_i32_1345 : BitVec 32 := 2#32
  let v2240 : BitVec 32 := Scalar.muli arg0 c2_i32_1345
  let v2241 : BitVec 32 := Scalar.addi v2240 c0_i32_1346
  let v2242 : Index := Scalar.indexCast v2241
  let c82 : Index := 82#32
  ![v2242.toNat, 82]
def k0_off84 (i : grid0.Coords) (c0_i32_1353 : BitVec 32) : Fin 2 → Nat :=
  let arg0 : BitVec 32 := BitVec.ofNat 32 (i 0).val
  let c2_i32_1352 : BitVec 32 := 2#32
  let v2252 : BitVec 32 := Scalar.muli arg0 c2_i32_1352
  let v2253 : BitVec 32 := Scalar.addi v2252 c0_i32_1353
  let v2254 : Index := Scalar.indexCast v2253
  let c83 : Index := 83#32
  ![v2254.toNat, 83]
def k0_off85 (i : grid0.Coords) (c0_i32_1360 : BitVec 32) : Fin 2 → Nat :=
  let arg0 : BitVec 32 := BitVec.ofNat 32 (i 0).val
  let c2_i32_1359 : BitVec 32 := 2#32
  let v2264 : BitVec 32 := Scalar.muli arg0 c2_i32_1359
  let v2265 : BitVec 32 := Scalar.addi v2264 c0_i32_1360
  let v2266 : Index := Scalar.indexCast v2265
  let c84 : Index := 84#32
  ![v2266.toNat, 84]
def k0_off86 (i : grid0.Coords) (c0_i32_1367 : BitVec 32) : Fin 2 → Nat :=
  let arg0 : BitVec 32 := BitVec.ofNat 32 (i 0).val
  let c2_i32_1366 : BitVec 32 := 2#32
  let v2276 : BitVec 32 := Scalar.muli arg0 c2_i32_1366
  let v2277 : BitVec 32 := Scalar.addi v2276 c0_i32_1367
  let v2278 : Index := Scalar.indexCast v2277
  let c85 : Index := 85#32
  ![v2278.toNat, 85]
def k0_off87 (i : grid0.Coords) (c0_i32_1374 : BitVec 32) : Fin 2 → Nat :=
  let arg0 : BitVec 32 := BitVec.ofNat 32 (i 0).val
  let c2_i32_1373 : BitVec 32 := 2#32
  let v2288 : BitVec 32 := Scalar.muli arg0 c2_i32_1373
  let v2289 : BitVec 32 := Scalar.addi v2288 c0_i32_1374
  let v2290 : Index := Scalar.indexCast v2289
  let c86 : Index := 86#32
  ![v2290.toNat, 86]
def k0_off88 (i : grid0.Coords) (c0_i32_1381 : BitVec 32) : Fin 2 → Nat :=
  let arg0 : BitVec 32 := BitVec.ofNat 32 (i 0).val
  let c2_i32_1380 : BitVec 32 := 2#32
  let v2300 : BitVec 32 := Scalar.muli arg0 c2_i32_1380
  let v2301 : BitVec 32 := Scalar.addi v2300 c0_i32_1381
  let v2302 : Index := Scalar.indexCast v2301
  let c87 : Index := 87#32
  ![v2302.toNat, 87]
def k0_off89 (i : grid0.Coords) (c0_i32_1388 : BitVec 32) : Fin 2 → Nat :=
  let arg0 : BitVec 32 := BitVec.ofNat 32 (i 0).val
  let c2_i32_1387 : BitVec 32 := 2#32
  let v2312 : BitVec 32 := Scalar.muli arg0 c2_i32_1387
  let v2313 : BitVec 32 := Scalar.addi v2312 c0_i32_1388
  let v2314 : Index := Scalar.indexCast v2313
  let c88 : Index := 88#32
  ![v2314.toNat, 88]
def k0_off90 (i : grid0.Coords) (c0_i32_1395 : BitVec 32) : Fin 2 → Nat :=
  let arg0 : BitVec 32 := BitVec.ofNat 32 (i 0).val
  let c2_i32_1394 : BitVec 32 := 2#32
  let v2324 : BitVec 32 := Scalar.muli arg0 c2_i32_1394
  let v2325 : BitVec 32 := Scalar.addi v2324 c0_i32_1395
  let v2326 : Index := Scalar.indexCast v2325
  let c89 : Index := 89#32
  ![v2326.toNat, 89]
def k0_off91 (i : grid0.Coords) (c0_i32_1402 : BitVec 32) : Fin 2 → Nat :=
  let arg0 : BitVec 32 := BitVec.ofNat 32 (i 0).val
  let c2_i32_1401 : BitVec 32 := 2#32
  let v2336 : BitVec 32 := Scalar.muli arg0 c2_i32_1401
  let v2337 : BitVec 32 := Scalar.addi v2336 c0_i32_1402
  let v2338 : Index := Scalar.indexCast v2337
  let c90 : Index := 90#32
  ![v2338.toNat, 90]
def k0_off92 (i : grid0.Coords) (c0_i32_1409 : BitVec 32) : Fin 2 → Nat :=
  let arg0 : BitVec 32 := BitVec.ofNat 32 (i 0).val
  let c2_i32_1408 : BitVec 32 := 2#32
  let v2348 : BitVec 32 := Scalar.muli arg0 c2_i32_1408
  let v2349 : BitVec 32 := Scalar.addi v2348 c0_i32_1409
  let v2350 : Index := Scalar.indexCast v2349
  let c91 : Index := 91#32
  ![v2350.toNat, 91]
def k0_off93 (i : grid0.Coords) (c0_i32_1416 : BitVec 32) : Fin 2 → Nat :=
  let arg0 : BitVec 32 := BitVec.ofNat 32 (i 0).val
  let c2_i32_1415 : BitVec 32 := 2#32
  let v2360 : BitVec 32 := Scalar.muli arg0 c2_i32_1415
  let v2361 : BitVec 32 := Scalar.addi v2360 c0_i32_1416
  let v2362 : Index := Scalar.indexCast v2361
  let c92 : Index := 92#32
  ![v2362.toNat, 92]
def k0_off94 (i : grid0.Coords) (c0_i32_1423 : BitVec 32) : Fin 2 → Nat :=
  let arg0 : BitVec 32 := BitVec.ofNat 32 (i 0).val
  let c2_i32_1422 : BitVec 32 := 2#32
  let v2372 : BitVec 32 := Scalar.muli arg0 c2_i32_1422
  let v2373 : BitVec 32 := Scalar.addi v2372 c0_i32_1423
  let v2374 : Index := Scalar.indexCast v2373
  let c93 : Index := 93#32
  ![v2374.toNat, 93]
def k0_off95 (i : grid0.Coords) (c0_i32_1430 : BitVec 32) : Fin 2 → Nat :=
  let arg0 : BitVec 32 := BitVec.ofNat 32 (i 0).val
  let c2_i32_1429 : BitVec 32 := 2#32
  let v2384 : BitVec 32 := Scalar.muli arg0 c2_i32_1429
  let v2385 : BitVec 32 := Scalar.addi v2384 c0_i32_1430
  let v2386 : Index := Scalar.indexCast v2385
  let c94 : Index := 94#32
  ![v2386.toNat, 94]
def k0_off96 (i : grid0.Coords) (c0_i32_1437 : BitVec 32) : Fin 2 → Nat :=
  let arg0 : BitVec 32 := BitVec.ofNat 32 (i 0).val
  let c2_i32_1436 : BitVec 32 := 2#32
  let v2396 : BitVec 32 := Scalar.muli arg0 c2_i32_1436
  let v2397 : BitVec 32 := Scalar.addi v2396 c0_i32_1437
  let v2398 : Index := Scalar.indexCast v2397
  let c95 : Index := 95#32
  ![v2398.toNat, 95]
def k0_off97 (i : grid0.Coords) (c0_i32_1593 : BitVec 32) : Fin 2 → Nat :=
  let arg0 : BitVec 32 := BitVec.ofNat 32 (i 0).val
  let c2_i32_1592 : BitVec 32 := 2#32
  let v2647 : BitVec 32 := Scalar.muli arg0 c2_i32_1592
  let v2648 : BitVec 32 := Scalar.addi v2647 c0_i32_1593
  let v2649 : Index := Scalar.indexCast v2648
  let c96_1594 : Index := 96#32
  ![v2649.toNat, 96]
def k0_off98 (i : grid0.Coords) (c0_i32_1601 : BitVec 32) : Fin 2 → Nat :=
  let arg0 : BitVec 32 := BitVec.ofNat 32 (i 0).val
  let c2_i32_1600 : BitVec 32 := 2#32
  let v2659 : BitVec 32 := Scalar.muli arg0 c2_i32_1600
  let v2660 : BitVec 32 := Scalar.addi v2659 c0_i32_1601
  let v2661 : Index := Scalar.indexCast v2660
  let c97 : Index := 97#32
  ![v2661.toNat, 97]
def k0_off99 (i : grid0.Coords) (c0_i32_1608 : BitVec 32) : Fin 2 → Nat :=
  let arg0 : BitVec 32 := BitVec.ofNat 32 (i 0).val
  let c2_i32_1607 : BitVec 32 := 2#32
  let v2671 : BitVec 32 := Scalar.muli arg0 c2_i32_1607
  let v2672 : BitVec 32 := Scalar.addi v2671 c0_i32_1608
  let v2673 : Index := Scalar.indexCast v2672
  let c98 : Index := 98#32
  ![v2673.toNat, 98]
def k0_off100 (i : grid0.Coords) (c0_i32_1615 : BitVec 32) : Fin 2 → Nat :=
  let arg0 : BitVec 32 := BitVec.ofNat 32 (i 0).val
  let c2_i32_1614 : BitVec 32 := 2#32
  let v2683 : BitVec 32 := Scalar.muli arg0 c2_i32_1614
  let v2684 : BitVec 32 := Scalar.addi v2683 c0_i32_1615
  let v2685 : Index := Scalar.indexCast v2684
  let c99 : Index := 99#32
  ![v2685.toNat, 99]
def k0_off101 (i : grid0.Coords) (c0_i32_1622 : BitVec 32) : Fin 2 → Nat :=
  let arg0 : BitVec 32 := BitVec.ofNat 32 (i 0).val
  let c2_i32_1621 : BitVec 32 := 2#32
  let v2695 : BitVec 32 := Scalar.muli arg0 c2_i32_1621
  let v2696 : BitVec 32 := Scalar.addi v2695 c0_i32_1622
  let v2697 : Index := Scalar.indexCast v2696
  let c100 : Index := 100#32
  ![v2697.toNat, 100]
def k0_off102 (i : grid0.Coords) (c0_i32_1629 : BitVec 32) : Fin 2 → Nat :=
  let arg0 : BitVec 32 := BitVec.ofNat 32 (i 0).val
  let c2_i32_1628 : BitVec 32 := 2#32
  let v2707 : BitVec 32 := Scalar.muli arg0 c2_i32_1628
  let v2708 : BitVec 32 := Scalar.addi v2707 c0_i32_1629
  let v2709 : Index := Scalar.indexCast v2708
  let c101 : Index := 101#32
  ![v2709.toNat, 101]
def k0_off103 (i : grid0.Coords) (c0_i32_1636 : BitVec 32) : Fin 2 → Nat :=
  let arg0 : BitVec 32 := BitVec.ofNat 32 (i 0).val
  let c2_i32_1635 : BitVec 32 := 2#32
  let v2719 : BitVec 32 := Scalar.muli arg0 c2_i32_1635
  let v2720 : BitVec 32 := Scalar.addi v2719 c0_i32_1636
  let v2721 : Index := Scalar.indexCast v2720
  let c102 : Index := 102#32
  ![v2721.toNat, 102]
def k0_off104 (i : grid0.Coords) (c0_i32_1643 : BitVec 32) : Fin 2 → Nat :=
  let arg0 : BitVec 32 := BitVec.ofNat 32 (i 0).val
  let c2_i32_1642 : BitVec 32 := 2#32
  let v2731 : BitVec 32 := Scalar.muli arg0 c2_i32_1642
  let v2732 : BitVec 32 := Scalar.addi v2731 c0_i32_1643
  let v2733 : Index := Scalar.indexCast v2732
  let c103 : Index := 103#32
  ![v2733.toNat, 103]
def k0_off105 (i : grid0.Coords) (c0_i32_1650 : BitVec 32) : Fin 2 → Nat :=
  let arg0 : BitVec 32 := BitVec.ofNat 32 (i 0).val
  let c2_i32_1649 : BitVec 32 := 2#32
  let v2743 : BitVec 32 := Scalar.muli arg0 c2_i32_1649
  let v2744 : BitVec 32 := Scalar.addi v2743 c0_i32_1650
  let v2745 : Index := Scalar.indexCast v2744
  let c104 : Index := 104#32
  ![v2745.toNat, 104]
def k0_off106 (i : grid0.Coords) (c0_i32_1657 : BitVec 32) : Fin 2 → Nat :=
  let arg0 : BitVec 32 := BitVec.ofNat 32 (i 0).val
  let c2_i32_1656 : BitVec 32 := 2#32
  let v2755 : BitVec 32 := Scalar.muli arg0 c2_i32_1656
  let v2756 : BitVec 32 := Scalar.addi v2755 c0_i32_1657
  let v2757 : Index := Scalar.indexCast v2756
  let c105 : Index := 105#32
  ![v2757.toNat, 105]
def k0_off107 (i : grid0.Coords) (c0_i32_1664 : BitVec 32) : Fin 2 → Nat :=
  let arg0 : BitVec 32 := BitVec.ofNat 32 (i 0).val
  let c2_i32_1663 : BitVec 32 := 2#32
  let v2767 : BitVec 32 := Scalar.muli arg0 c2_i32_1663
  let v2768 : BitVec 32 := Scalar.addi v2767 c0_i32_1664
  let v2769 : Index := Scalar.indexCast v2768
  let c106 : Index := 106#32
  ![v2769.toNat, 106]
def k0_off108 (i : grid0.Coords) (c0_i32_1671 : BitVec 32) : Fin 2 → Nat :=
  let arg0 : BitVec 32 := BitVec.ofNat 32 (i 0).val
  let c2_i32_1670 : BitVec 32 := 2#32
  let v2779 : BitVec 32 := Scalar.muli arg0 c2_i32_1670
  let v2780 : BitVec 32 := Scalar.addi v2779 c0_i32_1671
  let v2781 : Index := Scalar.indexCast v2780
  let c107 : Index := 107#32
  ![v2781.toNat, 107]
def k0_off109 (i : grid0.Coords) (c0_i32_1678 : BitVec 32) : Fin 2 → Nat :=
  let arg0 : BitVec 32 := BitVec.ofNat 32 (i 0).val
  let c2_i32_1677 : BitVec 32 := 2#32
  let v2791 : BitVec 32 := Scalar.muli arg0 c2_i32_1677
  let v2792 : BitVec 32 := Scalar.addi v2791 c0_i32_1678
  let v2793 : Index := Scalar.indexCast v2792
  let c108 : Index := 108#32
  ![v2793.toNat, 108]
def k0_off110 (i : grid0.Coords) (c0_i32_1685 : BitVec 32) : Fin 2 → Nat :=
  let arg0 : BitVec 32 := BitVec.ofNat 32 (i 0).val
  let c2_i32_1684 : BitVec 32 := 2#32
  let v2803 : BitVec 32 := Scalar.muli arg0 c2_i32_1684
  let v2804 : BitVec 32 := Scalar.addi v2803 c0_i32_1685
  let v2805 : Index := Scalar.indexCast v2804
  let c109 : Index := 109#32
  ![v2805.toNat, 109]
def k0_off111 (i : grid0.Coords) (c0_i32_1692 : BitVec 32) : Fin 2 → Nat :=
  let arg0 : BitVec 32 := BitVec.ofNat 32 (i 0).val
  let c2_i32_1691 : BitVec 32 := 2#32
  let v2815 : BitVec 32 := Scalar.muli arg0 c2_i32_1691
  let v2816 : BitVec 32 := Scalar.addi v2815 c0_i32_1692
  let v2817 : Index := Scalar.indexCast v2816
  let c110 : Index := 110#32
  ![v2817.toNat, 110]
def k0_off112 (i : grid0.Coords) (c0_i32_1699 : BitVec 32) : Fin 2 → Nat :=
  let arg0 : BitVec 32 := BitVec.ofNat 32 (i 0).val
  let c2_i32_1698 : BitVec 32 := 2#32
  let v2827 : BitVec 32 := Scalar.muli arg0 c2_i32_1698
  let v2828 : BitVec 32 := Scalar.addi v2827 c0_i32_1699
  let v2829 : Index := Scalar.indexCast v2828
  let c111 : Index := 111#32
  ![v2829.toNat, 111]
def k0_off113 (i : grid0.Coords) (c0_i32_1855 : BitVec 32) : Fin 2 → Nat :=
  let arg0 : BitVec 32 := BitVec.ofNat 32 (i 0).val
  let c2_i32_1854 : BitVec 32 := 2#32
  let v3078 : BitVec 32 := Scalar.muli arg0 c2_i32_1854
  let v3079 : BitVec 32 := Scalar.addi v3078 c0_i32_1855
  let v3080 : Index := Scalar.indexCast v3079
  let c112_1856 : Index := 112#32
  ![v3080.toNat, 112]
def k0_off114 (i : grid0.Coords) (c0_i32_1863 : BitVec 32) : Fin 2 → Nat :=
  let arg0 : BitVec 32 := BitVec.ofNat 32 (i 0).val
  let c2_i32_1862 : BitVec 32 := 2#32
  let v3090 : BitVec 32 := Scalar.muli arg0 c2_i32_1862
  let v3091 : BitVec 32 := Scalar.addi v3090 c0_i32_1863
  let v3092 : Index := Scalar.indexCast v3091
  let c113 : Index := 113#32
  ![v3092.toNat, 113]
def k0_off115 (i : grid0.Coords) (c0_i32_1870 : BitVec 32) : Fin 2 → Nat :=
  let arg0 : BitVec 32 := BitVec.ofNat 32 (i 0).val
  let c2_i32_1869 : BitVec 32 := 2#32
  let v3102 : BitVec 32 := Scalar.muli arg0 c2_i32_1869
  let v3103 : BitVec 32 := Scalar.addi v3102 c0_i32_1870
  let v3104 : Index := Scalar.indexCast v3103
  let c114 : Index := 114#32
  ![v3104.toNat, 114]
def k0_off116 (i : grid0.Coords) (c0_i32_1877 : BitVec 32) : Fin 2 → Nat :=
  let arg0 : BitVec 32 := BitVec.ofNat 32 (i 0).val
  let c2_i32_1876 : BitVec 32 := 2#32
  let v3114 : BitVec 32 := Scalar.muli arg0 c2_i32_1876
  let v3115 : BitVec 32 := Scalar.addi v3114 c0_i32_1877
  let v3116 : Index := Scalar.indexCast v3115
  let c115 : Index := 115#32
  ![v3116.toNat, 115]
def k0_off117 (i : grid0.Coords) (c0_i32_1884 : BitVec 32) : Fin 2 → Nat :=
  let arg0 : BitVec 32 := BitVec.ofNat 32 (i 0).val
  let c2_i32_1883 : BitVec 32 := 2#32
  let v3126 : BitVec 32 := Scalar.muli arg0 c2_i32_1883
  let v3127 : BitVec 32 := Scalar.addi v3126 c0_i32_1884
  let v3128 : Index := Scalar.indexCast v3127
  let c116 : Index := 116#32
  ![v3128.toNat, 116]
def k0_off118 (i : grid0.Coords) (c0_i32_1891 : BitVec 32) : Fin 2 → Nat :=
  let arg0 : BitVec 32 := BitVec.ofNat 32 (i 0).val
  let c2_i32_1890 : BitVec 32 := 2#32
  let v3138 : BitVec 32 := Scalar.muli arg0 c2_i32_1890
  let v3139 : BitVec 32 := Scalar.addi v3138 c0_i32_1891
  let v3140 : Index := Scalar.indexCast v3139
  let c117 : Index := 117#32
  ![v3140.toNat, 117]
def k0_off119 (i : grid0.Coords) (c0_i32_1898 : BitVec 32) : Fin 2 → Nat :=
  let arg0 : BitVec 32 := BitVec.ofNat 32 (i 0).val
  let c2_i32_1897 : BitVec 32 := 2#32
  let v3150 : BitVec 32 := Scalar.muli arg0 c2_i32_1897
  let v3151 : BitVec 32 := Scalar.addi v3150 c0_i32_1898
  let v3152 : Index := Scalar.indexCast v3151
  let c118 : Index := 118#32
  ![v3152.toNat, 118]
def k0_off120 (i : grid0.Coords) (c0_i32_1905 : BitVec 32) : Fin 2 → Nat :=
  let arg0 : BitVec 32 := BitVec.ofNat 32 (i 0).val
  let c2_i32_1904 : BitVec 32 := 2#32
  let v3162 : BitVec 32 := Scalar.muli arg0 c2_i32_1904
  let v3163 : BitVec 32 := Scalar.addi v3162 c0_i32_1905
  let v3164 : Index := Scalar.indexCast v3163
  let c119 : Index := 119#32
  ![v3164.toNat, 119]
def k0_off121 (i : grid0.Coords) (c0_i32_1912 : BitVec 32) : Fin 2 → Nat :=
  let arg0 : BitVec 32 := BitVec.ofNat 32 (i 0).val
  let c2_i32_1911 : BitVec 32 := 2#32
  let v3174 : BitVec 32 := Scalar.muli arg0 c2_i32_1911
  let v3175 : BitVec 32 := Scalar.addi v3174 c0_i32_1912
  let v3176 : Index := Scalar.indexCast v3175
  let c120 : Index := 120#32
  ![v3176.toNat, 120]
def k0_off122 (i : grid0.Coords) (c0_i32_1919 : BitVec 32) : Fin 2 → Nat :=
  let arg0 : BitVec 32 := BitVec.ofNat 32 (i 0).val
  let c2_i32_1918 : BitVec 32 := 2#32
  let v3186 : BitVec 32 := Scalar.muli arg0 c2_i32_1918
  let v3187 : BitVec 32 := Scalar.addi v3186 c0_i32_1919
  let v3188 : Index := Scalar.indexCast v3187
  let c121 : Index := 121#32
  ![v3188.toNat, 121]
def k0_off123 (i : grid0.Coords) (c0_i32_1926 : BitVec 32) : Fin 2 → Nat :=
  let arg0 : BitVec 32 := BitVec.ofNat 32 (i 0).val
  let c2_i32_1925 : BitVec 32 := 2#32
  let v3198 : BitVec 32 := Scalar.muli arg0 c2_i32_1925
  let v3199 : BitVec 32 := Scalar.addi v3198 c0_i32_1926
  let v3200 : Index := Scalar.indexCast v3199
  let c122 : Index := 122#32
  ![v3200.toNat, 122]
def k0_off124 (i : grid0.Coords) (c0_i32_1933 : BitVec 32) : Fin 2 → Nat :=
  let arg0 : BitVec 32 := BitVec.ofNat 32 (i 0).val
  let c2_i32_1932 : BitVec 32 := 2#32
  let v3210 : BitVec 32 := Scalar.muli arg0 c2_i32_1932
  let v3211 : BitVec 32 := Scalar.addi v3210 c0_i32_1933
  let v3212 : Index := Scalar.indexCast v3211
  let c123 : Index := 123#32
  ![v3212.toNat, 123]
def k0_off125 (i : grid0.Coords) (c0_i32_1940 : BitVec 32) : Fin 2 → Nat :=
  let arg0 : BitVec 32 := BitVec.ofNat 32 (i 0).val
  let c2_i32_1939 : BitVec 32 := 2#32
  let v3222 : BitVec 32 := Scalar.muli arg0 c2_i32_1939
  let v3223 : BitVec 32 := Scalar.addi v3222 c0_i32_1940
  let v3224 : Index := Scalar.indexCast v3223
  let c124 : Index := 124#32
  ![v3224.toNat, 124]
def k0_off126 (i : grid0.Coords) (c0_i32_1947 : BitVec 32) : Fin 2 → Nat :=
  let arg0 : BitVec 32 := BitVec.ofNat 32 (i 0).val
  let c2_i32_1946 : BitVec 32 := 2#32
  let v3234 : BitVec 32 := Scalar.muli arg0 c2_i32_1946
  let v3235 : BitVec 32 := Scalar.addi v3234 c0_i32_1947
  let v3236 : Index := Scalar.indexCast v3235
  let c125 : Index := 125#32
  ![v3236.toNat, 125]
def k0_off127 (i : grid0.Coords) (c0_i32_1954 : BitVec 32) : Fin 2 → Nat :=
  let arg0 : BitVec 32 := BitVec.ofNat 32 (i 0).val
  let c2_i32_1953 : BitVec 32 := 2#32
  let v3246 : BitVec 32 := Scalar.muli arg0 c2_i32_1953
  let v3247 : BitVec 32 := Scalar.addi v3246 c0_i32_1954
  let v3248 : Index := Scalar.indexCast v3247
  let c126 : Index := 126#32
  ![v3248.toNat, 126]
def k0_off128 (i : grid0.Coords) (c0_i32_1961 : BitVec 32) : Fin 2 → Nat :=
  let arg0 : BitVec 32 := BitVec.ofNat 32 (i 0).val
  let c2_i32_1960 : BitVec 32 := 2#32
  let v3258 : BitVec 32 := Scalar.muli arg0 c2_i32_1960
  let v3259 : BitVec 32 := Scalar.addi v3258 c0_i32_1961
  let v3260 : Index := Scalar.indexCast v3259
  let c127 : Index := 127#32
  ![v3260.toNat, 127]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S128x128 : Shape := ⟨2, ![128, 128]⟩
abbrev S2x128x128x64x128 : Shape := ⟨5, ![2, 128, 128, 64, 128]⟩
abbrev S128x4x1024 : Shape := ⟨3, ![128, 4, 1024]⟩
abbrev S128x4x8192 : Shape := ⟨3, ![128, 4, 8192]⟩
abbrev S128x4x8x16x64 : Shape := ⟨5, ![128, 4, 8, 16, 64]⟩
abbrev S128x4x8x128 : Shape := ⟨4, ![128, 4, 8, 128]⟩
abbrev S128x8x16x64x128 : Shape := ⟨5, ![128, 8, 16, 64, 128]⟩
abbrev S1x128x128x64x128 : Shape := ⟨5, ![1, 128, 128, 64, 128]⟩
abbrev S128x128x64x128 : Shape := ⟨4, ![128, 128, 64, 128]⟩
abbrev S128x128x1x1 : Shape := ⟨4, ![128, 128, 1, 1]⟩

abbrev nBuf : Space → Nat
  | .hbm => 15
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S2x128x128x64x128, .f32⟩
  | .hbm, ⟨2, _⟩ => ⟨S128x4x1024, .f32⟩
  | .hbm, ⟨3, _⟩ => ⟨S128x4x1024, .f32⟩
  | .hbm, ⟨4, _⟩ => ⟨S128x4x8192, .f32⟩
  | .hbm, ⟨5, _⟩ => ⟨S128x4x8x16x64, .f32⟩
  | .hbm, ⟨6, _⟩ => ⟨S128x4x8x128, .f32⟩
  | .hbm, ⟨7, _⟩ => ⟨S128x8x16x64x128, .f32⟩
  | .hbm, ⟨8, _⟩ => ⟨S1x128x128x64x128, .f32⟩
  | .hbm, ⟨9, _⟩ => ⟨S128x128x64x128, .f32⟩
  | .hbm, ⟨10, _⟩ => ⟨S128x128x1x1, .f32⟩
  | .hbm, ⟨11, _⟩ => ⟨S128x128x64x128, .f32⟩
  | .hbm, ⟨12, _⟩ => ⟨S128x128x64x128, .f32⟩
  | .hbm, ⟨13, _⟩ => ⟨S128x128x64x128, .f32⟩
  | .hbm, ⟨14, _⟩ => ⟨S128x128x64x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Common.lean ====
module

public import Idealize.ShloMosaic.Lib.Pipeline.ValueKit
public import Idealize.ShloMosaic.Lib.Pipeline.Value
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Packed

variable {α : Type} {a b c r n : ℕ}

/-- Rows of three matrices one under the other, read at a row of the first. -/
theorem stack3_first (x : Shape.Idx ⟨2, ![a, n]⟩ → α) (y : Shape.Idx ⟨2, ![b, n]⟩ → α) (z : Shape.Idx ⟨2, ![c, n]⟩ → α)
    (h : Shape.Concatenates [⟨2, ![a, n]⟩, ⟨2, ![b, n]⟩, ⟨2, ![c, n]⟩] ⟨2, ![r, n]⟩ 0)
    (i : Fin r) (k : Fin n) (i' : Fin a) (hi : (i' : ℕ) = i) :
    concatenate ⟨2, ![r, n]⟩ 0 [⟨⟨2, ![a, n]⟩, x⟩, ⟨⟨2, ![b, n]⟩, y⟩, ⟨⟨2, ![c, n]⟩, z⟩] h (ix2 i k) = x (ix2 i' k) := by
  refine concatenate_apply_piece 0 [⟨⟨2, ![a, n]⟩, x⟩, ⟨⟨2, ![b, n]⟩, y⟩, ⟨⟨2, ![c, n]⟩, z⟩] h (ix2 i k) 0 (by simp) _ x rfl rfl 0 (by simp) (ix2 i' k) ?_ ?_
  · intro q hq
    fin_cases q
    · exact absurd rfl hq
    · rfl
  · simpa using hi

/-- Read at a row of the second. -/
theorem stack3_second (x : Shape.Idx ⟨2, ![a, n]⟩ → α) (y : Shape.Idx ⟨2, ![b, n]⟩ → α) (z : Shape.Idx ⟨2, ![c, n]⟩ → α)
    (h : Shape.Concatenates [⟨2, ![a, n]⟩, ⟨2, ![b, n]⟩, ⟨2, ![c, n]⟩] ⟨2, ![r, n]⟩ 0)
    (i : Fin r) (k : Fin n) (i' : Fin b) (hi : a + (i' : ℕ) = i) :
    concatenate ⟨2, ![r, n]⟩ 0 [⟨⟨2, ![a, n]⟩, x⟩, ⟨⟨2, ![b, n]⟩, y⟩, ⟨⟨2, ![c, n]⟩, z⟩] h (ix2 i k) = y (ix2 i' k) := by
  refine concatenate_apply_piece 0 [⟨⟨2, ![a, n]⟩, x⟩, ⟨⟨2, ![b, n]⟩, y⟩, ⟨⟨2, ![c, n]⟩, z⟩] h (ix2 i k) 1 (by simp) _ y rfl rfl a (by simp) (ix2 i' k) ?_ ?_
  · intro q hq
    fin_cases q
    · exact absurd rfl hq
    · rfl
  · simpa using hi

variable {p l q s : ℕ}

/-- A stack of matrices laid out as one matrix, read at row `u * l + v`: row `v` of matrix `u`. -/
theorem rows_apply (x : Shape.Idx ⟨3, ![p, l, n]⟩ → α) (h : Shape.ShapeCasts ⟨3, ![p, l, n]⟩ ⟨2, ![a, n]⟩)
    (u : Fin p) (v : Fin l) (k : Fin n) (i : Fin a) (hi : (i : ℕ) = u * l + v) :
    shapeCast ⟨2, ![a, n]⟩ x h (ix2 i k) = x (ix3 u v k) := by
  refine Idealize.ShloMosaic.shapeCast_apply x h (ix2 i k) (ix3 u v k) ?_
  rw [rowMajor_val3 (ix3 u v k) (l * n) n rfl rfl, rowMajor_val2 (ix2 i k) n rfl]
  show (u : ℕ) * (l * n) + (v : ℕ) * n + k = (i : ℕ) * n + k
  rw [hi]; ring

/-- The packed rows of two stacks: row `u * l + v` is row `v` of matrix `u` of the first stack. -/
theorem packed_first (x : Shape.Idx ⟨3, ![p, l, n]⟩ → α) (y : Shape.Idx ⟨2, ![b, n]⟩ → α) (z : Shape.Idx ⟨2, ![c, n]⟩ → α)
    (hx : Shape.ShapeCasts ⟨3, ![p, l, n]⟩ ⟨2, ![a, n]⟩)
    (h : Shape.Concatenates [⟨2, ![a, n]⟩, ⟨2, ![b, n]⟩, ⟨2, ![c, n]⟩] ⟨2, ![r, n]⟩ 0)
    (u : Fin p) (v : Fin l) (k : Fin n) (i : Fin r) (hi : (i : ℕ) = u * l + v) (ha : p * l ≤ a) :
    concatenate ⟨2, ![r, n]⟩ 0 [⟨⟨2, ![a, n]⟩, shapeCast ⟨2, ![a, n]⟩ x hx⟩, ⟨⟨2, ![b, n]⟩, y⟩, ⟨⟨2, ![c, n]⟩, z⟩] h (ix2 i k) =
      x (ix3 u v k) := by
  have hu : (u : ℕ) * l + v < a := by
    have h1 : ((u : ℕ) + 1) * l ≤ p * l := Nat.mul_le_mul_right l u.isLt
    have h2 := v.isLt
    rw [Nat.add_mul, Nat.one_mul] at h1
    omega
  rw [stack3_first _ _ _ h i k ⟨i, by omega⟩ rfl]
  exact rows_apply x hx u v k _ hi

/-- The rows of a stack followed by padding: row `u * l + v` is row `v` of matrix `u`. -/
theorem padded_first (x : Shape.Idx ⟨3, ![p, l, n]⟩ → α) (y : Shape.Idx ⟨2, ![b, n]⟩ → α)
    (hx : Shape.ShapeCasts ⟨3, ![p, l, n]⟩ ⟨2, ![a, n]⟩)
    (h : Shape.Concatenates [⟨2, ![a, n]⟩, ⟨2, ![b, n]⟩] ⟨2, ![r, n]⟩ 0)
    (u : Fin p) (v : Fin l) (k : Fin n) (i : Fin r) (hi : (i : ℕ) = u * l + v) (ha : p * l ≤ a) :
    concatenate ⟨2, ![r, n]⟩ 0 [⟨⟨2, ![a, n]⟩, shapeCast ⟨2, ![a, n]⟩ x hx⟩, ⟨⟨2, ![b, n]⟩, y⟩] h (ix2 i k) = x (ix3 u v k) := by
  have hu : (u : ℕ) * l + v < a := by
    have h1 : ((u : ℕ) + 1) * l ≤ p * l := Nat.mul_le_mul_right l u.isLt
    have h2 := v.isLt
    rw [Nat.add_mul, Nat.one_mul] at h1
    omega
  refine (concatenate_apply_piece 0 [⟨⟨2, ![a, n]⟩, shapeCast ⟨2, ![a, n]⟩ x hx⟩, ⟨⟨2, ![b, n]⟩, y⟩] h (ix2 i k) 0 (by simp) _ _ rfl rfl 0
    (by simp) (ix2 ⟨i, by omega⟩ k) ?_ ?_).trans (rows_apply x hx u v k _ hi)
  · intro q hq
    fin_cases q
    · exact absurd rfl hq
    · rfl
  · simpa using hi

/-- The packed rows of two stacks: row `a + u * s + v` is row `v` of matrix `u` of the second stack. -/
theorem packed_second (x : Shape.Idx ⟨2, ![a, n]⟩ → α) (y : Shape.Idx ⟨3, ![q, s, n]⟩ → α) (z : Shape.Idx ⟨2, ![c, n]⟩ → α)
    (hy : Shape.ShapeCasts ⟨3, ![q, s, n]⟩ ⟨2, ![b, n]⟩)
    (h : Shape.Concatenates [⟨2, ![a, n]⟩, ⟨2, ![b, n]⟩, ⟨2, ![c, n]⟩] ⟨2, ![r, n]⟩ 0)
    (u : Fin q) (v : Fin s) (k : Fin n) (i : Fin r) (hi : (i : ℕ) = u * s + v + a) (hb : q * s ≤ b) :
    concatenate ⟨2, ![r, n]⟩ 0 [⟨⟨2, ![a, n]⟩, x⟩, ⟨⟨2, ![b, n]⟩, shapeCast ⟨2, ![b, n]⟩ y hy⟩, ⟨⟨2, ![c, n]⟩, z⟩] h (ix2 i k) =
      y (ix3 u v k) := by
  have hu : (u : ℕ) * s + v < b := by
    have h1 : ((u : ℕ) + 1) * s ≤ q * s := Nat.mul_le_mul_right s u.isLt
    have h2 := v.isLt
    rw [Nat.add_mul, Nat.one_mul] at h1
    omega
  rw [stack3_second _ _ _ h i k ⟨(u : ℕ) * s + v, hu⟩ (by simp only; omega)]
  exact rows_apply y hy u v k _ rfl

/-- Element `k` of a row of 4096 divided by its root mean square, as the program computes it: the mean is the sum of
    squares over 4096 (as a float32 constant), the small addend is 1e-6 (as a float32 constant). -/
def rms (x : Fin 4096 → EReal) (k : Fin 4096) : EReal :=
  x k * Ideal.rsqrt (Ideal.div (∑ l, x l * x l) (Ideal.ofBits .f32 1166016512#32) + Ideal.ofBits .f32 897988541#32)

end Cert.Packed
-- ==== Proof.NormOut.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem

namespace Cert.NormOut

open Cert.KernelIdeal Cert.KernelIdeal.Gen

variable (m : (ℓ : Loc nD τ sig) → Buf (Elt Ideal) ℓ)

/-- the prompt rows and the gains -/
abbrev xp (c : Dev nD) : S4x2064x4096.Idx → EReal := m ((c : Thread nD τ).loc main_arg0)
abbrev gn (c : Dev nD) : S4096.Idx → EReal := m ((c : Thread nD τ).loc main_arg2)

/-- What one point stores: its rows divided by their root mean square, times the gains. -/
theorem pay (x : Vec Ideal S256x4096 .f32) (g : Vec Ideal S1x4096 .f32) (y : S1x256x4096.Idx) :
    k0_pay1 (F := Ideal) x g y = Packed.rms (fun k => x (ix2 (y 1) k)) (y 2) * g (ix2 0 (y 2)) := by
  unfold Packed.rms
  pointwise [k0_pay1]

theorem idx : ∀ t : Fin cfg0.N, win0_0.index t = ![t.val / 8 * 2064 + 16 + t.val % 8 * 256, 0] ∧ win0_1.index t = ![0, 0] ∧ win0_2.index t = ![t.val / 8, t.val % 8, 0] :=
  (by decide +kernel : ∀ t : Fin grid0.N, _)

/-- Row `2064 * b + 16 + t` of the packed array: token `t` of sequence `b`, after the 16 meta rows. -/
def row (i : S4x2048x4096.Idx) : Fin 8944 :=
  ⟨(i 0 : ℕ) * 2064 + (16 + (i 1 : ℕ)), by
    have h0 : (i 0 : ℕ) < 4 := (i 0).isLt
    have h1 : (i 1 : ℕ) < 2048 := (i 1).isLt
    omega⟩

/-- The normalised prompt tokens of the packed rows. -/
def full (X : S8944x4096.Idx → EReal) (G : S1x4096.Idx → EReal) : S4x2048x4096.Idx → EReal := fun i =>
  Packed.rms (fun k => X (ix2 (row i) k)) (i 2) * G (ix2 0 (i 2))

/-- Point `t` reads its 256 rows at the row its index map names, not at a multiple of 256. -/
theorem blk_x (c : Dev nD) (t : Fin cfg0.N) (r : Fin 256) (k : Fin 4096) (q : Fin 8944)
    (hq : (q : ℕ) = t.val / 8 * 2064 + 16 + t.val % 8 * 256 + r) :
    iblk m c 0 t (ix2 r k) = V m c main_v3 (ix2 q k) := by
  have e : ∀ a : Fin 2, ((win0_0.rect t).emb (ix2 r k) a : ℕ) = win0_0.index t a + (ix2 r k a : ℕ) :=
    fun a => win0_0.rect_emb_val_off t (ix2 r k) a
  have e0 := e 0
  have e1 := e 1
  rw [(idx t).1] at e0 e1
  blk_simp [iblk]
  refine congrArg (V m c main_v3) (funext fun a => Fin.ext ?_)
  fin_cases a
  · exact e0.trans hq.symm
  · exact e1.trans (Nat.zero_add _)

theorem blk_g (c : Dev nD) (t : Fin cfg0.N) (k : Fin 4096) : iblk m c 1 t (ix2 0 k) = V m c main_v4 (ix2 0 k) := by
  blk_ext [iblk, idx t]

/-- What point `t` stores at `y` is the normalised row at the place `j` of `y` in the array. -/
theorem core (c : Dev nD) (t : Fin cfg0.N) (y : S1x256x4096.Idx) (j : S4x2048x4096.Idx)
    (h0 : (j 0 : ℕ) = t.val / 8) (h1 : (j 1 : ℕ) = t.val % 8 * 256 + (y 1 : ℕ)) (h2 : (j 2 : ℕ) = (y 2 : ℕ)) :
    k0_pay1 (F := Ideal) (iblk m c 0 t) (iblk m c 1 t) y = full (V m c main_v3) (V m c main_v4) j := by
  have e : j 2 = y 2 := Fin.ext h2
  have hr : ((row j : Fin 8944) : ℕ) = t.val / 8 * 2064 + 16 + t.val % 8 * 256 + (y 1 : ℕ) := by
    show (j 0 : ℕ) * 2064 + (16 + (j 1 : ℕ)) = _
    omega
  refine (pay _ _ y).trans ?_
  unfold full
  rw [e]
  exact congrArg₂ (fun a b : EReal => a * b) (congrArg (Packed.rms · (y 2)) (funext fun k => blk_x m c t (y 1) k _ hr)) (blk_g m c t (y 2))

theorem final (c : Dev nD) : (dats m 0 c).arrAt 2 (cfgs 0).N = full (V m c main_v3) (V m c main_v4) := by
  refine (dats m 0 c).arrAt_eq_of_covers 2 _ (by decide +kernel) fun t _ y => ?_
  blk_simp; rw [after0_2]; frame_out
  exact core m c t y _ (by blk_simp [idx t]) (by blk_simp [idx t]) (by blk_simp [idx t])

theorem V_x (c : Dev nD) : V m c main_v3 = concatenate S8944x4096 0
    [⟨S8256x4096, shapeCast _ (m ((c : Thread nD τ).loc main_arg0)) shapeCasts_S4x2064x4096_S8256x4096⟩,
     ⟨S512x4096, shapeCast _ (m ((c : Thread nD τ).loc main_arg1)) shapeCasts_S128x4x4096_S512x4096⟩,
     ⟨S176x4096, broadcastInDim S176x4096 ![] bcast_S_S176x4096 (constant (F := Ideal) S_ .f32 0x00000000#32)⟩]
     concatenates_S8256x4096_S512x4096_S176x4096_S8944x4096_d0 := by
  dsimp only [V]
  after_results
  rfl

theorem V_xp (c : Dev nD) (b : Fin 4) (t : Fin 2064) (k : Fin 4096) (h : (b : ℕ) * 2064 + t < 8944) :
    V m c main_v3 (ix2 ⟨(b : ℕ) * 2064 + t, h⟩ k) = xp m c (ix3 b t k) := by
  rw [V_x]
  exact Packed.packed_first _ _ _ _ _ b t k _ rfl (by decide)

theorem V_g (c : Dev nD) (n : Fin 4096) : V m c main_v4 (ix2 0 n) = gn m c (ix1 n) := by
  dsimp only [V]
  entry_read
  pointwise

/-- The array after the run, over the arguments. -/
theorem result (c : Dev nD) (b : Fin 4) (t : Fin 2048) (n : Fin 4096) :
    (dats m 0 c).arrAt 2 (cfgs 0).N (ix3 b t n) =
      Packed.rms (fun k => xp m c (ix3 b ⟨16 + (t : ℕ), by omega⟩ k)) n * gn m c (ix1 n) := by
  rw [final]
  exact congrArg₂ (fun a b : EReal => a * b) (congrArg (Packed.rms · n) (funext fun k => V_xp m c b ⟨16 + (t : ℕ), by omega⟩ k _)) (V_g m c n)

theorem algebraic : Cert.algebraic_KernelIdeal_ReferenceIdeal := by
  pair_intro
  · run_from Cert.KernelIdeal.Gen.run_main m g
  · hlo_run
    funext i
    rw [eq_ix3 i]
    refine Eq.trans ?_ (result m c (i 0) (i 1) (i 2)).symm
    unfold Packed.rms
    pointwise

end Cert.NormOut
-- ==== Proof.NormSample.lean ====
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem

namespace Cert.NormSample

open Cert.Kernel2Ideal Cert.Kernel2Ideal.Gen

variable (m : (ℓ : Loc nD τ sig) → Buf (Elt Ideal) ℓ)

/-- the sample rows and the gains -/
abbrev xs (c : Dev nD) : S128x4x4096.Idx → EReal := m ((c : Thread nD τ).loc main_arg1)
abbrev gn (c : Dev nD) : S4096.Idx → EReal := m ((c : Thread nD τ).loc main_arg2)

/-- What one point stores: its rows divided by their root mean square, times the gains. -/
theorem pay (x : Vec Ideal S344x4096 .f32) (g : Vec Ideal S1x4096 .f32) (y : S344x4096.Idx) :
    k0_pay1 (F := Ideal) x g y = Packed.rms (fun k => x (ix2 (y 0) k)) (y 1) * g (ix2 0 (y 1)) := by
  unfold Packed.rms
  pointwise [k0_pay1]

theorem idx : ∀ t : Fin cfg0.N, win0_0.index t = ![t.val + 24, 0] ∧ win0_1.index t = ![0, 0] ∧ win0_2.index t = ![t.val, 0] :=
  (by decide +kernel : ∀ t : Fin grid0.N, _)

/-- Row `8256 + i` of the packed array: the sample rows come after the prompt rows. -/
def row (i : S688x4096.Idx) : Fin 8944 :=
  ⟨8256 + (i 0 : ℕ), by
    have h0 : (i 0 : ℕ) < 688 := (i 0).isLt
    omega⟩

/-- The normalised sample rows of the packed rows. -/
def full (X : S8944x4096.Idx → EReal) (G : S1x4096.Idx → EReal) : S688x4096.Idx → EReal := fun i =>
  Packed.rms (fun k => X (ix2 (row i) k)) (i 1) * G (ix2 0 (i 1))

theorem blk_x (c : Dev nD) (t : Fin cfg0.N) (r : Fin 344) (k : Fin 4096) (q : Fin 8944) (hq : (q : ℕ) = (t.val + 24) * 344 + r) :
    iblk m c 0 t (ix2 r k) = V m c main_v3 (ix2 q k) := by
  blk_ext [iblk, idx t]

theorem blk_g (c : Dev nD) (t : Fin cfg0.N) (k : Fin 4096) : iblk m c 1 t (ix2 0 k) = V m c main_v4 (ix2 0 k) := by
  blk_ext [iblk, idx t]

/-- What point `t` stores at `y` is the normalised row at the place `j` of `y` in the array. -/
theorem core (c : Dev nD) (t : Fin cfg0.N) (y : S344x4096.Idx) (j : S688x4096.Idx)
    (h0 : (j 0 : ℕ) = t.val * 344 + (y 0 : ℕ)) (h1 : (j 1 : ℕ) = (y 1 : ℕ)) :
    k0_pay1 (F := Ideal) (iblk m c 0 t) (iblk m c 1 t) y = full (V m c main_v3) (V m c main_v4) j := by
  have e : j 1 = y 1 := Fin.ext h1
  have hr : ((row j : Fin 8944) : ℕ) = (t.val + 24) * 344 + (y 0 : ℕ) := by show 8256 + (j 0 : ℕ) = _; omega
  refine (pay _ _ y).trans ?_
  unfold full
  rw [e]
  exact congrArg₂ (fun a b : EReal => a * b) (congrArg (Packed.rms · (y 1)) (funext fun k => blk_x m c t (y 0) k _ hr)) (blk_g m c t (y 1))

theorem final (c : Dev nD) : (dats m 0 c).arrAt 2 (cfgs 0).N = full (V m c main_v3) (V m c main_v4) := by
  refine (dats m 0 c).arrAt_eq_of_covers 2 _ (by decide +kernel) fun t _ y => ?_
  blk_simp; rw [after0_2]; frame_out
  exact core m c t y _ (by blk_simp [idx t]) (by blk_simp [idx t])

theorem V_x (c : Dev nD) : V m c main_v3 = concatenate S8944x4096 0
    [⟨S8256x4096, shapeCast _ (m ((c : Thread nD τ).loc main_arg0)) shapeCasts_S4x2064x4096_S8256x4096⟩,
     ⟨S512x4096, shapeCast _ (m ((c : Thread nD τ).loc main_arg1)) shapeCasts_S128x4x4096_S512x4096⟩,
     ⟨S176x4096, broadcastInDim S176x4096 ![] bcast_S_S176x4096 (constant (F := Ideal) S_ .f32 0x00000000#32)⟩]
     concatenates_S8256x4096_S512x4096_S176x4096_S8944x4096_d0 := by
  dsimp only [V, V0]
  simp only [List.flatten_cons, List.flatten_nil, List.append_nil]
  after_results
  rfl

theorem V_xs (c : Dev nD) (b : Fin 128) (t : Fin 4) (k : Fin 4096) (h : 8256 + ((b : ℕ) * 4 + t) < 8944) :
    V m c main_v3 (ix2 ⟨8256 + ((b : ℕ) * 4 + t), h⟩ k) = xs m c (ix3 b t k) := by
  rw [V_x]
  exact Packed.packed_second _ _ _ _ _ b t k _ (Nat.add_comm _ _) (by decide)

theorem V_g (c : Dev nD) (n : Fin 4096) : V m c main_v4 (ix2 0 n) = gn m c (ix1 n) := by
  dsimp only [V, V0]
  simp only [List.flatten_cons, List.flatten_nil, List.append_nil]
  entry_read
  pointwise

/-- The result after the run, over the arguments. -/
theorem result (c : Dev nD) (b : Fin 128) (t : Fin 4) (n : Fin 4096) :
    Pipeline.afterTail₀ cfgs (dats m) 0 (V0 m) [hostOps1] c main_v7 (ix3 b t n) =
      Packed.rms (fun k => xs m c (ix3 b t k)) n * gn m c (ix1 n) := by
  unfold Pipeline.afterTail₀
  simp only [List.flatten_cons, List.flatten_nil, List.append_nil]
  after_results
  rw [Pipeline.withArrays_arr _ launch0.win.arr_inj c _ _ 2, final]
  pointwise
  exact congrArg₂ (fun a b : EReal => a * b) (congrArg (Packed.rms · n) (funext fun k => V_xs m c b t k _)) (V_g m c n)

theorem algebraic : Cert.algebraic_Kernel2Ideal_Reference2Ideal := by
  pair_intro
  · run_from Cert.Kernel2Ideal.Gen.run_main m g
    · exact W_main_arg0 m (dats m) c
    · exact W_main_arg1 m (dats m) c
    · exact W_main_arg2 m (dats m) c
  · hlo_run
    funext i
    rw [eq_ix3 i]
    refine Eq.trans ?_ (result m c (i 0) (i 1) (i 2)).symm
    unfold Packed.rms
    pointwise

end Cert.NormSample
-- ==== Proof.WDown.lean ====
module

public import proofs.«01_k».proof.Defs
public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem

namespace Cert.WDown

open Cert.Kernel3Ideal Cert.Kernel3Ideal.Gen

variable (m : (ℓ : Loc nD τ sig) → Buf (Elt Ideal) ℓ)

/-- the prompt and sample rows of the gated inner activations, the weights of both layers, the two residual streams -/
abbrev hp (c : Dev nD) : S4x2064x11008.Idx → EReal := m ((c : Thread nD τ).loc main_arg0)
abbrev hs (c : Dev nD) : S128x4x11008.Idx → EReal := m ((c : Thread nD τ).loc main_arg1)
abbrev wd (c : Dev nD) : S2x11008x4096.Idx → EReal := m ((c : Thread nD τ).loc main_arg2)
abbrev xp (c : Dev nD) : S4x2064x4096.Idx → EReal := m ((c : Thread nD τ).loc main_arg3)
abbrev xs (c : Dev nD) : S128x4x4096.Idx → EReal := m ((c : Thread nD τ).loc main_arg4)

theorem pay (x : Vec Ideal S688x11008 .bf16) (w : Vec Ideal S11008x256 .bf16) (r : Vec Ideal S688x256 .f32) (y : S688x256.Idx) :
    k0_pay1 (F := Ideal) x w r y = r y + ∑ k : Fin 11008, x (ix2 (y 0) k) * w (ix2 k (y 1)) := by
  pointwise [k0_pay1]

theorem idx : ∀ t : Fin cfg0.N, win0_0.index t = ![t.val / 16, 0] ∧ win0_1.index t = ![0, t.val % 16]
    ∧ win0_2.index t = ![t.val / 16, t.val % 16] ∧ win0_3.index t = ![t.val / 16, t.val % 16] :=
  (by decide +kernel : ∀ t : Fin grid0.N, _)

/-- The product and the residual, row by row of the packed array. -/
def full (X : S8944x11008.Idx → EReal) (W : S11008x4096.Idx → EReal) (R : S8944x4096.Idx → EReal) : S8944x4096.Idx → EReal :=
  fun j => R j + ∑ k : Fin 11008, X (ix2 (j 0) k) * W (ix2 k (j 1))

theorem final (c : Dev nD) : (dats m 0 c).arrAt 3 (cfgs 0).N = full (V m c main_v4) (V m c main_v7) (V m c main_v11) := by
  refine (dats m 0 c).arrAt_eq_of_covers 3 _ (by decide +kernel) fun t _ y => ?_
  blk_simp; rw [after0_3]; frame_out
  rw [pay]
  unfold full
  blk_point [iblk, idx t]

theorem V_x (c : Dev nD) : V m c main_v4 = truncf (F := Ideal) .bf16 (concatenate S8944x11008 0
    [⟨S8256x11008, shapeCast _ (m ((c : Thread nD τ).loc main_arg0)) shapeCasts_S4x2064x11008_S8256x11008⟩,
     ⟨S512x11008, shapeCast _ (m ((c : Thread nD τ).loc main_arg1)) shapeCasts_S128x4x11008_S512x11008⟩,
     ⟨S176x11008, broadcastInDim S176x11008 ![] bcast_S_S176x11008 (constant (F := Ideal) S_ .f32 0x00000000#32)⟩]
     concatenates_S8256x11008_S512x11008_S176x11008_S8944x11008_d0) bitsLt_bf16_f32 := by
  dsimp only [V, V0]
  simp only [List.flatten_cons, List.flatten_nil, List.append_nil]
  after_results
  rfl

theorem V_r (c : Dev nD) : V m c main_v11 = concatenate S8944x4096 0
    [⟨S8256x4096, shapeCast _ (m ((c : Thread nD τ).loc main_arg3)) shapeCasts_S4x2064x4096_S8256x4096⟩,
     ⟨S512x4096, shapeCast _ (m ((c : Thread nD τ).loc main_arg4)) shapeCasts_S128x4x4096_S512x4096⟩,
     ⟨S176x4096, broadcastInDim S176x4096 ![] bcast_S_S176x4096 (constant (F := Ideal) S_ .f32 0x00000000#32)⟩]
     concatenates_S8256x4096_S512x4096_S176x4096_S8944x4096_d0 := by
  dsimp only [V, V0]
  simp only [List.flatten_cons, List.flatten_nil, List.append_nil]
  after_results
  rfl

theorem V_xp (c : Dev nD) (b : Fin 4) (t : Fin 2064) (k : Fin 11008) (h : (b : ℕ) * 2064 + t < 8944) :
    V m c main_v4 (ix2 ⟨(b : ℕ) * 2064 + t, h⟩ k) = hp m c (ix3 b t k) := by
  rw [V_x, truncf_apply]
  exact Packed.packed_first _ _ _ _ _ b t k _ rfl (by decide)

theorem V_xs (c : Dev nD) (b : Fin 128) (t : Fin 4) (k : Fin 11008) (h : 8256 + ((b : ℕ) * 4 + t) < 8944) :
    V m c main_v4 (ix2 ⟨8256 + ((b : ℕ) * 4 + t), h⟩ k) = hs m c (ix3 b t k) := by
  rw [V_x, truncf_apply]
  exact Packed.packed_second _ _ _ _ _ b t k _ (Nat.add_comm _ _) (by decide)

theorem V_rp (c : Dev nD) (b : Fin 4) (t : Fin 2064) (k : Fin 4096) (h : (b : ℕ) * 2064 + t < 8944) :
    V m c main_v11 (ix2 ⟨(b : ℕ) * 2064 + t, h⟩ k) = xp m c (ix3 b t k) := by
  rw [V_r]
  exact Packed.packed_first _ _ _ _ _ b t k _ rfl (by decide)

theorem V_rs (c : Dev nD) (b : Fin 128) (t : Fin 4) (k : Fin 4096) (h : 8256 + ((b : ℕ) * 4 + t) < 8944) :
    V m c main_v11 (ix2 ⟨8256 + ((b : ℕ) * 4 + t), h⟩ k) = xs m c (ix3 b t k) := by
  rw [V_r]
  exact Packed.packed_second _ _ _ _ _ b t k _ (Nat.add_comm _ _) (by decide)

theorem V_w (c : Dev nD) (k : Fin 11008) (n : Fin 4096) :
    V m c main_v7 (ix2 k n) = wd m c (ix3 0 k n) := by
  dsimp only [V, V0]
  simp only [List.flatten_cons, List.flatten_nil, List.append_nil]
  entry_read
  pointwise

theorem tail_p (c : Dev nD) (b : Fin 4) (t : Fin 2064) (n : Fin 4096) :
    Pipeline.afterTail₀ cfgs (dats m) 0 (V0 m) [hostOps1] c main_v14 (ix3 b t n) =
      xp m c (ix3 b t n) +
        ∑ k : Fin 11008, hp m c (ix3 b t k) * wd m c (ix3 0 k n) := by
  unfold Pipeline.afterTail₀
  simp only [List.flatten_cons, List.flatten_nil, List.append_nil]
  after_results
  rw [Pipeline.withArrays_arr _ launch0.win.arr_inj c _ _ 3, final]
  pointwise
  unfold full
  refine congrArg₂ (fun a b : EReal => a + b) (V_rp m c b t n _) (Finset.sum_congr rfl fun k _ => congrArg₂ (fun a b : EReal => a * b) (V_xp m c b t k _) (V_w m c k n))

theorem tail_s (c : Dev nD) (b : Fin 128) (t : Fin 4) (n : Fin 4096) :
    Pipeline.afterTail₀ cfgs (dats m) 0 (V0 m) [hostOps1] c main_v16 (ix3 b t n) =
      xs m c (ix3 b t n) +
        ∑ k : Fin 11008, hs m c (ix3 b t k) * wd m c (ix3 0 k n) := by
  unfold Pipeline.afterTail₀
  simp only [List.flatten_cons, List.flatten_nil, List.append_nil]
  after_results
  rw [Pipeline.withArrays_arr _ launch0.win.arr_inj c _ _ 3, final]
  pointwise
  unfold full
  refine congrArg₂ (fun a b : EReal => a + b) (V_rs m c b t n _) (Finset.sum_congr rfl fun k _ => congrArg₂ (fun a b : EReal => a * b) (V_xs m c b t k _) (V_w m c k n))

theorem algebraic : Cert.algebraic_Kernel3Ideal_Reference3Ideal := by
  pair_intro
  · run_from Cert.Kernel3Ideal.Gen.run_main m g
    · exact W_main_arg0 m (dats m) c
    · exact W_main_arg1 m (dats m) c
    · exact W_main_arg2 m (dats m) c
    · exact W_main_arg3 m (dats m) c
    · exact W_main_arg4 m (dats m) c
  · hlo_run
    · funext i
      rw [eq_ix3 i]
      refine Eq.trans ?_ (tail_p m c (i 0) (i 1) (i 2)).symm
      pointwise
    · funext i
      rw [eq_ix3 i]
      refine Eq.trans ?_ (tail_s m c (i 0) (i 1) (i 2)).symm
      pointwise

end Cert.WDown
-- ==== Proof.Proj.lean ====
module

public import proofs.«01_k».proof.Defs
public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem

namespace Cert.Proj

open Cert.Kernel4Ideal Cert.Kernel4Ideal.Gen

variable (m : (ℓ : Loc nD τ sig) → Buf (Elt Ideal) ℓ)

/-- the normalised prompt and sample rows, and the input projection of both layers -/
abbrev xp (c : Dev nD) : S4x2064x4096.Idx → EReal := m ((c : Thread nD τ).loc main_arg0)
abbrev xs (c : Dev nD) : S128x4x4096.Idx → EReal := m ((c : Thread nD τ).loc main_arg1)
abbrev win (c : Dev nD) : S2x4096x39040.Idx → EReal := m ((c : Thread nD τ).loc main_arg2)

/-! The five weight arrays the region copies out narrowed, of both layers. -/

abbrev up (c : Dev nD) : S2x4096x22016.Idx → EReal := m ((c : Thread nD τ).loc main_arg3)
abbrev down (c : Dev nD) : S2x11008x4096.Idx → EReal := m ((c : Thread nD τ).loc main_arg4)
abbrev wa (c : Dev nD) : S2x4096x4096.Idx → EReal := m ((c : Thread nD τ).loc main_arg5)
abbrev wb (c : Dev nD) : S2x8192x4096.Idx → EReal := m ((c : Thread nD τ).loc main_arg6)
abbrev wo (c : Dev nD) : S2x4096x4096.Idx → EReal := m ((c : Thread nD τ).loc main_arg7)

theorem pay (x : Vec Ideal S688x4096 .bf16) (w : Vec Ideal S4096x1024 .bf16) (y : S688x1024.Idx) :
    k0_pay1 (F := Ideal) (k0_pay7 x) (k0_pay8 w) y = ∑ k : Fin 4096, x (ix2 (y 0) k) * w (ix2 k (y 1)) := by
  pointwise [k0_pay1, k0_pay7, k0_pay8]

theorem idx : ∀ t : Fin cfg0.N, win0_0.index t = ![t.val / 38, 0] ∧ win0_1.index t = ![0, t.val % 38]
    ∧ win0_7.index t = ![t.val / 38, t.val % 38] :=
  (by decide +kernel : ∀ t : Fin grid0.N, _)

/-- The product, row by row of the packed array; the weights carry 128 more columns than are used here. -/
def full (X : S8944x4096.Idx → EReal) (W : S4096x39040.Idx → EReal) : S8944x38912.Idx → EReal :=
  fun j => ∑ k : Fin 4096, X (ix2 (j 0) k) * W (ix2 k ⟨(j 1 : ℕ), Nat.lt_of_lt_of_le (j 1).isLt (by decide)⟩)

theorem final (c : Dev nD) : (dats m 0 c).arrAt 7 (cfgs 0).N = full (V m c main_v4) (V m c main_v7) := by
  refine (dats m 0 c).arrAt_eq_of_covers 7 _ (by decide +kernel) fun t _ y => ?_
  blk_simp; rw [after0_7]; unfold Gen.outsAt0; frame_out
  rw [pay]
  unfold full X0_1 Pipeline.Window.fill
  blk_point [iblk, idx t]
  exact absurd (moved0_1 t _) (by assumption)

theorem idx8 : ∀ t : Fin cfg0.N, win0_2.index t = ![0, min t.val 255, 0] ∧ win0_8.index t = ![min t.val 255, 0] :=
  (by decide +kernel : ∀ t : Fin grid0.N, _)

theorem final8 (c : Dev nD) : (dats m 0 c).arrAt 8 (cfgs 0).N = fun j : S4096x22016.Idx => up m c (ix3 0 (j 0) (j 1)) := by
  refine (dats m 0 c).arrAt_eq_of_covers 8 _ (by decide +kernel) fun t _ y => ?_
  blk_simp; rw [after0_8]; unfold Gen.outsAt0; frame_out
  pointwise [k0_pay2]
  blk_point [iblk, V, idx8 t]

theorem idx9 : ∀ t : Fin cfg0.N, win0_3.index t = ![0, min t.val 343, 0] ∧ win0_9.index t = ![min t.val 343, 0] :=
  (by decide +kernel : ∀ t : Fin grid0.N, _)

theorem final9 (c : Dev nD) : (dats m 0 c).arrAt 9 (cfgs 0).N = fun j : S11008x4096.Idx => down m c (ix3 0 (j 0) (j 1)) := by
  refine (dats m 0 c).arrAt_eq_of_covers 9 _ (by decide +kernel) fun t _ y => ?_
  blk_simp; rw [after0_9]; unfold Gen.outsAt0; frame_out
  pointwise [k0_pay3]
  blk_point [iblk, V, idx9 t]

theorem idx10 : ∀ t : Fin cfg0.N, win0_4.index t = ![0, min t.val 255, 0] ∧ win0_10.index t = ![min t.val 255, 0] :=
  (by decide +kernel : ∀ t : Fin grid0.N, _)

theorem final10 (c : Dev nD) : (dats m 0 c).arrAt 10 (cfgs 0).N = fun j : S4096x4096.Idx => wa m c (ix3 0 (j 0) (j 1)) := by
  refine (dats m 0 c).arrAt_eq_of_covers 10 _ (by decide +kernel) fun t _ y => ?_
  blk_simp; rw [after0_10]; unfold Gen.outsAt0; frame_out
  pointwise [k0_pay4]
  blk_point [iblk, V, idx10 t]

theorem idx11 : ∀ t : Fin cfg0.N, win0_5.index t = ![0, min t.val 255, 0] ∧ win0_11.index t = ![min t.val 255, 0] :=
  (by decide +kernel : ∀ t : Fin grid0.N, _)

theorem final11 (c : Dev nD) : (dats m 0 c).arrAt 11 (cfgs 0).N = fun j : S8192x4096.Idx => wb m c (ix3 0 (j 0) (j 1)) := by
  refine (dats m 0 c).arrAt_eq_of_covers 11 _ (by decide +kernel) fun t _ y => ?_
  blk_simp; rw [after0_11]; unfold Gen.outsAt0; frame_out
  pointwise [k0_pay5]
  blk_point [iblk, V, idx11 t]

theorem idx12 : ∀ t : Fin cfg0.N, win0_6.index t = ![0, min t.val 255, 0] ∧ win0_12.index t = ![min t.val 255, 0] :=
  (by decide +kernel : ∀ t : Fin grid0.N, _)

theorem final12 (c : Dev nD) : (dats m 0 c).arrAt 12 (cfgs 0).N = fun j : S4096x4096.Idx => wo m c (ix3 0 (j 0) (j 1)) := by
  refine (dats m 0 c).arrAt_eq_of_covers 12 _ (by decide +kernel) fun t _ y => ?_
  blk_simp; rw [after0_12]; unfold Gen.outsAt0; frame_out
  pointwise [k0_pay6]
  blk_point [iblk, V, idx12 t]

theorem V_x (c : Dev nD) : V m c main_v4 = truncf (F := Ideal) .bf16 (concatenate S8944x4096 0
    [⟨S8256x4096, shapeCast _ (m ((c : Thread nD τ).loc main_arg0)) shapeCasts_S4x2064x4096_S8256x4096⟩,
     ⟨S512x4096, shapeCast _ (m ((c : Thread nD τ).loc main_arg1)) shapeCasts_S128x4x4096_S512x4096⟩,
     ⟨S176x4096, broadcastInDim S176x4096 ![] bcast_S_S176x4096 (constant (F := Ideal) S_ .f32 0x00000000#32)⟩]
     concatenates_S8256x4096_S512x4096_S176x4096_S8944x4096_d0) bitsLt_bf16_f32 := by
  dsimp only [V, V0]
  simp only [List.flatten_cons, List.flatten_nil, List.append_nil]
  after_results
  rfl

theorem V_xp (c : Dev nD) (b : Fin 4) (t : Fin 2064) (k : Fin 4096) (h : (b : ℕ) * 2064 + t < 8944) :
    V m c main_v4 (ix2 ⟨(b : ℕ) * 2064 + t, h⟩ k) = xp m c (ix3 b t k) := by
  rw [V_x, truncf_apply]
  exact Packed.packed_first _ _ _ _ _ b t k _ rfl (by decide)

theorem V_xs (c : Dev nD) (b : Fin 128) (t : Fin 4) (k : Fin 4096) (h : 8256 + ((b : ℕ) * 4 + t) < 8944) :
    V m c main_v4 (ix2 ⟨8256 + ((b : ℕ) * 4 + t), h⟩ k) = xs m c (ix3 b t k) := by
  rw [V_x, truncf_apply]
  exact Packed.packed_second _ _ _ _ _ b t k _ (Nat.add_comm _ _) (by decide)

theorem V_w (c : Dev nD) (k : Fin 4096) (n : Fin 39040) : V m c main_v7 (ix2 k n) = win m c (ix3 0 k n) := by
  dsimp only [V, V0]
  simp only [List.flatten_cons, List.flatten_nil, List.append_nil]
  entry_read
  pointwise

theorem tail_p (c : Dev nD) (b : Fin 4) (t : Fin 2064) (n : Fin 38912) :
    Pipeline.afterTail₀ cfgs (dats m) 0 (V0 m) [hostOps1] c main_v11 (ix3 b t n) =
      ∑ k : Fin 4096, xp m c (ix3 b t k) * win m c (ix3 0 k ⟨n, n.isLt.trans (by decide)⟩) := by
  unfold Pipeline.afterTail₀
  simp only [List.flatten_cons, List.flatten_nil, List.append_nil]
  after_results
  rw [Pipeline.withArrays_arr _ launch0.win.arr_inj c _ _ 7, final]
  pointwise
  unfold full
  refine Fin.sum_fin_congr fun k => ?_
  exact congrArg₂ (fun a b : EReal => a * b) (V_xp m c b t k _) (V_w m c k _)

theorem tail_s (c : Dev nD) (b : Fin 128) (t : Fin 4) (n : Fin 38912) :
    Pipeline.afterTail₀ cfgs (dats m) 0 (V0 m) [hostOps1] c main_v13 (ix3 b t n) =
      ∑ k : Fin 4096, xs m c (ix3 b t k) * win m c (ix3 0 k ⟨n, n.isLt.trans (by decide)⟩) := by
  unfold Pipeline.afterTail₀
  simp only [List.flatten_cons, List.flatten_nil, List.append_nil]
  after_results
  rw [Pipeline.withArrays_arr _ launch0.win.arr_inj c _ _ 7, final]
  pointwise
  unfold full
  refine Fin.sum_fin_congr fun k => ?_
  exact congrArg₂ (fun a b : EReal => a * b) (V_xs m c b t k _) (V_w m c k _)

theorem tail_mc (c : Dev nD) (b : Fin 128) (t : Fin 3) (n : Fin 10240) (h : 1 + (t : ℕ) < 4) (h' : 28672 + (n : ℕ) < 38912) :
    Pipeline.afterTail₀ cfgs (dats m) 0 (V0 m) [hostOps1] c main_v15 (ix3 b t n) =
      ∑ k : Fin 4096, xs m c (ix3 b ⟨1 + (t : ℕ), h⟩ k) * win m c (ix3 0 k ⟨28672 + (n : ℕ), h'.trans (by decide)⟩) := by
  unfold Pipeline.afterTail₀
  simp only [List.flatten_cons, List.flatten_nil, List.append_nil]
  after_results
  rw [Pipeline.withArrays_arr _ launch0.win.arr_inj c _ _ 7, final]
  pointwise
  unfold full
  refine Fin.sum_fin_congr fun k => ?_
  exact congrArg₂ (fun a b : EReal => a * b) (V_xs m c b ⟨1 + (t : ℕ), h⟩ k _) (V_w m c k _)

theorem tail8 (c : Dev nD) (k : Fin 4096) (n : Fin 22016) :
    Pipeline.afterTail₀ cfgs (dats m) 0 (V0 m) [hostOps1] c main_v16 (ix2 k n) = up m c (ix3 0 k n) := by
  unfold Pipeline.afterTail₀
  simp only [List.flatten_cons, List.flatten_nil, List.append_nil]
  after_results
  rw [Pipeline.withArrays_arr _ launch0.win.arr_inj c _ _ 8, final8]
  pointwise

theorem tail9 (c : Dev nD) (k : Fin 11008) (n : Fin 4096) :
    Pipeline.afterTail₀ cfgs (dats m) 0 (V0 m) [hostOps1] c main_v17 (ix2 k n) = down m c (ix3 0 k n) := by
  unfold Pipeline.afterTail₀
  simp only [List.flatten_cons, List.flatten_nil, List.append_nil]
  after_results
  rw [Pipeline.withArrays_arr _ launch0.win.arr_inj c _ _ 9, final9]
  pointwise

theorem tail10 (c : Dev nD) (k : Fin 4096) (n : Fin 4096) :
    Pipeline.afterTail₀ cfgs (dats m) 0 (V0 m) [hostOps1] c main_v18 (ix2 k n) = wa m c (ix3 0 k n) := by
  unfold Pipeline.afterTail₀
  simp only [List.flatten_cons, List.flatten_nil, List.append_nil]
  after_results
  rw [Pipeline.withArrays_arr _ launch0.win.arr_inj c _ _ 10, final10]
  pointwise

theorem tail11 (c : Dev nD) (k : Fin 8192) (n : Fin 4096) :
    Pipeline.afterTail₀ cfgs (dats m) 0 (V0 m) [hostOps1] c main_v19 (ix2 k n) = wb m c (ix3 0 k n) := by
  unfold Pipeline.afterTail₀
  simp only [List.flatten_cons, List.flatten_nil, List.append_nil]
  after_results
  rw [Pipeline.withArrays_arr _ launch0.win.arr_inj c _ _ 11, final11]
  pointwise

theorem tail12 (c : Dev nD) (k : Fin 4096) (n : Fin 4096) :
    Pipeline.afterTail₀ cfgs (dats m) 0 (V0 m) [hostOps1] c main_v20 (ix2 k n) = wo m c (ix3 0 k n) := by
  unfold Pipeline.afterTail₀
  simp only [List.flatten_cons, List.flatten_nil, List.append_nil]
  after_results
  rw [Pipeline.withArrays_arr _ launch0.win.arr_inj c _ _ 12, final12]
  pointwise

set_option maxHeartbeats 2000000 in
theorem algebraic : Cert.algebraic_Kernel4Ideal_Reference4Ideal := by
  pair_intro
  · run_from Cert.Kernel4Ideal.Gen.run_main m g
    · exact W_main_arg0 m (dats m) c
    · exact W_main_arg1 m (dats m) c
    · exact W_main_arg2 m (dats m) c
    · exact W_main_arg8 m (dats m) c
  · hlo_run
    · funext i
      rw [eq_ix3 i]
      refine Eq.trans ?_ (tail_p m c (i 0) (i 1) (i 2)).symm
      pointwise
    · funext i
      rw [eq_ix3 i]
      refine Eq.trans ?_ (tail_s m c (i 0) (i 1) (i 2)).symm
      pointwise
    · funext i
      have h1 : (i 1 : ℕ) < 3 := (i 1).isLt
      have h2 : (i 2 : ℕ) < 10240 := (i 2).isLt
      rw [eq_ix3 i]
      refine Eq.trans ?_ (tail_mc m c (i 0) (i 1) (i 2) (by omega) (by omega)).symm
      pointwise
      rw [dif_neg (by omega)]
      refine Fin.sum_fin_congr fun k => ?_
      exact congrArg₂ (fun a b : EReal => a * b)
        ((congrFun (hagree c).2.1 _).trans (congrArg (xs m c) (congrArg (ix3 (i 0) · k) (Fin.ext (show 4 + (i 1 : ℕ) - 3 = 1 + (i 1 : ℕ) by omega)))))
        (congrFun (hagree c).2.2.1 _)
    · funext i
      rw [eq_ix2 i]
      refine Eq.trans ?_ (tail8 m c (i 0) (i 1)).symm
      pointwise
    · funext i
      rw [eq_ix2 i]
      refine Eq.trans ?_ (tail9 m c (i 0) (i 1)).symm
      pointwise
    · funext i
      rw [eq_ix2 i]
      refine Eq.trans ?_ (tail10 m c (i 0) (i 1)).symm
      pointwise
    · funext i
      rw [eq_ix2 i]
      refine Eq.trans ?_ (tail11 m c (i 0) (i 1)).symm
      pointwise
    · funext i
      rw [eq_ix2 i]
      refine Eq.trans ?_ (tail12 m c (i 0) (i 1)).symm
      pointwise

end Cert.Proj
-- ==== Proof.WbOut.lean ====
module

public import proofs.«01_k».proof.Defs
public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem

namespace Cert.WbOut

open Cert.Kernel5Ideal Cert.Kernel5Ideal.Gen

variable (m : (ℓ : Loc nD τ sig) → Buf (Elt Ideal) ℓ)

/-- the prompt and sample rows of the second branch and its output projection of both layers, then the input projection's rows (the two
    gates are its first two blocks of columns) and the first branch's rows -/
abbrev yp (c : Dev nD) : S4x2064x8192.Idx → EReal := m ((c : Thread nD τ).loc main_arg0)
abbrev ys (c : Dev nD) : S128x4x8192.Idx → EReal := m ((c : Thread nD τ).loc main_arg1)
abbrev wb (c : Dev nD) : S2x8192x4096.Idx → EReal := m ((c : Thread nD τ).loc main_arg2)
abbrev pp (c : Dev nD) : S4x2064x38912.Idx → EReal := m ((c : Thread nD τ).loc main_arg3)
abbrev ps (c : Dev nD) : S128x4x38912.Idx → EReal := m ((c : Thread nD τ).loc main_arg4)
abbrev ap (c : Dev nD) : S4x2064x4096.Idx → EReal := m ((c : Thread nD τ).loc main_arg5)
abbrev as' (c : Dev nD) : S128x4x4096.Idx → EReal := m ((c : Thread nD τ).loc main_arg6)

/-- One element of the mixture: each branch under the logistic function of its gate. -/
def mixed (ga gb a b : EReal) : EReal := Ideal.logistic ga * a + Ideal.logistic gb * b

theorem pay1 (x : Vec Ideal S688x8192 .bf16) (w : Vec Ideal S8192x256 .bf16) (ga gb a : Vec Ideal S688x256 .bf16) (y : S688x256.Idx) :
    k0_pay1 (F := Ideal) x w ga gb a y = mixed (ga y) (gb y) (a y) (∑ k : Fin 8192, x (ix2 (y 0) k) * w (ix2 k (y 1))) := by
  unfold mixed
  pointwise [k0_pay1]

theorem pay2 (x : Vec Ideal S688x8192 .bf16) (w : Vec Ideal S8192x256 .bf16) (ga gb a : Vec Ideal S688x256 .bf16) (y : S688x256.Idx) :
    k0_pay2 (F := Ideal) x w ga gb a y = mixed (ga y) (gb y) (a y) (∑ k : Fin 8192, x (ix2 (y 0) k) * w (ix2 k (y 1))) := by
  unfold mixed
  pointwise [k0_pay2]

theorem idx : ∀ t : Fin cfg0.N, win0_0.index t = ![min (t.val / 16) 11, 0] ∧ win0_1.index t = ![0, t.val % 16]
    ∧ win0_2.index t = ![0, 0] ∧ win0_3.index t = ![t.val / 16, t.val % 16] ∧ win0_4.index t = ![t.val / 16, t.val % 16 + 16]
    ∧ win0_5.index t = ![t.val / 16, t.val % 16] ∧ win0_6.index t = ![t.val / 16, t.val % 16] :=
  (by decide +kernel : ∀ t : Fin grid0.N, _)

/-- A row of the two matrices one under the other: the first twelve tiles of the prompt's rows, then the sample tile. -/
def row (X : S8256x8192.Idx → EReal) (Y : S688x8192.Idx → EReal) (i : Fin 8944) (k : Fin 8192) : EReal :=
  if h : (i : ℕ) < 8256 then X (ix2 ⟨i, h⟩ k) else Y (ix2 ⟨(i : ℕ) - 8256, by have := i.isLt; omega⟩ k)

/-- The mixture, row by row of the packed array. -/
def full (X : S8256x8192.Idx → EReal) (Y : S688x8192.Idx → EReal) (W : S8192x4096.Idx → EReal) (P : S8944x38912.Idx → EReal)
    (A : S8944x4096.Idx → EReal) : S8944x4096.Idx → EReal :=
  fun j => mixed (P (ix2 (j 0) ⟨(j 1 : ℕ), Nat.lt_of_lt_of_le (j 1).isLt (by decide)⟩))
    (P (ix2 (j 0) ⟨4096 + (j 1 : ℕ), by have h : (j 1 : ℕ) < 4096 := (j 1).isLt; omega⟩)) (A j)
    (∑ k : Fin 8192, row X Y (j 0) k * W (ix2 k (j 1)))

theorem blk_x (c : Dev nD) (t : Fin cfg0.N) (r : Fin 688) (k : Fin 8192) (i : Fin 8944) (ht : t.val < 192)
    (hi : (i : ℕ) = t.val / 16 * 688 + r) :
    (show FVec Ideal S688x8192 .bf16 from iblk m c 0 t) (ix2 r k) = row (V m c main_v11) (V m c main_v18) i k := by
  have hr := r.isLt
  unfold row
  rw [dif_pos (by omega)]
  blk_ext [iblk, idx t]

theorem blk_y (c : Dev nD) (t : Fin cfg0.N) (r : Fin 688) (k : Fin 8192) (i : Fin 8944) (ht : 192 ≤ t.val)
    (hi : (i : ℕ) = t.val / 16 * 688 + r) :
    (show FVec Ideal S688x8192 .bf16 from iblk m c 2 t) (ix2 r k) = row (V m c main_v11) (V m c main_v18) i k := by
  have hr := r.isLt
  have hn := lt_of_lt_of_eq t.isLt N_0
  unfold row
  rw [dif_neg (by omega)]
  blk_ext [iblk, idx t]

theorem blk_w (c : Dev nD) (t : Fin cfg0.N) (k : Fin 8192) (y : Fin 256) (j : Fin 4096) (hj : (j : ℕ) = t.val % 16 * 256 + y) :
    (show FVec Ideal S8192x256 .bf16 from iblk m c 1 t) (ix2 k y) = (V m c main_v14 : S8192x4096.Idx → EReal) (ix2 k j) := by
  blk_ext [iblk, idx t]

theorem blk_ga (c : Dev nD) (t : Fin cfg0.N) (y : S688x256.Idx) (i : Fin 8944) (j : Fin 38912)
    (h0 : (i : ℕ) = t.val / 16 * 688 + y 0) (h1 : (j : ℕ) = t.val % 16 * 256 + y 1) :
    (show FVec Ideal S688x256 .bf16 from iblk m c 3 t) y = (V m c main_v4 : S8944x38912.Idx → EReal) (ix2 i j) := by
  blk_ext [iblk, idx t]

theorem blk_gb (c : Dev nD) (t : Fin cfg0.N) (y : S688x256.Idx) (i : Fin 8944) (j : Fin 38912)
    (h0 : (i : ℕ) = t.val / 16 * 688 + y 0) (h1 : (j : ℕ) = (t.val % 16 + 16) * 256 + y 1) :
    (show FVec Ideal S688x256 .bf16 from iblk m c 4 t) y = (V m c main_v4 : S8944x38912.Idx → EReal) (ix2 i j) := by
  blk_ext [iblk, idx t]

theorem blk_a (c : Dev nD) (t : Fin cfg0.N) (y : S688x256.Idx) (j : S8944x4096.Idx)
    (h0 : (j 0 : ℕ) = t.val / 16 * 688 + y 0) (h1 : (j 1 : ℕ) = t.val % 16 * 256 + y 1) :
    (show FVec Ideal S688x256 .bf16 from iblk m c 5 t) y = (V m c main_v9 : S8944x4096.Idx → EReal) j := by
  blk_ext [iblk, idx t]

theorem mixed_congr {a b c d a' b' c' d' : EReal} (h1 : a = a') (h2 : b = b') (h3 : c = c') (h4 : d = d') : mixed a b c d = mixed a' b' c' d' := by
  rw [h1, h2, h3, h4]

theorem point (c : Dev nD) (t : Fin cfg0.N) (y : S688x256.Idx) (j : S8944x4096.Idx)
    (h0 : (j 0 : ℕ) = t.val / 16 * 688 + y 0) (h1 : (j 1 : ℕ) = t.val % 16 * 256 + y 1) :
    outsAt0 m c t.val t.isLt y = full (V m c main_v11) (V m c main_v18) (V m c main_v14) (V m c main_v4) (V m c main_v9) j := by
  unfold full
  have h2 : 4096 + (j 1 : ℕ) = (t.val % 16 + 16) * 256 + y 1 := by rw [h1]; omega
  by_cases ht : t.val < 192
  · rw [outsAt0_A m c t ht (by omega)]; frame_out
    rw [pay1]
    refine mixed_congr (blk_ga m c t y _ _ h0 h1) (blk_gb m c t y _ _ h0 h2) (blk_a m c t y _ h0 h1) (Fin.sum_fin_congr fun k => ?_)
    exact congrArg₂ (fun a b : EReal => a * b) (blk_x m c t _ k _ ht h0) (blk_w m c t k _ _ h1)
  · rw [outsAt0_B m c t ht (by omega)]; frame_out
    rw [pay2]
    refine mixed_congr (blk_ga m c t y _ _ h0 h1) (blk_gb m c t y _ _ h0 h2) (blk_a m c t y _ h0 h1) (Fin.sum_fin_congr fun k => ?_)
    exact congrArg₂ (fun a b : EReal => a * b) (blk_y m c t _ k _ (by omega) h0) (blk_w m c t k _ _ h1)

theorem final (c : Dev nD) : (dats m 0 c).arrAt 6 (cfgs 0).N =
    full (V m c main_v11) (V m c main_v18) (V m c main_v14) (V m c main_v4) (V m c main_v9) := by
  refine (dats m 0 c).arrAt_eq_of_covers 6 _ (by decide +kernel) fun t _ y => ?_
  blk_simp; rw [after0_6]
  exact point m c t y _ (by blk_simp [idx t]) (by blk_simp [idx t])

theorem V_y (c : Dev nD) : V m c main_v18 = truncf (F := Ideal) .bf16 (concatenate S688x8192 0
    [⟨S512x8192, shapeCast _ (m ((c : Thread nD τ).loc main_arg1)) shapeCasts_S128x4x8192_S512x8192⟩,
     ⟨S176x8192, broadcastInDim S176x8192 ![] bcast_S_S176x8192 (constant (F := Ideal) S_ .f32 0x00000000#32)⟩]
     concatenates_S512x8192_S176x8192_S688x8192_d0) bitsLt_bf16_f32 := by
  dsimp only [V, V0]
  simp only [List.flatten_cons, List.flatten_nil, List.append_nil]
  after_results
  rfl

theorem V_pr (c : Dev nD) : V m c main_v4 = truncf (F := Ideal) .bf16 (concatenate S8944x38912 0
    [⟨S8256x38912, shapeCast _ (m ((c : Thread nD τ).loc main_arg3)) shapeCasts_S4x2064x38912_S8256x38912⟩,
     ⟨S512x38912, shapeCast _ (m ((c : Thread nD τ).loc main_arg4)) shapeCasts_S128x4x38912_S512x38912⟩,
     ⟨S176x38912, broadcastInDim S176x38912 ![] bcast_S_S176x38912 (constant (F := Ideal) S_ .f32 0x00000000#32)⟩]
     concatenates_S8256x38912_S512x38912_S176x38912_S8944x38912_d0) bitsLt_bf16_f32 := by
  dsimp only [V, V0]
  simp only [List.flatten_cons, List.flatten_nil, List.append_nil]
  after_results
  rfl

theorem V_prp (c : Dev nD) (b : Fin 4) (t : Fin 2064) (k : Fin 38912) (h : (b : ℕ) * 2064 + t < 8944) :
    V m c main_v4 (ix2 ⟨(b : ℕ) * 2064 + t, h⟩ k) = pp m c (ix3 b t k) := by
  rw [V_pr, truncf_apply]
  exact Packed.packed_first _ _ _ _ _ b t k _ rfl (by decide)

theorem V_prs (c : Dev nD) (b : Fin 128) (t : Fin 4) (k : Fin 38912) (h : 8256 + ((b : ℕ) * 4 + t) < 8944) :
    V m c main_v4 (ix2 ⟨8256 + ((b : ℕ) * 4 + t), h⟩ k) = ps m c (ix3 b t k) := by
  rw [V_pr, truncf_apply]
  exact Packed.packed_second _ _ _ _ _ b t k _ (Nat.add_comm _ _) (by decide)

theorem V_a (c : Dev nD) : V m c main_v9 = truncf (F := Ideal) .bf16 (concatenate S8944x4096 0
    [⟨S8256x4096, shapeCast _ (m ((c : Thread nD τ).loc main_arg5)) shapeCasts_S4x2064x4096_S8256x4096⟩,
     ⟨S512x4096, shapeCast _ (m ((c : Thread nD τ).loc main_arg6)) shapeCasts_S128x4x4096_S512x4096⟩,
     ⟨S176x4096, broadcastInDim S176x4096 ![] bcast_S_S176x4096 (constant (F := Ideal) S_ .f32 0x00000000#32)⟩]
     concatenates_S8256x4096_S512x4096_S176x4096_S8944x4096_d0) bitsLt_bf16_f32 := by
  dsimp only [V, V0]
  simp only [List.flatten_cons, List.flatten_nil, List.append_nil]
  after_results
  rfl

theorem V_ap (c : Dev nD) (b : Fin 4) (t : Fin 2064) (k : Fin 4096) (h : (b : ℕ) * 2064 + t < 8944) :
    V m c main_v9 (ix2 ⟨(b : ℕ) * 2064 + t, h⟩ k) = ap m c (ix3 b t k) := by
  rw [V_a, truncf_apply]
  exact Packed.packed_first _ _ _ _ _ b t k _ rfl (by decide)

theorem V_as (c : Dev nD) (b : Fin 128) (t : Fin 4) (k : Fin 4096) (h : 8256 + ((b : ℕ) * 4 + t) < 8944) :
    V m c main_v9 (ix2 ⟨8256 + ((b : ℕ) * 4 + t), h⟩ k) = as' m c (ix3 b t k) := by
  rw [V_a, truncf_apply]
  exact Packed.packed_second _ _ _ _ _ b t k _ (Nat.add_comm _ _) (by decide)

theorem V_xp (c : Dev nD) (b : Fin 4) (t : Fin 2064) (k : Fin 8192) (h : (b : ℕ) * 2064 + t < 8944) :
    row (V m c main_v11) (V m c main_v18) ⟨(b : ℕ) * 2064 + t, h⟩ k = yp m c (ix3 b t k) := by
  have hb := b.isLt
  have ht := t.isLt
  unfold row
  rw [dif_pos (show (b : ℕ) * 2064 + t < 8256 by omega)]
  dsimp only [V, V0]
  simp only [List.flatten_cons, List.flatten_nil, List.append_nil]
  entry_read
  rw [truncf_apply]
  exact Packed.rows_apply _ _ b t k _ rfl

theorem V_xs (c : Dev nD) (b : Fin 128) (t : Fin 4) (k : Fin 8192) (h : 8256 + ((b : ℕ) * 4 + t) < 8944) :
    row (V m c main_v11) (V m c main_v18) ⟨8256 + ((b : ℕ) * 4 + t), h⟩ k = ys m c (ix3 b t k) := by
  unfold row
  rw [dif_neg (show ¬ 8256 + ((b : ℕ) * 4 + t) < 8256 by omega), V_y, truncf_apply]
  exact Packed.padded_first _ _ _ _ b t k _ (Nat.add_sub_cancel_left _ _) (by decide)

theorem V_w (c : Dev nD) (k : Fin 8192) (n : Fin 4096) : V m c main_v14 (ix2 k n) = wb m c (ix3 0 k n) := by
  dsimp only [V, V0]
  simp only [List.flatten_cons, List.flatten_nil, List.append_nil]
  entry_read
  pointwise

theorem tail_p (c : Dev nD) (b : Fin 4) (t : Fin 2064) (n : Fin 4096) :
    Pipeline.afterTail₀ cfgs (dats m) 0 (V0 m) [hostOps1] c main_v22 (ix3 b t n) =
      mixed (pp m c (ix3 b t ⟨n, n.isLt.trans (by decide)⟩)) (pp m c (ix3 b t ⟨4096 + n, by have := n.isLt; omega⟩)) (ap m c (ix3 b t n))
        (∑ k : Fin 8192, yp m c (ix3 b t k) * wb m c (ix3 0 k n)) := by
  unfold Pipeline.afterTail₀
  simp only [List.flatten_cons, List.flatten_nil, List.append_nil]
  after_results
  rw [(dats m 0 c).withArrays_arrAt sharedIn0 _ (A_eq m c) 6, final]
  pointwise
  unfold full
  refine mixed_congr (V_prp m c b t _ _) (V_prp m c b t _ _) (V_ap m c b t _ _) (Fin.sum_fin_congr fun k => ?_)
  exact congrArg₂ (fun a b : EReal => a * b) (V_xp m c b t k _) (V_w m c k n)

theorem tail_s (c : Dev nD) (b : Fin 128) (t : Fin 4) (n : Fin 4096) :
    Pipeline.afterTail₀ cfgs (dats m) 0 (V0 m) [hostOps1] c main_v24 (ix3 b t n) =
      mixed (ps m c (ix3 b t ⟨n, n.isLt.trans (by decide)⟩)) (ps m c (ix3 b t ⟨4096 + n, by have := n.isLt; omega⟩)) (as' m c (ix3 b t n))
        (∑ k : Fin 8192, ys m c (ix3 b t k) * wb m c (ix3 0 k n)) := by
  unfold Pipeline.afterTail₀
  simp only [List.flatten_cons, List.flatten_nil, List.append_nil]
  after_results
  rw [(dats m 0 c).withArrays_arrAt sharedIn0 _ (A_eq m c) 6, final]
  pointwise
  unfold full
  refine mixed_congr (V_prs m c b t _ _) (V_prs m c b t _ _) (V_as m c b t _ _) (Fin.sum_fin_congr fun k => ?_)
  exact congrArg₂ (fun a b : EReal => a * b) (V_xs m c b t k _) (V_w m c k n)

set_option maxHeartbeats 2000000 in
theorem algebraic : Cert.algebraic_Kernel5Ideal_Reference5Ideal := by
  pair_intro
  · run_from Cert.Kernel5Ideal.Gen.run_main m g
    · exact W_main_arg0 m (dats m) c
    · exact W_main_arg1 m (dats m) c
    · exact W_main_arg2 m (dats m) c
    · exact W_main_arg3 m (dats m) c
    · exact W_main_arg4 m (dats m) c
    · exact W_main_arg5 m (dats m) c
    · exact W_main_arg6 m (dats m) c
  · hlo_run
    · funext i
      rw [eq_ix3 i]
      refine Eq.trans ?_ (tail_p m c (i 0) (i 1) (i 2)).symm
      unfold mixed Ideal.logistic
      pointwise
    · funext i
      rw [eq_ix3 i]
      refine Eq.trans ?_ (tail_s m c (i 0) (i 1) (i 2)).symm
      unfold mixed Ideal.logistic
      pointwise

end Cert.WbOut
-- ==== Proof.WaOut.lean ====
module

public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem

namespace Cert.WaOut

open Cert.Kernel6Ideal Cert.Kernel6Ideal.Gen

variable (m : (ℓ : Loc nD τ sig) → Buf (Elt Ideal) ℓ)

/-- the prompt and sample rows of the convolved branch, and its output projection of both layers -/
abbrev vp (c : Dev nD) : S4x2064x4096.Idx → EReal := m ((c : Thread nD τ).loc main_arg0)
abbrev vs (c : Dev nD) : S128x4x4096.Idx → EReal := m ((c : Thread nD τ).loc main_arg1)
abbrev wa (c : Dev nD) : S2x4096x4096.Idx → EReal := m ((c : Thread nD τ).loc main_arg2)

theorem pay1 (x : Vec Ideal S688x4096 .bf16) (w : Vec Ideal S4096x1024 .bf16) (y : S688x1024.Idx) :
    k0_pay1 (F := Ideal) x w y = ∑ k : Fin 4096, x (ix2 (y 0) k) * w (ix2 k (y 1)) := by
  pointwise [k0_pay1]

theorem pay2 (x : Vec Ideal S688x4096 .bf16) (w : Vec Ideal S4096x1024 .bf16) (y : S688x1024.Idx) :
    k0_pay2 (F := Ideal) x w y = ∑ k : Fin 4096, x (ix2 (y 0) k) * w (ix2 k (y 1)) := by
  pointwise [k0_pay2]

theorem idx : ∀ t : Fin cfg0.N, win0_0.index t = ![min (t.val / 4) 11, 0] ∧ win0_1.index t = ![0, t.val % 4]
    ∧ win0_2.index t = ![0, 0] ∧ win0_3.index t = ![t.val / 4, t.val % 4] :=
  (by decide +kernel : ∀ t : Fin grid0.N, _)

/-- A row of the two matrices one under the other: the first twelve tiles of the prompt's rows, then the sample tile. -/
def row (X : S8256x4096.Idx → EReal) (Y : S688x4096.Idx → EReal) (i : Fin 8944) (k : Fin 4096) : EReal :=
  if h : (i : ℕ) < 8256 then X (ix2 ⟨i, h⟩ k) else Y (ix2 ⟨(i : ℕ) - 8256, by have := i.isLt; omega⟩ k)

/-- The product, row by row of the packed array. -/
def full (X : S8256x4096.Idx → EReal) (Y : S688x4096.Idx → EReal) (W : S4096x4096.Idx → EReal) : S8944x4096.Idx → EReal :=
  fun j => ∑ k : Fin 4096, row X Y (j 0) k * W (ix2 k (j 1))

theorem blk_x (c : Dev nD) (t : Fin cfg0.N) (r : Fin 688) (k : Fin 4096) (i : Fin 8944) (ht : t.val < 48)
    (hi : (i : ℕ) = t.val / 4 * 688 + r) :
    (show FVec Ideal S688x4096 .bf16 from iblk m c 0 t) (ix2 r k) = row (V m c main_v1) (V m c main_v8) i k := by
  have hr := r.isLt
  unfold row
  rw [dif_pos (by omega)]
  blk_ext [iblk, idx t]

theorem blk_y (c : Dev nD) (t : Fin cfg0.N) (r : Fin 688) (k : Fin 4096) (i : Fin 8944) (ht : 48 ≤ t.val)
    (hi : (i : ℕ) = t.val / 4 * 688 + r) :
    (show FVec Ideal S688x4096 .bf16 from iblk m c 2 t) (ix2 r k) = row (V m c main_v1) (V m c main_v8) i k := by
  have hr := r.isLt
  have hn := lt_of_lt_of_eq t.isLt N_0
  unfold row
  rw [dif_neg (by omega)]
  blk_ext [iblk, idx t]

theorem blk_w (c : Dev nD) (t : Fin cfg0.N) (k : Fin 4096) (y : Fin 1024) (j : Fin 4096) (hj : (j : ℕ) = t.val % 4 * 1024 + y) :
    (show FVec Ideal S4096x1024 .bf16 from iblk m c 1 t) (ix2 k y) = (V m c main_v4 : S4096x4096.Idx → EReal) (ix2 k j) := by
  blk_ext [iblk, idx t]

theorem point (c : Dev nD) (t : Fin cfg0.N) (y : S688x1024.Idx) (j : S8944x4096.Idx)
    (h0 : (j 0 : ℕ) = t.val / 4 * 688 + y 0) (h1 : (j 1 : ℕ) = t.val % 4 * 1024 + y 1) :
    outsAt0 m c t.val t.isLt y = full (V m c main_v1) (V m c main_v8) (V m c main_v4) j := by
  unfold full
  by_cases ht : t.val < 48
  · rw [outsAt0_A m c t ht (by omega)]; frame_out
    rw [pay1]
    refine Fin.sum_fin_congr fun k => ?_
    exact congrArg₂ (fun a b : EReal => a * b) (blk_x m c t _ k _ ht h0) (blk_w m c t k _ _ h1)
  · rw [outsAt0_B m c t ht (by omega)]; frame_out
    rw [pay2]
    refine Fin.sum_fin_congr fun k => ?_
    exact congrArg₂ (fun a b : EReal => a * b) (blk_y m c t _ k _ (by omega) h0) (blk_w m c t k _ _ h1)

theorem final (c : Dev nD) : (dats m 0 c).arrAt 3 (cfgs 0).N = full (V m c main_v1) (V m c main_v8) (V m c main_v4) := by
  refine (dats m 0 c).arrAt_eq_of_covers 3 _ (by decide +kernel) fun t _ y => ?_
  blk_simp; rw [after0_3]
  exact point m c t y _ (by blk_simp [idx t]) (by blk_simp [idx t])

theorem V_y (c : Dev nD) : V m c main_v8 = truncf (F := Ideal) .bf16 (concatenate S688x4096 0
    [⟨S512x4096, shapeCast _ (m ((c : Thread nD τ).loc main_arg1)) shapeCasts_S128x4x4096_S512x4096⟩,
     ⟨S176x4096, broadcastInDim S176x4096 ![] bcast_S_S176x4096 (constant (F := Ideal) S_ .f32 0x00000000#32)⟩]
     concatenates_S512x4096_S176x4096_S688x4096_d0) bitsLt_bf16_f32 := by
  dsimp only [V, V0]
  simp only [List.flatten_cons, List.flatten_nil, List.append_nil]
  after_results
  rfl

theorem V_xp (c : Dev nD) (b : Fin 4) (t : Fin 2064) (k : Fin 4096) (h : (b : ℕ) * 2064 + t < 8944) :
    row (V m c main_v1) (V m c main_v8) ⟨(b : ℕ) * 2064 + t, h⟩ k = vp m c (ix3 b t k) := by
  have hb := b.isLt
  have ht := t.isLt
  unfold row
  rw [dif_pos (show (b : ℕ) * 2064 + t < 8256 by omega)]
  dsimp only [V, V0]
  simp only [List.flatten_cons, List.flatten_nil, List.append_nil]
  entry_read
  rw [truncf_apply]
  exact Packed.rows_apply _ _ b t k _ rfl

theorem V_xs (c : Dev nD) (b : Fin 128) (t : Fin 4) (k : Fin 4096) (h : 8256 + ((b : ℕ) * 4 + t) < 8944) :
    row (V m c main_v1) (V m c main_v8) ⟨8256 + ((b : ℕ) * 4 + t), h⟩ k = vs m c (ix3 b t k) := by
  unfold row
  rw [dif_neg (show ¬ 8256 + ((b : ℕ) * 4 + t) < 8256 by omega), V_y, truncf_apply]
  exact Packed.padded_first _ _ _ _ b t k _ (Nat.add_sub_cancel_left _ _) (by decide)

theorem V_w (c : Dev nD) (k : Fin 4096) (n : Fin 4096) : V m c main_v4 (ix2 k n) = wa m c (ix3 0 k n) := by
  dsimp only [V, V0]
  simp only [List.flatten_cons, List.flatten_nil, List.append_nil]
  entry_read
  pointwise

theorem tail_p (c : Dev nD) (b : Fin 4) (t : Fin 2064) (n : Fin 4096) :
    Pipeline.afterTail₀ cfgs (dats m) 0 (V0 m) [hostOps1] c main_v12 (ix3 b t n) =
      ∑ k : Fin 4096, vp m c (ix3 b t k) * wa m c (ix3 0 k n) := by
  unfold Pipeline.afterTail₀
  simp only [List.flatten_cons, List.flatten_nil, List.append_nil]
  after_results
  rw [Pipeline.withArrays_arr _ launch0.win.arr_inj c _ _ 3, final]
  pointwise
  unfold full
  refine Fin.sum_fin_congr fun k => ?_
  exact congrArg₂ (fun a b : EReal => a * b) (V_xp m c b t k _) (V_w m c k n)

theorem tail_s (c : Dev nD) (b : Fin 128) (t : Fin 4) (n : Fin 4096) :
    Pipeline.afterTail₀ cfgs (dats m) 0 (V0 m) [hostOps1] c main_v14 (ix3 b t n) =
      ∑ k : Fin 4096, vs m c (ix3 b t k) * wa m c (ix3 0 k n) := by
  unfold Pipeline.afterTail₀
  simp only [List.flatten_cons, List.flatten_nil, List.append_nil]
  after_results
  rw [Pipeline.withArrays_arr _ launch0.win.arr_inj c _ _ 3, final]
  pointwise
  unfold full
  refine Fin.sum_fin_congr fun k => ?_
  exact congrArg₂ (fun a b : EReal => a * b) (V_xs m c b t k _) (V_w m c k n)

theorem algebraic : Cert.algebraic_Kernel6Ideal_Reference6Ideal := by
  pair_intro
  · run_from Cert.Kernel6Ideal.Gen.run_main m g
    · exact W_main_arg0 m (dats m) c
    · exact W_main_arg1 m (dats m) c
    · exact W_main_arg2 m (dats m) c
  · hlo_run
    · funext i
      rw [eq_ix3 i]
      refine Eq.trans ?_ (tail_p m c (i 0) (i 1) (i 2)).symm
      pointwise
    · funext i
      rw [eq_ix3 i]
      refine Eq.trans ?_ (tail_s m c (i 0) (i 1) (i 2)).symm
      pointwise

end Cert.WaOut
-- ==== Proof.WO.lean ====
module

public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem

namespace Cert.WO

open Cert.Kernel7Ideal Cert.Kernel7Ideal.Gen

variable (m : (ℓ : Loc nD τ sig) → Buf (Elt Ideal) ℓ)

/-- the prompt and sample rows of the mixed branches, the weights of both layers, the two residual streams -/
abbrev mp (c : Dev nD) : S4x2064x4096.Idx → EReal := m ((c : Thread nD τ).loc main_arg0)
abbrev ms (c : Dev nD) : S128x4x4096.Idx → EReal := m ((c : Thread nD τ).loc main_arg1)
abbrev wo (c : Dev nD) : S2x4096x4096.Idx → EReal := m ((c : Thread nD τ).loc main_arg2)
abbrev xp (c : Dev nD) : S4x2064x4096.Idx → EReal := m ((c : Thread nD τ).loc main_arg3)
abbrev xs (c : Dev nD) : S128x4x4096.Idx → EReal := m ((c : Thread nD τ).loc main_arg4)

theorem pay (x : Vec Ideal S688x4096 .bf16) (w : Vec Ideal S4096x1024 .bf16) (r : Vec Ideal S688x1024 .f32) (y : S688x1024.Idx) :
    k0_pay1 (F := Ideal) x w r y = r y + ∑ k : Fin 4096, x (ix2 (y 0) k) * w (ix2 k (y 1)) := by
  pointwise [k0_pay1]

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The product and the residual, row by row of the packed array. -/
def full (X : S8944x4096.Idx → EReal) (W : S4096x4096.Idx → EReal) (R : S8944x4096.Idx → EReal) : S8944x4096.Idx → EReal :=
  fun j => R j + ∑ k : Fin 4096, X (ix2 (j 0) k) * W (ix2 k (j 1))

theorem final (c : Dev nD) : (dats m 0 c).arrAt 3 (cfgs 0).N = full (V m c main_v4) (V m c main_v7) (V m c main_v11) := by
  refine (dats m 0 c).arrAt_eq_of_covers 3 _ (by decide +kernel) fun t _ y => ?_
  blk_simp; rw [after0_3]; frame_out
  rw [pay]
  unfold full
  blk_point [iblk, idx t]

theorem V_x (c : Dev nD) : V m c main_v4 = truncf (F := Ideal) .bf16 (concatenate S8944x4096 0
    [⟨S8256x4096, shapeCast _ (m ((c : Thread nD τ).loc main_arg0)) shapeCasts_S4x2064x4096_S8256x4096⟩,
     ⟨S512x4096, shapeCast _ (m ((c : Thread nD τ).loc main_arg1)) shapeCasts_S128x4x4096_S512x4096⟩,
     ⟨S176x4096, broadcastInDim S176x4096 ![] bcast_S_S176x4096 (constant (F := Ideal) S_ .f32 0x00000000#32)⟩]
     concatenates_S8256x4096_S512x4096_S176x4096_S8944x4096_d0) bitsLt_bf16_f32 := by
  dsimp only [V, V0]
  simp only [List.flatten_cons, List.flatten_nil, List.append_nil]
  after_results
  rfl

theorem V_r (c : Dev nD) : V m c main_v11 = concatenate S8944x4096 0
    [⟨S8256x4096, shapeCast _ (m ((c : Thread nD τ).loc main_arg3)) shapeCasts_S4x2064x4096_S8256x4096⟩,
     ⟨S512x4096, shapeCast _ (m ((c : Thread nD τ).loc main_arg4)) shapeCasts_S128x4x4096_S512x4096⟩,
     ⟨S176x4096, broadcastInDim S176x4096 ![] bcast_S_S176x4096 (constant (F := Ideal) S_ .f32 0x00000000#32)⟩]
     concatenates_S8256x4096_S512x4096_S176x4096_S8944x4096_d0 := by
  dsimp only [V, V0]
  simp only [List.flatten_cons, List.flatten_nil, List.append_nil]
  after_results
  rfl

theorem V_xp (c : Dev nD) (b : Fin 4) (t : Fin 2064) (k : Fin 4096) (h : (b : ℕ) * 2064 + t < 8944) :
    V m c main_v4 (ix2 ⟨(b : ℕ) * 2064 + t, h⟩ k) = mp m c (ix3 b t k) := by
  rw [V_x, truncf_apply]
  exact Packed.packed_first _ _ _ _ _ b t k _ rfl (by decide)

theorem V_xs (c : Dev nD) (b : Fin 128) (t : Fin 4) (k : Fin 4096) (h : 8256 + ((b : ℕ) * 4 + t) < 8944) :
    V m c main_v4 (ix2 ⟨8256 + ((b : ℕ) * 4 + t), h⟩ k) = ms m c (ix3 b t k) := by
  rw [V_x, truncf_apply]
  exact Packed.packed_second _ _ _ _ _ b t k _ (Nat.add_comm _ _) (by decide)

theorem V_rp (c : Dev nD) (b : Fin 4) (t : Fin 2064) (k : Fin 4096) (h : (b : ℕ) * 2064 + t < 8944) :
    V m c main_v11 (ix2 ⟨(b : ℕ) * 2064 + t, h⟩ k) = xp m c (ix3 b t k) := by
  rw [V_r]
  exact Packed.packed_first _ _ _ _ _ b t k _ rfl (by decide)

theorem V_rs (c : Dev nD) (b : Fin 128) (t : Fin 4) (k : Fin 4096) (h : 8256 + ((b : ℕ) * 4 + t) < 8944) :
    V m c main_v11 (ix2 ⟨8256 + ((b : ℕ) * 4 + t), h⟩ k) = xs m c (ix3 b t k) := by
  rw [V_r]
  exact Packed.packed_second _ _ _ _ _ b t k _ (Nat.add_comm _ _) (by decide)

theorem V_w (c : Dev nD) (k : Fin 4096) (n : Fin 4096) :
    V m c main_v7 (ix2 k n) = wo m c (ix3 0 k n) := by
  dsimp only [V, V0]
  simp only [List.flatten_cons, List.flatten_nil, List.append_nil]
  entry_read
  pointwise

theorem tail_p (c : Dev nD) (b : Fin 4) (t : Fin 2064) (n : Fin 4096) :
    Pipeline.afterTail₀ cfgs (dats m) 0 (V0 m) [hostOps1] c main_v14 (ix3 b t n) =
      xp m c (ix3 b t n) +
        ∑ k : Fin 4096, mp m c (ix3 b t k) * wo m c (ix3 0 k n) := by
  unfold Pipeline.afterTail₀
  simp only [List.flatten_cons, List.flatten_nil, List.append_nil]
  after_results
  rw [Pipeline.withArrays_arr _ launch0.win.arr_inj c _ _ 3, final]
  pointwise
  unfold full
  refine congrArg₂ (fun a b : EReal => a + b) (V_rp m c b t n _) (Finset.sum_congr rfl fun k _ => congrArg₂ (fun a b : EReal => a * b) (V_xp m c b t k _) (V_w m c k n))

theorem tail_s (c : Dev nD) (b : Fin 128) (t : Fin 4) (n : Fin 4096) :
    Pipeline.afterTail₀ cfgs (dats m) 0 (V0 m) [hostOps1] c main_v16 (ix3 b t n) =
      xs m c (ix3 b t n) +
        ∑ k : Fin 4096, ms m c (ix3 b t k) * wo m c (ix3 0 k n) := by
  unfold Pipeline.afterTail₀
  simp only [List.flatten_cons, List.flatten_nil, List.append_nil]
  after_results
  rw [Pipeline.withArrays_arr _ launch0.win.arr_inj c _ _ 3, final]
  pointwise
  unfold full
  refine congrArg₂ (fun a b : EReal => a + b) (V_rs m c b t n _) (Finset.sum_congr rfl fun k _ => congrArg₂ (fun a b : EReal => a * b) (V_xs m c b t k _) (V_w m c k n))

theorem algebraic : Cert.algebraic_Kernel7Ideal_Reference7Ideal := by
  pair_intro
  · run_from Cert.Kernel7Ideal.Gen.run_main m g
    · exact W_main_arg0 m (dats m) c
    · exact W_main_arg1 m (dats m) c
    · exact W_main_arg2 m (dats m) c
    · exact W_main_arg3 m (dats m) c
    · exact W_main_arg4 m (dats m) c
  · hlo_run
    · funext i
      rw [eq_ix3 i]
      refine Eq.trans ?_ (tail_p m c (i 0) (i 1) (i 2)).symm
      pointwise
    · funext i
      rw [eq_ix3 i]
      refine Eq.trans ?_ (tail_s m c (i 0) (i 1) (i 2)).symm
      pointwise

end Cert.WO
-- ==== Proof.SconvPrompt.lean ====
module

public import proofs.«01_k».proof.Defs
public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem

namespace Cert.SconvPrompt

open Cert.Kernel8Ideal Cert.Kernel8Ideal.Gen

variable (m : (ℓ : Loc nD τ sig) → Buf (Elt Ideal) ℓ)

/-- the input projection's prompt and sample rows, and the three taps of the convolution -/
abbrev pp (c : Dev nD) : S4x2064x38912.Idx → EReal := m ((c : Thread nD τ).loc main_arg0)
abbrev ps (c : Dev nD) : S128x4x38912.Idx → EReal := m ((c : Thread nD τ).loc main_arg1)
abbrev tw (c : Dev nD) : S3x4096.Idx → EReal := m ((c : Thread nD τ).loc main_arg2)

/-- One element of the gated convolution: the gate, the product at a row and at the two rows above it, the three taps. -/
def conv (g z0 z1 z2 w0 w1 w2 : EReal) : EReal := g * (z0 * w2 + z1 * w1 + z2 * w0)

theorem conv_congr {g z0 z1 z2 w0 w1 w2 g' z0' z1' z2' w0' w1' w2' : EReal} (h1 : g = g') (h2 : z0 = z0') (h3 : z1 = z1') (h4 : z2 = z2')
    (h5 : w0 = w0') (h6 : w1 = w1') (h7 : w2 = w2') : conv g z0 z1 z2 w0 w1 w2 = conv g' z0' z1' z2' w0' w1' w2' := by
  rw [h1, h2, h3, h4, h5, h6, h7]

/-- A value `d` rows above row `r`, zero above the first row. -/
def above (d r : ℕ) (z : EReal) : EReal := if d ≤ r then z else 0

theorem pay3 (x y : Vec Ideal S2064x512 .bf16) (w : Vec Ideal S3x512 .f32) (g : Vec Ideal S2064x512 .bf16) (r : Fin 2064) (k : Fin 512) :
    k0_pay3 (F := Ideal) x y w g (ix2 r k) = conv (g (ix2 r k)) (x (ix2 r k) * y (ix2 r k))
      (above 1 r (x (ix2 ⟨(r + 2064 - 1) % 2064, Nat.mod_lt _ (by decide)⟩ k) * y (ix2 ⟨(r + 2064 - 1) % 2064, Nat.mod_lt _ (by decide)⟩ k)))
      (above 2 r (x (ix2 ⟨(r + 2064 - 2) % 2064, Nat.mod_lt _ (by decide)⟩ k) * y (ix2 ⟨(r + 2064 - 2) % 2064, Nat.mod_lt _ (by decide)⟩ k)))
      (w (ix2 0 k)) (w (ix2 1 k)) (w (ix2 2 k)) := by
  unfold conv above
  pointwise [k0_pay3, k0_pay2]
  simp (disch := word_cmp_side) only [hlo_ix]
  split_ifs <;> simp only [zero_mul, decide_eq_true_eq] at *

theorem pay3' (x y : Vec Ideal S2064x512 .bf16) (w : Vec Ideal S3x512 .f32) (g : Vec Ideal S2064x512 .bf16) (j : S2064x512.Idx) :
    k0_pay3 (F := Ideal) x y w g j = conv (g (ix2 (j 0) (j 1))) (x (ix2 (j 0) (j 1)) * y (ix2 (j 0) (j 1)))
      (above 1 (j 0 : ℕ) (x (ix2 ⟨((j 0 : ℕ) + 2064 - 1) % 2064, Nat.mod_lt _ (by decide)⟩ (j 1)) * y (ix2 ⟨((j 0 : ℕ) + 2064 - 1) % 2064, Nat.mod_lt _ (by decide)⟩ (j 1))))
      (above 2 (j 0 : ℕ) (x (ix2 ⟨((j 0 : ℕ) + 2064 - 2) % 2064, Nat.mod_lt _ (by decide)⟩ (j 1)) * y (ix2 ⟨((j 0 : ℕ) + 2064 - 2) % 2064, Nat.mod_lt _ (by decide)⟩ (j 1))))
      (w (ix2 0 (j 1))) (w (ix2 1 (j 1))) (w (ix2 2 (j 1))) :=
  (congrArg _ (eq_ix2 j)).trans (pay3 x y w g (j 0) (j 1))

/-- The order of the sum in the reference. -/
theorem conv_ref (g z0 z1 z2 w0 w1 w2 : EReal) : g * (w0 * z2 + w1 * z1 + w2 * z0) = conv g z0 z1 z2 w0 w1 w2 := by
  unfold conv
  rw [mul_comm w0, mul_comm w1, mul_comm w2, add_comm (z2 * w0), add_assoc, add_comm (z2 * w0), ← add_assoc, add_comm (z1 * w1)]

theorem pay1 (x y : Vec Ideal S2064x512 .bf16) (u : Fin 1) (r : Fin 2) (k : Fin 512) :
    k0_pay1 (F := Ideal) (k0_pay4 (F := Ideal) x y) (ix3 u r k) = x (ix2 ⟨2056 + (6 + r), by have := r.isLt; omega⟩ k) *
      y (ix2 ⟨2056 + (6 + r), by have := r.isLt; omega⟩ k) := by
  pointwise [k0_pay1, k0_pay4, k0_pay2]

theorem pay1' (x y : Vec Ideal S2064x512 .bf16) (j : S1x2x512.Idx) :
    k0_pay1 (F := Ideal) (k0_pay4 (F := Ideal) x y) j =
      x (ix2 ⟨2056 + (6 + (j 1 : ℕ)), by have h : (j 1 : ℕ) < 2 := (j 1).isLt; omega⟩ (j 2)) *
      y (ix2 ⟨2056 + (6 + (j 1 : ℕ)), by have h : (j 1 : ℕ) < 2 := (j 1).isLt; omega⟩ (j 2)) :=
  (congrArg _ (eq_ix3 j)).trans (pay1 x y (j 0) (j 1) (j 2))

theorem idx : ∀ t : Fin cfg0.N, win0_0.index t = ![t.val / 8, t.val % 8 + 16] ∧ win0_1.index t = ![t.val / 8, t.val % 8 + 24]
    ∧ win0_2.index t = ![t.val / 8, t.val % 8 + 32] ∧ win0_3.index t = ![0, t.val % 8] ∧ win0_4.index t = ![t.val / 8, t.val % 8]
    ∧ win0_5.index t = ![t.val / 8, 0, t.val % 8] :=
  (by decide +kernel : ∀ t : Fin grid0.N, _)

/-- The product the convolution runs over. -/
def prod (P : S8944x38912.Idx → EReal) (i : Fin 8944) (j : Fin 4096) : EReal :=
  P (ix2 i ⟨16384 + (j : ℕ), by have := j.isLt; omega⟩) * P (ix2 i ⟨8192 + (j : ℕ), by have := j.isLt; omega⟩)

/-- The gated convolution over the packed rows, each of the four sequences on its own. -/
def full (P : S8944x38912.Idx → EReal) (W : S3x4096.Idx → EReal) : S8256x4096.Idx → EReal :=
  fun j => conv (P (ix2 ⟨(j 0 : ℕ), Nat.lt_of_lt_of_le (j 0).isLt (by decide)⟩
      ⟨12288 + (j 1 : ℕ), by have h : (j 1 : ℕ) < 4096 := (j 1).isLt; omega⟩))
    (prod P ⟨(j 0 : ℕ), Nat.lt_of_lt_of_le (j 0).isLt (by decide)⟩ (j 1))
    (above 1 ((j 0 : ℕ) % 2064) (prod P ⟨(j 0 : ℕ) - 1, Nat.lt_of_le_of_lt (Nat.sub_le _ _) (Nat.lt_of_lt_of_le (j 0).isLt (by decide))⟩ (j 1)))
    (above 2 ((j 0 : ℕ) % 2064) (prod P ⟨(j 0 : ℕ) - 2, Nat.lt_of_le_of_lt (Nat.sub_le _ _) (Nat.lt_of_lt_of_le (j 0).isLt (by decide))⟩ (j 1)))
    (W (ix2 0 (j 1))) (W (ix2 1 (j 1))) (W (ix2 2 (j 1)))

/-- The last two products of each sequence. -/
def fullS (P : S8944x38912.Idx → EReal) : S4x2x4096.Idx → EReal :=
  fun j => prod P ⟨(j 0 : ℕ) * 2064 + (2056 + (6 + (j 1 : ℕ))), by
    have h : (j 0 : ℕ) < 4 := (j 0).isLt; have h' : (j 1 : ℕ) < 2 := (j 1).isLt; omega⟩ (j 2)

theorem blk_h (c : Dev nD) (t : Fin cfg0.N) (r : Fin 2064) (k : Fin 512) (i : Fin 8944) (j : Fin 38912)
    (hi : (i : ℕ) = t.val / 8 * 2064 + r) (hj : (j : ℕ) = (t.val % 8 + 16) * 512 + k) :
    (show FVec Ideal S2064x512 .bf16 from X0_0 m c t) (ix2 r k) = (V m c main_v4 : S8944x38912.Idx → EReal) (ix2 i j) := by
  unfold X0_0 Pipeline.Window.fill
  refine (dif_pos (moved0_0 t _)).trans ?_
  blk_ext [iblk, idx t]

theorem blk_b (c : Dev nD) (t : Fin cfg0.N) (r : Fin 2064) (k : Fin 512) (i : Fin 8944) (j : Fin 38912)
    (hi : (i : ℕ) = t.val / 8 * 2064 + r) (hj : (j : ℕ) = (t.val % 8 + 24) * 512 + k) :
    (show FVec Ideal S2064x512 .bf16 from X0_1 m c t) (ix2 r k) = (V m c main_v4 : S8944x38912.Idx → EReal) (ix2 i j) := by
  unfold X0_1 Pipeline.Window.fill
  refine (dif_pos (moved0_1 t _)).trans ?_
  blk_ext [iblk, idx t]

theorem blk_c (c : Dev nD) (t : Fin cfg0.N) (r : Fin 2064) (k : Fin 512) (i : Fin 8944) (j : Fin 38912)
    (hi : (i : ℕ) = t.val / 8 * 2064 + r) (hj : (j : ℕ) = (t.val % 8 + 32) * 512 + k) :
    (show FVec Ideal S2064x512 .bf16 from X0_2 m c t) (ix2 r k) = (V m c main_v4 : S8944x38912.Idx → EReal) (ix2 i j) := by
  unfold X0_2 Pipeline.Window.fill
  refine (dif_pos (moved0_2 t _)).trans ?_
  blk_ext [iblk, idx t]

theorem blk_w (c : Dev nD) (t : Fin cfg0.N) (r : Fin 3) (k : Fin 512) (j : Fin 4096) (hj : (j : ℕ) = t.val % 8 * 512 + k) :
    (show FVec Ideal S3x512 .f32 from iblk m c 3 t) (ix2 r k) = (V m c main_arg2 : S3x4096.Idx → EReal) (ix2 r j) := by
  blk_ext [iblk, idx t]

theorem prod_blk (c : Dev nD) (t : Fin cfg0.N) (r : Fin 2064) (k : Fin 512) (i : Fin 8944) (j : Fin 4096)
    (hi : (i : ℕ) = t.val / 8 * 2064 + r) (hj : (j : ℕ) = t.val % 8 * 512 + k) :
    (show FVec Ideal S2064x512 .bf16 from X0_2 m c t) (ix2 r k) * (show FVec Ideal S2064x512 .bf16 from X0_0 m c t) (ix2 r k) =
      prod (V m c main_v4) i j :=
  congrArg₂ (fun a b : EReal => a * b) (blk_c m c t r k i _ hi (by dsimp only; omega)) (blk_h m c t r k i _ hi (by dsimp only; omega))

theorem above_congr {d r r' : ℕ} {z z' : EReal} (hr : r = r') (hz : d ≤ r → z = z') : above d r z = above d r' z' := by
  subst hr
  unfold above
  split_ifs with h
  · exact hz h
  · rfl

theorem point (c : Dev nD) (t : Fin cfg0.N) (y : S2064x512.Idx) (j : S8256x4096.Idx)
    (h0 : (j 0 : ℕ) = t.val / 8 * 2064 + y 0) (h1 : (j 1 : ℕ) = t.val % 8 * 512 + y 1) :
    (outsAt0 m c t).1 y = full (V m c main_v4) (V m c main_arg2) j := by
  have hy : (y 0 : ℕ) < 2064 := (y 0).isLt
  unfold full Gen.outsAt0
  frame_out
  refine (pay3' _ _ _ _ y).trans ?_
  refine conv_congr (blk_b m c t _ _ _ _ h0 (by dsimp only; omega)) (prod_blk m c t _ _ _ _ h0 h1)
    (above_congr (by omega) fun h => prod_blk m c t _ _ _ _ (by dsimp only; omega) h1)
    (above_congr (by omega) fun h => prod_blk m c t _ _ _ _ (by dsimp only; omega) h1)
    (blk_w m c t _ _ _ h1) (blk_w m c t _ _ _ h1) (blk_w m c t _ _ _ h1)

theorem pointS (c : Dev nD) (t : Fin cfg0.N) (y : S1x2x512.Idx) (j : S4x2x4096.Idx)
    (h0 : (j 0 : ℕ) = t.val / 8) (h1 : (j 1 : ℕ) = y 1) (h2 : (j 2 : ℕ) = t.val % 8 * 512 + y 2) :
    (outsAt0 m c t).2 y = fullS (V m c main_v4) j := by
  unfold fullS Gen.outsAt0
  frame_out
  refine (pay1' _ _ y).trans ?_
  exact prod_blk m c t _ _ _ _ (by dsimp only; rw [h0, h1]) h2

theorem final (c : Dev nD) : (dats m 0 c).arrAt 4 (cfgs 0).N = full (V m c main_v4) (V m c main_arg2) := by
  refine (dats m 0 c).arrAt_eq_of_covers 4 _ (by decide +kernel) fun t _ y => ?_
  blk_simp; rw [after0_4]
  exact point m c t y _ (by blk_simp [idx t]) (by blk_simp [idx t])

theorem finalS (c : Dev nD) : (dats m 0 c).arrAt 5 (cfgs 0).N = fullS (V m c main_v4) := by
  refine (dats m 0 c).arrAt_eq_of_covers 5 _ (by decide +kernel) fun t _ y => ?_
  blk_simp; rw [after0_5]
  exact pointS m c t y _ (by blk_simp [idx t]) (by blk_simp [idx t]) (by blk_simp [idx t])

theorem V_pr (c : Dev nD) : V m c main_v4 = truncf (F := Ideal) .bf16 (concatenate S8944x38912 0
    [⟨S8256x38912, shapeCast _ (m ((c : Thread nD τ).loc main_arg0)) shapeCasts_S4x2064x38912_S8256x38912⟩,
     ⟨S512x38912, shapeCast _ (m ((c : Thread nD τ).loc main_arg1)) shapeCasts_S128x4x38912_S512x38912⟩,
     ⟨S176x38912, broadcastInDim S176x38912 ![] bcast_S_S176x38912 (constant (F := Ideal) S_ .f32 0x00000000#32)⟩]
     concatenates_S8256x38912_S512x38912_S176x38912_S8944x38912_d0) bitsLt_bf16_f32 := by
  dsimp only [V, V0]
  simp only [List.flatten_cons, List.flatten_nil, List.append_nil]
  after_results
  rfl

theorem V_prp (c : Dev nD) (b : Fin 4) (t : Fin 2064) (k : Fin 38912) (i : Fin 8944) (hi : (i : ℕ) = b * 2064 + t) :
    (V m c main_v4 : S8944x38912.Idx → EReal) (ix2 i k) = pp m c (ix3 b t k) := by
  rw [V_pr, truncf_apply]
  exact Packed.packed_first _ _ _ _ _ b t k _ hi (by decide)

theorem V_w (c : Dev nD) : V m c main_arg2 = m ((c : Thread nD τ).loc main_arg2) := by
  dsimp only [V, V0]
  simp only [List.flatten_cons, List.flatten_nil, List.append_nil]
  after_results

/-- The product at a row of the prompt. -/
def prd (c : Dev nD) (b : Fin 4) (t : Fin 2064) (n : Fin 4096) : EReal :=
  pp m c (ix3 b t ⟨16384 + (n : ℕ), by have := n.isLt; omega⟩) * pp m c (ix3 b t ⟨8192 + (n : ℕ), by have := n.isLt; omega⟩)

theorem prod_at (c : Dev nD) (b : Fin 4) (t : Fin 2064) (n : Fin 4096) (i : Fin 8944) (hi : (i : ℕ) = b * 2064 + t) :
    prod (V m c main_v4) i n = prd m c b t n :=
  congrArg₂ (fun a b : EReal => a * b) (V_prp m c b t _ i hi) (V_prp m c b t _ i hi)

theorem tail_v (c : Dev nD) (b : Fin 4) (t : Fin 2064) (n : Fin 4096) :
    Pipeline.afterTail₀ cfgs (dats m) 0 (V0 m) [hostOps1] c main_v7 (ix3 b t n) =
      conv (pp m c (ix3 b t ⟨12288 + (n : ℕ), by have := n.isLt; omega⟩)) (prd m c b t n)
        (above 1 t (prd m c b ⟨(t : ℕ) - 1, Nat.lt_of_le_of_lt (Nat.sub_le _ _) t.isLt⟩ n))
        (above 2 t (prd m c b ⟨(t : ℕ) - 2, Nat.lt_of_le_of_lt (Nat.sub_le _ _) t.isLt⟩ n))
        (tw m c (ix2 0 n)) (tw m c (ix2 1 n)) (tw m c (ix2 2 n)) := by
  have ht := t.isLt
  unfold Pipeline.afterTail₀
  simp only [List.flatten_cons, List.flatten_nil, List.append_nil]
  after_results
  rw [(dats m 0 c).withArrays_arrAt sharedIn0 _ (A_eq m c) 4, final]
  pointwise
  unfold full
  refine conv_congr (V_prp m c b t _ _ rfl) (prod_at m c b t n _ rfl)
    (above_congr (show ((b : ℕ) * 2064 + t) % 2064 = t by omega) fun h => prod_at m c b _ n _ (by
      have h : 1 ≤ ((b : ℕ) * 2064 + t) % 2064 := h
      show (b : ℕ) * 2064 + t - 1 = b * 2064 + (t - 1)
      omega))
    (above_congr (show ((b : ℕ) * 2064 + t) % 2064 = t by omega) fun h => prod_at m c b _ n _ (by
      have h : 2 ≤ ((b : ℕ) * 2064 + t) % 2064 := h
      show (b : ℕ) * 2064 + t - 2 = b * 2064 + (t - 2)
      omega))
    ?_ ?_ ?_ <;> (rw [V_w]; rfl)

theorem tail_s (c : Dev nD) (b : Fin 4) (t : Fin 2) (n : Fin 4096) :
    (show FVec Ideal S4x2x4096 .f32 from (dats m 0 c).arrAt 5 (cfgs 0).N) (ix3 b t n) =
      prd m c b ⟨2062 + (t : ℕ), by have := t.isLt; omega⟩ n := by
  rw [finalS]
  exact prod_at m c b _ n _ (show (b : ℕ) * 2064 + (2056 + (6 + (t : ℕ))) = b * 2064 + (2062 + t) by omega)

set_option maxHeartbeats 2000000 in
theorem algebraic : Cert.algebraic_Kernel8Ideal_Reference8Ideal := by
  pair_intro
  · run_from Cert.Kernel8Ideal.Gen.run_main m g
    · exact W_main_arg0 m (dats m) c
    · exact W_main_arg1 m (dats m) c
  · hlo_run
    · funext i
      rw [eq_ix3 i]
      refine Eq.trans ?_ (tail_v m c (i 0) (i 1) (i 2)).symm
      pointwise
      refine (conv_ref _ _ _ _ _ _ _).trans (conv_congr rfl rfl ?_ ?_ rfl rfl rfl)
      · have e : 1 + ((i 1 : Fin 2064) : ℕ) - 2 = ((i 1 : Fin 2064) : ℕ) - 1 := by omega
        unfold above prd
        simp only [e]
        by_cases h : 1 ≤ ((i 1 : Fin 2064) : ℕ)
        · rw [dif_neg (by omega), if_pos h]
        · rw [dif_pos (by omega), if_neg h]
      · unfold above prd
        by_cases h : 2 ≤ ((i 1 : Fin 2064) : ℕ)
        · rw [dif_neg (by omega), if_pos h]
        · rw [dif_pos (by omega), if_neg h]
    · funext i
      rw [eq_ix3 i]
      refine Eq.trans ?_ (tail_s m c (i 0) (i 1) (i 2)).symm
      have e : 2064 + ((i 1 : Fin 2) : ℕ) - 2 = 2062 + ((i 1 : Fin 2) : ℕ) := by omega
      unfold prd
      pointwise
      rw [dif_neg (by omega)]
      simp only [e]

end Cert.SconvPrompt
-- ==== Proof.SconvSample.lean ====
module

public import proofs.«01_k».proof.Defs
public import proofs.«01_k».proof.Proof.Gen.Kernel9Ideal.Frame
public import proofs.«01_k».proof.Proof.Gen.Reference9Ideal.Run
public import Idealize.ShloMosaic.Lib.Pipeline.ValueKit
public import Idealize.ShloMosaic.Lib.Pointwise
public import Idealize.ShloMosaic.Lib.Claim
public import proofs.«01_k».proof.Proof.Common

@[expose] public section

set_option maxRecDepth 16384

noncomputable section

open Idealize.ShloMosaic Idealize.ShloMosaic.TcCoe Idealize.SL.Sem

namespace Cert.SconvSample

open Cert.Kernel9Ideal Cert.Kernel9Ideal.Gen

variable (m : (ℓ : Loc nD τ sig) → Buf (Elt Ideal) ℓ)

/-- the input projection's prompt and sample rows, the two kept rows of each sample sequence, and the three taps -/
abbrev pp (c : Dev nD) : S4x2064x38912.Idx → EReal := m ((c : Thread nD τ).loc main_arg0)
abbrev ps (c : Dev nD) : S128x4x38912.Idx → EReal := m ((c : Thread nD τ).loc main_arg1)
abbrev st (c : Dev nD) : S128x2x4096.Idx → EReal := m ((c : Thread nD τ).loc main_arg2)
abbrev tw (c : Dev nD) : S3x4096.Idx → EReal := m ((c : Thread nD τ).loc main_arg3)

/-- One element of the gated convolution: the gate, the product at a row and at the two rows above it, the three taps. -/
def conv (g z0 z1 z2 w0 w1 w2 : EReal) : EReal := g * (z0 * w2 + z1 * w1 + z2 * w0)

theorem conv_congr {g z0 z1 z2 w0 w1 w2 g' z0' z1' z2' w0' w1' w2' : EReal} (h1 : g = g') (h2 : z0 = z0') (h3 : z1 = z1') (h4 : z2 = z2')
    (h5 : w0 = w0') (h6 : w1 = w1') (h7 : w2 = w2') : conv g z0 z1 z2 w0 w1 w2 = conv g' z0' z1' z2' w0' w1' w2' := by
  rw [h1, h2, h3, h4, h5, h6, h7]

/-- A value `d` rows above row `r` of a sequence of four, or the kept one above its first row. -/
def back (d r : ℕ) (z s : EReal) : EReal := if d ≤ r % 4 then z else s

theorem back_congr {d r r' : ℕ} {z z' s s' : EReal} (hr : r % 4 = r' % 4) (hz : d ≤ r % 4 → z = z') (hs : ¬ d ≤ r % 4 → s = s') :
    back d r z s = back d r' z' s' := by
  unfold back
  rw [← hr]
  split_ifs with h
  · exact hz h
  · exact hs h

theorem back_pos {d r : ℕ} {z s : EReal} (h : d ≤ r % 4) : back d r z s = z := if_pos h

theorem back_neg {d r : ℕ} {z s : EReal} (h : ¬ d ≤ r % 4) : back d r z s = s := if_neg h

theorem rem : ∀ r : Fin 688, ∀ k : Fin 512, k0_pay4 (ix2 r k) = BitVec.ofNat 32 ((r : ℕ) % 4) := by
  intro r k
  pointwise [k0_pay4]
  revert r
  decide +kernel

theorem rot (z s : FVec Ideal S688x512 .f32) (r : Fin 688) (k : Fin 512) :
    select (cmpi .sge k0_pay4 (broadcast S688x512 1#32)) z s (ix2 r k) = back 1 r (z (ix2 r k)) (s (ix2 r k)) := by
  have hr := Nat.mod_lt (r : ℕ) (show 4 > 0 by decide)
  show Scalar.select (IntOp.cmpi .sge (k0_pay4 (ix2 r k)) 1#32) (z (ix2 r k)) (s (ix2 r k)) = _
  rw [rem]
  unfold back
  pointwise
  word_cmp

theorem rot2 (z s : FVec Ideal S688x512 .f32) (r : Fin 688) (k : Fin 512) :
    select (cmpi .sge k0_pay4 (broadcast S688x512 2#32)) z s (ix2 r k) = back 2 r (z (ix2 r k)) (s (ix2 r k)) := by
  have hr := Nat.mod_lt (r : ℕ) (show 4 > 0 by decide)
  show Scalar.select (IntOp.cmpi .sge (k0_pay4 (ix2 r k)) 2#32) (z (ix2 r k)) (s (ix2 r k)) = _
  rw [rem]
  unfold back
  pointwise
  word_cmp

theorem pay5 (x y : Vec Ideal S688x512 .bf16) (s : Vec Ideal S688x512 .f32) (r : Fin 688) (k : Fin 512) :
    k0_pay5 (F := Ideal) x y s (ix2 r k) =
      back 1 r (x (ix2 ⟨(r + 688 - 1) % 688, Nat.mod_lt _ (by decide)⟩ k) * y (ix2 ⟨(r + 688 - 1) % 688, Nat.mod_lt _ (by decide)⟩ k))
        (s (ix2 ⟨(r + 688 - 687) % 688, Nat.mod_lt _ (by decide)⟩ k)) := by
  refine (rot _ _ r k).trans (back_congr rfl (fun _ => ?_) fun _ => ?_)
  · pointwise [k0_pay2]
  · pointwise [k0_pay3]

theorem pay6 (x y : Vec Ideal S688x512 .bf16) (s : Vec Ideal S688x512 .f32) (r : Fin 688) (k : Fin 512) :
    k0_pay6 (F := Ideal) x y s (ix2 r k) =
      back 2 r (x (ix2 ⟨(r + 688 - 2) % 688, Nat.mod_lt _ (by decide)⟩ k) * y (ix2 ⟨(r + 688 - 2) % 688, Nat.mod_lt _ (by decide)⟩ k))
        (s (ix2 r k)) := by
  refine (rot2 _ _ r k).trans (back_congr rfl (fun _ => ?_) fun _ => ?_)
  · pointwise [k0_pay2]
  · pointwise [k0_pay3]

theorem pay1 (x y : Vec Ideal S688x512 .bf16) (s : Vec Ideal S688x512 .f32) (w : Vec Ideal S3x512 .f32) (g : Vec Ideal S688x512 .bf16) (r : Fin 688) (k : Fin 512) :
    k0_pay1 (F := Ideal) (k0_pay5 (F := Ideal) x y s) (k0_pay6 (F := Ideal) x y s) w (k0_pay7 (F := Ideal) x y w) (k0_pay8 (F := Ideal) w) g (ix2 r k) =
      conv (g (ix2 r k)) (x (ix2 r k) * y (ix2 r k))
      (back 1 r (x (ix2 ⟨(r + 688 - 1) % 688, Nat.mod_lt _ (by decide)⟩ k) * y (ix2 ⟨(r + 688 - 1) % 688, Nat.mod_lt _ (by decide)⟩ k))
        (s (ix2 ⟨(r + 688 - 687) % 688, Nat.mod_lt _ (by decide)⟩ k)))
      (back 2 r (x (ix2 ⟨(r + 688 - 2) % 688, Nat.mod_lt _ (by decide)⟩ k) * y (ix2 ⟨(r + 688 - 2) % 688, Nat.mod_lt _ (by decide)⟩ k))
        (s (ix2 r k)))
      (w (ix2 0 k)) (w (ix2 1 k)) (w (ix2 2 k)) := by
  rw [← pay5, ← pay6]
  unfold conv
  pointwise [k0_pay1, k0_pay7, k0_pay8, k0_pay2]

theorem pay1' (x y : Vec Ideal S688x512 .bf16) (s : Vec Ideal S688x512 .f32) (w : Vec Ideal S3x512 .f32) (g : Vec Ideal S688x512 .bf16) (j : S688x512.Idx) :
    k0_pay1 (F := Ideal) (k0_pay5 (F := Ideal) x y s) (k0_pay6 (F := Ideal) x y s) w (k0_pay7 (F := Ideal) x y w) (k0_pay8 (F := Ideal) w) g j =
      conv (g (ix2 (j 0) (j 1))) (x (ix2 (j 0) (j 1)) * y (ix2 (j 0) (j 1)))
      (back 1 (j 0 : ℕ) (x (ix2 ⟨((j 0 : ℕ) + 688 - 1) % 688, Nat.mod_lt _ (by decide)⟩ (j 1)) * y (ix2 ⟨((j 0 : ℕ) + 688 - 1) % 688, Nat.mod_lt _ (by decide)⟩ (j 1)))
        (s (ix2 ⟨((j 0 : ℕ) + 688 - 687) % 688, Nat.mod_lt _ (by decide)⟩ (j 1))))
      (back 2 (j 0 : ℕ) (x (ix2 ⟨((j 0 : ℕ) + 688 - 2) % 688, Nat.mod_lt _ (by decide)⟩ (j 1)) * y (ix2 ⟨((j 0 : ℕ) + 688 - 2) % 688, Nat.mod_lt _ (by decide)⟩ (j 1)))
        (s (ix2 (j 0) (j 1))))
      (w (ix2 0 (j 1))) (w (ix2 1 (j 1))) (w (ix2 2 (j 1))) :=
  (congrArg _ (eq_ix2 j)).trans (pay1 x y s w g (j 0) (j 1))

theorem pay2' (x y : Vec Ideal S688x512 .bf16) (j : S688x512.Idx) :
    k0_pay2 (F := Ideal) x y j = x (ix2 (j 0) (j 1)) * y (ix2 (j 0) (j 1)) := by
  rw [← eq_ix2 j]
  pointwise [k0_pay2]

/-- The order of the sum in the reference. -/
theorem conv_ref (g z0 z1 z2 w0 w1 w2 : EReal) : g * (w0 * z2 + w1 * z1 + w2 * z0) = conv g z0 z1 z2 w0 w1 w2 := by
  unfold conv
  rw [mul_comm w0, mul_comm w1, mul_comm w2, add_comm (z2 * w0), add_assoc, add_comm (z2 * w0), ← add_assoc, add_comm (z1 * w1)]

theorem idx : ∀ t : Fin cfg0.N, win0_0.index t = ![12, t.val + 16] ∧ win0_1.index t = ![12, t.val + 24]
    ∧ win0_2.index t = ![12, t.val + 32] ∧ win0_3.index t = ![0, t.val] ∧ win0_4.index t = ![0, t.val] ∧ win0_5.index t = ![0, t.val]
    ∧ win0_6.index t = ![0, t.val] :=
  (by decide +kernel : ∀ t : Fin grid0.N, _)

/-- The product the convolution runs over. -/
def prod (P : S8944x38912.Idx → EReal) (i : Fin 8944) (j : Fin 4096) : EReal :=
  P (ix2 i ⟨16384 + (j : ℕ), by have := j.isLt; omega⟩) * P (ix2 i ⟨8192 + (j : ℕ), by have := j.isLt; omega⟩)

/-- The gated convolution over the sample rows, each sequence of four on its own. -/
def full (P : S8944x38912.Idx → EReal) (S : S696x4096.Idx → EReal) (W : S3x4096.Idx → EReal) : S688x4096.Idx → EReal :=
  fun j => conv (P (ix2 ⟨8256 + (j 0 : ℕ), by have h : (j 0 : ℕ) < 688 := (j 0).isLt; omega⟩
      ⟨12288 + (j 1 : ℕ), by have h : (j 1 : ℕ) < 4096 := (j 1).isLt; omega⟩))
    (prod P ⟨8256 + (j 0 : ℕ), by have h : (j 0 : ℕ) < 688 := (j 0).isLt; omega⟩ (j 1))
    (back 1 (j 0 : ℕ) (prod P ⟨8256 + (j 0 : ℕ) - 1, by have h : (j 0 : ℕ) < 688 := (j 0).isLt; omega⟩ (j 1))
      (S (ix2 ⟨(j 0 : ℕ) + 1, by have h : (j 0 : ℕ) < 688 := (j 0).isLt; omega⟩ (j 1))))
    (back 2 (j 0 : ℕ) (prod P ⟨8256 + (j 0 : ℕ) - 2, by have h : (j 0 : ℕ) < 688 := (j 0).isLt; omega⟩ (j 1))
      (S (ix2 ⟨(j 0 : ℕ), by have h : (j 0 : ℕ) < 688 := (j 0).isLt; omega⟩ (j 1))))
    (W (ix2 0 (j 1))) (W (ix2 1 (j 1))) (W (ix2 2 (j 1)))

/-- The products of the sample rows. -/
def fullS (P : S8944x38912.Idx → EReal) : S688x4096.Idx → EReal :=
  fun j => prod P ⟨8256 + (j 0 : ℕ), by have h : (j 0 : ℕ) < 688 := (j 0).isLt; omega⟩ (j 1)

theorem blk_h (c : Dev nD) (t : Fin cfg0.N) (r : Fin 688) (k : Fin 512) (i : Fin 8944) (j : Fin 38912)
    (hi : (i : ℕ) = 8256 + r) (hj : (j : ℕ) = (t.val + 16) * 512 + k) :
    (show FVec Ideal S688x512 .bf16 from iblk m c 0 t) (ix2 r k) = (V m c main_v4 : S8944x38912.Idx → EReal) (ix2 i j) := by
  blk_ext [iblk, idx t]

theorem blk_b (c : Dev nD) (t : Fin cfg0.N) (r : Fin 688) (k : Fin 512) (i : Fin 8944) (j : Fin 38912)
    (hi : (i : ℕ) = 8256 + r) (hj : (j : ℕ) = (t.val + 24) * 512 + k) :
    (show FVec Ideal S688x512 .bf16 from iblk m c 1 t) (ix2 r k) = (V m c main_v4 : S8944x38912.Idx → EReal) (ix2 i j) := by
  blk_ext [iblk, idx t]

theorem blk_c (c : Dev nD) (t : Fin cfg0.N) (r : Fin 688) (k : Fin 512) (i : Fin 8944) (j : Fin 38912)
    (hi : (i : ℕ) = 8256 + r) (hj : (j : ℕ) = (t.val + 32) * 512 + k) :
    (show FVec Ideal S688x512 .bf16 from iblk m c 2 t) (ix2 r k) = (V m c main_v4 : S8944x38912.Idx → EReal) (ix2 i j) := by
  blk_ext [iblk, idx t]

theorem blk_s (c : Dev nD) (t : Fin cfg0.N) (r : Fin 688) (k : Fin 512) (i : Fin 696) (j : Fin 4096)
    (hi : (i : ℕ) = r) (hj : (j : ℕ) = t.val * 512 + k) :
    (show FVec Ideal S688x512 .f32 from X0_3 m c t) (ix2 r k) = (V m c main_v6 : S696x4096.Idx → EReal) (ix2 i j) := by
  unfold X0_3 Pipeline.Window.fill
  refine (dif_pos (moved0_3 t _)).trans ?_
  blk_ext [iblk, idx t]

theorem blk_w (c : Dev nD) (t : Fin cfg0.N) (r : Fin 3) (k : Fin 512) (j : Fin 4096) (hj : (j : ℕ) = t.val * 512 + k) :
    (show FVec Ideal S3x512 .f32 from iblk m c 4 t) (ix2 r k) = (V m c main_arg3 : S3x4096.Idx → EReal) (ix2 r j) := by
  blk_ext [iblk, idx t]

theorem prod_blk (c : Dev nD) (t : Fin cfg0.N) (r : Fin 688) (k : Fin 512) (i : Fin 8944) (j : Fin 4096)
    (hi : (i : ℕ) = 8256 + r) (hj : (j : ℕ) = t.val * 512 + k) :
    (show FVec Ideal S688x512 .bf16 from iblk m c 2 t) (ix2 r k) * (show FVec Ideal S688x512 .bf16 from iblk m c 0 t) (ix2 r k) =
      prod (V m c main_v4) i j :=
  congrArg₂ (fun a b : EReal => a * b) (blk_c m c t r k i _ hi (by dsimp only; omega)) (blk_h m c t r k i _ hi (by dsimp only; omega))

theorem point (c : Dev nD) (t : Fin cfg0.N) (y : S688x512.Idx) (j : S688x4096.Idx)
    (h0 : (j 0 : ℕ) = y 0) (h1 : (j 1 : ℕ) = t.val * 512 + y 1) :
    (outsAt0 m c t).1 y = full (V m c main_v4) (V m c main_v6) (V m c main_arg3) j := by
  have hy : (y 0 : ℕ) < 688 := (y 0).isLt
  unfold full Gen.outsAt0
  frame_out
  refine (pay1' _ _ _ _ _ y).trans ?_
  refine conv_congr (blk_b m c t _ _ _ _ (by dsimp only; omega) (by dsimp only; omega)) (prod_blk m c t _ _ _ _ (by dsimp only; omega) h1)
    (back_congr (by omega) (fun h => prod_blk m c t _ _ _ _ (by dsimp only; omega) h1) fun h => blk_s m c t _ _ _ _ (by dsimp only; omega) h1)
    (back_congr (by omega) (fun h => prod_blk m c t _ _ _ _ (by dsimp only; omega) h1) fun h => blk_s m c t _ _ _ _ (by dsimp only; omega) h1)
    (blk_w m c t _ _ _ h1) (blk_w m c t _ _ _ h1) (blk_w m c t _ _ _ h1)

theorem pointS (c : Dev nD) (t : Fin cfg0.N) (y : S688x512.Idx) (j : S688x4096.Idx)
    (h0 : (j 0 : ℕ) = y 0) (h1 : (j 1 : ℕ) = t.val * 512 + y 1) :
    (outsAt0 m c t).2 y = fullS (V m c main_v4) j := by
  unfold fullS Gen.outsAt0
  frame_out
  refine (pay2' _ _ y).trans ?_
  exact prod_blk m c t _ _ _ _ (by dsimp only; rw [h0]) h1

theorem final (c : Dev nD) : (dats m 0 c).arrAt 5 (cfgs 0).N = full (V m c main_v4) (V m c main_v6) (V m c main_arg3) := by
  refine (dats m 0 c).arrAt_eq_of_covers 5 _ (by decide +kernel) fun t _ y => ?_
  blk_simp; rw [after0_5]
  exact point m c t y _ (by blk_simp [idx t]) (by blk_simp [idx t])

theorem finalS (c : Dev nD) : (dats m 0 c).arrAt 6 (cfgs 0).N = fullS (V m c main_v4) := by
  refine (dats m 0 c).arrAt_eq_of_covers 6 _ (by decide +kernel) fun t _ y => ?_
  blk_simp; rw [after0_6]
  exact pointS m c t y _ (by blk_simp [idx t]) (by blk_simp [idx t])

theorem V_pr (c : Dev nD) : V m c main_v4 = truncf (F := Ideal) .bf16 (concatenate S8944x38912 0
    [⟨S8256x38912, shapeCast _ (m ((c : Thread nD τ).loc main_arg0)) shapeCasts_S4x2064x38912_S8256x38912⟩,
     ⟨S512x38912, shapeCast _ (m ((c : Thread nD τ).loc main_arg1)) shapeCasts_S128x4x38912_S512x38912⟩,
     ⟨S176x38912, broadcastInDim S176x38912 ![] bcast_S_S176x38912 (constant (F := Ideal) S_ .f32 0x00000000#32)⟩]
     concatenates_S8256x38912_S512x38912_S176x38912_S8944x38912_d0) bitsLt_bf16_f32 := by
  dsimp only [V, V0]
  simp only [hostOps0, hostOps0_1, hostOps0_2, List.flatten_cons, List.flatten_nil, List.append_nil, List.cons_append, List.nil_append]
  after_results
  rfl

theorem V_prs (c : Dev nD) (b : Fin 128) (t : Fin 4) (k : Fin 38912) (i : Fin 8944) (hi : (i : ℕ) = 8256 + (b * 4 + t)) :
    (V m c main_v4 : S8944x38912.Idx → EReal) (ix2 i k) = ps m c (ix3 b t k) := by
  rw [V_pr, truncf_apply]
  exact Packed.packed_second _ _ _ _ _ b t k _ (hi.trans (Nat.add_comm _ _)) (by decide)

theorem V_st (c : Dev nD) : V m c main_v6 = shapeCast S696x4096 (pad S174x4x4096 ![0, 0, 0] ![46, 2, 0] ![0, 0, 0]
    (m ((c : Thread nD τ).loc main_arg2)) (sitofp (F := Ideal) .f32 (constantI S_ 32 0#32)) pads_S128x2x4096_S174x4x4096_0460_020_000 h_S_)
    shapeCasts_S174x4x4096_S696x4096 := by
  dsimp only [V, V0]
  simp only [hostOps0, hostOps0_1, hostOps0_2, List.flatten_cons, List.flatten_nil, List.append_nil, List.cons_append, List.nil_append]
  after_results
  rfl

theorem pad_at (X : S128x2x4096.Idx → EReal) (v : S_.Idx → EReal) (b : Fin 128) (t : Fin 2) (k : Fin 4096) (b' : Fin 174) (t' : Fin 4)
    (hb' : (b' : ℕ) = b) (ht' : (t' : ℕ) = t) :
    pad S174x4x4096 ![0, 0, 0] ![46, 2, 0] ![0, 0, 0] X v pads_S128x2x4096_S174x4x4096_0460_020_000 h_S_ (ix3 b' t' k) = X (ix3 b t k) := by
  have hb := b.isLt
  have ht := t.isLt
  have eb : b' = ⟨b, by omega⟩ := Fin.ext hb'
  have et : t' = ⟨t, by omega⟩ := Fin.ext ht'
  rw [eb, et]
  pointwise

theorem V_s (c : Dev nD) (b : Fin 128) (t : Fin 2) (k : Fin 4096) (i : Fin 696) (hi : (i : ℕ) = b * 4 + t) :
    (V m c main_v6 : S696x4096.Idx → EReal) (ix2 i k) = st m c (ix3 b t k) := by
  have hb := b.isLt
  have ht := t.isLt
  rw [V_st]
  refine (Packed.rows_apply (p := 174) (l := 4) _ _ ⟨b, by omega⟩ ⟨t, by omega⟩ k _ hi).trans ?_
  exact pad_at _ _ b t k _ _ rfl rfl

theorem V_w (c : Dev nD) : V m c main_arg3 = m ((c : Thread nD τ).loc main_arg3) := by
  dsimp only [V, V0]
  simp only [hostOps0, hostOps0_1, hostOps0_2, List.flatten_cons, List.flatten_nil, List.append_nil, List.cons_append, List.nil_append]
  after_results

/-- The product at a row of the sample. -/
def prd (c : Dev nD) (b : Fin 128) (t : Fin 4) (n : Fin 4096) : EReal :=
  ps m c (ix3 b t ⟨16384 + (n : ℕ), by have := n.isLt; omega⟩) * ps m c (ix3 b t ⟨8192 + (n : ℕ), by have := n.isLt; omega⟩)

theorem prod_at (c : Dev nD) (b : Fin 128) (t : Fin 4) (n : Fin 4096) (i : Fin 8944) (hi : (i : ℕ) = 8256 + (b * 4 + t)) :
    prod (V m c main_v4) i n = prd m c b t n :=
  congrArg₂ (fun a b : EReal => a * b) (V_prs m c b t _ i hi) (V_prs m c b t _ i hi)

/-- Row `t + 2 - d` of a sequence extended by its two kept rows. -/
def ext (c : Dev nD) (b : Fin 128) (t : Fin 4) (n : Fin 4096) (d : ℕ) (hd : d ≤ 2) : EReal :=
  if h : d ≤ t then prd m c b ⟨(t : ℕ) - d, Nat.lt_of_le_of_lt (Nat.sub_le _ _) t.isLt⟩ n
  else st m c (ix3 b ⟨(t : ℕ) + 2 - d, by omega⟩ n)

theorem tail_v (c : Dev nD) (b : Fin 128) (t : Fin 4) (n : Fin 4096) :
    Pipeline.afterTail₀ cfgs (dats m) 0 (V0 m) [hostOps1] c main_v13 (ix3 b t n) =
      conv (ps m c (ix3 b t ⟨12288 + (n : ℕ), by have := n.isLt; omega⟩)) (prd m c b t n)
        (ext m c b t n 1 (by decide)) (ext m c b t n 2 (by decide))
        (tw m c (ix2 0 n)) (tw m c (ix2 1 n)) (tw m c (ix2 2 n)) := by
  have ht := t.isLt
  have hb := b.isLt
  unfold Pipeline.afterTail₀
  simp only [List.flatten_cons, List.flatten_nil, List.append_nil]
  after_results
  rw [(dats m 0 c).withArrays_arrAt sharedIn0 _ (A_eq m c) 5, final]
  pointwise
  unfold full
  refine conv_congr (V_prs m c b t _ _ rfl) (prod_at m c b t n _ rfl) ?_ ?_ ?_ ?_ ?_
  · unfold ext
    have e : ((b : ℕ) * 4 + t) % 4 = t := by omega
    by_cases h : 1 ≤ (t : ℕ)
    · refine (back_pos (show 1 ≤ ((b : ℕ) * 4 + t) % 4 by omega)).trans (Eq.trans ?_ (dif_pos h).symm)
      exact prod_at m c b _ n _ (show 8256 + ((b : ℕ) * 4 + t) - 1 = 8256 + (b * 4 + (t - 1)) by omega)
    · refine (back_neg (show ¬ 1 ≤ ((b : ℕ) * 4 + t) % 4 by omega)).trans (Eq.trans ?_ (dif_neg h).symm)
      exact V_s m c b _ n _ (show (b : ℕ) * 4 + t + 1 = b * 4 + (t + 2 - 1) by omega)
  · unfold ext
    have e : ((b : ℕ) * 4 + t) % 4 = t := by omega
    by_cases h : 2 ≤ (t : ℕ)
    · refine (back_pos (show 2 ≤ ((b : ℕ) * 4 + t) % 4 by omega)).trans (Eq.trans ?_ (dif_pos h).symm)
      exact prod_at m c b _ n _ (show 8256 + ((b : ℕ) * 4 + t) - 2 = 8256 + (b * 4 + (t - 2)) by omega)
    · refine (back_neg (show ¬ 2 ≤ ((b : ℕ) * 4 + t) % 4 by omega)).trans (Eq.trans ?_ (dif_neg h).symm)
      exact V_s m c b _ n _ (show (b : ℕ) * 4 + t = b * 4 + (t + 2 - 2) by omega)
  all_goals (rw [V_w]; rfl)

theorem tail_s (c : Dev nD) (b : Fin 128) (t : Fin 2) (n : Fin 4096) :
    Pipeline.afterTail₀ cfgs (dats m) 0 (V0 m) [hostOps1] c main_v10 (ix3 b t n) =
      prd m c b ⟨2 + (t : ℕ), by have := t.isLt; omega⟩ n := by
  unfold Pipeline.afterTail₀
  simp only [List.flatten_cons, List.flatten_nil, List.append_nil]
  after_results
  rw [(dats m 0 c).withArrays_arrAt sharedIn0 _ (A_eq m c) 6, finalS]
  pointwise
  exact prod_at m c b _ n _ rfl

set_option maxHeartbeats 2000000 in
theorem algebraic : Cert.algebraic_Kernel9Ideal_Reference9Ideal := by
  pair_intro
  · run_from Cert.Kernel9Ideal.Gen.run_main m g
    · exact W_main_arg0 m (dats m) c
    · exact W_main_arg1 m (dats m) c
    · exact W_main_arg2 m (dats m) c
  · hlo_run
    · funext i
      rw [eq_ix3 i]
      refine Eq.trans ?_ (tail_v m c (i 0) (i 1) (i 2)).symm
      pointwise
      simp only [(hagree c).2.1, (hagree c).2.2.1, (hagree c).2.2.2]
      refine (conv_ref _ _ _ _ _ _ _).trans (conv_congr rfl rfl ?_ ?_ rfl rfl rfl)
      · have e : 1 + ((i 1 : Fin 4) : ℕ) - 2 = ((i 1 : Fin 4) : ℕ) - 1 := by omega
        have e' : ((i 1 : Fin 4) : ℕ) + 2 - 1 = 1 + ((i 1 : Fin 4) : ℕ) := by omega
        unfold ext prd
        simp only [e, e']
        by_cases h : 1 ≤ ((i 1 : Fin 4) : ℕ)
        · rw [dif_neg (by omega), dif_pos h]
        · rw [dif_pos (by omega), dif_neg h]
      · have e' : ((i 1 : Fin 4) : ℕ) + 2 - 2 = ((i 1 : Fin 4) : ℕ) := by omega
        unfold ext prd
        simp only [e']
        by_cases h : 2 ≤ ((i 1 : Fin 4) : ℕ)
        · rw [dif_neg (by omega), dif_pos h]
        · rw [dif_pos (by omega), dif_neg h]
    · funext i
      rw [eq_ix3 i]
      refine Eq.trans ?_ (tail_s m c (i 0) (i 1) (i 2)).symm
      have e : 4 + ((i 1 : Fin 2) : ℕ) - 2 = 2 + ((i 1 : Fin 2) : ℕ) := by omega
      unfold prd
      pointwise
      try rw [(hagree c).2.1]
      rw [dif_neg (by omega)]
      simp only [e]

end Cert.SconvSample
-- ==== Proof.Stores.lean ====
module

public import Idealize.ShloMosaic.Lib.Pipeline.ValueKit
public import Idealize.ShloMosaic.Lib.Pipeline.Value
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Stores

variable {s : Shape} {e : EltTy} {Val : EltTy → Type}

/-- What a list of writes leaves, read under the rectangle of the last write. -/
theorem hit [∀ e, Nonempty (Val e)] {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- Read outside it. -/
theorem miss [∀ e, Nonempty (Val e)] {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

/-- A load after a list of writes reads, at a position of its box, what the writes left there. -/
theorem load [∀ e, Nonempty (Val e)] {sig : RefSig} {κ : Kind} {sp : Space} (v : View sig κ sp s e) (L : List (View.Piece Val s e))
    {off size : Fin s.rank → ℕ} (inb : ∀ a, off a + size a ≤ s.size a) (x : (Rect.unit off size inb).shape.Idx) (y : s.Idx)
    (hx : ∀ a, (y a).val = off a + (x a).val) :
    v.readCov L (Rect.unit off size inb).toLoadRect x = View.canon L y := by
  rw [View.readCov_eq_canon']
  refine congrArg (View.canon L) ?_
  funext a
  refine Fin.ext ?_
  rw [hx a]
  show off a + 1 * (x a).val = _
  rw [Nat.one_mul]

/-- The same two where the offset is an expression with a known value. -/
theorem hit_of [∀ e, Nonempty (Val e)] {off off' size : Fin s.rank → ℕ} (inb : ∀ a, off a + size a ≤ s.size a)
    (w : (Rect.unit off size inb).shape.Idx → Val e) (L : List (View.Piece Val s e)) (y : s.Idx)
    (x : (Rect.unit off size inb).shape.Idx) (heq : off = off') (hx : ∀ a, (y a).val = off' a + (x a).val) :
    View.canon ((⟨Rect.unit off size inb, w⟩ : View.Piece Val s e) :: L) y = w x := by
  subst heq
  exact hit inb w L y x hx

theorem miss_of [∀ e, Nonempty (Val e)] {off off' size : Fin s.rank → ℕ} (inb : ∀ a, off a + size a ≤ s.size a)
    (w : (Rect.unit off size inb).shape.Idx → Val e) (L : List (View.Piece Val s e)) (y : s.Idx) (heq : off = off')
    (a : Fin s.rank) (ha : (y a).val < off' a ∨ off' a + size a ≤ (y a).val) :
    View.canon ((⟨Rect.unit off size inb, w⟩ : View.Piece Val s e) :: L) y = View.canon L y := by
  subst heq
  exact miss inb w L y a ha

/-- A box of an array, read at a position of the box. -/
theorem ld_of {off off' size : Fin s.rank → ℕ} (X : s.Idx → Val e) (inb : ∀ a, off a + size a ≤ s.size a)
    (x : (Rect.unit off size inb).shape.Idx) (y : s.Idx) (heq : off = off') (hx : ∀ a, (y a).val = off' a + (x a).val) :
    View.ld X (Rect.unit off size inb) x = X y := by
  subst heq
  refine congrArg X ?_
  funext a
  refine Fin.ext ?_
  rw [hx a]
  show off a + 1 * (x a).val = _
  rw [Nat.one_mul]

end Cert.Stores
-- ==== Proof.FfnState.lean ====
module

public import proofs.«01_k».proof.Defs
public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise
public import Idealize.ShloMosaic.Lib.Claim
public import proofs.«01_k».proof.Proof.Common
public import proofs.«01_k».proof.Proof.Stores

@[expose] public section

set_option maxRecDepth 16384

noncomputable section

open Idealize.ShloMosaic Idealize.ShloMosaic.TcCoe Idealize.SL.Sem

namespace Cert.FfnState

open Cert.Kernel10Ideal Cert.Kernel10Ideal.Gen

variable (m : (ℓ : Loc nD τ sig) → Buf (Elt Ideal) ℓ)

/-- the normalised prompt and sample rows, the up-projection of both layers, and the input projection of both layers -/
abbrev xp (c : Dev nD) : S4x2064x4096.Idx → EReal := m ((c : Thread nD τ).loc main_arg0)
abbrev xs (c : Dev nD) : S128x4x4096.Idx → EReal := m ((c : Thread nD τ).loc main_arg1)
abbrev up (c : Dev nD) : S2x4096x22016.Idx → EReal := m ((c : Thread nD τ).loc main_arg2)
abbrev win (c : Dev nD) : S2x4096x39040.Idx → EReal := m ((c : Thread nD τ).loc main_arg6)

theorem pay16 (x : Vec Ideal S688x4096 .bf16) (w : Vec Ideal S4096x256 .bf16) (r : Fin 688) (k : Fin 256) :
    k0_pay16 (F := Ideal) x w (ix3 0 r k) = ∑ l : Fin 4096, x (ix2 r l) * w (ix2 l k) := by
  pointwise [k0_pay16, k0_pay15]

theorem pay17 (x : Vec Ideal S688x4096 .bf16) (w : Vec Ideal S4096x256 .bf16) (r : Fin 688) (k : Fin 256) :
    k0_pay17 (F := Ideal) x w (ix3 0 r k) = ∑ l : Fin 4096, x (ix2 r l) * w (ix2 l k) := by
  pointwise [k0_pay17, k0_pay15]

theorem pay32 (x : Vec Ideal S688x4096 .bf16) (w : Vec Ideal S4096x256 .bf16) (r : Fin 688) (k : Fin 256) :
    k0_pay32 (F := Ideal) x w (ix3 0 r k) = ∑ l : Fin 4096, x (ix2 r l) * w (ix2 l k) := by
  pointwise [k0_pay32, k0_pay31]

theorem pay33 (x : Vec Ideal S688x4096 .bf16) (w : Vec Ideal S4096x256 .bf16) (r : Fin 688) (k : Fin 256) :
    k0_pay33 (F := Ideal) x w (ix3 0 r k) = ∑ l : Fin 4096, x (ix2 r l) * w (ix2 l k) := by
  pointwise [k0_pay33, k0_pay31]

theorem pay30 (v : Vec Ideal S1x8x256 .f32) (r : Fin 2) (k : Fin 256) :
    k0_pay30 (F := Ideal) v (ix4 0 0 r k) = v (ix3 0 ⟨6 + (r : ℕ), by omega⟩ k) := by
  pointwise [k0_pay30, k0_pay29]

theorem pay6 (v : Vec Ideal S1x8x256 .f32) (r : Fin 2) (k : Fin 256) :
    k0_pay6 (F := Ideal) v (ix4 0 0 r k) = v (ix3 0 ⟨6 + (r : ℕ), by omega⟩ k) := by
  pointwise [k0_pay6, k0_pay5]

theorem pay10 (v : Vec Ideal S1x8x256 .f32) (r : Fin 2) (k : Fin 256) :
    k0_pay10 (F := Ideal) v (ix4 0 0 r k) = v (ix3 0 ⟨6 + (r : ℕ), by omega⟩ k) := by
  pointwise [k0_pay10, k0_pay9]

theorem pay13 (v : Vec Ideal S1x8x256 .f32) (r : Fin 2) (k : Fin 256) :
    k0_pay13 (F := Ideal) v (ix4 0 0 r k) = v (ix3 0 ⟨6 + (r : ℕ), by omega⟩ k) := by
  pointwise [k0_pay13, k0_pay12]

theorem idx : ∀ t : Fin cfg0.N, win0_0.index t = ![t.val / 43, 0] ∧ win0_1.index t = ![0, t.val % 43]
    ∧ win0_2.index t = ![0, t.val % 43 + 43] ∧ win0_11.index t = ![t.val / 43, 0, 0, t.val % 43]
    ∧ (516 ≤ t.val → win0_12.index t = ![0, 0, t.val % 43]) :=
  (by decide +kernel : ∀ t : Fin grid0.N, _)

theorem blk_x (c : Dev nD) (t : Fin cfg0.N) (r : Fin 688) (k : Fin 4096) (i : Fin 8944) (hi : (i : ℕ) = t.val / 43 * 688 + r) :
    (show FVec Ideal S688x4096 .bf16 from iblk m c 0 t) (ix2 r k) = (V m c main_v4 : S8944x4096.Idx → EReal) (ix2 i k) := by
  blk_ext [iblk, idx t]

theorem blk_wl (c : Dev nD) (t : Fin cfg0.N) (l : Fin 4096) (k : Fin 256) (j : Fin 22016) (hj : (j : ℕ) = t.val % 43 * 256 + k) :
    (show FVec Ideal S4096x256 .bf16 from iblk m c 1 t) (ix2 l k) = (V m c main_v7 : S4096x22016.Idx → EReal) (ix2 l j) := by
  blk_ext [iblk, idx t]

theorem blk_wr (c : Dev nD) (t : Fin cfg0.N) (l : Fin 4096) (k : Fin 256) (j : Fin 22016) (hj : (j : ℕ) = 11008 + (t.val % 43 * 256 + k)) :
    (show FVec Ideal S4096x256 .bf16 from iblk m c 2 t) (ix2 l k) = (V m c main_v7 : S4096x22016.Idx → EReal) (ix2 l j) := by
  blk_ext [iblk, idx t]

/-- An element of the product of the packed rows with the up-projection. -/
def prod (X : S8944x4096.Idx → EReal) (W : S4096x22016.Idx → EReal) (i : Fin 8944) (j : Fin 22016) : EReal :=
  ∑ l : Fin 4096, X (ix2 i l) * W (ix2 l j)

theorem prod_l (c : Dev nD) (t : Fin cfg0.N) (r : Fin 688) (k : Fin 256) (i : Fin 8944) (j : Fin 22016)
    (hi : (i : ℕ) = t.val / 43 * 688 + r) (hj : (j : ℕ) = t.val % 43 * 256 + k) :
    ∑ l : Fin 4096, (show FVec Ideal S688x4096 .bf16 from iblk m c 0 t) (ix2 r l) * (show FVec Ideal S4096x256 .bf16 from iblk m c 1 t) (ix2 l k) =
      prod (V m c main_v4) (V m c main_v7) i j :=
  Fin.sum_fin_congr fun l => congrArg₂ (fun a b : EReal => a * b) (blk_x m c t r l i hi) (blk_wl m c t l k j hj)

theorem prod_r (c : Dev nD) (t : Fin cfg0.N) (r : Fin 688) (k : Fin 256) (i : Fin 8944) (j : Fin 22016)
    (hi : (i : ℕ) = t.val / 43 * 688 + r) (hj : (j : ℕ) = 11008 + (t.val % 43 * 256 + k)) :
    ∑ l : Fin 4096, (show FVec Ideal S688x4096 .bf16 from iblk m c 0 t) (ix2 r l) * (show FVec Ideal S4096x256 .bf16 from iblk m c 2 t) (ix2 l k) =
      prod (V m c main_v4) (V m c main_v7) i j :=
  Fin.sum_fin_congr fun l => congrArg₂ (fun a b : EReal => a * b) (blk_x m c t r l i hi) (blk_wr m c t l k j hj)

theorem pay44 (v : Vec Ideal S1x688x256 .f32) (r : Fin 688) (k : Fin 256) :
    k0_pay44 (F := Ideal) (k0_pay35 (F := Ideal) v) (ix3 0 r k) = v (ix3 0 r k) := by
  pointwise [k0_pay44, k0_pay35]

theorem pay45 (v : Vec Ideal S1x688x256 .f32) (r : Fin 688) (k : Fin 256) :
    k0_pay45 (F := Ideal) (k0_pay39 (F := Ideal) v) (ix3 0 r k) = v (ix3 0 r k) := by
  pointwise [k0_pay45, k0_pay39]

theorem stA (c : Dev nD) (t : Fin cfg0.N) (h0 : t.val % 559 = 0) (h1 : t.val < 516) (y : S1x2x2x256.Idx) (i : Fin 8944) (j : Fin 22016)
    (hi : (i : ℕ) = t.val / 43 * 688 + (686 + y 2)) (hj : (j : ℕ) = (y 1 : ℕ) * 11008 + (t.val % 43 * 256 + y 3)) :
    (outsAt0 m c t.val t.isLt).2.1 y = prod (V m c main_v4) (V m c main_v7) i j := by
  have hy1 : (y 1 : ℕ) < 2 := (y 1).isLt
  have hy2 : (y 2 : ℕ) < 2 := (y 2).isLt
  have hy0 : (y 0 : ℕ) < 1 := (y 0).isLt
  rw [outsAt0_A m c t h0 h1 (by omega)]; frame_out
  by_cases hy : (y 1 : ℕ) = 1
  · refine (Stores.hit _ _ _ _ (ix4 0 0 (y 2) (y 3)) ?_).trans ?_
    · intro a; fin_cases a <;> simp <;> omega
    refine (pay6 _ (y 2) (y 3)).trans ?_
    refine (Stores.load _ _ _ _ (ix3 1 ⟨694 + (y 2 : ℕ), by omega⟩ (y 3)) ?_).trans ?_
    · intro a; fin_cases a <;> simp <;> omega
    refine (Stores.miss _ _ _ _ 1 ?_).trans ?_
    · right; simp; omega
    refine (Stores.miss _ _ _ _ 1 ?_).trans ?_
    · right; simp; omega
    refine (Stores.hit _ _ _ _ (ix3 0 ⟨686 + (y 2 : ℕ), by omega⟩ (y 3)) ?_).trans ?_
    · intro a; fin_cases a <;> simp <;> omega
    refine (pay17 _ _ _ _).trans ?_
    exact prod_r m c t _ _ i j hi (by rw [hj, hy])
  · refine (Stores.miss _ _ _ _ 1 ?_).trans ?_
    · left; simp; omega
    refine (Stores.hit _ _ _ _ (ix4 0 0 (y 2) (y 3)) ?_).trans ?_
    · intro a; fin_cases a <;> simp <;> omega
    refine (pay30 _ (y 2) (y 3)).trans ?_
    refine (Stores.load _ _ _ _ (ix3 0 ⟨694 + (y 2 : ℕ), by omega⟩ (y 3)) ?_).trans ?_
    · intro a; fin_cases a <;> simp <;> omega
    refine (Stores.miss _ _ _ _ 1 ?_).trans ?_
    · right; simp; omega
    refine (Stores.miss _ _ _ _ 1 ?_).trans ?_
    · right; simp; omega
    refine (Stores.miss _ _ _ _ 0 ?_).trans ?_
    · left; simp
    refine (Stores.hit _ _ _ _ (ix3 0 ⟨686 + (y 2 : ℕ), by omega⟩ (y 3)) ?_).trans ?_
    · intro a; fin_cases a <;> simp <;> omega
    refine (pay16 _ _ _ _).trans ?_
    exact prod_l m c t _ _ i j hi (by omega)

theorem stB (c : Dev nD) (t : Fin cfg0.N) (h0 : ¬ t.val % 559 = 0) (h1 : t.val < 516) (y : S1x2x2x256.Idx) (i : Fin 8944) (j : Fin 22016)
    (hi : (i : ℕ) = t.val / 43 * 688 + (686 + y 2)) (hj : (j : ℕ) = (y 1 : ℕ) * 11008 + (t.val % 43 * 256 + y 3)) :
    (outsAt0 m c t.val t.isLt).2.1 y = prod (V m c main_v4) (V m c main_v7) i j := by
  have hy1 : (y 1 : ℕ) < 2 := (y 1).isLt
  have hy2 : (y 2 : ℕ) < 2 := (y 2).isLt
  have hy0 : (y 0 : ℕ) < 1 := (y 0).isLt
  rw [outsAt0_B m c t h0 h1 (by omega)]; frame_out
  by_cases hy : (y 1 : ℕ) = 1
  · refine (Stores.hit _ _ _ _ (ix4 0 0 (y 2) (y 3)) ?_).trans ?_
    · intro a; fin_cases a <;> simp <;> omega
    refine (pay6 _ (y 2) (y 3)).trans ?_
    refine (Stores.load _ _ _ _ (ix3 1 ⟨694 + (y 2 : ℕ), by omega⟩ (y 3)) ?_).trans ?_
    · intro a; fin_cases a <;> simp <;> omega
    refine (Stores.miss _ _ _ _ 1 ?_).trans ?_
    · right; simp; omega
    refine (Stores.miss _ _ _ _ 1 ?_).trans ?_
    · right; simp; omega
    refine (Stores.hit _ _ _ _ (ix3 0 ⟨686 + (y 2 : ℕ), by omega⟩ (y 3)) ?_).trans ?_
    · intro a; fin_cases a <;> simp <;> omega
    refine (pay17 _ _ _ _).trans ?_
    exact prod_r m c t _ _ i j hi (by rw [hj, hy])
  · refine (Stores.miss _ _ _ _ 1 ?_).trans ?_
    · left; simp; omega
    refine (Stores.hit _ _ _ _ (ix4 0 0 (y 2) (y 3)) ?_).trans ?_
    · intro a; fin_cases a <;> simp <;> omega
    refine (pay30 _ (y 2) (y 3)).trans ?_
    refine (Stores.load _ _ _ _ (ix3 0 ⟨694 + (y 2 : ℕ), by omega⟩ (y 3)) ?_).trans ?_
    · intro a; fin_cases a <;> simp <;> omega
    refine (Stores.miss _ _ _ _ 1 ?_).trans ?_
    · right; simp; omega
    refine (Stores.miss _ _ _ _ 1 ?_).trans ?_
    · right; simp; omega
    refine (Stores.miss _ _ _ _ 0 ?_).trans ?_
    · left; simp
    refine (Stores.hit _ _ _ _ (ix3 0 ⟨686 + (y 2 : ℕ), by omega⟩ (y 3)) ?_).trans ?_
    · intro a; fin_cases a <;> simp <;> omega
    refine (pay16 _ _ _ _).trans ?_
    exact prod_l m c t _ _ i j hi (by omega)

theorem stC (c : Dev nD) (t : Fin cfg0.N) (h0 : ¬ t.val % 559 = 0) (h1 : ¬ t.val < 516) (y : S1x2x2x256.Idx) (i : Fin 8944) (j : Fin 22016)
    (hi : (i : ℕ) = t.val / 43 * 688 + (686 + y 2)) (hj : (j : ℕ) = (y 1 : ℕ) * 11008 + (t.val % 43 * 256 + y 3)) :
    (outsAt0 m c t.val t.isLt).2.1 y = prod (V m c main_v4) (V m c main_v7) i j := by
  have hy1 : (y 1 : ℕ) < 2 := (y 1).isLt
  have hy2 : (y 2 : ℕ) < 2 := (y 2).isLt
  have hy0 : (y 0 : ℕ) < 1 := (y 0).isLt
  rw [outsAt0_C m c t h0 h1 (by omega)]; frame_out
  by_cases hy : (y 1 : ℕ) = 1
  · refine (Stores.hit _ _ _ _ (ix4 0 0 (y 2) (y 3)) ?_).trans ?_
    · intro a; fin_cases a <;> simp <;> omega
    refine (pay13 _ (y 2) (y 3)).trans ?_
    refine (Stores.load _ _ _ _ (ix3 1 ⟨694 + (y 2 : ℕ), by omega⟩ (y 3)) ?_).trans ?_
    · intro a; fin_cases a <;> simp <;> omega
    refine (Stores.hit _ _ _ _ (ix3 0 ⟨686 + (y 2 : ℕ), by omega⟩ (y 3)) ?_).trans ?_
    · intro a; fin_cases a <;> simp <;> omega
    refine (pay33 _ _ _ _).trans ?_
    exact prod_r m c t _ _ i j hi (by rw [hj, hy])
  · refine (Stores.miss _ _ _ _ 1 ?_).trans ?_
    · left; simp; omega
    refine (Stores.hit _ _ _ _ (ix4 0 0 (y 2) (y 3)) ?_).trans ?_
    · intro a; fin_cases a <;> simp <;> omega
    refine (pay10 _ (y 2) (y 3)).trans ?_
    refine (Stores.load _ _ _ _ (ix3 0 ⟨694 + (y 2 : ℕ), by omega⟩ (y 3)) ?_).trans ?_
    · intro a; fin_cases a <;> simp <;> omega
    refine (Stores.miss _ _ _ _ 0 ?_).trans ?_
    · left; simp
    refine (Stores.hit _ _ _ _ (ix3 0 ⟨686 + (y 2 : ℕ), by omega⟩ (y 3)) ?_).trans ?_
    · intro a; fin_cases a <;> simp <;> omega
    refine (pay32 _ _ _ _).trans ?_
    exact prod_l m c t _ _ i j hi (by omega)

theorem ups (c : Dev nD) (t : Fin cfg0.N) (h : 516 ≤ t.val) (y : S2x688x256.Idx) (i : Fin 8944) (j : Fin 22016)
    (hi : (i : ℕ) = 8256 + y 1) (hj : (j : ℕ) = (y 0 : ℕ) * 11008 + (t.val % 43 * 256 + y 2)) :
    (outsAt0 m c t.val t.isLt).2.2.1 y = prod (V m c main_v4) (V m c main_v7) i j := by
  have ht : t.val < 559 := t.isLt
  have hy0 : (y 0 : ℕ) < 2 := (y 0).isLt
  have hy1 : (y 1 : ℕ) < 688 := (y 1).isLt
  rw [outsAt0_C m c t (by omega) (by omega) h]; frame_out
  by_cases hy : (y 0 : ℕ) = 1
  · refine (Stores.hit _ _ _ _ (ix3 0 (y 1) (y 2)) ?_).trans ?_
    · intro a; fin_cases a <;> simp <;> omega
    refine (pay45 _ (y 1) (y 2)).trans ?_
    refine (Stores.load _ _ _ _ (ix3 1 ⟨8 + (y 1 : ℕ), by omega⟩ (y 2)) ?_).trans ?_
    · intro a; fin_cases a <;> simp <;> omega
    refine (Stores.hit _ _ _ _ (ix3 0 (y 1) (y 2)) ?_).trans ?_
    · intro a; fin_cases a <;> simp <;> omega
    refine (pay33 _ _ _ _).trans ?_
    exact prod_r m c t _ _ i j (by omega) (by omega)
  · refine (Stores.miss _ _ _ _ 0 ?_).trans ?_
    · left; simp; omega
    refine (Stores.hit _ _ _ _ (ix3 0 (y 1) (y 2)) ?_).trans ?_
    · intro a; fin_cases a <;> simp <;> omega
    refine (pay44 _ (y 1) (y 2)).trans ?_
    refine (Stores.load _ _ _ _ (ix3 0 ⟨8 + (y 1 : ℕ), by omega⟩ (y 2)) ?_).trans ?_
    · intro a; fin_cases a <;> simp <;> omega
    refine (Stores.miss _ _ _ _ 0 ?_).trans ?_
    · left; simp
    refine (Stores.hit _ _ _ _ (ix3 0 (y 1) (y 2)) ?_).trans ?_
    · intro a; fin_cases a <;> simp <;> omega
    refine (pay32 _ _ _ _).trans ?_
    exact prod_l m c t _ _ i j (by omega) (by omega)

/-- The last two rows of each tile of the product, its two halves apart. -/
def fullT (X : S8944x4096.Idx → EReal) (W : S4096x22016.Idx → EReal) : S13x2x2x11008.Idx → EReal :=
  fun j => prod X W ⟨(j 0 : ℕ) * 688 + (686 + j 2), by
      have h0 : (j 0 : ℕ) < 13 := (j 0).isLt
      have h2 : (j 2 : ℕ) < 2 := (j 2).isLt
      omega⟩ ⟨(j 1 : ℕ) * 11008 + j 3, by
      have h1 : (j 1 : ℕ) < 2 := (j 1).isLt
      have h3 : (j 3 : ℕ) < 11008 := (j 3).isLt
      omega⟩

/-- The sample rows of the product, its two halves apart. -/
def fullU (X : S8944x4096.Idx → EReal) (W : S4096x22016.Idx → EReal) : S2x688x11008.Idx → EReal :=
  fun j => prod X W ⟨8256 + (j 1 : ℕ), by
      have h1 : (j 1 : ℕ) < 688 := (j 1).isLt
      omega⟩ ⟨(j 0 : ℕ) * 11008 + j 2, by
      have h0 : (j 0 : ℕ) < 2 := (j 0).isLt
      have h2 : (j 2 : ℕ) < 11008 := (j 2).isLt
      omega⟩

theorem pointT (c : Dev nD) (t : Fin cfg0.N) (y : S1x2x2x256.Idx) (j : S13x2x2x11008.Idx)
    (h0 : (j 0 : ℕ) = t.val / 43 + y 0) (h1 : (j 1 : ℕ) = y 1) (h2 : (j 2 : ℕ) = y 2) (h3 : (j 3 : ℕ) = t.val % 43 * 256 + y 3) :
    (outsAt0 m c t.val t.isLt).2.1 y = fullT (V m c main_v4) (V m c main_v7) j := by
  have hy0 : (y 0 : ℕ) < 1 := (y 0).isLt
  have ht : t.val < 559 := t.isLt
  unfold fullT
  by_cases a : t.val % 559 = 0
  · exact stA m c t a (by omega) y _ _ (by dsimp only; omega) (by dsimp only; omega)
  · by_cases b : t.val < 516
    · exact stB m c t a b y _ _ (by dsimp only; omega) (by dsimp only; omega)
    · exact stC m c t a b y _ _ (by dsimp only; omega) (by dsimp only; omega)

theorem finalT (c : Dev nD) : (dats m 0 c).arrAt 11 (cfgs 0).N = fullT (V m c main_v4) (V m c main_v7) := by
  refine (dats m 0 c).arrAt_eq_of_covers 11 _ (by decide +kernel) fun t _ y => ?_
  blk_simp; rw [after0_11]
  exact pointT m c t y _ (by blk_simp [idx t]) (by blk_simp [idx t]) (by blk_simp [idx t]) (by blk_simp [idx t])

theorem flushU : ∀ t : Fin cfg0.N, (cfg0.win 12).flush t = true → 516 ≤ t.val := by decide +kernel

theorem finalU (c : Dev nD) : (dats m 0 c).arrAt 12 (cfgs 0).N = fullU (V m c main_v4) (V m c main_v7) := by
  refine (dats m 0 c).arrAt_eq_of_covers 12 _ (by decide +kernel) fun t hf y => ?_
  have ht := flushU t hf
  have ix := (idx t).2.2.2.2 ht
  blk_simp; rw [after0_12]
  unfold fullU
  exact ups m c t ht y _ _ (by blk_simp [ix]) (by blk_simp [ix])

theorem idxC : ∀ t : Fin cfg0.N, win0_9.index t = ![1, min t.val 255, 0] ∧ win0_13.index t = ![min t.val 255, 0] :=
  (by decide +kernel : ∀ t : Fin grid0.N, _)

theorem castAt (c : Dev nD) (t : Fin cfg0.N) : (outsAt0 m c t.val t.isLt).2.2.2.1 = k0_pay1 (iblk m c 9 t) := by
  have ht : t.val < 559 := t.isLt
  by_cases a : t.val % 559 = 0
  · rw [outsAt0_A m c t a (by omega) (by omega)]; frame_out
  · by_cases b : t.val < 516
    · rw [outsAt0_B m c t a b (by omega)]; frame_out
    · rw [outsAt0_C m c t a b (by omega)]; frame_out

theorem finalC (c : Dev nD) : (dats m 0 c).arrAt 13 (cfgs 0).N = fun j : S4096x39040.Idx => win m c (ix3 1 (j 0) (j 1)) := by
  refine (dats m 0 c).arrAt_eq_of_covers 13 _ (by decide +kernel) fun t _ y => ?_
  blk_simp; rw [after0_13, castAt]
  pointwise [k0_pay1]
  blk_point [iblk, V, idxC t]

theorem V_x (c : Dev nD) : V m c main_v4 = truncf (F := Ideal) .bf16 (concatenate S8944x4096 0
    [⟨S8256x4096, shapeCast _ (m ((c : Thread nD τ).loc main_arg0)) shapeCasts_S4x2064x4096_S8256x4096⟩,
     ⟨S512x4096, shapeCast _ (m ((c : Thread nD τ).loc main_arg1)) shapeCasts_S128x4x4096_S512x4096⟩,
     ⟨S176x4096, broadcastInDim S176x4096 ![] bcast_S_S176x4096 (constant (F := Ideal) S_ .f32 0x00000000#32)⟩]
     concatenates_S8256x4096_S512x4096_S176x4096_S8944x4096_d0) bitsLt_bf16_f32 := by
  dsimp only [V, V0]
  simp only [hostOps0, hostOps0_1, hostOps0_2, List.flatten_cons, List.flatten_nil, List.append_nil, List.cons_append, List.nil_append]
  after_results
  rfl

theorem V_xp (c : Dev nD) (b : Fin 4) (t : Fin 2064) (k : Fin 4096) (i : Fin 8944) (hi : (i : ℕ) = b * 2064 + t) :
    (V m c main_v4 : S8944x4096.Idx → EReal) (ix2 i k) = xp m c (ix3 b t k) := by
  rw [V_x, truncf_apply]
  exact Packed.packed_first _ _ _ _ _ b t k _ hi (by decide)

theorem V_xs (c : Dev nD) (b : Fin 128) (t : Fin 4) (k : Fin 4096) (i : Fin 8944) (hi : (i : ℕ) = 8256 + (b * 4 + t)) :
    (V m c main_v4 : S8944x4096.Idx → EReal) (ix2 i k) = xs m c (ix3 b t k) := by
  rw [V_x, truncf_apply]
  exact Packed.packed_second _ _ _ _ _ b t k _ (hi.trans (Nat.add_comm _ _)) (by decide)

theorem V_w' (c : Dev nD) : V m c main_v7 = truncf (F := Ideal) .bf16 (shapeCast S4096x22016
    (extractStridedSlice S1x4096x22016 ![0, 0, 0] (m ((c : Thread nD τ).loc main_arg2)) slices_S2x4096x22016_S1x4096x22016_0_0_0)
    shapeCasts_S1x4096x22016_S4096x22016) bitsLt_bf16_f32 := by
  dsimp only [V, V0]
  simp only [hostOps0, hostOps0_1, hostOps0_2, List.flatten_cons, List.flatten_nil, List.append_nil, List.cons_append, List.nil_append]
  after_results
  rfl

theorem V_w (c : Dev nD) (k : Fin 4096) (n : Fin 22016) : (V m c main_v7 : S4096x22016.Idx → EReal) (ix2 k n) = up m c (ix3 0 k n) := by
  rw [V_w']
  pointwise

/-- The product at a row of the prompt and at a row of the sample. -/
def prdP (c : Dev nD) (b : Fin 4) (t : Fin 2064) (n : Fin 22016) : EReal :=
  ∑ k : Fin 4096, xp m c (ix3 b t k) * up m c (ix3 0 k n)
def prdS (c : Dev nD) (b : Fin 128) (t : Fin 4) (n : Fin 22016) : EReal :=
  ∑ k : Fin 4096, xs m c (ix3 b t k) * up m c (ix3 0 k n)

theorem prod_p (c : Dev nD) (b : Fin 4) (t : Fin 2064) (n : Fin 22016) (i : Fin 8944) (hi : (i : ℕ) = b * 2064 + t) :
    prod (V m c main_v4) (V m c main_v7) i n = prdP m c b t n :=
  Fin.sum_fin_congr fun k => congrArg₂ (fun a b : EReal => a * b) (V_xp m c b t k i hi) (V_w m c k n)

theorem prod_s (c : Dev nD) (b : Fin 128) (t : Fin 4) (n : Fin 22016) (i : Fin 8944) (hi : (i : ℕ) = 8256 + (b * 4 + t)) :
    prod (V m c main_v4) (V m c main_v7) i n = prdS m c b t n :=
  Fin.sum_fin_congr fun k => congrArg₂ (fun a b : EReal => a * b) (V_xs m c b t k i hi) (V_w m c k n)

theorem fullT_at (X : S8944x4096.Idx → EReal) (W : S4096x22016.Idx → EReal) (a : Fin 13) (h : Fin 2) (t : Fin 2) (k : Fin 11008)
    (i : Fin 8944) (n : Fin 22016) (hi : (i : ℕ) = (a : ℕ) * 688 + (686 + t)) (hn : (n : ℕ) = (h : ℕ) * 11008 + k) :
    fullT X W (ix4 a h t k) = prod X W i n :=
  congrArg₂ (prod X W) (Fin.ext hi.symm) (Fin.ext hn.symm)

theorem fullU_at (X : S8944x4096.Idx → EReal) (W : S4096x22016.Idx → EReal) (h : Fin 2) (t : Fin 688) (k : Fin 11008)
    (i : Fin 8944) (n : Fin 22016) (hi : (i : ℕ) = 8256 + (t : ℕ)) (hn : (n : ℕ) = (h : ℕ) * 11008 + k) :
    fullU X W (ix3 h t k) = prod X W i n :=
  congrArg₂ (prod X W) (Fin.ext hi.symm) (Fin.ext hn.symm)

theorem fullT_dif (X : S8944x4096.Idx → EReal) (W : S4096x22016.Idx → EReal) (b : Fin 4) (t : Fin 2) (n : Fin 22016)
    (ha : 2 + 3 * (b : ℕ) < 13) (hi : (b : ℕ) * 2064 + (2062 + (t : ℕ)) < 8944) (hk : ¬ (n : ℕ) < 11008 → (n : ℕ) - 11008 < 11008) :
    (if h : (n : ℕ) < 11008 then fullT X W (ix4 ⟨2 + 3 * (b : ℕ), ha⟩ 0 t ⟨n, h⟩)
      else fullT X W (ix4 ⟨2 + 3 * (b : ℕ), ha⟩ 1 t ⟨(n : ℕ) - 11008, hk h⟩)) =
      prod X W ⟨(b : ℕ) * 2064 + (2062 + (t : ℕ)), hi⟩ n := by
  by_cases h : (n : ℕ) < 11008
  · refine (dif_pos h).trans (fullT_at X W _ 0 t _ _ n ?_ ?_)
    · dsimp only; omega
    · show (n : ℕ) = 0 * 11008 + (n : ℕ); omega
  · refine (dif_neg h).trans (fullT_at X W _ 1 t _ _ n ?_ ?_)
    · dsimp only; omega
    · show (n : ℕ) = 1 * 11008 + ((n : ℕ) - 11008); omega

theorem fullU_dif (X : S8944x4096.Idx → EReal) (W : S4096x22016.Idx → EReal) (b : Fin 128) (t : Fin 2) (n : Fin 22016)
    (ha : (b : ℕ) * 4 + (2 + (t : ℕ)) < 688) (hi : 8256 + ((b : ℕ) * 4 + (2 + (t : ℕ))) < 8944) (hk : ¬ (n : ℕ) < 11008 → (n : ℕ) - 11008 < 11008) :
    (if h : (n : ℕ) < 11008 then fullU X W (ix3 0 ⟨(b : ℕ) * 4 + (2 + (t : ℕ)), ha⟩ ⟨n, h⟩)
      else fullU X W (ix3 1 ⟨(b : ℕ) * 4 + (2 + (t : ℕ)), ha⟩ ⟨(n : ℕ) - 11008, hk h⟩)) =
      prod X W ⟨8256 + ((b : ℕ) * 4 + (2 + (t : ℕ))), hi⟩ n := by
  by_cases h : (n : ℕ) < 11008
  · refine (dif_pos h).trans (fullU_at X W 0 _ _ _ n ?_ ?_)
    · dsimp only
    · show (n : ℕ) = 0 * 11008 + (n : ℕ); omega
  · refine (dif_neg h).trans (fullU_at X W 1 _ _ _ n ?_ ?_)
    · dsimp only
    · show (n : ℕ) = 1 * 11008 + ((n : ℕ) - 11008); omega

theorem tail_p (c : Dev nD) (b : Fin 4) (t : Fin 2) (n : Fin 22016) :
    Pipeline.afterTail₀ cfgs (dats m) 0 (V0 m) [hostOps1] c main_v17 (ix3 b t n) =
      prdP m c b ⟨2062 + (t : ℕ), by omega⟩ n := by
  unfold Pipeline.afterTail₀
  simp only [List.flatten_cons, List.flatten_nil, List.append_nil]
  after_results
  rw [(dats m 0 c).withArrays_arrAt sharedIn0 _ (A_eq m c) 11, finalT]
  have hb := b.isLt
  have ht := t.isLt
  have hn := n.isLt
  have hr : 2062 + (t : ℕ) < 2064 := by omega
  have hi : (b : ℕ) * 2064 + (2062 + (t : ℕ)) < 8944 := by omega
  have e := prod_p m c b ⟨2062 + (t : ℕ), hr⟩ n ⟨(b : ℕ) * 2064 + (2062 + (t : ℕ)), hi⟩ (by dsimp only)
  pointwise
  refine Eq.trans ?_ e
  exact fullT_dif _ _ b t n (by omega) hi (fun _ => by omega)

theorem tail_s (c : Dev nD) (b : Fin 128) (t : Fin 2) (n : Fin 22016) :
    Pipeline.afterTail₀ cfgs (dats m) 0 (V0 m) [hostOps1] c main_v24 (ix3 b t n) =
      prdS m c b ⟨2 + (t : ℕ), by omega⟩ n := by
  unfold Pipeline.afterTail₀
  simp only [List.flatten_cons, List.flatten_nil, List.append_nil]
  after_results
  rw [(dats m 0 c).withArrays_arrAt sharedIn0 _ (A_eq m c) 12, finalU]
  have hb := b.isLt
  have ht := t.isLt
  have hn := n.isLt
  have hr : 2 + (t : ℕ) < 4 := by omega
  have hi : 8256 + ((b : ℕ) * 4 + (2 + (t : ℕ))) < 8944 := by omega
  have e := prod_s m c b ⟨2 + (t : ℕ), hr⟩ n ⟨8256 + ((b : ℕ) * 4 + (2 + (t : ℕ))), hi⟩ (by dsimp only)
  pointwise
  refine Eq.trans ?_ e
  exact fullU_dif _ _ b t n (by omega) hi (fun _ => by omega)

theorem tail_c (c : Dev nD) (k : Fin 4096) (n : Fin 39040) :
    Pipeline.afterTail₀ cfgs (dats m) 0 (V0 m) [hostOps1] c main_v25 (ix2 k n) = win m c (ix3 1 k n) := by
  unfold Pipeline.afterTail₀
  simp only [List.flatten_cons, List.flatten_nil, List.append_nil]
  after_results
  rw [(dats m 0 c).withArrays_arrAt sharedIn0 _ (A_eq m c) 13, finalC]
  pointwise

set_option maxHeartbeats 2000000 in
theorem algebraic : Cert.algebraic_Kernel10Ideal_Reference10Ideal := by
  pair_intro
  · run_from Cert.Kernel10Ideal.Gen.run_main m g
    · exact W_main_arg0 m (dats m) c
    · exact W_main_arg1 m (dats m) c
    · exact W_main_arg2 m (dats m) c
    · exact W_main_arg3 m (dats m) c
    · exact W_main_arg5 m (dats m) c
  · hlo_run
    · funext i
      have h1 : (i 1 : ℕ) < 2 := (i 1).isLt
      rw [eq_ix3 i]
      refine Eq.trans ?_ (tail_p m c (i 0) (i 1) (i 2)).symm
      unfold prdP
      have e : 2064 + ((i 1 : Fin 2) : ℕ) - 2 = 2062 + ((i 1 : Fin 2) : ℕ) := by omega
      pointwise
      simp only [(hagree c).2.2.1]
      rw [dif_neg (by omega)]
      simp only [e]
    · funext i
      have h1 : (i 1 : ℕ) < 2 := (i 1).isLt
      rw [eq_ix3 i]
      refine Eq.trans ?_ (tail_s m c (i 0) (i 1) (i 2)).symm
      unfold prdS
      have e : 4 + ((i 1 : Fin 2) : ℕ) - 2 = 2 + ((i 1 : Fin 2) : ℕ) := by omega
      pointwise
      simp only [(hagree c).2.1, (hagree c).2.2.1]
      rw [dif_neg (by omega)]
      simp only [e]
    · funext i
      rw [eq_ix2 i]
      refine Eq.trans ?_ (tail_c m c (i 0) (i 1)).symm
      pointwise

end Cert.FfnState
-- ==== Proof.FfnUp.lean ====
module

public import proofs.«01_k».proof.Defs
public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise
public import Idealize.ShloMosaic.Lib.Claim
public import Idealize.ShloMosaic.Lib.WritesUnit
public import Idealize.ShloMosaic.Lib.Pipeline.ReadBack
public import proofs.«01_k».proof.Proof.Common
public import proofs.«01_k».proof.Proof.Stores

@[expose] public section

set_option maxRecDepth 16384

noncomputable section

open Idealize.ShloMosaic Idealize.ShloMosaic.TcCoe Idealize.SL.Sem

namespace Cert.FfnUp

open Cert.Kernel11Ideal Cert.Kernel11Ideal.Gen

variable (m : (ℓ : Loc nD τ sig) → Buf (Elt Ideal) ℓ)

/-- the normalised prompt and sample rows, the up-projection of both layers, the kept rows, the convolution's rows and bias, and the input projection of both layers -/
abbrev xp (c : Dev nD) : S4x2064x4096.Idx → EReal := m ((c : Thread nD τ).loc main_arg0)
abbrev xs (c : Dev nD) : S128x4x4096.Idx → EReal := m ((c : Thread nD τ).loc main_arg1)
abbrev up (c : Dev nD) : S2x4096x22016.Idx → EReal := m ((c : Thread nD τ).loc main_arg2)
abbrev st (c : Dev nD) : S128x2x22016.Idx → EReal := m ((c : Thread nD τ).loc main_arg3)
abbrev fw (c : Dev nD) : S3x22016.Idx → EReal := m ((c : Thread nD τ).loc main_arg4)
abbrev fb (c : Dev nD) : S22016.Idx → EReal := m ((c : Thread nD τ).loc main_arg5)
abbrev win (c : Dev nD) : S2x4096x39040.Idx → EReal := m ((c : Thread nD τ).loc main_arg6)

theorem pay16 (x : Vec Ideal S688x4096 .bf16) (w : Vec Ideal S4096x256 .bf16) (r : Fin 688) (k : Fin 256) :
    k0_pay16 (F := Ideal) x w (ix3 0 r k) = ∑ l : Fin 4096, x (ix2 r l) * w (ix2 l k) := by
  pointwise [k0_pay16, k0_pay15]

theorem pay17 (x : Vec Ideal S688x4096 .bf16) (w : Vec Ideal S4096x256 .bf16) (r : Fin 688) (k : Fin 256) :
    k0_pay17 (F := Ideal) x w (ix3 0 r k) = ∑ l : Fin 4096, x (ix2 r l) * w (ix2 l k) := by
  pointwise [k0_pay17, k0_pay15]

theorem pay32 (x : Vec Ideal S688x4096 .bf16) (w : Vec Ideal S4096x256 .bf16) (r : Fin 688) (k : Fin 256) :
    k0_pay32 (F := Ideal) x w (ix3 0 r k) = ∑ l : Fin 4096, x (ix2 r l) * w (ix2 l k) := by
  pointwise [k0_pay32, k0_pay31]

theorem pay33 (x : Vec Ideal S688x4096 .bf16) (w : Vec Ideal S4096x256 .bf16) (r : Fin 688) (k : Fin 256) :
    k0_pay33 (F := Ideal) x w (ix3 0 r k) = ∑ l : Fin 4096, x (ix2 r l) * w (ix2 l k) := by
  pointwise [k0_pay33, k0_pay31]

theorem pay30 (v : Vec Ideal S1x8x256 .f32) (r : Fin 2) (k : Fin 256) :
    k0_pay30 (F := Ideal) v (ix4 0 0 r k) = v (ix3 0 ⟨6 + (r : ℕ), by omega⟩ k) := by
  pointwise [k0_pay30, k0_pay29]

theorem pay6 (v : Vec Ideal S1x8x256 .f32) (r : Fin 2) (k : Fin 256) :
    k0_pay6 (F := Ideal) v (ix4 0 0 r k) = v (ix3 0 ⟨6 + (r : ℕ), by omega⟩ k) := by
  pointwise [k0_pay6, k0_pay5]

theorem pay10 (v : Vec Ideal S1x8x256 .f32) (r : Fin 2) (k : Fin 256) :
    k0_pay10 (F := Ideal) v (ix4 0 0 r k) = v (ix3 0 ⟨6 + (r : ℕ), by omega⟩ k) := by
  pointwise [k0_pay10, k0_pay9]

theorem pay13 (v : Vec Ideal S1x8x256 .f32) (r : Fin 2) (k : Fin 256) :
    k0_pay13 (F := Ideal) v (ix4 0 0 r k) = v (ix3 0 ⟨6 + (r : ℕ), by omega⟩ k) := by
  pointwise [k0_pay13, k0_pay12]

theorem idx : ∀ t : Fin cfg0.N, win0_0.index t = ![t.val / 43, 0] ∧ win0_1.index t = ![0, t.val % 43]
    ∧ win0_2.index t = ![0, t.val % 43 + 43] ∧ win0_11.index t = ![t.val / 43, 0, 0, t.val % 43]
    ∧ (516 ≤ t.val → win0_12.index t = ![0, 0, t.val % 43]) :=
  (by decide +kernel : ∀ t : Fin grid0.N, _)

theorem blk_x (c : Dev nD) (t : Fin cfg0.N) (r : Fin 688) (k : Fin 4096) (i : Fin 8944) (hi : (i : ℕ) = t.val / 43 * 688 + r) :
    (show FVec Ideal S688x4096 .bf16 from iblk m c 0 t) (ix2 r k) = (V m c main_v4 : S8944x4096.Idx → EReal) (ix2 i k) := by
  blk_ext [iblk, idx t]

theorem blk_wl (c : Dev nD) (t : Fin cfg0.N) (l : Fin 4096) (k : Fin 256) (j : Fin 22016) (hj : (j : ℕ) = t.val % 43 * 256 + k) :
    (show FVec Ideal S4096x256 .bf16 from iblk m c 1 t) (ix2 l k) = (V m c main_v7 : S4096x22016.Idx → EReal) (ix2 l j) := by
  blk_ext [iblk, idx t]

theorem blk_wr (c : Dev nD) (t : Fin cfg0.N) (l : Fin 4096) (k : Fin 256) (j : Fin 22016) (hj : (j : ℕ) = 11008 + (t.val % 43 * 256 + k)) :
    (show FVec Ideal S4096x256 .bf16 from iblk m c 2 t) (ix2 l k) = (V m c main_v7 : S4096x22016.Idx → EReal) (ix2 l j) := by
  blk_ext [iblk, idx t]

/-- An element of the product of the packed rows with the up-projection. -/
def prod (X : S8944x4096.Idx → EReal) (W : S4096x22016.Idx → EReal) (i : Fin 8944) (j : Fin 22016) : EReal :=
  ∑ l : Fin 4096, X (ix2 i l) * W (ix2 l j)

theorem prod_l (c : Dev nD) (t : Fin cfg0.N) (r : Fin 688) (k : Fin 256) (i : Fin 8944) (j : Fin 22016)
    (hi : (i : ℕ) = t.val / 43 * 688 + r) (hj : (j : ℕ) = t.val % 43 * 256 + k) :
    ∑ l : Fin 4096, (show FVec Ideal S688x4096 .bf16 from iblk m c 0 t) (ix2 r l) * (show FVec Ideal S4096x256 .bf16 from iblk m c 1 t) (ix2 l k) =
      prod (V m c main_v4) (V m c main_v7) i j :=
  Fin.sum_fin_congr fun l => congrArg₂ (fun a b : EReal => a * b) (blk_x m c t r l i hi) (blk_wl m c t l k j hj)

theorem prod_r (c : Dev nD) (t : Fin cfg0.N) (r : Fin 688) (k : Fin 256) (i : Fin 8944) (j : Fin 22016)
    (hi : (i : ℕ) = t.val / 43 * 688 + r) (hj : (j : ℕ) = 11008 + (t.val % 43 * 256 + k)) :
    ∑ l : Fin 4096, (show FVec Ideal S688x4096 .bf16 from iblk m c 0 t) (ix2 r l) * (show FVec Ideal S4096x256 .bf16 from iblk m c 2 t) (ix2 l k) =
      prod (V m c main_v4) (V m c main_v7) i j :=
  Fin.sum_fin_congr fun l => congrArg₂ (fun a b : EReal => a * b) (blk_x m c t r l i hi) (blk_wr m c t l k j hj)

theorem offs : ∀ t : Fin cfg0.N, k0_off1 (grid0.coords t) = ![t.val % 43, 0, 0, 0] ∧ k0_off2 (grid0.coords t) = ![t.val % 43, 1, 0, 0] :=
  (by decide +kernel : ∀ t : Fin grid0.N, _)

theorem pay7 (v : Vec Ideal S1x8x256 .f32) (r : Fin 8) (k : Fin 256) : k0_pay7 (F := Ideal) v (ix4 0 0 r k) = v (ix3 0 r k) := by
  pointwise [k0_pay7, k0_pay5]

theorem pay4 (v : Vec Ideal S1x8x256 .f32) (r : Fin 8) (k : Fin 256) :
    k0_pay4 (F := Ideal) (k0_pay29 (F := Ideal) v) (ix4 0 0 r k) = v (ix3 0 r k) := by
  pointwise [k0_pay4, k0_pay29]

/-- The product at a row given by its number. -/
def prodN (X : S8944x4096.Idx → EReal) (W : S4096x22016.Idx → EReal) (i : ℕ) (j : Fin 22016) : EReal :=
  if h : i < 8944 then prod X W ⟨i, h⟩ j else 0

theorem prodN_eq (X : S8944x4096.Idx → EReal) (W : S4096x22016.Idx → EReal) (i : Fin 8944) (j : Fin 22016) (n : ℕ) (h : n = i) :
    prod X W i j = prodN X W n j := by
  subst h
  unfold prodN
  rw [dif_pos i.isLt]

/-- The kept rows after a grid point: of every column block the last eight rows of the product's tile computed last. -/
def Held (X : S8944x4096.Idx → EReal) (W : S4096x22016.Idx → EReal) (n : ℕ) (H : S43x2x8x256.Idx → EReal) : Prop :=
  ∀ (y : S43x2x8x256.Idx) (q : ℕ) (j : Fin 22016), (q = n / 43 ∧ (y 0 : ℕ) ≤ n % 43 ∨ q + 1 = n / 43 ∧ n % 43 < (y 0 : ℕ)) →
    (j : ℕ) = (y 1 : ℕ) * 11008 + ((y 0 : ℕ) * 256 + y 3) → H y = prodN X W (q * 688 + (680 + y 2)) j

theorem heldA (c : Dev nD) (t : Fin cfg0.N) (h0 : t.val % 559 = 0) (h1 : t.val < 516) :
    Held (V m c main_v4) (V m c main_v7) t.val (outsAt0 m c t.val t.isLt).2.2.2.2.2 := by
  intro y q j hq hj
  have hy0 : (y 0 : ℕ) < 43 := (y 0).isLt
  have hy1 : (y 1 : ℕ) < 2 := (y 1).isLt
  have hy2 : (y 2 : ℕ) < 8 := (y 2).isLt
  have hi : q * 688 + (680 + (y 2 : ℕ)) < 8944 := by omega
  rw [outsAt0_A m c t h0 h1 (by omega)]; frame_out
  by_cases hy : (y 1 : ℕ) = 1
  · refine (Stores.hit_of _ _ _ _ (ix4 0 0 (y 2) (y 3)) (offs t).2 ?_).trans ?_
    · intro a; fin_cases a <;> simp <;> omega
    refine (pay7 _ _ _).trans ?_
    refine (Stores.load _ _ _ _ (ix3 1 ⟨688 + (y 2 : ℕ), by omega⟩ (y 3)) ?_).trans ?_
    · intro a; fin_cases a <;> simp
    refine (Stores.miss _ _ _ _ 1 ?_).trans ?_
    · right; simp; omega
    refine (Stores.miss _ _ _ _ 1 ?_).trans ?_
    · right; simp; omega
    refine (Stores.hit _ _ _ _ (ix3 0 ⟨680 + (y 2 : ℕ), by omega⟩ (y 3)) ?_).trans ?_
    · intro a; fin_cases a <;> simp <;> omega
    refine (pay17 _ _ _ _).trans ?_
    refine (prod_r m c t _ _ ⟨q * 688 + (680 + (y 2 : ℕ)), hi⟩ j (by dsimp only; omega) (by omega)).trans (prodN_eq _ _ _ _ _ rfl)
  · refine (Stores.miss_of _ _ _ _ (offs t).2 1 ?_).trans ?_
    · left; simp; omega
    refine (Stores.hit_of _ _ _ _ (ix4 0 0 (y 2) (y 3)) (offs t).1 ?_).trans ?_
    · intro a; fin_cases a <;> simp <;> omega
    refine (pay4 _ _ _).trans ?_
    refine (Stores.load _ _ _ _ (ix3 0 ⟨688 + (y 2 : ℕ), by omega⟩ (y 3)) ?_).trans ?_
    · intro a; fin_cases a <;> simp
    refine (Stores.miss _ _ _ _ 1 ?_).trans ?_
    · right; simp; omega
    refine (Stores.miss _ _ _ _ 1 ?_).trans ?_
    · right; simp; omega
    refine (Stores.miss _ _ _ _ 0 ?_).trans ?_
    · left; simp
    refine (Stores.hit _ _ _ _ (ix3 0 ⟨680 + (y 2 : ℕ), by omega⟩ (y 3)) ?_).trans ?_
    · intro a; fin_cases a <;> simp <;> omega
    refine (pay16 _ _ _ _).trans ?_
    refine (prod_l m c t _ _ ⟨q * 688 + (680 + (y 2 : ℕ)), hi⟩ j (by dsimp only; omega) (by omega)).trans (prodN_eq _ _ _ _ _ rfl)

theorem heldB (c : Dev nD) (t : Fin cfg0.N) (h0 : ¬ t.val % 559 = 0) (h1 : t.val < 516)
    (prev : ∀ h, Held (V m c main_v4) (V m c main_v7) (t.val - 1) (outsAt0 m c (t.val - 1) h).2.2.2.2.2) :
    Held (V m c main_v4) (V m c main_v7) t.val (outsAt0 m c t.val t.isLt).2.2.2.2.2 := by
  intro y q j hq hj
  have hy0 : (y 0 : ℕ) < 43 := (y 0).isLt
  have hy1 : (y 1 : ℕ) < 2 := (y 1).isLt
  have hy2 : (y 2 : ℕ) < 8 := (y 2).isLt
  have hi : q * 688 + (680 + (y 2 : ℕ)) < 8944 := by omega
  rw [outsAt0_B m c t h0 h1 (by omega)]; frame_out
  by_cases hj0 : (y 0 : ℕ) = t.val % 43
  · by_cases hy : (y 1 : ℕ) = 1
    · refine (View.read_writes_cons_unit_of_mem _ _ _ _ _ _ (ix4 0 0 (y 2) (y 3)) (offs t).2 ?_).trans ?_
      · intro a; fin_cases a <;> simp <;> omega
      refine (pay7 _ _ _).trans ?_
      refine (Stores.load _ _ _ _ (ix3 1 ⟨688 + (y 2 : ℕ), by omega⟩ (y 3)) ?_).trans ?_
      · intro a; fin_cases a <;> simp
      refine (Stores.miss _ _ _ _ 1 ?_).trans ?_
      · right; simp; omega
      refine (Stores.miss _ _ _ _ 1 ?_).trans ?_
      · right; simp; omega
      refine (Stores.hit _ _ _ _ (ix3 0 ⟨680 + (y 2 : ℕ), by omega⟩ (y 3)) ?_).trans ?_
      · intro a; fin_cases a <;> simp <;> omega
      refine (pay17 _ _ _ _).trans ?_
      refine (prod_r m c t _ _ ⟨q * 688 + (680 + (y 2 : ℕ)), hi⟩ j (by dsimp only; omega) (by omega)).trans (prodN_eq _ _ _ _ _ rfl)
    · refine (View.read_writes_cons_unit_of_not_mem _ _ _ _ _ _ (offs t).2 1 ?_).trans ?_
      · left; simp; omega
      refine (View.read_writes_cons_unit_of_mem _ _ _ _ _ _ (ix4 0 0 (y 2) (y 3)) (offs t).1 ?_).trans ?_
      · intro a; fin_cases a <;> simp <;> omega
      refine (pay4 _ _ _).trans ?_
      refine (Stores.load _ _ _ _ (ix3 0 ⟨688 + (y 2 : ℕ), by omega⟩ (y 3)) ?_).trans ?_
      · intro a; fin_cases a <;> simp
      refine (Stores.miss _ _ _ _ 1 ?_).trans ?_
      · right; simp; omega
      refine (Stores.miss _ _ _ _ 1 ?_).trans ?_
      · right; simp; omega
      refine (Stores.miss _ _ _ _ 0 ?_).trans ?_
      · left; simp
      refine (Stores.hit _ _ _ _ (ix3 0 ⟨680 + (y 2 : ℕ), by omega⟩ (y 3)) ?_).trans ?_
      · intro a; fin_cases a <;> simp <;> omega
      refine (pay16 _ _ _ _).trans ?_
      refine (prod_l m c t _ _ ⟨q * 688 + (680 + (y 2 : ℕ)), hi⟩ j (by dsimp only; omega) (by omega)).trans (prodN_eq _ _ _ _ _ rfl)
  · refine (View.read_writes_cons_unit_of_not_mem _ _ _ _ _ _ (offs t).2 0 ?_).trans ?_
    · simp; omega
    refine (View.read_writes_cons_unit_of_not_mem _ _ _ _ _ _ (offs t).1 0 ?_).trans ?_
    · simp; omega
    refine (congrFun (read_unread_whole cc0_scratch1 _ _) y).trans ?_
    exact prev _ y q j (by omega) hj

theorem held (c : Dev nD) : ∀ (n : ℕ) (hn : n < cfg0.N), n < 516 →
    Held (V m c main_v4) (V m c main_v7) n (outsAt0 m c n hn).2.2.2.2.2
  | 0, hn, h => heldA m c ⟨0, hn⟩ rfl h
  | n + 1, hn, h => heldB m c ⟨n + 1, hn⟩ (by dsimp only; omega) h fun h' => held c n h' (by omega)

/-- The kernel's test on the tile's number, whether a tile goes on with a sequence. -/
def goesOn (a : BitVec 32) : BitVec 1 :=
  Scalar.cmpi .ne (Scalar.select (Scalar.andi (Scalar.xori (Scalar.cmpi .slt (Scalar.remsi a 3#32) 0#32) 0#1)
    (Scalar.cmpi .ne (Scalar.remsi a 3#32) 0#32)) (Scalar.addi (Scalar.remsi a 3#32) 3#32) (Scalar.remsi a 3#32)) 0#32

theorem goesOn_t : ∀ t : Fin cfg0.N, goesOn (BitVec.ofNat 32 (grid0.coords t 0).val) = if t.val / 43 % 3 = 0 then 0#1 else 1#1 :=
  (by decide +kernel : ∀ t : Fin grid0.N, _)

theorem lowR (t : Fin cfg0.N) (v : Vec Ideal S1x1x8x256 .f32) (r : Fin 8) (k : Fin 256) :
    k0_pay20 (F := Ideal) (goesOn (BitVec.ofNat 32 (grid0.coords t 0).val)) v (ix3 0 r k) =
      if t.val / 43 % 3 = 0 then 0 else v (ix4 0 0 r k) := by
  rw [goesOn_t]
  by_cases h : t.val / 43 % 3 = 0
  · rw [if_pos h, if_pos h]
    pointwise [k0_pay20]
  · rw [if_neg h, if_neg h]
    pointwise [k0_pay20]

theorem lowL (t : Fin cfg0.N) (v : Vec Ideal S1x1x8x256 .f32) (r : Fin 8) (k : Fin 256) :
    k0_pay19 (F := Ideal) (k0_pay18 (F := Ideal) (BitVec.ofNat 32 (grid0.coords t 0).val) v) (ix3 0 r k) =
      if t.val / 43 % 3 = 0 then 0 else v (ix4 0 0 r k) := by
  refine Eq.trans (b := k0_pay20 (F := Ideal) (goesOn (BitVec.ofNat 32 (grid0.coords t 0).val)) v (ix3 0 r k)) rfl (lowR t v r k)

/-- The convolution of three rows. -/
def cv (x0 x1 x2 w2 w1 w0 b : EReal) : EReal := x0 * w2 + x1 * w1 + x2 * w0 + b

/-- The gate as the kernel computes it. -/
def gate (a g : EReal) : EReal :=
  (Ideal.ofBits .f32 1056964608#32 * a + Ideal.ofBits .f32 1056964608#32 * a * Ideal.tanh (Ideal.ofBits .f32 1056964608#32 * a)) * g

theorem cv_congr {x0 x1 x2 w2 w1 w0 b x0' x1' x2' w2' w1' w0' b' : EReal} (h1 : x0 = x0') (h2 : x1 = x1') (h3 : x2 = x2') (h4 : w2 = w2')
    (h5 : w1 = w1') (h6 : w0 = w0') (h7 : b = b') : cv x0 x1 x2 w2 w1 w0 b = cv x0' x1' x2' w2' w1' w0' b' := by
  rw [h1, h2, h3, h4, h5, h6, h7]

theorem pay28 (v7 v6 g8 g7 g6 v8 : Vec Ideal S1x688x256 .f32) (wl wr : Vec Ideal S3x256 .f32) (bl br : Vec Ideal S1x256 .f32) (r : Fin 688) (k : Fin 256) :
    k0_pay28 (F := Ideal) (k0_pay21 (F := Ideal) v7) (k0_pay22 (F := Ideal) v6) (k0_pay23 (F := Ideal) g8) (k0_pay24 (F := Ideal) g7) (k0_pay25 (F := Ideal) g6)
      wl (k0_pay26 (F := Ideal) bl) (k0_pay27 (F := Ideal) v8 wl) wr br (ix2 r k) =
    gate (cv (v8 (ix3 0 r k)) (v7 (ix3 0 r k)) (v6 (ix3 0 r k)) (wl (ix2 2 k)) (wl (ix2 1 k)) (wl (ix2 0 k)) (bl (ix2 0 k)))
      (cv (g8 (ix3 0 r k)) (g7 (ix3 0 r k)) (g6 (ix3 0 r k)) (wr (ix2 2 k)) (wr (ix2 1 k)) (wr (ix2 0 k)) (br (ix2 0 k))) := by
  unfold gate cv
  pointwise [k0_pay28, k0_pay21, k0_pay22, k0_pay23, k0_pay24, k0_pay25, k0_pay26, k0_pay27]

theorem pay28' (v7 v6 g8 g7 g6 v8 : Vec Ideal S1x688x256 .f32) (wl wr : Vec Ideal S3x256 .f32) (bl br : Vec Ideal S1x256 .f32) (y : S688x256.Idx) :
    k0_pay28 (F := Ideal) (k0_pay21 (F := Ideal) v7) (k0_pay22 (F := Ideal) v6) (k0_pay23 (F := Ideal) g8) (k0_pay24 (F := Ideal) g7) (k0_pay25 (F := Ideal) g6)
      wl (k0_pay26 (F := Ideal) bl) (k0_pay27 (F := Ideal) v8 wl) wr br y =
    gate (cv (v8 (ix3 0 (y 0) (y 1))) (v7 (ix3 0 (y 0) (y 1))) (v6 (ix3 0 (y 0) (y 1))) (wl (ix2 2 (y 1))) (wl (ix2 1 (y 1))) (wl (ix2 0 (y 1))) (bl (ix2 0 (y 1))))
      (cv (g8 (ix3 0 (y 0) (y 1))) (g7 (ix3 0 (y 0) (y 1))) (g6 (ix3 0 (y 0) (y 1))) (wr (ix2 2 (y 1))) (wr (ix2 1 (y 1))) (wr (ix2 0 (y 1))) (br (ix2 0 (y 1)))) :=
  (congrArg _ (eq_ix2 y)).trans (pay28 _ _ _ _ _ _ _ _ _ _ (y 0) (y 1))

theorem tapL {sig : RefSig} {κ : Kind} {sp : Space} (v : View sig κ sp S2x696x256 .f32) (h1 h0 : S1x8x256.Idx → EReal) (p1 p0 : S1x688x256.Idx → EReal)
    (L : List (View.Piece (Elt Ideal) S2x696x256 .f32)) (i1 : ∀ a, (![1, 0, 0] : Fin 3 → ℕ) a + (![1, 8, 256] : Fin 3 → ℕ) a ≤ S2x696x256.size a)
    (i2 : ∀ a, (![0, 0, 0] : Fin 3 → ℕ) a + (![1, 8, 256] : Fin 3 → ℕ) a ≤ S2x696x256.size a)
    (i3 : ∀ a, (![1, 8, 0] : Fin 3 → ℕ) a + (![1, 688, 256] : Fin 3 → ℕ) a ≤ S2x696x256.size a)
    (i4 : ∀ a, (![0, 8, 0] : Fin 3 → ℕ) a + (![1, 688, 256] : Fin 3 → ℕ) a ≤ S2x696x256.size a)
    (s : ℕ) (hs : s ≤ 8) (i5 : ∀ a, (![0, s, 0] : Fin 3 → ℕ) a + (![1, 688, 256] : Fin 3 → ℕ) a ≤ S2x696x256.size a) (r : Fin 688) (k : Fin 256) :
    v.readCov ((⟨Rect.unit (s := S2x696x256) ![1, 0, 0] ![1, 8, 256] i1, h1⟩ : View.Piece (Elt Ideal) S2x696x256 .f32) ::
      (⟨Rect.unit (s := S2x696x256) ![0, 0, 0] ![1, 8, 256] i2, h0⟩ : View.Piece (Elt Ideal) S2x696x256 .f32) ::
      (⟨Rect.unit (s := S2x696x256) ![1, 8, 0] ![1, 688, 256] i3, p1⟩ : View.Piece (Elt Ideal) S2x696x256 .f32) ::
      (⟨Rect.unit (s := S2x696x256) ![0, 8, 0] ![1, 688, 256] i4, p0⟩ : View.Piece (Elt Ideal) S2x696x256 .f32) :: L)
      (Rect.unit (s := S2x696x256) ![0, s, 0] ![1, 688, 256] i5).toLoadRect (ix3 0 r k) =
    if h : s + (r : ℕ) < 8 then h0 (ix3 0 ⟨s + (r : ℕ), h⟩ k) else p0 (ix3 0 ⟨s + (r : ℕ) - 8, by omega⟩ k) := by
  have hr := r.isLt
  refine (Stores.load _ _ _ _ (ix3 0 ⟨s + (r : ℕ), by omega⟩ k) ?_).trans ?_
  · intro a; fin_cases a <;> simp
  refine (Stores.miss _ _ _ _ 0 ?_).trans ?_
  · left; simp
  by_cases h : s + (r : ℕ) < 8
  · rw [dif_pos h]
    refine (Stores.hit _ _ _ _ (ix3 0 ⟨s + (r : ℕ), h⟩ k) ?_).trans ?_
    · intro a; fin_cases a <;> simp
    rfl
  · rw [dif_neg h]
    refine (Stores.miss _ _ _ _ 1 ?_).trans ?_
    · right; simp; omega
    refine (Stores.miss _ _ _ _ 0 ?_).trans ?_
    · left; simp
    refine (Stores.hit _ _ _ _ (ix3 0 ⟨s + (r : ℕ) - 8, by omega⟩ k) ?_).trans ?_
    · intro a; fin_cases a <;> simp <;> omega
    rfl

theorem tapR {sig : RefSig} {κ : Kind} {sp : Space} (v : View sig κ sp S2x696x256 .f32) (h1 h0 : S1x8x256.Idx → EReal) (p1 p0 : S1x688x256.Idx → EReal)
    (L : List (View.Piece (Elt Ideal) S2x696x256 .f32)) (i1 : ∀ a, (![1, 0, 0] : Fin 3 → ℕ) a + (![1, 8, 256] : Fin 3 → ℕ) a ≤ S2x696x256.size a)
    (i2 : ∀ a, (![0, 0, 0] : Fin 3 → ℕ) a + (![1, 8, 256] : Fin 3 → ℕ) a ≤ S2x696x256.size a)
    (i3 : ∀ a, (![1, 8, 0] : Fin 3 → ℕ) a + (![1, 688, 256] : Fin 3 → ℕ) a ≤ S2x696x256.size a)
    (i4 : ∀ a, (![0, 8, 0] : Fin 3 → ℕ) a + (![1, 688, 256] : Fin 3 → ℕ) a ≤ S2x696x256.size a)
    (s : ℕ) (hs : s ≤ 8) (i5 : ∀ a, (![1, s, 0] : Fin 3 → ℕ) a + (![1, 688, 256] : Fin 3 → ℕ) a ≤ S2x696x256.size a) (r : Fin 688) (k : Fin 256) :
    v.readCov ((⟨Rect.unit (s := S2x696x256) ![1, 0, 0] ![1, 8, 256] i1, h1⟩ : View.Piece (Elt Ideal) S2x696x256 .f32) ::
      (⟨Rect.unit (s := S2x696x256) ![0, 0, 0] ![1, 8, 256] i2, h0⟩ : View.Piece (Elt Ideal) S2x696x256 .f32) ::
      (⟨Rect.unit (s := S2x696x256) ![1, 8, 0] ![1, 688, 256] i3, p1⟩ : View.Piece (Elt Ideal) S2x696x256 .f32) ::
      (⟨Rect.unit (s := S2x696x256) ![0, 8, 0] ![1, 688, 256] i4, p0⟩ : View.Piece (Elt Ideal) S2x696x256 .f32) :: L)
      (Rect.unit (s := S2x696x256) ![1, s, 0] ![1, 688, 256] i5).toLoadRect (ix3 0 r k) =
    if h : s + (r : ℕ) < 8 then h1 (ix3 0 ⟨s + (r : ℕ), h⟩ k) else p1 (ix3 0 ⟨s + (r : ℕ) - 8, by omega⟩ k) := by
  have hr := r.isLt
  refine (Stores.load _ _ _ _ (ix3 1 ⟨s + (r : ℕ), by omega⟩ k) ?_).trans ?_
  · intro a; fin_cases a <;> simp
  by_cases h : s + (r : ℕ) < 8
  · rw [dif_pos h]
    refine (Stores.hit _ _ _ _ (ix3 0 ⟨s + (r : ℕ), h⟩ k) ?_).trans ?_
    · intro a; fin_cases a <;> simp
    rfl
  · rw [dif_neg h]
    refine (Stores.miss _ _ _ _ 1 ?_).trans ?_
    · right; simp; omega
    refine (Stores.miss _ _ _ _ 1 ?_).trans ?_
    · right; simp; omega
    refine (Stores.hit _ _ _ _ (ix3 0 ⟨s + (r : ℕ) - 8, by omega⟩ k) ?_).trans ?_
    · intro a; fin_cases a <;> simp <;> omega
    rfl

theorem idxH : ∀ t : Fin cfg0.N, (516 ≤ t.val → win0_3.index t = ![0, t.val % 43] ∧ win0_4.index t = ![0, t.val % 43 + 43])
    ∧ win0_5.index t = ![0, t.val % 43] ∧ win0_6.index t = ![0, t.val % 43 + 43] ∧ win0_7.index t = ![0, t.val % 43]
    ∧ win0_8.index t = ![0, t.val % 43 + 43] ∧ win0_10.index t = ![t.val / 43, t.val % 43] :=
  (by decide +kernel : ∀ t : Fin grid0.N, _)

theorem blk_cl (c : Dev nD) (t : Fin cfg0.N) (r : Fin 3) (k : Fin 256) (j : Fin 22016) (hj : (j : ℕ) = t.val % 43 * 256 + k) :
    (show FVec Ideal S3x256 .f32 from iblk m c 5 t) (ix2 r k) = (V m c main_arg4 : S3x22016.Idx → EReal) (ix2 r j) := by
  blk_ext [iblk, idxH t]

theorem blk_cr (c : Dev nD) (t : Fin cfg0.N) (r : Fin 3) (k : Fin 256) (j : Fin 22016) (hj : (j : ℕ) = 11008 + (t.val % 43 * 256 + k)) :
    (show FVec Ideal S3x256 .f32 from iblk m c 6 t) (ix2 r k) = (V m c main_arg4 : S3x22016.Idx → EReal) (ix2 r j) := by
  blk_ext [iblk, idxH t]

theorem blk_bl (c : Dev nD) (t : Fin cfg0.N) (r : Fin 1) (k : Fin 256) (j : Fin 22016) (hj : (j : ℕ) = t.val % 43 * 256 + k) :
    (show FVec Ideal S1x256 .f32 from iblk m c 7 t) (ix2 r k) = (V m c main_v10 : S1x22016.Idx → EReal) (ix2 r j) := by
  blk_ext [iblk, idxH t]

theorem blk_br (c : Dev nD) (t : Fin cfg0.N) (r : Fin 1) (k : Fin 256) (j : Fin 22016) (hj : (j : ℕ) = 11008 + (t.val % 43 * 256 + k)) :
    (show FVec Ideal S1x256 .f32 from iblk m c 8 t) (ix2 r k) = (V m c main_v10 : S1x22016.Idx → EReal) (ix2 r j) := by
  blk_ext [iblk, idxH t]

theorem blk_sl (c : Dev nD) (t : Fin cfg0.N) (h : 516 ≤ t.val) (r : Fin 696) (k : Fin 256) (j : Fin 22016) (hj : (j : ℕ) = t.val % 43 * 256 + k) :
    (show FVec Ideal S696x256 .f32 from iblk m c 3 t) (ix2 r k) = (V m c main_v9 : S696x22016.Idx → EReal) (ix2 r j) := by
  have ix := (idxH t).1 h
  blk_ext [iblk, ix]

theorem blk_sr (c : Dev nD) (t : Fin cfg0.N) (h : 516 ≤ t.val) (r : Fin 696) (k : Fin 256) (j : Fin 22016) (hj : (j : ℕ) = 11008 + (t.val % 43 * 256 + k)) :
    (show FVec Ideal S696x256 .f32 from iblk m c 4 t) (ix2 r k) = (V m c main_v9 : S696x22016.Idx → EReal) (ix2 r j) := by
  have ix := (idxH t).1 h
  blk_ext [iblk, ix]

/-- A kept row given by its number. -/
def stN (S : S696x22016.Idx → EReal) (r : ℕ) (j : Fin 22016) : EReal := if h : r < 696 then S (ix2 ⟨r, h⟩ j) else 0

/-- The product `d` rows above a packed row, inside the row's own sequence: above its first row zero, or for the sample the kept row. -/
def look (X : S8944x4096.Idx → EReal) (W : S4096x22016.Idx → EReal) (S : S696x22016.Idx → EReal) (d i : ℕ) (j : Fin 22016) : EReal :=
  if i < 8256 then (if d ≤ i % 2064 then prodN X W (i - d) j else 0)
  else if d ≤ (i - 8256) % 4 then prodN X W (i - d) j else stN S (i - 8256 + 2 - d) j

theorem rowsL (c : Dev nD) (t : Fin cfg0.N) (h1 : t.val < 516) (S : S696x22016.Idx → EReal) (s : ℕ) (hs : s ≤ 8) (hs' : 6 ≤ s) (r : Fin 688) (k : Fin 256) (j : Fin 22016)
    (hj : (j : ℕ) = t.val % 43 * 256 + k) (v : Vec Ideal S1x1x8x256 .f32)
    (hv : t.val / 43 % 3 ≠ 0 → ∀ r' : Fin 8, v (ix4 0 0 r' k) = prodN (V m c main_v4) (V m c main_v7) ((t.val / 43 - 1) * 688 + (680 + r')) j)
    (hb : s + (r : ℕ) - 8 < 688) :
    (if h : s + (r : ℕ) < 8 then k0_pay19 (F := Ideal) (k0_pay18 (F := Ideal) (BitVec.ofNat 32 (grid0.coords t 0).val) v) (ix3 0 ⟨s + (r : ℕ), h⟩ k)
      else k0_pay16 (F := Ideal) (iblk m c 0 t) (iblk m c 1 t) (ix3 0 ⟨s + (r : ℕ) - 8, hb⟩ k)) =
    look (V m c main_v4) (V m c main_v7) S (8 - s) (t.val / 43 * 688 + r) j := by
  have hr := r.isLt
  unfold look
  rw [if_pos (show t.val / 43 * 688 + (r : ℕ) < 8256 by omega)]
  by_cases h : s + (r : ℕ) < 8
  · rw [dif_pos h, lowL]
    by_cases h3 : t.val / 43 % 3 = 0
    · rw [if_pos h3, if_neg (by omega)]
    · rw [if_neg h3, if_pos (by omega), hv h3]
      exact congrArg (fun n => prodN (V m c main_v4) (V m c main_v7) n j) (by dsimp only; omega)
  · rw [dif_neg h, if_pos (by omega)]
    refine (pay16 _ _ _ _).trans ?_
    exact (prod_l m c t _ _ ⟨t.val / 43 * 688 + (s + (r : ℕ) - 8), by omega⟩ j rfl hj).trans (prodN_eq _ _ _ _ _ (by dsimp only; omega))

theorem rowsR (c : Dev nD) (t : Fin cfg0.N) (h1 : t.val < 516) (S : S696x22016.Idx → EReal) (s : ℕ) (hs : s ≤ 8) (hs' : 6 ≤ s) (r : Fin 688) (k : Fin 256) (j : Fin 22016)
    (hj : (j : ℕ) = 11008 + (t.val % 43 * 256 + k)) (v : Vec Ideal S1x1x8x256 .f32)
    (hv : t.val / 43 % 3 ≠ 0 → ∀ r' : Fin 8, v (ix4 0 0 r' k) = prodN (V m c main_v4) (V m c main_v7) ((t.val / 43 - 1) * 688 + (680 + r')) j)
    (hb : s + (r : ℕ) - 8 < 688) :
    (if h : s + (r : ℕ) < 8 then k0_pay20 (F := Ideal) (goesOn (BitVec.ofNat 32 (grid0.coords t 0).val)) v (ix3 0 ⟨s + (r : ℕ), h⟩ k)
      else k0_pay17 (F := Ideal) (iblk m c 0 t) (iblk m c 2 t) (ix3 0 ⟨s + (r : ℕ) - 8, hb⟩ k)) =
    look (V m c main_v4) (V m c main_v7) S (8 - s) (t.val / 43 * 688 + r) j := by
  have hr := r.isLt
  unfold look
  rw [if_pos (show t.val / 43 * 688 + (r : ℕ) < 8256 by omega)]
  by_cases h : s + (r : ℕ) < 8
  · rw [dif_pos h, lowR]
    by_cases h3 : t.val / 43 % 3 = 0
    · rw [if_pos h3, if_neg (by omega)]
    · rw [if_neg h3, if_pos (by omega), hv h3]
      exact congrArg (fun n => prodN (V m c main_v4) (V m c main_v7) n j) (by dsimp only; omega)
  · rw [dif_neg h, if_pos (by omega)]
    refine (pay17 _ _ _ _).trans ?_
    exact (prod_r m c t _ _ ⟨t.val / 43 * 688 + (s + (r : ℕ) - 8), by omega⟩ j rfl hj).trans (prodN_eq _ _ _ _ _ (by dsimp only; omega))

/-- The convolution of the product at a packed row, and the gated element of the two halves. -/
def cvAt (X : S8944x4096.Idx → EReal) (W : S4096x22016.Idx → EReal) (S : S696x22016.Idx → EReal) (C : S3x22016.Idx → EReal) (B : S1x22016.Idx → EReal)
    (i : ℕ) (j : Fin 22016) : EReal :=
  cv (look X W S 0 i j) (look X W S 1 i j) (look X W S 2 i j) (C (ix2 2 j)) (C (ix2 1 j)) (C (ix2 0 j)) (B (ix2 0 j))

def hAt (X : S8944x4096.Idx → EReal) (W : S4096x22016.Idx → EReal) (S : S696x22016.Idx → EReal) (C : S3x22016.Idx → EReal) (B : S1x22016.Idx → EReal)
    (i : ℕ) (n : Fin 11008) : EReal :=
  gate (cvAt X W S C B i ⟨n, n.isLt.trans (by decide)⟩) (cvAt X W S C B i ⟨11008 + (n : ℕ), by have := n.isLt; omega⟩)

theorem prevRows (c : Dev nD) (t : Fin cfg0.N) (h0 : ¬ t.val % 559 = 0) (h1 : t.val < 516) (h3 : t.val / 43 % 3 ≠ 0) (e : Fin 2) (r' : Fin 8) (k : Fin 256) (j : Fin 22016) (e' : ℕ) (he : (e : ℕ) * 11008 = e')
    (hj : (j : ℕ) = e' + (t.val % 43 * 256 + k)) (h : t.val - 1 < cfg0.N) :
    (outsAt0 m c (t.val - 1) h).2.2.2.2.2 (ix4 ⟨t.val % 43, Nat.mod_lt _ (by decide)⟩ e r' k) =
      prodN (V m c main_v4) (V m c main_v7) ((t.val / 43 - 1) * 688 + (680 + r')) j := by
  have hq : (t.val / 43 - 1 = (t.val - 1) / 43 ∧ t.val % 43 ≤ (t.val - 1) % 43) ∨ (t.val / 43 - 1 + 1 = (t.val - 1) / 43 ∧ (t.val - 1) % 43 < t.val % 43) := by omega
  exact held m c (t.val - 1) h (by omega) (ix4 ⟨t.val % 43, Nat.mod_lt _ (by decide)⟩ e r' k) (t.val / 43 - 1) j hq (by rw [← he] at hj; exact hj)

theorem hA (c : Dev nD) (t : Fin cfg0.N) (h0 : t.val % 559 = 0) (h1 : t.val < 516) (y : S688x256.Idx) (n : Fin 11008)
    (hn : (n : ℕ) = t.val % 43 * 256 + y 1) :
    (outsAt0 m c t.val t.isLt).1 y = hAt (V m c main_v4) (V m c main_v7) (V m c main_v9) (V m c main_arg4) (V m c main_v10) (t.val / 43 * 688 + y 0) n := by
  have hy0 : (y 0 : ℕ) < 688 := (y 0).isLt
  have hn2 : 11008 + (n : ℕ) = 11008 + (t.val % 43 * 256 + y 1) := congrArg (11008 + ·) hn
  rw [outsAt0_A m c t h0 h1 (by omega)]; frame_out
  refine (pay28' _ _ _ _ _ _ _ _ _ _ y).trans ?_
  unfold hAt cvAt
  refine congrArg₂ gate (cv_congr ?_ ?_ ?_ (blk_cl m c t _ _ _ hn) (blk_cl m c t _ _ _ hn) (blk_cl m c t _ _ _ hn) (blk_bl m c t _ _ _ hn))
    (cv_congr ?_ ?_ ?_ (blk_cr m c t _ _ _ hn2) (blk_cr m c t _ _ _ hn2) (blk_cr m c t _ _ _ hn2) (blk_br m c t _ _ _ hn2))
  · refine (tapL _ _ _ _ _ _ _ _ _ _ 8 (by decide) _ (y 0) (y 1)).trans ?_
    refine (rowsL m c t h1 _ 8 (by decide) (by decide) (y 0) (y 1) _ hn _ (fun h3 r' => ?_) (by omega))
    exact absurd h3 (by omega)
  · refine (tapL _ _ _ _ _ _ _ _ _ _ 7 (by decide) _ (y 0) (y 1)).trans ?_
    refine (rowsL m c t h1 _ 7 (by decide) (by decide) (y 0) (y 1) _ hn _ (fun h3 r' => ?_) (by omega))
    exact absurd h3 (by omega)
  · refine (tapL _ _ _ _ _ _ _ _ _ _ 6 (by decide) _ (y 0) (y 1)).trans ?_
    refine (rowsL m c t h1 _ 6 (by decide) (by decide) (y 0) (y 1) _ hn _ (fun h3 r' => ?_) (by omega))
    exact absurd h3 (by omega)
  · refine (tapR _ _ _ _ _ _ _ _ _ _ 8 (by decide) _ (y 0) (y 1)).trans ?_
    refine (rowsR m c t h1 _ 8 (by decide) (by decide) (y 0) (y 1) _ hn2 _ (fun h3 r' => ?_) (by omega))
    exact absurd h3 (by omega)
  · refine (tapR _ _ _ _ _ _ _ _ _ _ 7 (by decide) _ (y 0) (y 1)).trans ?_
    refine (rowsR m c t h1 _ 7 (by decide) (by decide) (y 0) (y 1) _ hn2 _ (fun h3 r' => ?_) (by omega))
    exact absurd h3 (by omega)
  · refine (tapR _ _ _ _ _ _ _ _ _ _ 6 (by decide) _ (y 0) (y 1)).trans ?_
    refine (rowsR m c t h1 _ 6 (by decide) (by decide) (y 0) (y 1) _ hn2 _ (fun h3 r' => ?_) (by omega))
    exact absurd h3 (by omega)

theorem hB (c : Dev nD) (t : Fin cfg0.N) (h0 : ¬ t.val % 559 = 0) (h1 : t.val < 516) (y : S688x256.Idx) (n : Fin 11008)
    (hn : (n : ℕ) = t.val % 43 * 256 + y 1) :
    (outsAt0 m c t.val t.isLt).1 y = hAt (V m c main_v4) (V m c main_v7) (V m c main_v9) (V m c main_arg4) (V m c main_v10) (t.val / 43 * 688 + y 0) n := by
  have hy0 : (y 0 : ℕ) < 688 := (y 0).isLt
  have hn2 : 11008 + (n : ℕ) = 11008 + (t.val % 43 * 256 + y 1) := congrArg (11008 + ·) hn
  rw [outsAt0_B m c t h0 h1 (by omega)]; frame_out
  have hl := fun (r' : Fin 8) (h3 : t.val / 43 % 3 ≠ 0) (h : t.val - 1 < cfg0.N) => prevRows m c t h0 h1 h3 0 r' (y 1) ⟨n, n.isLt.trans (by decide)⟩
    0 (Nat.zero_mul _) (hn.trans (Nat.zero_add _).symm) h
  have hr := fun (r' : Fin 8) (h3 : t.val / 43 % 3 ≠ 0) (h : t.val - 1 < cfg0.N) => prevRows m c t h0 h1 h3 1 r' (y 1) ⟨11008 + (n : ℕ), by have := n.isLt; omega⟩
    11008 (Nat.one_mul _) hn2 h
  refine (pay28' _ _ _ _ _ _ _ _ _ _ y).trans ?_
  unfold hAt cvAt
  refine congrArg₂ gate (cv_congr ?_ ?_ ?_ (blk_cl m c t _ _ _ hn) (blk_cl m c t _ _ _ hn) (blk_cl m c t _ _ _ hn) (blk_bl m c t _ _ _ hn))
    (cv_congr ?_ ?_ ?_ (blk_cr m c t _ _ _ hn2) (blk_cr m c t _ _ _ hn2) (blk_cr m c t _ _ _ hn2) (blk_br m c t _ _ _ hn2))
  · refine (tapL _ _ _ _ _ _ _ _ _ _ 8 (by decide) _ (y 0) (y 1)).trans ?_
    refine (rowsL m c t h1 _ 8 (by decide) (by decide) (y 0) (y 1) _ hn _ (fun h3 r' => ?_) (by omega))
    refine (Stores.ld_of _ _ _ (ix4 ⟨t.val % 43, Nat.mod_lt _ (by decide)⟩ 0 r' (y 1)) (offs t).1 ?_).trans ?_
    · intro a; fin_cases a <;> simp
    exact (congrFun (read_unread_whole cc0_scratch1 _ _) _).trans (hl r' h3 _)
  · refine (tapL _ _ _ _ _ _ _ _ _ _ 7 (by decide) _ (y 0) (y 1)).trans ?_
    refine (rowsL m c t h1 _ 7 (by decide) (by decide) (y 0) (y 1) _ hn _ (fun h3 r' => ?_) (by omega))
    refine (Stores.ld_of _ _ _ (ix4 ⟨t.val % 43, Nat.mod_lt _ (by decide)⟩ 0 r' (y 1)) (offs t).1 ?_).trans ?_
    · intro a; fin_cases a <;> simp
    exact (congrFun (read_unread_whole cc0_scratch1 _ _) _).trans (hl r' h3 _)
  · refine (tapL _ _ _ _ _ _ _ _ _ _ 6 (by decide) _ (y 0) (y 1)).trans ?_
    refine (rowsL m c t h1 _ 6 (by decide) (by decide) (y 0) (y 1) _ hn _ (fun h3 r' => ?_) (by omega))
    refine (Stores.ld_of _ _ _ (ix4 ⟨t.val % 43, Nat.mod_lt _ (by decide)⟩ 0 r' (y 1)) (offs t).1 ?_).trans ?_
    · intro a; fin_cases a <;> simp
    exact (congrFun (read_unread_whole cc0_scratch1 _ _) _).trans (hl r' h3 _)
  · refine (tapR _ _ _ _ _ _ _ _ _ _ 8 (by decide) _ (y 0) (y 1)).trans ?_
    refine (rowsR m c t h1 _ 8 (by decide) (by decide) (y 0) (y 1) _ hn2 _ (fun h3 r' => ?_) (by omega))
    refine (Stores.ld_of _ _ _ (ix4 ⟨t.val % 43, Nat.mod_lt _ (by decide)⟩ 1 r' (y 1)) (offs t).2 ?_).trans ?_
    · intro a; fin_cases a <;> simp
    exact (congrFun (read_unread_whole cc0_scratch1 _ _) _).trans (hr r' h3 _)
  · refine (tapR _ _ _ _ _ _ _ _ _ _ 7 (by decide) _ (y 0) (y 1)).trans ?_
    refine (rowsR m c t h1 _ 7 (by decide) (by decide) (y 0) (y 1) _ hn2 _ (fun h3 r' => ?_) (by omega))
    refine (Stores.ld_of _ _ _ (ix4 ⟨t.val % 43, Nat.mod_lt _ (by decide)⟩ 1 r' (y 1)) (offs t).2 ?_).trans ?_
    · intro a; fin_cases a <;> simp
    exact (congrFun (read_unread_whole cc0_scratch1 _ _) _).trans (hr r' h3 _)
  · refine (tapR _ _ _ _ _ _ _ _ _ _ 6 (by decide) _ (y 0) (y 1)).trans ?_
    refine (rowsR m c t h1 _ 6 (by decide) (by decide) (y 0) (y 1) _ hn2 _ (fun h3 r' => ?_) (by omega))
    refine (Stores.ld_of _ _ _ (ix4 ⟨t.val % 43, Nat.mod_lt _ (by decide)⟩ 1 r' (y 1)) (offs t).2 ?_).trans ?_
    · intro a; fin_cases a <;> simp
    exact (congrFun (read_unread_whole cc0_scratch1 _ _) _).trans (hr r' h3 _)

/-- A value `d` rows above row `r` of a sequence of four, or the kept one above its first row. -/
def back (d r : ℕ) (z s : EReal) : EReal := if d ≤ r % 4 then z else s

theorem rem : ∀ r : Fin 688, k0_pay34 (ix2 r 0) = BitVec.ofNat 32 ((r : ℕ) % 4) := by
  intro r
  pointwise [k0_pay34]
  revert r
  decide +kernel

theorem sel1 (z s : EReal) (r : Fin 688) : Scalar.select (IntOp.cmpi .sge (k0_pay34 (ix2 r 0)) 1#32) z s = back 1 r z s := by
  have hr := Nat.mod_lt (r : ℕ) (show 4 > 0 by decide)
  rw [rem]
  unfold back
  pointwise
  word_cmp

theorem sel2 (z s : EReal) (r : Fin 688) : Scalar.select (IntOp.cmpi .sge (k0_pay34 (ix2 r 0)) 2#32) z s = back 2 r z s := by
  have hr := Nat.mod_lt (r : ℕ) (show 4 > 0 by decide)
  rw [rem]
  unfold back
  pointwise
  word_cmp

theorem pay8 (g8 g7 g6 v8 v7 v6 : Vec Ideal S1x688x256 .f32) (sr1 sr0 sl1 sl0 : Vec Ideal S688x256 .f32)
    (wl wr : Vec Ideal S3x256 .f32) (bl br : Vec Ideal S1x256 .f32) (r : Fin 688) (k : Fin 256) :
    k0_pay8 (F := Ideal) (k0_pay46 (F := Ideal) (k0_pay39 (F := Ideal) g8) (k0_pay40 (F := Ideal) k0_pay34 g7 sr1) (k0_pay41 k0_pay34) (k0_pay42 (F := Ideal) g6)
        (k0_pay43 (F := Ideal) sr0) wr br)
      (k0_pay47 (F := Ideal) (k0_pay35 (F := Ideal) v8) (k0_pay37 (F := Ideal) k0_pay34 k0_pay36 v7 sl1) (k0_pay38 (F := Ideal) k0_pay34 v6 sl0) wl bl) (ix2 r k) =
    gate (cv (v8 (ix3 0 r k)) (back 1 r (v7 (ix3 0 r k)) (sl1 (ix2 r k))) (back 2 r (v6 (ix3 0 r k)) (sl0 (ix2 r k)))
        (wl (ix2 2 k)) (wl (ix2 1 k)) (wl (ix2 0 k)) (bl (ix2 0 k)))
      (cv (g8 (ix3 0 r k)) (back 1 r (g7 (ix3 0 r k)) (sr1 (ix2 r k))) (back 2 r (g6 (ix3 0 r k)) (sr0 (ix2 r k)))
        (wr (ix2 2 k)) (wr (ix2 1 k)) (wr (ix2 0 k)) (br (ix2 0 k))) := by
  rw [← sel1, ← sel1, ← sel2, ← sel2]
  unfold gate cv
  pointwise [k0_pay8, k0_pay46, k0_pay47, k0_pay39, k0_pay40, k0_pay41, k0_pay42, k0_pay43, k0_pay35, k0_pay36, k0_pay37, k0_pay38]

theorem look_prod (X : S8944x4096.Idx → EReal) (W : S4096x22016.Idx → EReal) (S : S696x22016.Idx → EReal) (d r : ℕ) (j : Fin 22016) (h : d ≤ r % 4) :
    look X W S d (8256 + r) j = prodN X W (8256 + r - d) j := by
  unfold look
  rw [if_neg (by omega), if_pos (by omega)]

theorem stN_eq (S : S696x22016.Idx → EReal) (r : Fin 696) (j : Fin 22016) (n : ℕ) (h : n = r) : S (ix2 r j) = stN S n j := by
  subst h
  unfold stN
  rw [dif_pos r.isLt]

theorem back_look (X : S8944x4096.Idx → EReal) (W : S4096x22016.Idx → EReal) (S : S696x22016.Idx → EReal) (d r : ℕ) (j : Fin 22016) (z s : EReal)
    (hz : d ≤ r % 4 → z = prodN X W (8256 + r - d) j) (hs : ¬ d ≤ r % 4 → s = stN S (8256 + r - 8256 + 2 - d) j) :
    back d r z s = look X W S d (8256 + r) j := by
  unfold back look
  have e : 8256 + r - 8256 = r := by omega
  rw [if_neg (show ¬ 8256 + r < 8256 by omega), e]
  by_cases h : d ≤ r % 4
  · rw [if_pos h, if_pos h]
    exact hz h
  · rw [if_neg h, if_neg h]
    exact (hs h).trans (by rw [e])

theorem pay8' (g8 g7 g6 v8 v7 v6 : Vec Ideal S1x688x256 .f32) (sr1 sr0 sl1 sl0 : Vec Ideal S688x256 .f32)
    (wl wr : Vec Ideal S3x256 .f32) (bl br : Vec Ideal S1x256 .f32) (y : S688x256.Idx) :
    k0_pay8 (F := Ideal) (k0_pay46 (F := Ideal) (k0_pay39 (F := Ideal) g8) (k0_pay40 (F := Ideal) k0_pay34 g7 sr1) (k0_pay41 k0_pay34) (k0_pay42 (F := Ideal) g6)
        (k0_pay43 (F := Ideal) sr0) wr br)
      (k0_pay47 (F := Ideal) (k0_pay35 (F := Ideal) v8) (k0_pay37 (F := Ideal) k0_pay34 k0_pay36 v7 sl1) (k0_pay38 (F := Ideal) k0_pay34 v6 sl0) wl bl) y =
    gate (cv (v8 (ix3 0 (y 0) (y 1))) (back 1 (y 0 : ℕ) (v7 (ix3 0 (y 0) (y 1))) (sl1 (ix2 (y 0) (y 1)))) (back 2 (y 0 : ℕ) (v6 (ix3 0 (y 0) (y 1))) (sl0 (ix2 (y 0) (y 1))))
        (wl (ix2 2 (y 1))) (wl (ix2 1 (y 1))) (wl (ix2 0 (y 1))) (bl (ix2 0 (y 1))))
      (cv (g8 (ix3 0 (y 0) (y 1))) (back 1 (y 0 : ℕ) (g7 (ix3 0 (y 0) (y 1))) (sr1 (ix2 (y 0) (y 1)))) (back 2 (y 0 : ℕ) (g6 (ix3 0 (y 0) (y 1))) (sr0 (ix2 (y 0) (y 1))))
        (wr (ix2 2 (y 1))) (wr (ix2 1 (y 1))) (wr (ix2 0 (y 1))) (br (ix2 0 (y 1)))) :=
  (congrArg _ (eq_ix2 y)).trans (pay8 _ _ _ _ _ _ _ _ _ _ _ _ _ _ (y 0) (y 1))

theorem hC (c : Dev nD) (t : Fin cfg0.N) (h0 : ¬ t.val % 559 = 0) (h1 : ¬ t.val < 516) (y : S688x256.Idx) (n : Fin 11008)
    (hn : (n : ℕ) = t.val % 43 * 256 + y 1) :
    (outsAt0 m c t.val t.isLt).1 y = hAt (V m c main_v4) (V m c main_v7) (V m c main_v9) (V m c main_arg4) (V m c main_v10) (8256 + y 0) n := by
  have hy0 : (y 0 : ℕ) < 688 := (y 0).isLt
  have ht : t.val < 559 := t.isLt
  have hn2 : 11008 + (n : ℕ) = 11008 + (t.val % 43 * 256 + y 1) := congrArg (11008 + ·) hn
  rw [outsAt0_C m c t h0 h1 (by omega)]; frame_out
  refine (pay8' _ _ _ _ _ _ _ _ _ _ _ _ _ _ y).trans ?_
  unfold hAt cvAt
  refine congrArg₂ gate (cv_congr ?_ ?_ ?_ (blk_cl m c t _ _ _ hn) (blk_cl m c t _ _ _ hn) (blk_cl m c t _ _ _ hn) (blk_bl m c t _ _ _ hn))
    (cv_congr ?_ ?_ ?_ (blk_cr m c t _ _ _ hn2) (blk_cr m c t _ _ _ hn2) (blk_cr m c t _ _ _ hn2) (blk_br m c t _ _ _ hn2))
  · refine (Stores.load _ _ _ _ (ix3 0 ⟨8 + (y 0 : ℕ), by omega⟩ (y 1)) ?_).trans ?_
    · intro a; fin_cases a <;> simp
    refine (Stores.miss _ _ _ _ 0 ?_).trans ?_
    · left; simp
    refine (Stores.hit _ _ _ _ (ix3 0 (y 0) (y 1)) ?_).trans ?_
    · intro a; fin_cases a <;> simp
    refine (pay32 _ _ _ _).trans ?_
    refine (prod_l m c t _ _ ⟨8256 + (y 0 : ℕ), by omega⟩ ⟨n, n.isLt.trans (by decide)⟩ (by dsimp only; omega) hn).trans ?_
    refine (prodN_eq _ _ _ _ _ rfl).trans ?_
    exact (look_prod _ _ _ 0 _ _ (by omega)).symm
  · refine (back_look _ _ _ 1 _ _ _ _ (fun hd => ?_) fun hd => ?_)
    · refine (Stores.ld_of _ _ _ (ix3 0 ⟨7 + (y 0 : ℕ), by omega⟩ (y 1)) rfl ?_).trans ?_
      · intro a; fin_cases a <;> simp
      refine (View.read_writes_cons_unit_of_not_mem _ _ _ _ _ _ rfl 0 ?_).trans ?_
      · left; simp
      refine (View.read_writes_cons_unit_of_mem _ _ _ _ _ _ (ix3 0 ⟨(y 0 : ℕ) - 1, by omega⟩ (y 1)) rfl ?_).trans ?_
      · intro a; fin_cases a <;> simp <;> omega
      refine (pay32 _ _ _ _).trans ?_
      refine (prod_l m c t _ _ ⟨8256 + (y 0 : ℕ) - 1, by omega⟩ ⟨n, n.isLt.trans (by decide)⟩ (by dsimp only; omega) hn).trans ?_
      exact prodN_eq _ _ _ _ _ rfl
    · refine (Stores.ld_of _ _ _ (ix2 ⟨1 + (y 0 : ℕ), by omega⟩ (y 1)) rfl ?_).trans ?_
      · intro a; fin_cases a <;> simp
      refine (blk_sl m c t (by omega) _ _ ⟨n, n.isLt.trans (by decide)⟩ hn).trans ?_
      exact stN_eq _ _ _ _ (by dsimp only; omega)
  · refine (back_look _ _ _ 2 _ _ _ _ (fun hd => ?_) fun hd => ?_)
    · refine (Stores.ld_of _ _ _ (ix3 0 ⟨6 + (y 0 : ℕ), by omega⟩ (y 1)) rfl ?_).trans ?_
      · intro a; fin_cases a <;> simp
      refine (View.read_writes_cons_unit_of_not_mem _ _ _ _ _ _ rfl 0 ?_).trans ?_
      · left; simp
      refine (View.read_writes_cons_unit_of_mem _ _ _ _ _ _ (ix3 0 ⟨(y 0 : ℕ) - 2, by omega⟩ (y 1)) rfl ?_).trans ?_
      · intro a; fin_cases a <;> simp <;> omega
      refine (pay32 _ _ _ _).trans ?_
      refine (prod_l m c t _ _ ⟨8256 + (y 0 : ℕ) - 2, by omega⟩ ⟨n, n.isLt.trans (by decide)⟩ (by dsimp only; omega) hn).trans ?_
      exact prodN_eq _ _ _ _ _ rfl
    · refine (Stores.ld_of _ _ _ (ix2 ⟨0 + (y 0 : ℕ), by omega⟩ (y 1)) rfl ?_).trans ?_
      · intro a; fin_cases a <;> simp
      refine (blk_sl m c t (by omega) _ _ ⟨n, n.isLt.trans (by decide)⟩ hn).trans ?_
      exact stN_eq _ _ _ _ (by dsimp only; omega)
  · refine (Stores.load _ _ _ _ (ix3 1 ⟨8 + (y 0 : ℕ), by omega⟩ (y 1)) ?_).trans ?_
    · intro a; fin_cases a <;> simp
    refine (Stores.hit _ _ _ _ (ix3 0 (y 0) (y 1)) ?_).trans ?_
    · intro a; fin_cases a <;> simp
    refine (pay33 _ _ _ _).trans ?_
    refine (prod_r m c t _ _ ⟨8256 + (y 0 : ℕ), by omega⟩ ⟨11008 + (n : ℕ), by have := n.isLt; omega⟩ (by dsimp only; omega) hn2).trans ?_
    refine (prodN_eq _ _ _ _ _ rfl).trans ?_
    exact (look_prod _ _ _ 0 _ _ (by omega)).symm
  · refine (back_look _ _ _ 1 _ _ _ _ (fun hd => ?_) fun hd => ?_)
    · refine (Stores.ld_of _ _ _ (ix3 1 ⟨7 + (y 0 : ℕ), by omega⟩ (y 1)) rfl ?_).trans ?_
      · intro a; fin_cases a <;> simp
      refine (View.read_writes_cons_unit_of_mem _ _ _ _ _ _ (ix3 0 ⟨(y 0 : ℕ) - 1, by omega⟩ (y 1)) rfl ?_).trans ?_
      · intro a; fin_cases a <;> simp <;> omega
      refine (pay33 _ _ _ _).trans ?_
      refine (prod_r m c t _ _ ⟨8256 + (y 0 : ℕ) - 1, by omega⟩ ⟨11008 + (n : ℕ), by have := n.isLt; omega⟩ (by dsimp only; omega) hn2).trans ?_
      exact prodN_eq _ _ _ _ _ rfl
    · refine (Stores.ld_of _ _ _ (ix2 ⟨1 + (y 0 : ℕ), by omega⟩ (y 1)) rfl ?_).trans ?_
      · intro a; fin_cases a <;> simp
      refine (blk_sr m c t (by omega) _ _ ⟨11008 + (n : ℕ), by have := n.isLt; omega⟩ hn2).trans ?_
      exact stN_eq _ _ _ _ (by dsimp only; omega)
  · refine (back_look _ _ _ 2 _ _ _ _ (fun hd => ?_) fun hd => ?_)
    · refine (Stores.ld_of _ _ _ (ix3 1 ⟨6 + (y 0 : ℕ), by omega⟩ (y 1)) rfl ?_).trans ?_
      · intro a; fin_cases a <;> simp
      refine (View.read_writes_cons_unit_of_mem _ _ _ _ _ _ (ix3 0 ⟨(y 0 : ℕ) - 2, by omega⟩ (y 1)) rfl ?_).trans ?_
      · intro a; fin_cases a <;> simp <;> omega
      refine (pay33 _ _ _ _).trans ?_
      refine (prod_r m c t _ _ ⟨8256 + (y 0 : ℕ) - 2, by omega⟩ ⟨11008 + (n : ℕ), by have := n.isLt; omega⟩ (by dsimp only; omega) hn2).trans ?_
      exact prodN_eq _ _ _ _ _ rfl
    · refine (Stores.ld_of _ _ _ (ix2 ⟨0 + (y 0 : ℕ), by omega⟩ (y 1)) rfl ?_).trans ?_
      · intro a; fin_cases a <;> simp
      refine (blk_sr m c t (by omega) _ _ ⟨11008 + (n : ℕ), by have := n.isLt; omega⟩ hn2).trans ?_
      exact stN_eq _ _ _ _ (by dsimp only; omega)

/-- The gated rows over the packed arrays. -/
def full (X : S8944x4096.Idx → EReal) (W : S4096x22016.Idx → EReal) (S : S696x22016.Idx → EReal) (C : S3x22016.Idx → EReal) (B : S1x22016.Idx → EReal) :
    S8944x11008.Idx → EReal := fun j => hAt X W S C B (j 0 : ℕ) (j 1)

theorem point (c : Dev nD) (t : Fin cfg0.N) (y : S688x256.Idx) (j : S8944x11008.Idx)
    (h0 : (j 0 : ℕ) = t.val / 43 * 688 + y 0) (h1 : (j 1 : ℕ) = t.val % 43 * 256 + y 1) :
    (outsAt0 m c t.val t.isLt).1 y = full (V m c main_v4) (V m c main_v7) (V m c main_v9) (V m c main_arg4) (V m c main_v10) j := by
  have ht : t.val < 559 := t.isLt
  unfold full
  rw [h0]
  by_cases a : t.val % 559 = 0
  · exact hA m c t a (by omega) y _ h1
  · by_cases b : t.val < 516
    · exact hB m c t a b y _ h1
    · have e : t.val / 43 * 688 + (y 0 : ℕ) = 8256 + (y 0 : ℕ) := by omega
      rw [e]
      exact hC m c t a b y _ h1

theorem final (c : Dev nD) : (dats m 0 c).arrAt 10 (cfgs 0).N =
    full (V m c main_v4) (V m c main_v7) (V m c main_v9) (V m c main_arg4) (V m c main_v10) := by
  refine (dats m 0 c).arrAt_eq_of_covers 10 _ (by decide +kernel) fun t _ y => ?_
  blk_simp; rw [after0_10]
  exact point m c t y _ (by blk_simp [idxH t]) (by blk_simp [idxH t])

theorem V_x (c : Dev nD) : V m c main_v4 = truncf (F := Ideal) .bf16 (concatenate S8944x4096 0
    [⟨S8256x4096, shapeCast _ (m ((c : Thread nD τ).loc main_arg0)) shapeCasts_S4x2064x4096_S8256x4096⟩,
     ⟨S512x4096, shapeCast _ (m ((c : Thread nD τ).loc main_arg1)) shapeCasts_S128x4x4096_S512x4096⟩,
     ⟨S176x4096, broadcastInDim S176x4096 ![] bcast_S_S176x4096 (constant (F := Ideal) S_ .f32 0x00000000#32)⟩]
     concatenates_S8256x4096_S512x4096_S176x4096_S8944x4096_d0) bitsLt_bf16_f32 := by
  dsimp only [V, V0]
  simp only [hostOps0, hostOps0_1, hostOps0_2, List.flatten_cons, List.flatten_nil, List.append_nil, List.cons_append, List.nil_append]
  after_results
  rfl

theorem V_xp (c : Dev nD) (b : Fin 4) (t : Fin 2064) (k : Fin 4096) (i : Fin 8944) (hi : (i : ℕ) = b * 2064 + t) :
    (V m c main_v4 : S8944x4096.Idx → EReal) (ix2 i k) = xp m c (ix3 b t k) := by
  rw [V_x, truncf_apply]
  exact Packed.packed_first _ _ _ _ _ b t k _ hi (by decide)

theorem V_xs (c : Dev nD) (b : Fin 128) (t : Fin 4) (k : Fin 4096) (i : Fin 8944) (hi : (i : ℕ) = 8256 + (b * 4 + t)) :
    (V m c main_v4 : S8944x4096.Idx → EReal) (ix2 i k) = xs m c (ix3 b t k) := by
  rw [V_x, truncf_apply]
  exact Packed.packed_second _ _ _ _ _ b t k _ (hi.trans (Nat.add_comm _ _)) (by decide)

theorem V_w' (c : Dev nD) : V m c main_v7 = truncf (F := Ideal) .bf16 (shapeCast S4096x22016
    (extractStridedSlice S1x4096x22016 ![0, 0, 0] (m ((c : Thread nD τ).loc main_arg2)) slices_S2x4096x22016_S1x4096x22016_0_0_0)
    shapeCasts_S1x4096x22016_S4096x22016) bitsLt_bf16_f32 := by
  dsimp only [V, V0]
  simp only [hostOps0, hostOps0_1, hostOps0_2, List.flatten_cons, List.flatten_nil, List.append_nil, List.cons_append, List.nil_append]
  after_results
  rfl

theorem V_w (c : Dev nD) (k : Fin 4096) (n : Fin 22016) : (V m c main_v7 : S4096x22016.Idx → EReal) (ix2 k n) = up m c (ix3 0 k n) := by
  rw [V_w']
  pointwise

/-- The product at a row of the prompt and at a row of the sample. -/
def prdP (c : Dev nD) (b : Fin 4) (t : Fin 2064) (n : Fin 22016) : EReal :=
  ∑ k : Fin 4096, xp m c (ix3 b t k) * up m c (ix3 0 k n)
def prdS (c : Dev nD) (b : Fin 128) (t : Fin 4) (n : Fin 22016) : EReal :=
  ∑ k : Fin 4096, xs m c (ix3 b t k) * up m c (ix3 0 k n)

theorem prod_p (c : Dev nD) (b : Fin 4) (t : Fin 2064) (n : Fin 22016) (i : Fin 8944) (hi : (i : ℕ) = b * 2064 + t) :
    prod (V m c main_v4) (V m c main_v7) i n = prdP m c b t n :=
  Fin.sum_fin_congr fun k => congrArg₂ (fun a b : EReal => a * b) (V_xp m c b t k i hi) (V_w m c k n)

theorem prod_s (c : Dev nD) (b : Fin 128) (t : Fin 4) (n : Fin 22016) (i : Fin 8944) (hi : (i : ℕ) = 8256 + (b * 4 + t)) :
    prod (V m c main_v4) (V m c main_v7) i n = prdS m c b t n :=
  Fin.sum_fin_congr fun k => congrArg₂ (fun a b : EReal => a * b) (V_xs m c b t k i hi) (V_w m c k n)

theorem V_s' (c : Dev nD) : V m c main_v9 = shapeCast S696x22016 (pad S174x4x22016 ![0, 0, 0] ![46, 2, 0] ![0, 0, 0]
    (m ((c : Thread nD τ).loc main_arg3)) (sitofp (F := Ideal) .f32 (constantI S_ 32 0#32)) pads_S128x2x22016_S174x4x22016_0460_020_000 h_S_)
    shapeCasts_S174x4x22016_S696x22016 := by
  dsimp only [V, V0]
  simp only [hostOps0, hostOps0_1, hostOps0_2, List.flatten_cons, List.flatten_nil, List.append_nil, List.cons_append, List.nil_append]
  after_results
  rfl

theorem pad_at (X : S128x2x22016.Idx → EReal) (v : S_.Idx → EReal) (b : Fin 128) (t : Fin 2) (k : Fin 22016) (b' : Fin 174) (t' : Fin 4)
    (hb' : (b' : ℕ) = b) (ht' : (t' : ℕ) = t) :
    pad S174x4x22016 ![0, 0, 0] ![46, 2, 0] ![0, 0, 0] X v pads_S128x2x22016_S174x4x22016_0460_020_000 h_S_ (ix3 b' t' k) = X (ix3 b t k) := by
  have hb := b.isLt
  have ht := t.isLt
  have eb : b' = ⟨b, by omega⟩ := Fin.ext hb'
  have et : t' = ⟨t, by omega⟩ := Fin.ext ht'
  rw [eb, et]
  pointwise

theorem V_s (c : Dev nD) (b : Fin 128) (t : Fin 2) (k : Fin 22016) (i : Fin 696) (hi : (i : ℕ) = b * 4 + t) :
    (V m c main_v9 : S696x22016.Idx → EReal) (ix2 i k) = st m c (ix3 b t k) := by
  have hb := b.isLt
  have ht := t.isLt
  rw [V_s']
  refine (Packed.rows_apply (p := 174) (l := 4) _ _ ⟨b, by omega⟩ ⟨t, by omega⟩ k _ hi).trans ?_
  exact pad_at _ _ b t k _ _ rfl rfl

theorem V_c (c : Dev nD) : V m c main_arg4 = m ((c : Thread nD τ).loc main_arg4) := by
  dsimp only [V, V0]
  simp only [hostOps0, hostOps0_1, hostOps0_2, List.flatten_cons, List.flatten_nil, List.append_nil, List.cons_append, List.nil_append]
  after_results

theorem V_b' (c : Dev nD) : V m c main_v10 = shapeCast S1x22016 (m ((c : Thread nD τ).loc main_arg5)) shapeCasts_S22016_S1x22016 := by
  dsimp only [V, V0]
  simp only [hostOps0, hostOps0_1, hostOps0_2, List.flatten_cons, List.flatten_nil, List.append_nil, List.cons_append, List.nil_append]
  after_results
  rfl

theorem V_b (c : Dev nD) (n : Fin 22016) : (V m c main_v10 : S1x22016.Idx → EReal) (ix2 0 n) = fb m c (ix1 n) := by
  rw [V_b']
  refine Idealize.ShloMosaic.shapeCast_apply _ _ (ix2 0 n) (ix1 n) ?_
  rw [rowMajor_val2 (ix2 0 n) 22016 rfl, rowMajor_val1 (ix1 n)]
  exact (Nat.zero_add _).symm.trans (congrArg (· + (n : ℕ)) (Nat.zero_mul _).symm)

/-- A row of the prompt's or the sample's product, `d` steps back: before the first step the prompt has a zero row, the sample a kept one. -/
def extP (c : Dev nD) (b : Fin 4) (t : Fin 2064) (n : Fin 22016) (d : ℕ) : EReal :=
  if d ≤ (t : ℕ) then prdP m c b ⟨(t : ℕ) - d, Nat.lt_of_le_of_lt (Nat.sub_le _ _) t.isLt⟩ n else 0
def extS (c : Dev nD) (b : Fin 128) (t : Fin 4) (n : Fin 22016) (d : ℕ) (hd : d ≤ 2) : EReal :=
  if h : d ≤ (t : ℕ) then prdS m c b ⟨(t : ℕ) - d, Nat.lt_of_le_of_lt (Nat.sub_le _ _) t.isLt⟩ n
  else st m c (ix3 b ⟨(t : ℕ) + 2 - d, by omega⟩ n)

def cvP (c : Dev nD) (b : Fin 4) (t : Fin 2064) (n : Fin 22016) : EReal :=
  cv (extP m c b t n 0) (extP m c b t n 1) (extP m c b t n 2) (fw m c (ix2 2 n)) (fw m c (ix2 1 n)) (fw m c (ix2 0 n)) (fb m c (ix1 n))
def cvS (c : Dev nD) (b : Fin 128) (t : Fin 4) (n : Fin 22016) : EReal :=
  cv (extS m c b t n 0 (by decide)) (extS m c b t n 1 (by decide)) (extS m c b t n 2 (by decide))
    (fw m c (ix2 2 n)) (fw m c (ix2 1 n)) (fw m c (ix2 0 n)) (fb m c (ix1 n))

theorem prodN_lt (X : S8944x4096.Idx → EReal) (W : S4096x22016.Idx → EReal) (i : ℕ) (j : Fin 22016) (h : i < 8944) :
    prodN X W i j = prod X W ⟨i, h⟩ j := (prodN_eq X W ⟨i, h⟩ j i rfl).symm

theorem look_p (c : Dev nD) (b : Fin 4) (t : Fin 2064) (n : Fin 22016) (i d : ℕ) (hi : i = b * 2064 + t) (S : S696x22016.Idx → EReal) :
    look (V m c main_v4) (V m c main_v7) S d i n = extP m c b t n d := by
  have hb := b.isLt
  have ht := t.isLt
  have e : i % 2064 = (t : ℕ) := by omega
  unfold look extP
  rw [if_pos (show i < 8256 by omega), e]
  by_cases h : d ≤ (t : ℕ)
  · rw [if_pos h, if_pos h]
    refine (prodN_lt _ _ (i - d) n (by omega)).trans ?_
    exact prod_p m c b _ n _ (show i - d = b * 2064 + (t - d) by omega)
  · rw [if_neg h, if_neg h]

theorem look_s (c : Dev nD) (b : Fin 128) (t : Fin 4) (n : Fin 22016) (i d : ℕ) (hd : d ≤ 2) (hi : i = 8256 + (b * 4 + t)) :
    look (V m c main_v4) (V m c main_v7) (V m c main_v9) d i n = extS m c b t n d hd := by
  have hb := b.isLt
  have ht := t.isLt
  have e : (i - 8256) % 4 = (t : ℕ) := by omega
  unfold look extS
  rw [if_neg (show ¬ i < 8256 by omega), e]
  by_cases h : d ≤ (t : ℕ)
  · rw [if_pos h, dif_pos h]
    refine (prodN_lt _ _ (i - d) n (by omega)).trans ?_
    exact prod_s m c b _ n _ (show i - d = 8256 + (b * 4 + (t - d)) by omega)
  · rw [if_neg h, dif_neg h]
    refine (stN_eq (V m c main_v9) ⟨i - 8256 + 2 - d, by omega⟩ n _ rfl).symm.trans ?_
    exact V_s m c b _ n _ (show i - 8256 + 2 - d = b * 4 + (t + 2 - d) by omega)

theorem cvAt_p (c : Dev nD) (b : Fin 4) (t : Fin 2064) (n : Fin 22016) (i : ℕ) (hi : i = b * 2064 + t) :
    cvAt (V m c main_v4) (V m c main_v7) (V m c main_v9) (V m c main_arg4) (V m c main_v10) i n = cvP m c b t n := by
  unfold cvAt cvP
  refine cv_congr (look_p m c b t n i 0 hi _) (look_p m c b t n i 1 hi _) (look_p m c b t n i 2 hi _) ?_ ?_ ?_ (V_b m c n)
  all_goals rw [V_c]

theorem cvAt_s (c : Dev nD) (b : Fin 128) (t : Fin 4) (n : Fin 22016) (i : ℕ) (hi : i = 8256 + (b * 4 + t)) :
    cvAt (V m c main_v4) (V m c main_v7) (V m c main_v9) (V m c main_arg4) (V m c main_v10) i n = cvS m c b t n := by
  unfold cvAt cvS
  refine cv_congr (look_s m c b t n i 0 _ hi) (look_s m c b t n i 1 _ hi) (look_s m c b t n i 2 _ hi) ?_ ?_ ?_ (V_b m c n)
  all_goals rw [V_c]

theorem full_p (c : Dev nD) (b : Fin 4) (t : Fin 2064) (n : Fin 11008) (j : S8944x11008.Idx) (hj : (j 0 : ℕ) = b * 2064 + t) (hn : j 1 = n) :
    full (V m c main_v4) (V m c main_v7) (V m c main_v9) (V m c main_arg4) (V m c main_v10) j =
      gate (cvP m c b t ⟨n, n.isLt.trans (by decide)⟩) (cvP m c b t ⟨11008 + (n : ℕ), by have := n.isLt; omega⟩) := by
  subst hn
  unfold full hAt
  exact congrArg₂ gate (cvAt_p m c b t _ _ hj) (cvAt_p m c b t _ _ hj)

theorem full_s (c : Dev nD) (b : Fin 128) (t : Fin 4) (n : Fin 11008) (j : S8944x11008.Idx) (hj : (j 0 : ℕ) = 8256 + (b * 4 + t)) (hn : j 1 = n) :
    full (V m c main_v4) (V m c main_v7) (V m c main_v9) (V m c main_arg4) (V m c main_v10) j =
      gate (cvS m c b t ⟨n, n.isLt.trans (by decide)⟩) (cvS m c b t ⟨11008 + (n : ℕ), by have := n.isLt; omega⟩) := by
  subst hn
  unfold full hAt
  exact congrArg₂ gate (cvAt_s m c b t _ _ hj) (cvAt_s m c b t _ _ hj)

theorem tail_p (c : Dev nD) (b : Fin 4) (t : Fin 2064) (n : Fin 11008) :
    Pipeline.afterTail₀ cfgs (dats m) 0 (V0 m) [hostOps1] c main_v20 (ix3 b t n) =
      gate (cvP m c b t ⟨n, n.isLt.trans (by decide)⟩) (cvP m c b t ⟨11008 + (n : ℕ), by have := n.isLt; omega⟩) := by
  unfold Pipeline.afterTail₀
  simp only [List.flatten_cons, List.flatten_nil, List.append_nil]
  after_results
  rw [(dats m 0 c).withArrays_arrAt sharedIn0 _ (A_eq m c) 10, final]
  pointwise
  exact full_p m c b t n _ rfl rfl

theorem tail_s (c : Dev nD) (b : Fin 128) (t : Fin 4) (n : Fin 11008) :
    Pipeline.afterTail₀ cfgs (dats m) 0 (V0 m) [hostOps1] c main_v22 (ix3 b t n) =
      gate (cvS m c b t ⟨n, n.isLt.trans (by decide)⟩) (cvS m c b t ⟨11008 + (n : ℕ), by have := n.isLt; omega⟩) := by
  unfold Pipeline.afterTail₀
  simp only [List.flatten_cons, List.flatten_nil, List.append_nil]
  after_results
  rw [(dats m 0 c).withArrays_arrAt sharedIn0 _ (A_eq m c) 10, final]
  pointwise
  exact full_s m c b t n _ rfl rfl

end Cert.FfnUp
-- ==== Proof.FfnFinite.lean ====
module

public import proofs.«01_k».proof.Defs
public import Idealize.ShloMosaic.Lib.ReduceAll
public import Idealize.ShloMosaic.Lib.KernelVsHost
public import Idealize.ShloMosaic.Lib.Pointwise

@[expose] public section

noncomputable section

open Idealize.ShloMosaic Idealize.SL.Sem

namespace Cert.FfnFinite

/-- A value that is a real number, neither infinity. -/
def Fin' (x : EReal) : Prop := ∃ r : ℝ, x = r

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.zero : Fin' 0 := ⟨0, rfl⟩

theorem Fin'.sum {ι : Type} (s : Finset ι) (f : ι → EReal) (h : ∀ i, Fin' (f i)) : Fin' (∑ i ∈ s, f i) :=
  Finset.sum_induction f Fin' (fun _ _ => Fin'.add) Fin'.zero fun i _ => h i

/-- An absolute value below infinity is a real number's. -/
theorem Fin'.of_abs {x : EReal} (h : max x (-x) < ⊤) : Fin' x := by
  induction x with
  | bot => simp at h
  | top => simp at h
  | coe r => exact ⟨r, rfl⟩

theorem inf_f32 : Ideal.ofBits .f32 0x7F800000#32 = ⊤ := by simp [Ideal.ofBits, Ideal.ieee]

theorem half_f32 : Ideal.ofBits .f32 1056964608#32 = ((1 / 2 : ℝ) : EReal) := by
  simp [Ideal.ofBits, Ideal.ieee, -EReal.coe_mul]; norm_num

theorem one_f32 : Ideal.ofBits .f32 0x3F800000#32 = 1 := by simp [Ideal.ofBits, Ideal.ieee, -EReal.coe_mul]; norm_num

/-- A test of every element, reduced by `and` to one, gives each element. -/
theorem all_fin {s t u v : Shape} [Subsingleton t.Idx] {axes : List (Fin s.rank)} (x : FVec Ideal s .f32) (dims : Fin v.rank → Fin s.rank)
    (hb : v.BroadcastsInDim s dims) (init : u.Idx → BitVec 1) (h : s.ReducesTo axes t) (hu : 0 < u.numel) (j : t.Idx)
    (e : Host.reduce IntOp.andi (cmpf .olt (Host.absf x) (broadcastInDim s dims hb (constant (F := Ideal) v .f32 0x7F800000#32))) init h hu j = 1#1)
    (i : s.Idx) : Fin' (x i) := by
  have a := Host.reduce_andi_all _ init h hu j e i
  have b : max (x i : EReal) (-(x i : EReal)) < Ideal.ofBits .f32 0x7F800000#32 := (Ideal.cmp_olt_eq_one _ _).1 a
  rw [inf_f32] at b
  exact Fin'.of_abs b

theorem andi_one {a b : BitVec 1} (h : IntOp.andi a b = 1#1) : a = 1#1 ∧ b = 1#1 := by
  revert a b; decide

open Cert.Pre_finite in
theorem all [Cert.Pre_finite.Facts] (a0 : FVec Ideal S4x2064x4096 .f32) (a1 : FVec Ideal S128x4x4096 .f32) (a2 : FVec Ideal S2x4096x22016 .f32)
    (a3 : FVec Ideal S128x2x22016 .f32) (a4 : FVec Ideal S3x22016 .f32) (a5 : FVec Ideal S22016 .f32) (a6 : FVec Ideal S2x4096x39040 .f32)
    (h : Cert.Pre_finite.fn (F := Ideal) a0 a1 a2 a3 a4 a5 a6 = fun _ => 1#1) :
    (∀ i, Fin' (a0 i)) ∧ (∀ i, Fin' (a1 i)) ∧ (∀ i, Fin' (a2 i)) ∧ (∀ i, Fin' (a3 i)) ∧ (∀ i, Fin' (a4 i)) ∧ (∀ i, Fin' (a5 i)) := by
  have : Subsingleton S_.Idx := ⟨fun a b => funext fun k => k.elim0⟩
  have e := congrFun h (fun k => k.elim0)
  dsimp only [Cert.Pre_finite.fn, Cert.Pre_finite.fn_part1] at e
  obtain ⟨e, h5⟩ := andi_one e
  obtain ⟨e, h4⟩ := andi_one e
  obtain ⟨e, h3⟩ := andi_one e
  obtain ⟨e, h2⟩ := andi_one e
  obtain ⟨h0, h1⟩ := andi_one e
  exact ⟨all_fin _ _ _ _ _ _ _ h0, all_fin _ _ _ _ _ _ _ h1, all_fin _ _ _ _ _ _ _ h2, all_fin _ _ _ _ _ _ _ h3, all_fin _ _ _ _ _ _ _ h4,
    all_fin _ _ _ _ _ _ _ h5⟩

theorem half_tanh (a : ℝ) : 1 / 2 * a + 1 / 2 * a * Real.tanh (1 / 2 * a) = a * (1 + Real.exp (-a))⁻¹ := by
  rw [Real.tanh_eq_sinh_div_cosh, Real.sinh_eq, Real.cosh_eq]
  have e : Real.exp (-a) = Real.exp (-(1 / 2 * a)) * Real.exp (-(1 / 2 * a)) := by rw [← Real.exp_add]; ring_nf
  have p : Real.exp (1 / 2 * a) * Real.exp (-(1 / 2 * a)) = 1 := by rw [← Real.exp_add]; simp
  rw [e]
  have h1 := Real.exp_pos (1 / 2 * a)
  have h2 := Real.exp_pos (-(1 / 2 * a))
  set u := Real.exp (1 / 2 * a)
  set v := Real.exp (-(1 / 2 * a))
  have h3 : u + v ≠ 0 := by positivity
  have h4 : 1 + v * v ≠ 0 := by positivity
  have : (u + v) * v = 1 + v * v := by linear_combination p
  field_simp
  linear_combination (2 * a) * (v * p)

/-- At a real number the gate by the hyperbolic tangent is the gate by the logistic function. -/
theorem gate_fin {x : EReal} (hx : Fin' x) :
    Ideal.ofBits .f32 1056964608#32 * x + Ideal.ofBits .f32 1056964608#32 * x * Ideal.tanh (Ideal.ofBits .f32 1056964608#32 * x) = x * Ideal.logistic x := by
  obtain ⟨a, rfl⟩ := hx
  rw [half_f32, ← EReal.coe_mul, Ideal.tanh_coe, Ideal.logistic_coe, ← EReal.coe_mul, ← EReal.coe_add, ← EReal.coe_mul]
  exact congrArg _ (half_tanh a)

end Cert.FfnFinite
-- ==== Proof.FfnGate.lean ====
module

public import proofs.«01_k».proof.Proof.FfnUp
public import proofs.«01_k».proof.Proof.FfnFinite
public import Idealize.ShloMosaic.Lib.Tactic.CleanTypes

@[expose] public section

set_option maxRecDepth 16384

noncomputable section

open Idealize.ShloMosaic Idealize.ShloMosaic.TcCoe Idealize.SL.Sem

namespace Cert.FfnUp

open Cert.Kernel11Ideal Cert.Kernel11Ideal.Gen Cert.FfnFinite

variable (m : (ℓ : Loc nD τ sig) → Buf (Elt Ideal) ℓ)

/-- The order of the sum in the reference. -/
theorem cv_ref (z0 z1 z2 w0 w1 w2 b : EReal) : w0 * z2 + w1 * z1 + w2 * z0 + b = cv z0 z1 z2 w2 w1 w0 b := by
  unfold cv
  rw [mul_comm w0, mul_comm w1, mul_comm w2, add_comm (z0 * w2), add_assoc (z1 * w1), add_comm (z0 * w2), ← add_assoc, add_comm (z1 * w1) (z2 * w0)]

/-- The reference's sum over three rows at a row of the prompt, and at a row of the sample. -/
theorem refP (c : Dev nD) (b : Fin 4) (t : Fin 2064) (n : Fin 22016) :
    fw m c (ix2 0 n) * (if h : (t : ℕ) < 2 then (0 : EReal) else ∑ x : Fin 4096, xp m c (ix3 b ⟨(t : ℕ) - 2, by omega⟩ x) * up m c (ix3 0 x n)) +
        fw m c (ix2 1 n) * (if h : 1 + (t : ℕ) < 2 then (0 : EReal) else ∑ x : Fin 4096, xp m c (ix3 b ⟨1 + (t : ℕ) - 2, by omega⟩ x) * up m c (ix3 0 x n)) +
        fw m c (ix2 2 n) * (∑ x : Fin 4096, xp m c (ix3 b t x) * up m c (ix3 0 x n)) + fb m c (ix1 n) = cvP m c b t n := by
  refine (cv_ref _ _ _ _ _ _ _).trans (cv_congr ?_ ?_ ?_ rfl rfl rfl rfl)
  · unfold extP prdP
    rw [if_pos (Nat.zero_le _)]
    rfl
  · unfold extP prdP
    have e : 1 + (t : ℕ) - 2 = (t : ℕ) - 1 := by omega
    by_cases h : 1 ≤ (t : ℕ)
    · rw [dif_neg (by omega), if_pos h]
      simp only [e]
    · rw [dif_pos (by omega), if_neg h]
  · unfold extP prdP
    by_cases h : 2 ≤ (t : ℕ)
    · rw [dif_neg (by omega), if_pos h]
    · rw [dif_pos (by omega), if_neg h]

theorem refS (c : Dev nD) (b : Fin 128) (t : Fin 4) (n : Fin 22016) :
    fw m c (ix2 0 n) * (if h : (t : ℕ) < 2 then st m c (ix3 b ⟨(t : ℕ), h⟩ n) else ∑ x : Fin 4096, xs m c (ix3 b ⟨(t : ℕ) - 2, by omega⟩ x) * up m c (ix3 0 x n)) +
        fw m c (ix2 1 n) * (if h : 1 + (t : ℕ) < 2 then st m c (ix3 b ⟨1 + (t : ℕ), h⟩ n)
          else ∑ x : Fin 4096, xs m c (ix3 b ⟨1 + (t : ℕ) - 2, by omega⟩ x) * up m c (ix3 0 x n)) +
        fw m c (ix2 2 n) * (∑ x : Fin 4096, xs m c (ix3 b t x) * up m c (ix3 0 x n)) + fb m c (ix1 n) = cvS m c b t n := by
  refine (cv_ref _ _ _ _ _ _ _).trans (cv_congr ?_ ?_ ?_ rfl rfl rfl rfl)
  · unfold extS prdS
    rw [dif_pos (Nat.zero_le _)]
    rfl
  · unfold extS prdS
    have e : 1 + (t : ℕ) - 2 = (t : ℕ) - 1 := by omega
    have e' : (t : ℕ) + 2 - 1 = 1 + (t : ℕ) := by omega
    by_cases h : 1 ≤ (t : ℕ)
    · rw [dif_neg (by omega), dif_pos h]
      simp only [e]
    · rw [dif_pos (by omega), dif_neg h]
      simp only [e']
  · unfold extS prdS
    have e' : (t : ℕ) + 2 - 2 = (t : ℕ) := by omega
    by_cases h : 2 ≤ (t : ℕ)
    · rw [dif_neg (by omega), dif_pos h]
    · rw [dif_pos (by omega), dif_neg h]
      simp only [e']

variable [Cert.Pre_finite.Facts]

theorem fin_cv {x0 x1 x2 w2 w1 w0 b : EReal} (h0 : Fin' x0) (h1 : Fin' x1) (h2 : Fin' x2) (g2 : Fin' w2) (g1 : Fin' w1) (g0 : Fin' w0) (hb : Fin' b) :
    Fin' (cv x0 x1 x2 w2 w1 w0 b) :=
  (((h0.mul g2).add (h1.mul g1)).add (h2.mul g0)).add hb

theorem fin_args (h : Pre_Kernel11Ideal_finite m) (c : Dev nD) :
    (∀ i, Fin' (xp m c i)) ∧ (∀ i, Fin' (xs m c i)) ∧ (∀ i, Fin' (up m c i)) ∧ (∀ i, Fin' (st m c i)) ∧ (∀ i, Fin' (fw m c i)) ∧ (∀ i, Fin' (fb m c i)) :=
  Cert.FfnFinite.all _ _ _ _ _ _ _ (h c)

theorem fin_extP (h : Pre_Kernel11Ideal_finite m) (c : Dev nD) (b : Fin 4) (t : Fin 2064) (n : Fin 22016) (d : ℕ) : Fin' (extP m c b t n d) := by
  obtain ⟨h0, -, h2, -⟩ := fin_args m h c
  unfold extP
  split_ifs
  · exact Fin'.sum _ _ fun k => (h0 _).mul (h2 _)
  · exact Fin'.zero

theorem fin_extS (h : Pre_Kernel11Ideal_finite m) (c : Dev nD) (b : Fin 128) (t : Fin 4) (n : Fin 22016) (d : ℕ) (hd : d ≤ 2) : Fin' (extS m c b t n d hd) := by
  obtain ⟨-, h1, h2, h3, -⟩ := fin_args m h c
  unfold extS
  split_ifs
  · exact Fin'.sum _ _ fun k => (h1 _).mul (h2 _)
  · exact h3 _

theorem fin_cvP (h : Pre_Kernel11Ideal_finite m) (c : Dev nD) (b : Fin 4) (t : Fin 2064) (n : Fin 22016) : Fin' (cvP m c b t n) := by
  obtain ⟨-, -, -, -, h4, h5⟩ := fin_args m h c
  exact fin_cv (fin_extP m h c _ _ _ _) (fin_extP m h c _ _ _ _) (fin_extP m h c _ _ _ _) (h4 _) (h4 _) (h4 _) (h5 _)

theorem fin_cvS (h : Pre_Kernel11Ideal_finite m) (c : Dev nD) (b : Fin 128) (t : Fin 4) (n : Fin 22016) : Fin' (cvS m c b t n) := by
  obtain ⟨-, -, -, -, h4, h5⟩ := fin_args m h c
  exact fin_cv (fin_extS m h c _ _ _ _ _) (fin_extS m h c _ _ _ _ _) (fin_extS m h c _ _ _ _ _) (h4 _) (h4 _) (h4 _) (h5 _)

theorem gate_eq {a : EReal} (g : EReal) (ha : Fin' a) : gate a g = a * Ideal.logistic a * g :=
  congrArg (· * g) (gate_fin ha)

set_option maxHeartbeats 2000000 in
theorem algebraic : Cert.algebraic_Kernel11Ideal_Reference11Ideal_pre_finite := by
  pair_intro
  · run_from Cert.Kernel11Ideal.Gen.run_main m g
    · exact W_main_arg0 m (dats m) c
    · exact W_main_arg1 m (dats m) c
    · exact W_main_arg2 m (dats m) c
    · exact W_main_arg3 m (dats m) c
    · exact W_main_arg5 m (dats m) c
  · hlo_run
    · funext i
      rw [eq_ix3 i]
      refine Eq.trans ?_ ((tail_p m c (i 0) (i 1) (i 2)).trans (gate_eq _ (fin_cvP m hpre c _ _ _))).symm
      simp -implicitDefEqProofs only [StableHlo.TRef.toBuf, StableHlo.TRef.ofBuf, cast_cast, cast_eq]
      clean_types
      pointwise
      simp only [(hagree c).1, (hagree c).2.1, (hagree c).2.2.1, (hagree c).2.2.2.1]
      exact congrArg₂ (fun a g : EReal => a * Ideal.logistic a * g) (refP m c (i 0) (i 1) _) (refP m c (i 0) (i 1) _)
    · funext i
      rw [eq_ix3 i]
      refine Eq.trans ?_ ((tail_s m c (i 0) (i 1) (i 2)).trans (gate_eq _ (fin_cvS m hpre c _ _ _))).symm
      simp -implicitDefEqProofs only [StableHlo.TRef.toBuf, StableHlo.TRef.ofBuf, cast_cast, cast_eq]
      clean_types
      pointwise
      simp only [(hagree c).1, (hagree c).2.1, (hagree c).2.2.1, (hagree c).2.2.2.1]
      exact congrArg₂ (fun a g : EReal => a * Ideal.logistic a * g) (refS m c (i 0) (i 1) _) (refS m c (i 0) (i 1) _)

end Cert.FfnUp
-- ==== Proof.SsdStateBody.lean ====
module

public import proofs.«01_k».proof.Proof.Gen.Kernel12Ideal.Frame
public import Idealize.ShloMosaic.Lib.Claim
public import proofs.«01_k».proof.Proof.Common
public import Idealize.ShloMosaic.Lib.WholeRead
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SsdState

open Cert.Kernel12Ideal Cert.Kernel12Ideal.Gen

theorem row8 (q : Fin 8) (u : Fin 1) : k0_pay4 (ix2 q u) = BitVec.ofNat 32 ((q : ℕ) / 4) := by
  revert q u; decide +kernel

/-- The rows of B of one sequence against its weighted inputs: one product of 128 rows, all but the sequence's four zero. -/
def dh (sw : BitVec 32) (b : FVec Ideal S8x128 .f32) (x : FVec Ideal S8x1024 .f32) : FVec Ideal S1024x128 .f32 :=
  matmul dot_S1024x128_S128x128_S1024x128_1_0_0_1_n_n none
    (truncf .bf16 (transpose S1024x128 [1, 0] (concatenate S128x1024 0 [⟨S8x1024, x⟩, ⟨S120x1024, broadcast S120x1024 (Scalar.ofBits (F := Ideal) .f32 0x00000000#32)⟩]
      concatenates_S8x1024_S120x1024_S128x1024_d0) transposes_S128x1024_p1_0_S1024x128) bitsLt_bf16_f32)
    (truncf .bf16 (concatenate S128x128 0 [⟨S8x128, select (broadcastTo S8x128 (shapeCast S8x1 (cmpi .eq k0_pay4 (broadcast S8x1 sw)) shapeCasts_S8x1_S8x1)
      broadcasts_S8x1_S8x128) b (broadcast S8x128 (Scalar.ofBits (F := Ideal) .f32 0x00000000#32))⟩, ⟨S120x128, k0_pay3⟩]
      concatenates_S8x128_S120x128_S128x128_d0) bitsLt_bf16_f32)
    (constant S1024x128 .f32 0x00000000#32)

theorem dh_zero (b : FVec Ideal S8x128 .f32) (x : FVec Ideal S8x1024 .f32) (j : Fin 1024) (k : Fin 128) :
    dh 0#32 b x (ix2 j k) = ∑ q : Fin 4, x (ix2 ⟨0 * 4 + q, by omega⟩ j) * b (ix2 ⟨0 * 4 + q, by omega⟩ k) := by
  pointwise [dh, k0_pay3]
  simp only [row8, Fin.sum_univ_eight, Fin.sum_univ_four, mul_zero, Finset.sum_const_zero, add_zero]
  simp [Scalar.select, IntOp.cmpi]

theorem dh_one (b : FVec Ideal S8x128 .f32) (x : FVec Ideal S8x1024 .f32) (j : Fin 1024) (k : Fin 128) :
    dh 1#32 b x (ix2 j k) = ∑ q : Fin 4, x (ix2 ⟨1 * 4 + q, by omega⟩ j) * b (ix2 ⟨1 * 4 + q, by omega⟩ k) := by
  pointwise [dh, k0_pay3]
  simp only [row8, Fin.sum_univ_eight, Fin.sum_univ_four, mul_zero, Finset.sum_const_zero, add_zero]
  simp [Scalar.select, IntOp.cmpi]

theorem dh_apply (s : Fin 2) (b : FVec Ideal S8x128 .f32) (x : FVec Ideal S8x1024 .f32) (j : Fin 1024) (k : Fin 128) :
    dh (BitVec.ofNat 32 s) b x (ix2 j k) = ∑ q : Fin 4, x (ix2 ⟨(s : ℕ) * 4 + q, by omega⟩ j) * b (ix2 ⟨(s : ℕ) * 4 + q, by omega⟩ k) := by
  fin_cases s
  · exact dh_zero b x j k
  · exact dh_one b x j k

/-- What one store writes: a head's state by its decay, and its 64 rows of the product. -/
def stored (o1 ob ox : Fin 2 → ℕ) (h1 : S1024x128.Slices o1 S64x128) (hb : S8x1024.Slices ob S8x128) (hx : S8x8192.Slices ox S8x1024) (sw : BitVec 32)
    (H : Vec Ideal S1x1x16x64x128 .f32) (D : Elt Ideal .f32) (B : Vec Ideal S8x1024 .f32) (X : Vec Ideal S8x8192 .f32) : FVec Ideal S1x1x1x64x128 .f32 :=
  shapeCast S1x1x1x64x128 (addf (mulf (extractStridedSlice S64x128 o1 (k0_pay12 H) h1) (broadcast S64x128 D))
    (extractStridedSlice S64x128 o1 (dh sw (extractStridedSlice S8x128 ob (k0_pay6 B) hb) (extractStridedSlice S8x1024 ox (k0_pay7 X) hx)) h1))
    shapeCasts_S64x128_S1x1x1x64x128

theorem stored_apply (s : Fin 2) (g : Fin 8) (r : Fin 16) (o1 ob ox : Fin 2 → ℕ) (h1 : S1024x128.Slices o1 S64x128) (hb : S8x1024.Slices ob S8x128)
    (hx : S8x8192.Slices ox S8x1024) (sw : BitVec 32) (H : Vec Ideal S1x1x16x64x128 .f32) (D : Elt Ideal .f32) (B : Vec Ideal S8x1024 .f32)
    (X : Vec Ideal S8x8192 .f32) (e1 : o1 = ![(r : ℕ) * 64, 0]) (eb : ob = ![0, (g : ℕ) * 128]) (ex : ox = ![0, (g : ℕ) * 1024]) (es : sw = BitVec.ofNat 32 s)
    (u v w : Fin 1) (p : Fin 64) (n : Fin 128) :
    stored o1 ob ox h1 hb hx sw H D B X (ix5 u v w p n) = H (ix5 0 0 r p n) * D +
      ∑ q : Fin 4, X (ix2 ⟨(s : ℕ) * 4 + q, by omega⟩ ⟨(g : ℕ) * 1024 + ((r : ℕ) * 64 + p), by omega⟩) *
        B (ix2 ⟨(s : ℕ) * 4 + q, by omega⟩ ⟨(g : ℕ) * 128 + n, by omega⟩) := by
  subst e1 eb ex es
  have hr : ((r : ℕ) * 64 + p) / 64 = r := by omega
  have hp : ((r : ℕ) * 64 + p) % 64 = p := by omega
  pointwise [stored, k0_pay12]
  rw [dh_apply]
  pointwise [k0_pay6, k0_pay7]

/-- The new state of the two sequences of a block. -/
def target (i : ℕ) (hi : i < 64) (D : Vec Ideal S128x128 .f32) (H : Vec Ideal S1x2x128x64x128 .f32) (B : Vec Ideal S8x1024 .f32) (X : Vec Ideal S8x8192 .f32)
    (s : Fin 2) (h : Fin 128) (p : Fin 64) (n : Fin 128) : EReal :=
  H (ix5 0 s h p n) * D (ix2 ⟨i * 2 + s, by omega⟩ h) +
    ∑ q : Fin 4, X (ix2 ⟨(s : ℕ) * 4 + q, by omega⟩ ⟨(h : ℕ) * 64 + p, by omega⟩) * B (ix2 ⟨(s : ℕ) * 4 + q, by omega⟩ ⟨(h : ℕ) / 16 * 128 + n, by omega⟩)

/-- A piece that holds the target on its rectangle. -/
def Ok (G : S1x2x128x64x128.Idx → EReal) (pc : View.Piece (Elt Ideal) S1x2x128x64x128 .f32) : Prop := ∀ x, pc.2 x = G (pc.1.emb x)

theorem ok_canon (G : S1x2x128x64x128.Idx → EReal) (L : List (View.Piece (Elt Ideal) S1x2x128x64x128 .f32)) (h : ∀ pc ∈ L, Ok G pc) (y : S1x2x128x64x128.Idx)
    (hy : ∃ pc ∈ L, y ∈ pc.1.set) : View.canon L y = G y := by
  induction L with
  | nil => obtain ⟨_, h, _⟩ := hy; cases h
  | cons p L ih =>
    by_cases hp : y ∈ p.1.set
    · obtain ⟨x, rfl⟩ : ∃ x, p.1.emb x = y := p.1.toLoadRect.exists_idx_of_mem hp
      exact (View.canon_cons_emb p.1 p.2 L x).trans (h p List.mem_cons_self x)
    · rw [View.canon_cons_of_not_mem _ _ hp]
      refine ih (fun pc hpc => h pc (List.mem_cons_of_mem _ hpc)) ?_
      obtain ⟨pc, hpc, hm⟩ := hy
      rcases List.mem_cons.1 hpc with rfl | hpc
      · exact absurd hm hp
      · exact ⟨pc, hpc, hm⟩

theorem off_val : ∀ (i : Fin 64) (s : Fin 2), (Scalar.indexCast (Scalar.addi (Scalar.muli (BitVec.ofNat 32 (i : ℕ)) 2#32) (BitVec.ofNat 32 (s : ℕ)))).toNat = i * 2 + s := by
  decide +kernel

/-- The store of head `16 g + r` of sequence `s` writes the target. -/
theorem agree (i : grid0.Coords) (a1 : Memref sig .tc .smem S128x128 .f32) (ha1 : a1.IsWhole) (a2 : Memref sig .tc .vmem S1x2x128x64x128 .f32) (ha2 : a2.IsWhole)
    (a4 : Memref sig .tc .vmem S8x1024 .f32) (ha4 : a4.IsWhole) (a5 : Memref sig .tc .vmem S8x8192 .f32) (ha5 : a5.IsWhole)
    (x0 : Vec Ideal S128x128 .f32) (x1 : Vec Ideal S1x2x128x64x128 .f32) (x3 : Vec Ideal S8x1024 .f32) (x4 : Vec Ideal S8x8192 .f32)
    (s : Fin 2) (g : Fin 8) (r : Fin 16) (sw : BitVec 32) (es : sw = BitVec.ofNat 32 s) (n : ℕ) (en : n = (g : ℕ) * 16 + r)
    (o : Fin 5 → ℕ) (eo : o = ![0, (s : ℕ), n, 0, 0]) (inb : ∀ a, o a + S1x1x1x64x128.size a ≤ S1x2x128x64x128.size a)
    (o1 ob ox : Fin 2 → ℕ) (h1 : S1024x128.Slices o1 S64x128) (hb : S8x1024.Slices ob S8x128) (hx : S8x8192.Slices ox S8x1024)
    (e1 : o1 = ![(r : ℕ) * 64, 0]) (eb : ob = ![0, (g : ℕ) * 128]) (ex : ox = ![0, (g : ℕ) * 1024])
    (oh : Fin 5 → ℕ) (eh : oh = ![0, (s : ℕ), (g : ℕ) * 16, 0, 0]) (inbh : ∀ a, oh a + S1x1x16x64x128.size a ≤ S1x2x128x64x128.size a)
    (od : Fin 2 → ℕ) (ed : od = ![(Scalar.indexCast (Scalar.addi (Scalar.muli (BitVec.ofNat 32 (i 0).val) 2#32) sw)).toNat, n])
    (inbd : ∀ a, od a + S1x1.size a ≤ S128x128.size a) (hf : 0 < (Rect.unit (s := S128x128) od S1x1.size inbd).toLoadRect.shape.numel)
    (inb4 : ∀ a, (![0, 0] : Fin 2 → ℕ) a + S8x1024.size a ≤ S8x1024.size a) (inb5 : ∀ a, (![0, 0] : Fin 2 → ℕ) a + S8x8192.size a ≤ S8x8192.size a) :
    Ok (fun y => target (i 0).val (i 0).isLt x0 x1 x3 x4 (y 1) (y 2) (y 3) (y 4))
      ⟨Rect.unit (s := S1x2x128x64x128) o S1x1x1x64x128.size inb, stored o1 ob ox h1 hb hx sw
        (View.readAt (Elt Ideal) a2.view (Rect.unit (s := S1x2x128x64x128) oh S1x1x16x64x128.size inbh).toLoadRect (ha2.unread x1))
        (View.readAt (Elt Ideal) a1.view (Rect.unit (s := S128x128) od S1x1.size inbd).toLoadRect (ha1.unread x0) (Shape.Idx.first hf))
        (View.readAt (Elt Ideal) a4.view (Rect.unit ![0, 0] S8x1024.size inb4).toLoadRect (ha4.unread x3))
        (View.readAt (Elt Ideal) a5.view (Rect.unit ![0, 0] S8x8192.size inb5).toLoadRect (ha5.unread x4))⟩ := by
  intro x
  have hx' := stored_apply s g r o1 ob ox h1 hb hx sw
        (View.readAt (Elt Ideal) a2.view (Rect.unit (s := S1x2x128x64x128) oh S1x1x16x64x128.size inbh).toLoadRect (ha2.unread x1))
        (View.readAt (Elt Ideal) a1.view (Rect.unit (s := S128x128) od S1x1.size inbd).toLoadRect (ha1.unread x0) (Shape.Idx.first hf))
        (View.readAt (Elt Ideal) a4.view (Rect.unit ![0, 0] S8x1024.size inb4).toLoadRect (ha4.unread x3))
        (View.readAt (Elt Ideal) a5.view (Rect.unit ![0, 0] S8x8192.size inb5).toLoadRect (ha5.unread x4)) e1 eb ex es (x 0) (x 1) (x 2) (x 3) (x 4)
  refine (congrArg _ (eq_ix5 x)).trans (hx'.trans ?_)
  subst eo eh en es
  have hi : (i 0 : ℕ) < 64 := (i 0).isLt
  have hov := off_val ⟨(i 0 : ℕ), hi⟩ s
  rw [ha2.readAt_unread, ha1.readAt_unread]
  simp only [ha4.readAt_unread, ha5.readAt_unread]
  unfold target
  have hg := g.isLt
  have hr := r.isLt
  refine congrArg₂ (fun a b : EReal => a + b) (congrArg₂ (fun a b : EReal => a * b) (congrArg x1 ?_) (congrArg x0 ?_))
    (Finset.sum_congr rfl fun q _ => congrArg₂ (fun a b : EReal => a * b) (congrArg x4 ?_) (congrArg x3 ?_))
  · funext a
    refine Fin.ext ?_
    have y1 : (x 1 : ℕ) < 1 := (x 1).isLt
    have y2 : (x 2 : ℕ) < 1 := (x 2).isLt
    fin_cases a
    · show 0 + 1 * 0 = 0
      rfl
    · show (s : ℕ) + 1 * 0 = s + 1 * (x 1 : ℕ)
      omega
    · show (g : ℕ) * 16 + 1 * (r : ℕ) = (g : ℕ) * 16 + r + 1 * (x 2 : ℕ)
      omega
    · rfl
    · rfl
  · funext a
    refine Fin.ext ?_
    have y1 : (x 1 : ℕ) < 1 := (x 1).isLt
    have y2 : (x 2 : ℕ) < 1 := (x 2).isLt
    subst ed
    fin_cases a
    · show (Scalar.indexCast (Scalar.addi (Scalar.muli (BitVec.ofNat 32 (i 0 : ℕ)) 2#32) (BitVec.ofNat 32 (s : ℕ)))).toNat + 1 * 0 = (i 0 : ℕ) * 2 + (s + 1 * (x 1 : ℕ))
      refine (congrArg (· + 1 * 0) hov).trans ?_
      show (i 0 : ℕ) * 2 + s + 1 * 0 = _
      omega
    · show (g : ℕ) * 16 + r + 1 * 0 = (g : ℕ) * 16 + r + 1 * (x 2 : ℕ)
      omega
  · funext a
    refine Fin.ext ?_
    have y1 : (x 1 : ℕ) < 1 := (x 1).isLt
    have y2 : (x 2 : ℕ) < 1 := (x 2).isLt
    fin_cases a
    · show 0 + 1 * ((s : ℕ) * 4 + q) = (s + 1 * (x 1 : ℕ)) * 4 + q
      omega
    · show 0 + 1 * ((g : ℕ) * 1024 + ((r : ℕ) * 64 + (x 3 : ℕ))) = ((g : ℕ) * 16 + r + 1 * (x 2 : ℕ)) * 64 + (0 + 1 * (x 3 : ℕ))
      omega
  · funext a
    refine Fin.ext ?_
    have y1 : (x 1 : ℕ) < 1 := (x 1).isLt
    have y2 : (x 2 : ℕ) < 1 := (x 2).isLt
    fin_cases a
    · show 0 + 1 * ((s : ℕ) * 4 + q) = (s + 1 * (x 1 : ℕ)) * 4 + q
      omega
    · show 0 + 1 * ((g : ℕ) * 128 + (x 4 : ℕ)) = ((g : ℕ) * 16 + r + 1 * (x 2 : ℕ)) / 16 * 128 + (0 + 1 * (x 4 : ℕ))
      omega

theorem sl1 : ∀ r : Fin 16, S1024x128.Slices ![(r : ℕ) * 64, 0] S64x128 := by decide +kernel
theorem slb : ∀ g : Fin 8, S8x1024.Slices ![0, (g : ℕ) * 128] S8x128 := by decide +kernel
theorem slx : ∀ g : Fin 8, S8x8192.Slices ![0, (g : ℕ) * 1024] S8x1024 := by decide +kernel

set_option maxHeartbeats 0 in
/-- Every store of the body writes the target on its rectangle. -/
theorem all_ok (c : Dev nD) (i : grid0.Coords) (a1 : Memref sig .tc .smem S128x128 .f32) (ha1 : a1.IsWhole) (a2 : Memref sig .tc .vmem S1x2x128x64x128 .f32) (ha2 : a2.IsWhole)
    (a3 : Memref sig .tc .vmem S8x1024 .f32) (ha3 : a3.IsWhole) (a4 : Memref sig .tc .vmem S8x1024 .f32) (ha4 : a4.IsWhole)
    (a5 : Memref sig .tc .vmem S8x8192 .f32) (ha5 : a5.IsWhole) (a7 : Memref sig .tc .vmem S1x2x128x64x128 .f32) (ha7 : a7.IsWhole)
    (a8 : Memref sig .tc .vmem S8x8192 .f32) (ha8 : a8.IsWhole)
    (x0 : Vec Ideal S128x128 .f32) (x1 : Vec Ideal S1x2x128x64x128 .f32) (x2 : Vec Ideal S8x1024 .f32) (x3 : Vec Ideal S8x1024 .f32) (x4 : Vec Ideal S8x8192 .f32) :
    ∀ pc ∈ (kernelRun0_A c i a1 ha1 a2 ha2 a3 ha3 a4 ha4 a5 ha5 a7 ha7 a8 ha8 x0 x1 x2 x3 x4).1,
      Ok (fun y => target (i 0).val (i 0).isLt x0 x1 x3 x4 (y 1) (y 2) (y 3) (y 4)) pc := by
  unfold kernelRun0_A
  dsimp only
  have A := fun s g r => agree i a1 ha1 a2 ha2 a4 ha4 a5 ha5 x0 x1 x3 x4 s g r
  refine List.forall_mem_cons.2 ⟨?_, ?_⟩
  · exact A 1 7 15 1#32 rfl 127 rfl ![0, 1, 127, 0, 0] rfl _ ![960, 0] ![0, 896] ![0, 7168] (sl1 15) (slb 7) (slx 7) rfl rfl rfl ![0, 1, 112, 0, 0] rfl _ _ rfl _ _ _ _
  refine List.forall_mem_cons.2 ⟨?_, ?_⟩
  · exact A 1 7 14 1#32 rfl 126 rfl ![0, 1, 126, 0, 0] rfl _ ![896, 0] ![0, 896] ![0, 7168] (sl1 14) (slb 7) (slx 7) rfl rfl rfl ![0, 1, 112, 0, 0] rfl _ _ rfl _ _ _ _
  refine List.forall_mem_cons.2 ⟨?_, ?_⟩
  · exact A 1 7 13 1#32 rfl 125 rfl ![0, 1, 125, 0, 0] rfl _ ![832, 0] ![0, 896] ![0, 7168] (sl1 13) (slb 7) (slx 7) rfl rfl rfl ![0, 1, 112, 0, 0] rfl _ _ rfl _ _ _ _
  refine List.forall_mem_cons.2 ⟨?_, ?_⟩
  · exact A 1 7 12 1#32 rfl 124 rfl ![0, 1, 124, 0, 0] rfl _ ![768, 0] ![0, 896] ![0, 7168] (sl1 12) (slb 7) (slx 7) rfl rfl rfl ![0, 1, 112, 0, 0] rfl _ _ rfl _ _ _ _
  refine List.forall_mem_cons.2 ⟨?_, ?_⟩
  · exact A 1 7 11 1#32 rfl 123 rfl ![0, 1, 123, 0, 0] rfl _ ![704, 0] ![0, 896] ![0, 7168] (sl1 11) (slb 7) (slx 7) rfl rfl rfl ![0, 1, 112, 0, 0] rfl _ _ rfl _ _ _ _
  refine List.forall_mem_cons.2 ⟨?_, ?_⟩
  · exact A 1 7 10 1#32 rfl 122 rfl ![0, 1, 122, 0, 0] rfl _ ![640, 0] ![0, 896] ![0, 7168] (sl1 10) (slb 7) (slx 7) rfl rfl rfl ![0, 1, 112, 0, 0] rfl _ _ rfl _ _ _ _
  refine List.forall_mem_cons.2 ⟨?_, ?_⟩
  · exact A 1 7 9 1#32 rfl 121 rfl ![0, 1, 121, 0, 0] rfl _ ![576, 0] ![0, 896] ![0, 7168] (sl1 9) (slb 7) (slx 7) rfl rfl rfl ![0, 1, 112, 0, 0] rfl _ _ rfl _ _ _ _
  refine List.forall_mem_cons.2 ⟨?_, ?_⟩
  · exact A 1 7 8 1#32 rfl 120 rfl ![0, 1, 120, 0, 0] rfl _ ![512, 0] ![0, 896] ![0, 7168] (sl1 8) (slb 7) (slx 7) rfl rfl rfl ![0, 1, 112, 0, 0] rfl _ _ rfl _ _ _ _
  refine List.forall_mem_cons.2 ⟨?_, ?_⟩
  · exact A 1 7 7 1#32 rfl 119 rfl ![0, 1, 119, 0, 0] rfl _ ![448, 0] ![0, 896] ![0, 7168] (sl1 7) (slb 7) (slx 7) rfl rfl rfl ![0, 1, 112, 0, 0] rfl _ _ rfl _ _ _ _
  refine List.forall_mem_cons.2 ⟨?_, ?_⟩
  · exact A 1 7 6 1#32 rfl 118 rfl ![0, 1, 118, 0, 0] rfl _ ![384, 0] ![0, 896] ![0, 7168] (sl1 6) (slb 7) (slx 7) rfl rfl rfl ![0, 1, 112, 0, 0] rfl _ _ rfl _ _ _ _
  refine List.forall_mem_cons.2 ⟨?_, ?_⟩
  · exact A 1 7 5 1#32 rfl 117 rfl ![0, 1, 117, 0, 0] rfl _ ![320, 0] ![0, 896] ![0, 7168] (sl1 5) (slb 7) (slx 7) rfl rfl rfl ![0, 1, 112, 0, 0] rfl _ _ rfl _ _ _ _
  refine List.forall_mem_cons.2 ⟨?_, ?_⟩
  · exact A 1 7 4 1#32 rfl 116 rfl ![0, 1, 116, 0, 0] rfl _ ![256, 0] ![0, 896] ![0, 7168] (sl1 4) (slb 7) (slx 7) rfl rfl rfl ![0, 1, 112, 0, 0] rfl _ _ rfl _ _ _ _
  refine List.forall_mem_cons.2 ⟨?_, ?_⟩
  · exact A 1 7 3 1#32 rfl 115 rfl ![0, 1, 115, 0, 0] rfl _ ![192, 0] ![0, 896] ![0, 7168] (sl1 3) (slb 7) (slx 7) rfl rfl rfl ![0, 1, 112, 0, 0] rfl _ _ rfl _ _ _ _
  refine List.forall_mem_cons.2 ⟨?_, ?_⟩
  · exact A 1 7 2 1#32 rfl 114 rfl ![0, 1, 114, 0, 0] rfl _ ![128, 0] ![0, 896] ![0, 7168] (sl1 2) (slb 7) (slx 7) rfl rfl rfl ![0, 1, 112, 0, 0] rfl _ _ rfl _ _ _ _
  refine List.forall_mem_cons.2 ⟨?_, ?_⟩
  · exact A 1 7 1 1#32 rfl 113 rfl ![0, 1, 113, 0, 0] rfl _ ![64, 0] ![0, 896] ![0, 7168] (sl1 1) (slb 7) (slx 7) rfl rfl rfl ![0, 1, 112, 0, 0] rfl _ _ rfl _ _ _ _
  refine List.forall_mem_cons.2 ⟨?_, ?_⟩
  · exact A 1 7 0 1#32 rfl 112 rfl ![0, 1, 112, 0, 0] rfl _ ![0, 0] ![0, 896] ![0, 7168] (sl1 0) (slb 7) (slx 7) rfl rfl rfl ![0, 1, 112, 0, 0] rfl _ _ rfl _ _ _ _
  refine List.forall_mem_cons.2 ⟨?_, ?_⟩
  · exact A 0 7 15 0#32 rfl 127 rfl ![0, 0, 127, 0, 0] rfl _ ![960, 0] ![0, 896] ![0, 7168] (sl1 15) (slb 7) (slx 7) rfl rfl rfl ![0, 0, 112, 0, 0] rfl _ _ rfl _ _ _ _
  refine List.forall_mem_cons.2 ⟨?_, ?_⟩
  · exact A 0 7 14 0#32 rfl 126 rfl ![0, 0, 126, 0, 0] rfl _ ![896, 0] ![0, 896] ![0, 7168] (sl1 14) (slb 7) (slx 7) rfl rfl rfl ![0, 0, 112, 0, 0] rfl _ _ rfl _ _ _ _
  refine List.forall_mem_cons.2 ⟨?_, ?_⟩
  · exact A 0 7 13 0#32 rfl 125 rfl ![0, 0, 125, 0, 0] rfl _ ![832, 0] ![0, 896] ![0, 7168] (sl1 13) (slb 7) (slx 7) rfl rfl rfl ![0, 0, 112, 0, 0] rfl _ _ rfl _ _ _ _
  refine List.forall_mem_cons.2 ⟨?_, ?_⟩
  · exact A 0 7 12 0#32 rfl 124 rfl ![0, 0, 124, 0, 0] rfl _ ![768, 0] ![0, 896] ![0, 7168] (sl1 12) (slb 7) (slx 7) rfl rfl rfl ![0, 0, 112, 0, 0] rfl _ _ rfl _ _ _ _
  refine List.forall_mem_cons.2 ⟨?_, ?_⟩
  · exact A 0 7 11 0#32 rfl 123 rfl ![0, 0, 123, 0, 0] rfl _ ![704, 0] ![0, 896] ![0, 7168] (sl1 11) (slb 7) (slx 7) rfl rfl rfl ![0, 0, 112, 0, 0] rfl _ _ rfl _ _ _ _
  refine List.forall_mem_cons.2 ⟨?_, ?_⟩
  · exact A 0 7 10 0#32 rfl 122 rfl ![0, 0, 122, 0, 0] rfl _ ![640, 0] ![0, 896] ![0, 7168] (sl1 10) (slb 7) (slx 7) rfl rfl rfl ![0, 0, 112, 0, 0] rfl _ _ rfl _ _ _ _
  refine List.forall_mem_cons.2 ⟨?_, ?_⟩
  · exact A 0 7 9 0#32 rfl 121 rfl ![0, 0, 121, 0, 0] rfl _ ![576, 0] ![0, 896] ![0, 7168] (sl1 9) (slb 7) (slx 7) rfl rfl rfl ![0, 0, 112, 0, 0] rfl _ _ rfl _ _ _ _
  refine List.forall_mem_cons.2 ⟨?_, ?_⟩
  · exact A 0 7 8 0#32 rfl 120 rfl ![0, 0, 120, 0, 0] rfl _ ![512, 0] ![0, 896] ![0, 7168] (sl1 8) (slb 7) (slx 7) rfl rfl rfl ![0, 0, 112, 0, 0] rfl _ _ rfl _ _ _ _
  refine List.forall_mem_cons.2 ⟨?_, ?_⟩
  · exact A 0 7 7 0#32 rfl 119 rfl ![0, 0, 119, 0, 0] rfl _ ![448, 0] ![0, 896] ![0, 7168] (sl1 7) (slb 7) (slx 7) rfl rfl rfl ![0, 0, 112, 0, 0] rfl _ _ rfl _ _ _ _
  refine List.forall_mem_cons.2 ⟨?_, ?_⟩
  · exact A 0 7 6 0#32 rfl 118 rfl ![0, 0, 118, 0, 0] rfl _ ![384, 0] ![0, 896] ![0, 7168] (sl1 6) (slb 7) (slx 7) rfl rfl rfl ![0, 0, 112, 0, 0] rfl _ _ rfl _ _ _ _
  refine List.forall_mem_cons.2 ⟨?_, ?_⟩
  · exact A 0 7 5 0#32 rfl 117 rfl ![0, 0, 117, 0, 0] rfl _ ![320, 0] ![0, 896] ![0, 7168] (sl1 5) (slb 7) (slx 7) rfl rfl rfl ![0, 0, 112, 0, 0] rfl _ _ rfl _ _ _ _
  refine List.forall_mem_cons.2 ⟨?_, ?_⟩
  · exact A 0 7 4 0#32 rfl 116 rfl ![0, 0, 116, 0, 0] rfl _ ![256, 0] ![0, 896] ![0, 7168] (sl1 4) (slb 7) (slx 7) rfl rfl rfl ![0, 0, 112, 0, 0] rfl _ _ rfl _ _ _ _
  refine List.forall_mem_cons.2 ⟨?_, ?_⟩
  · exact A 0 7 3 0#32 rfl 115 rfl ![0, 0, 115, 0, 0] rfl _ ![192, 0] ![0, 896] ![0, 7168] (sl1 3) (slb 7) (slx 7) rfl rfl rfl ![0, 0, 112, 0, 0] rfl _ _ rfl _ _ _ _
  refine List.forall_mem_cons.2 ⟨?_, ?_⟩
  · exact A 0 7 2 0#32 rfl 114 rfl ![0, 0, 114, 0, 0] rfl _ ![128, 0] ![0, 896] ![0, 7168] (sl1 2) (slb 7) (slx 7) rfl rfl rfl ![0, 0, 112, 0, 0] rfl _ _ rfl _ _ _ _
  refine List.forall_mem_cons.2 ⟨?_, ?_⟩
  · exact A 0 7 1 0#32 rfl 113 rfl ![0, 0, 113, 0, 0] rfl _ ![64, 0] ![0, 896] ![0, 7168] (sl1 1) (slb 7) (slx 7) rfl rfl rfl ![0, 0, 112, 0, 0] rfl _ _ rfl _ _ _ _
  refine List.forall_mem_cons.2 ⟨?_, ?_⟩
  · exact A 0 7 0 0#32 rfl 112 rfl ![0, 0, 112, 0, 0] rfl _ ![0, 0] ![0, 896] ![0, 7168] (sl1 0) (slb 7) (slx 7) rfl rfl rfl ![0, 0, 112, 0, 0] rfl _ _ rfl _ _ _ _
  refine List.forall_mem_cons.2 ⟨?_, ?_⟩
  · exact A 1 6 15 1#32 rfl 111 rfl ![0, 1, 111, 0, 0] rfl _ ![960, 0] ![0, 768] ![0, 6144] (sl1 15) (slb 6) (slx 6) rfl rfl rfl ![0, 1, 96, 0, 0] rfl _ _ rfl _ _ _ _
  refine List.forall_mem_cons.2 ⟨?_, ?_⟩
  · exact A 1 6 14 1#32 rfl 110 rfl ![0, 1, 110, 0, 0] rfl _ ![896, 0] ![0, 768] ![0, 6144] (sl1 14) (slb 6) (slx 6) rfl rfl rfl ![0, 1, 96, 0, 0] rfl _ _ rfl _ _ _ _
  refine List.forall_mem_cons.2 ⟨?_, ?_⟩
  · exact A 1 6 13 1#32 rfl 109 rfl ![0, 1, 109, 0, 0] rfl _ ![832, 0] ![0, 768] ![0, 6144] (sl1 13) (slb 6) (slx 6) rfl rfl rfl ![0, 1, 96, 0, 0] rfl _ _ rfl _ _ _ _
  refine List.forall_mem_cons.2 ⟨?_, ?_⟩
  · exact A 1 6 12 1#32 rfl 108 rfl ![0, 1, 108, 0, 0] rfl _ ![768, 0] ![0, 768] ![0, 6144] (sl1 12) (slb 6) (slx 6) rfl rfl rfl ![0, 1, 96, 0, 0] rfl _ _ rfl _ _ _ _
  refine List.forall_mem_cons.2 ⟨?_, ?_⟩
  · exact A 1 6 11 1#32 rfl 107 rfl ![0, 1, 107, 0, 0] rfl _ ![704, 0] ![0, 768] ![0, 6144] (sl1 11) (slb 6) (slx 6) rfl rfl rfl ![0, 1, 96, 0, 0] rfl _ _ rfl _ _ _ _
  refine List.forall_mem_cons.2 ⟨?_, ?_⟩
  · exact A 1 6 10 1#32 rfl 106 rfl ![0, 1, 106, 0, 0] rfl _ ![640, 0] ![0, 768] ![0, 6144] (sl1 10) (slb 6) (slx 6) rfl rfl rfl ![0, 1, 96, 0, 0] rfl _ _ rfl _ _ _ _
  refine List.forall_mem_cons.2 ⟨?_, ?_⟩
  · exact A 1 6 9 1#32 rfl 105 rfl ![0, 1, 105, 0, 0] rfl _ ![576, 0] ![0, 768] ![0, 6144] (sl1 9) (slb 6) (slx 6) rfl rfl rfl ![0, 1, 96, 0, 0] rfl _ _ rfl _ _ _ _
  refine List.forall_mem_cons.2 ⟨?_, ?_⟩
  · exact A 1 6 8 1#32 rfl 104 rfl ![0, 1, 104, 0, 0] rfl _ ![512, 0] ![0, 768] ![0, 6144] (sl1 8) (slb 6) (slx 6) rfl rfl rfl ![0, 1, 96, 0, 0] rfl _ _ rfl _ _ _ _
  refine List.forall_mem_cons.2 ⟨?_, ?_⟩
  · exact A 1 6 7 1#32 rfl 103 rfl ![0, 1, 103, 0, 0] rfl _ ![448, 0] ![0, 768] ![0, 6144] (sl1 7) (slb 6) (slx 6) rfl rfl rfl ![0, 1, 96, 0, 0] rfl _ _ rfl _ _ _ _
  refine List.forall_mem_cons.2 ⟨?_, ?_⟩
  · exact A 1 6 6 1#32 rfl 102 rfl ![0, 1, 102, 0, 0] rfl _ ![384, 0] ![0, 768] ![0, 6144] (sl1 6) (slb 6) (slx 6) rfl rfl rfl ![0, 1, 96, 0, 0] rfl _ _ rfl _ _ _ _
  refine List.forall_mem_cons.2 ⟨?_, ?_⟩
  · exact A 1 6 5 1#32 rfl 101 rfl ![0, 1, 101, 0, 0] rfl _ ![320, 0] ![0, 768] ![0, 6144] (sl1 5) (slb 6) (slx 6) rfl rfl rfl ![0, 1, 96, 0, 0] rfl _ _ rfl _ _ _ _
  refine List.forall_mem_cons.2 ⟨?_, ?_⟩
  · exact A 1 6 4 1#32 rfl 100 rfl ![0, 1, 100, 0, 0] rfl _ ![256, 0] ![0, 768] ![0, 6144] (sl1 4) (slb 6) (slx 6) rfl rfl rfl ![0, 1, 96, 0, 0] rfl _ _ rfl _ _ _ _
  refine List.forall_mem_cons.2 ⟨?_, ?_⟩
  · exact A 1 6 3 1#32 rfl 99 rfl ![0, 1, 99, 0, 0] rfl _ ![192, 0] ![0, 768] ![0, 6144] (sl1 3) (slb 6) (slx 6) rfl rfl rfl ![0, 1, 96, 0, 0] rfl _ _ rfl _ _ _ _
  refine List.forall_mem_cons.2 ⟨?_, ?_⟩
  · exact A 1 6 2 1#32 rfl 98 rfl ![0, 1, 98, 0, 0] rfl _ ![128, 0] ![0, 768] ![0, 6144] (sl1 2) (slb 6) (slx 6) rfl rfl rfl ![0, 1, 96, 0, 0] rfl _ _ rfl _ _ _ _
  refine List.forall_mem_cons.2 ⟨?_, ?_⟩
  · exact A 1 6 1 1#32 rfl 97 rfl ![0, 1, 97, 0, 0] rfl _ ![64, 0] ![0, 768] ![0, 6144] (sl1 1) (slb 6) (slx 6) rfl rfl rfl ![0, 1, 96, 0, 0] rfl _ _ rfl _ _ _ _
  refine List.forall_mem_cons.2 ⟨?_, ?_⟩
  · exact A 1 6 0 1#32 rfl 96 rfl ![0, 1, 96, 0, 0] rfl _ ![0, 0] ![0, 768] ![0, 6144] (sl1 0) (slb 6) (slx 6) rfl rfl rfl ![0, 1, 96, 0, 0] rfl _ _ rfl _ _ _ _
  refine List.forall_mem_cons.2 ⟨?_, ?_⟩
  · exact A 0 6 15 0#32 rfl 111 rfl ![0, 0, 111, 0, 0] rfl _ ![960, 0] ![0, 768] ![0, 6144] (sl1 15) (slb 6) (slx 6) rfl rfl rfl ![0, 0, 96, 0, 0] rfl _ _ rfl _ _ _ _
  refine List.forall_mem_cons.2 ⟨?_, ?_⟩
  · exact A 0 6 14 0#32 rfl 110 rfl ![0, 0, 110, 0, 0] rfl _ ![896, 0] ![0, 768] ![0, 6144] (sl1 14) (slb 6) (slx 6) rfl rfl rfl ![0, 0, 96, 0, 0] rfl _ _ rfl _ _ _ _
  refine List.forall_mem_cons.2 ⟨?_, ?_⟩
  · exact A 0 6 13 0#32 rfl 109 rfl ![0, 0, 109, 0, 0] rfl _ ![832, 0] ![0, 768] ![0, 6144] (sl1 13) (slb 6) (slx 6) rfl rfl rfl ![0, 0, 96, 0, 0] rfl _ _ rfl _ _ _ _
  refine List.forall_mem_cons.2 ⟨?_, ?_⟩
  · exact A 0 6 12 0#32 rfl 108 rfl ![0, 0, 108, 0, 0] rfl _ ![768, 0] ![0, 768] ![0, 6144] (sl1 12) (slb 6) (slx 6) rfl rfl rfl ![0, 0, 96, 0, 0] rfl _ _ rfl _ _ _ _
  refine List.forall_mem_cons.2 ⟨?_, ?_⟩
  · exact A 0 6 11 0#32 rfl 107 rfl ![0, 0, 107, 0, 0] rfl _ ![704, 0] ![0, 768] ![0, 6144] (sl1 11) (slb 6) (slx 6) rfl rfl rfl ![0, 0, 96, 0, 0] rfl _ _ rfl _ _ _ _
  refine List.forall_mem_cons.2 ⟨?_, ?_⟩
  · exact A 0 6 10 0#32 rfl 106 rfl ![0, 0, 106, 0, 0] rfl _ ![640, 0] ![0, 768] ![0, 6144] (sl1 10) (slb 6) (slx 6) rfl rfl rfl ![0, 0, 96, 0, 0] rfl _ _ rfl _ _ _ _
  refine List.forall_mem_cons.2 ⟨?_, ?_⟩
  · exact A 0 6 9 0#32 rfl 105 rfl ![0, 0, 105, 0, 0] rfl _ ![576, 0] ![0, 768] ![0, 6144] (sl1 9) (slb 6) (slx 6) rfl rfl rfl ![0, 0, 96, 0, 0] rfl _ _ rfl _ _ _ _
  refine List.forall_mem_cons.2 ⟨?_, ?_⟩
  · exact A 0 6 8 0#32 rfl 104 rfl ![0, 0, 104, 0, 0] rfl _ ![512, 0] ![0, 768] ![0, 6144] (sl1 8) (slb 6) (slx 6) rfl rfl rfl ![0, 0, 96, 0, 0] rfl _ _ rfl _ _ _ _
  refine List.forall_mem_cons.2 ⟨?_, ?_⟩
  · exact A 0 6 7 0#32 rfl 103 rfl ![0, 0, 103, 0, 0] rfl _ ![448, 0] ![0, 768] ![0, 6144] (sl1 7) (slb 6) (slx 6) rfl rfl rfl ![0, 0, 96, 0, 0] rfl _ _ rfl _ _ _ _
  refine List.forall_mem_cons.2 ⟨?_, ?_⟩
  · exact A 0 6 6 0#32 rfl 102 rfl ![0, 0, 102, 0, 0] rfl _ ![384, 0] ![0, 768] ![0, 6144] (sl1 6) (slb 6) (slx 6) rfl rfl rfl ![0, 0, 96, 0, 0] rfl _ _ rfl _ _ _ _
  refine List.forall_mem_cons.2 ⟨?_, ?_⟩
  · exact A 0 6 5 0#32 rfl 101 rfl ![0, 0, 101, 0, 0] rfl _ ![320, 0] ![0, 768] ![0, 6144] (sl1 5) (slb 6) (slx 6) rfl rfl rfl ![0, 0, 96, 0, 0] rfl _ _ rfl _ _ _ _
  refine List.forall_mem_cons.2 ⟨?_, ?_⟩
  · exact A 0 6 4 0#32 rfl 100 rfl ![0, 0, 100, 0, 0] rfl _ ![256, 0] ![0, 768] ![0, 6144] (sl1 4) (slb 6) (slx 6) rfl rfl rfl ![0, 0, 96, 0, 0] rfl _ _ rfl _ _ _ _
  refine List.forall_mem_cons.2 ⟨?_, ?_⟩
  · exact A 0 6 3 0#32 rfl 99 rfl ![0, 0, 99, 0, 0] rfl _ ![192, 0] ![0, 768] ![0, 6144] (sl1 3) (slb 6) (slx 6) rfl rfl rfl ![0, 0, 96, 0, 0] rfl _ _ rfl _ _ _ _
  refine List.forall_mem_cons.2 ⟨?_, ?_⟩
  · exact A 0 6 2 0#32 rfl 98 rfl ![0, 0, 98, 0, 0] rfl _ ![128, 0] ![0, 768] ![0, 6144] (sl1 2) (slb 6) (slx 6) rfl rfl rfl ![0, 0, 96, 0, 0] rfl _ _ rfl _ _ _ _
  refine List.forall_mem_cons.2 ⟨?_, ?_⟩
  · exact A 0 6 1 0#32 rfl 97 rfl ![0, 0, 97, 0, 0] rfl _ ![64, 0] ![0, 768] ![0, 6144] (sl1 1) (slb 6) (slx 6) rfl rfl rfl ![0, 0, 96, 0, 0] rfl _ _ rfl _ _ _ _
  refine List.forall_mem_cons.2 ⟨?_, ?_⟩
  · exact A 0 6 0 0#32 rfl 96 rfl ![0, 0, 96, 0, 0] rfl _ ![0, 0] ![0, 768] ![0, 6144] (sl1 0) (slb 6) (slx 6) rfl rfl rfl ![0, 0, 96, 0, 0] rfl _ _ rfl _ _ _ _
  refine List.forall_mem_cons.2 ⟨?_, ?_⟩
  · exact A 1 5 15 1#32 rfl 95 rfl ![0, 1, 95, 0, 0] rfl _ ![960, 0] ![0, 640] ![0, 5120] (sl1 15) (slb 5) (slx 5) rfl rfl rfl ![0, 1, 80, 0, 0] rfl _ _ rfl _ _ _ _
  refine List.forall_mem_cons.2 ⟨?_, ?_⟩
  · exact A 1 5 14 1#32 rfl 94 rfl ![0, 1, 94, 0, 0] rfl _ ![896, 0] ![0, 640] ![0, 5120] (sl1 14) (slb 5) (slx 5) rfl rfl rfl ![0, 1, 80, 0, 0] rfl _ _ rfl _ _ _ _
  refine List.forall_mem_cons.2 ⟨?_, ?_⟩
  · exact A 1 5 13 1#32 rfl 93 rfl ![0, 1, 93, 0, 0] rfl _ ![832, 0] ![0, 640] ![0, 5120] (sl1 13) (slb 5) (slx 5) rfl rfl rfl ![0, 1, 80, 0, 0] rfl _ _ rfl _ _ _ _
  refine List.forall_mem_cons.2 ⟨?_, ?_⟩
  · exact A 1 5 12 1#32 rfl 92 rfl ![0, 1, 92, 0, 0] rfl _ ![768, 0] ![0, 640] ![0, 5120] (sl1 12) (slb 5) (slx 5) rfl rfl rfl ![0, 1, 80, 0, 0] rfl _ _ rfl _ _ _ _
  refine List.forall_mem_cons.2 ⟨?_, ?_⟩
  · exact A 1 5 11 1#32 rfl 91 rfl ![0, 1, 91, 0, 0] rfl _ ![704, 0] ![0, 640] ![0, 5120] (sl1 11) (slb 5) (slx 5) rfl rfl rfl ![0, 1, 80, 0, 0] rfl _ _ rfl _ _ _ _
  refine List.forall_mem_cons.2 ⟨?_, ?_⟩
  · exact A 1 5 10 1#32 rfl 90 rfl ![0, 1, 90, 0, 0] rfl _ ![640, 0] ![0, 640] ![0, 5120] (sl1 10) (slb 5) (slx 5) rfl rfl rfl ![0, 1, 80, 0, 0] rfl _ _ rfl _ _ _ _
  refine List.forall_mem_cons.2 ⟨?_, ?_⟩
  · exact A 1 5 9 1#32 rfl 89 rfl ![0, 1, 89, 0, 0] rfl _ ![576, 0] ![0, 640] ![0, 5120] (sl1 9) (slb 5) (slx 5) rfl rfl rfl ![0, 1, 80, 0, 0] rfl _ _ rfl _ _ _ _
  refine List.forall_mem_cons.2 ⟨?_, ?_⟩
  · exact A 1 5 8 1#32 rfl 88 rfl ![0, 1, 88, 0, 0] rfl _ ![512, 0] ![0, 640] ![0, 5120] (sl1 8) (slb 5) (slx 5) rfl rfl rfl ![0, 1, 80, 0, 0] rfl _ _ rfl _ _ _ _
  refine List.forall_mem_cons.2 ⟨?_, ?_⟩
  · exact A 1 5 7 1#32 rfl 87 rfl ![0, 1, 87, 0, 0] rfl _ ![448, 0] ![0, 640] ![0, 5120] (sl1 7) (slb 5) (slx 5) rfl rfl rfl ![0, 1, 80, 0, 0] rfl _ _ rfl _ _ _ _
  refine List.forall_mem_cons.2 ⟨?_, ?_⟩
  · exact A 1 5 6 1#32 rfl 86 rfl ![0, 1, 86, 0, 0] rfl _ ![384, 0] ![0, 640] ![0, 5120] (sl1 6) (slb 5) (slx 5) rfl rfl rfl ![0, 1, 80, 0, 0] rfl _ _ rfl _ _ _ _
  refine List.forall_mem_cons.2 ⟨?_, ?_⟩
  · exact A 1 5 5 1#32 rfl 85 rfl ![0, 1, 85, 0, 0] rfl _ ![320, 0] ![0, 640] ![0, 5120] (sl1 5) (slb 5) (slx 5) rfl rfl rfl ![0, 1, 80, 0, 0] rfl _ _ rfl _ _ _ _
  refine List.forall_mem_cons.2 ⟨?_, ?_⟩
  · exact A 1 5 4 1#32 rfl 84 rfl ![0, 1, 84, 0, 0] rfl _ ![256, 0] ![0, 640] ![0, 5120] (sl1 4) (slb 5) (slx 5) rfl rfl rfl ![0, 1, 80, 0, 0] rfl _ _ rfl _ _ _ _
  refine List.forall_mem_cons.2 ⟨?_, ?_⟩
  · exact A 1 5 3 1#32 rfl 83 rfl ![0, 1, 83, 0, 0] rfl _ ![192, 0] ![0, 640] ![0, 5120] (sl1 3) (slb 5) (slx 5) rfl rfl rfl ![0, 1, 80, 0, 0] rfl _ _ rfl _ _ _ _
  refine List.forall_mem_cons.2 ⟨?_, ?_⟩
  · exact A 1 5 2 1#32 rfl 82 rfl ![0, 1, 82, 0, 0] rfl _ ![128, 0] ![0, 640] ![0, 5120] (sl1 2) (slb 5) (slx 5) rfl rfl rfl ![0, 1, 80, 0, 0] rfl _ _ rfl _ _ _ _
  refine List.forall_mem_cons.2 ⟨?_, ?_⟩
  · exact A 1 5 1 1#32 rfl 81 rfl ![0, 1, 81, 0, 0] rfl _ ![64, 0] ![0, 640] ![0, 5120] (sl1 1) (slb 5) (slx 5) rfl rfl rfl ![0, 1, 80, 0, 0] rfl _ _ rfl _ _ _ _
  refine List.forall_mem_cons.2 ⟨?_, ?_⟩
  · exact A 1 5 0 1#32 rfl 80 rfl ![0, 1, 80, 0, 0] rfl _ ![0, 0] ![0, 640] ![0, 5120] (sl1 0) (slb 5) (slx 5) rfl rfl rfl ![0, 1, 80, 0, 0] rfl _ _ rfl _ _ _ _
  refine List.forall_mem_cons.2 ⟨?_, ?_⟩
  · exact A 0 5 15 0#32 rfl 95 rfl ![0, 0, 95, 0, 0] rfl _ ![960, 0] ![0, 640] ![0, 5120] (sl1 15) (slb 5) (slx 5) rfl rfl rfl ![0, 0, 80, 0, 0] rfl _ _ rfl _ _ _ _
  refine List.forall_mem_cons.2 ⟨?_, ?_⟩
  · exact A 0 5 14 0#32 rfl 94 rfl ![0, 0, 94, 0, 0] rfl _ ![896, 0] ![0, 640] ![0, 5120] (sl1 14) (slb 5) (slx 5) rfl rfl rfl ![0, 0, 80, 0, 0] rfl _ _ rfl _ _ _ _
  refine List.forall_mem_cons.2 ⟨?_, ?_⟩
  · exact A 0 5 13 0#32 rfl 93 rfl ![0, 0, 93, 0, 0] rfl _ ![832, 0] ![0, 640] ![0, 5120] (sl1 13) (slb 5) (slx 5) rfl rfl rfl ![0, 0, 80, 0, 0] rfl _ _ rfl _ _ _ _
  refine List.forall_mem_cons.2 ⟨?_, ?_⟩
  · exact A 0 5 12 0#32 rfl 92 rfl ![0, 0, 92, 0, 0] rfl _ ![768, 0] ![0, 640] ![0, 5120] (sl1 12) (slb 5) (slx 5) rfl rfl rfl ![0, 0, 80, 0, 0] rfl _ _ rfl _ _ _ _
  refine List.forall_mem_cons.2 ⟨?_, ?_⟩
  · exact A 0 5 11 0#32 rfl 91 rfl ![0, 0, 91, 0, 0] rfl _ ![704, 0] ![0, 640] ![0, 5120] (sl1 11) (slb 5) (slx 5) rfl rfl rfl ![0, 0, 80, 0, 0] rfl _ _ rfl _ _ _ _
  refine List.forall_mem_cons.2 ⟨?_, ?_⟩
  · exact A 0 5 10 0#32 rfl 90 rfl ![0, 0, 90, 0, 0] rfl _ ![640, 0] ![0, 640] ![0, 5120] (sl1 10) (slb 5) (slx 5) rfl rfl rfl ![0, 0, 80, 0, 0] rfl _ _ rfl _ _ _ _
  refine List.forall_mem_cons.2 ⟨?_, ?_⟩
  · exact A 0 5 9 0#32 rfl 89 rfl ![0, 0, 89, 0, 0] rfl _ ![576, 0] ![0, 640] ![0, 5120] (sl1 9) (slb 5) (slx 5) rfl rfl rfl ![0, 0, 80, 0, 0] rfl _ _ rfl _ _ _ _
  refine List.forall_mem_cons.2 ⟨?_, ?_⟩
  · exact A 0 5 8 0#32 rfl 88 rfl ![0, 0, 88, 0, 0] rfl _ ![512, 0] ![0, 640] ![0, 5120] (sl1 8) (slb 5) (slx 5) rfl rfl rfl ![0, 0, 80, 0, 0] rfl _ _ rfl _ _ _ _
  refine List.forall_mem_cons.2 ⟨?_, ?_⟩
  · exact A 0 5 7 0#32 rfl 87 rfl ![0, 0, 87, 0, 0] rfl _ ![448, 0] ![0, 640] ![0, 5120] (sl1 7) (slb 5) (slx 5) rfl rfl rfl ![0, 0, 80, 0, 0] rfl _ _ rfl _ _ _ _
  refine List.forall_mem_cons.2 ⟨?_, ?_⟩
  · exact A 0 5 6 0#32 rfl 86 rfl ![0, 0, 86, 0, 0] rfl _ ![384, 0] ![0, 640] ![0, 5120] (sl1 6) (slb 5) (slx 5) rfl rfl rfl ![0, 0, 80, 0, 0] rfl _ _ rfl _ _ _ _
  refine List.forall_mem_cons.2 ⟨?_, ?_⟩
  · exact A 0 5 5 0#32 rfl 85 rfl ![0, 0, 85, 0, 0] rfl _ ![320, 0] ![0, 640] ![0, 5120] (sl1 5) (slb 5) (slx 5) rfl rfl rfl ![0, 0, 80, 0, 0] rfl _ _ rfl _ _ _ _
  refine List.forall_mem_cons.2 ⟨?_, ?_⟩
  · exact A 0 5 4 0#32 rfl 84 rfl ![0, 0, 84, 0, 0] rfl _ ![256, 0] ![0, 640] ![0, 5120] (sl1 4) (slb 5) (slx 5) rfl rfl rfl ![0, 0, 80, 0, 0] rfl _ _ rfl _ _ _ _
  refine List.forall_mem_cons.2 ⟨?_, ?_⟩
  · exact A 0 5 3 0#32 rfl 83 rfl ![0, 0, 83, 0, 0] rfl _ ![192, 0] ![0, 640] ![0, 5120] (sl1 3) (slb 5) (slx 5) rfl rfl rfl ![0, 0, 80, 0, 0] rfl _ _ rfl _ _ _ _
  refine List.forall_mem_cons.2 ⟨?_, ?_⟩
  · exact A 0 5 2 0#32 rfl 82 rfl ![0, 0, 82, 0, 0] rfl _ ![128, 0] ![0, 640] ![0, 5120] (sl1 2) (slb 5) (slx 5) rfl rfl rfl ![0, 0, 80, 0, 0] rfl _ _ rfl _ _ _ _
  refine List.forall_mem_cons.2 ⟨?_, ?_⟩
  · exact A 0 5 1 0#32 rfl 81 rfl ![0, 0, 81, 0, 0] rfl _ ![64, 0] ![0, 640] ![0, 5120] (sl1 1) (slb 5) (slx 5) rfl rfl rfl ![0, 0, 80, 0, 0] rfl _ _ rfl _ _ _ _
  refine List.forall_mem_cons.2 ⟨?_, ?_⟩
  · exact A 0 5 0 0#32 rfl 80 rfl ![0, 0, 80, 0, 0] rfl _ ![0, 0] ![0, 640] ![0, 5120] (sl1 0) (slb 5) (slx 5) rfl rfl rfl ![0, 0, 80, 0, 0] rfl _ _ rfl _ _ _ _
  refine List.forall_mem_cons.2 ⟨?_, ?_⟩
  · exact A 1 4 15 1#32 rfl 79 rfl ![0, 1, 79, 0, 0] rfl _ ![960, 0] ![0, 512] ![0, 4096] (sl1 15) (slb 4) (slx 4) rfl rfl rfl ![0, 1, 64, 0, 0] rfl _ _ rfl _ _ _ _
  refine List.forall_mem_cons.2 ⟨?_, ?_⟩
  · exact A 1 4 14 1#32 rfl 78 rfl ![0, 1, 78, 0, 0] rfl _ ![896, 0] ![0, 512] ![0, 4096] (sl1 14) (slb 4) (slx 4) rfl rfl rfl ![0, 1, 64, 0, 0] rfl _ _ rfl _ _ _ _
  refine List.forall_mem_cons.2 ⟨?_, ?_⟩
  · exact A 1 4 13 1#32 rfl 77 rfl ![0, 1, 77, 0, 0] rfl _ ![832, 0] ![0, 512] ![0, 4096] (sl1 13) (slb 4) (slx 4) rfl rfl rfl ![0, 1, 64, 0, 0] rfl _ _ rfl _ _ _ _
  refine List.forall_mem_cons.2 ⟨?_, ?_⟩
  · exact A 1 4 12 1#32 rfl 76 rfl ![0, 1, 76, 0, 0] rfl _ ![768, 0] ![0, 512] ![0, 4096] (sl1 12) (slb 4) (slx 4) rfl rfl rfl ![0, 1, 64, 0, 0] rfl _ _ rfl _ _ _ _
  refine List.forall_mem_cons.2 ⟨?_, ?_⟩
  · exact A 1 4 11 1#32 rfl 75 rfl ![0, 1, 75, 0, 0] rfl _ ![704, 0] ![0, 512] ![0, 4096] (sl1 11) (slb 4) (slx 4) rfl rfl rfl ![0, 1, 64, 0, 0] rfl _ _ rfl _ _ _ _
  refine List.forall_mem_cons.2 ⟨?_, ?_⟩
  · exact A 1 4 10 1#32 rfl 74 rfl ![0, 1, 74, 0, 0] rfl _ ![640, 0] ![0, 512] ![0, 4096] (sl1 10) (slb 4) (slx 4) rfl rfl rfl ![0, 1, 64, 0, 0] rfl _ _ rfl _ _ _ _
  refine List.forall_mem_cons.2 ⟨?_, ?_⟩
  · exact A 1 4 9 1#32 rfl 73 rfl ![0, 1, 73, 0, 0] rfl _ ![576, 0] ![0, 512] ![0, 4096] (sl1 9) (slb 4) (slx 4) rfl rfl rfl ![0, 1, 64, 0, 0] rfl _ _ rfl _ _ _ _
  refine List.forall_mem_cons.2 ⟨?_, ?_⟩
  · exact A 1 4 8 1#32 rfl 72 rfl ![0, 1, 72, 0, 0] rfl _ ![512, 0] ![0, 512] ![0, 4096] (sl1 8) (slb 4) (slx 4) rfl rfl rfl ![0, 1, 64, 0, 0] rfl _ _ rfl _ _ _ _
  refine List.forall_mem_cons.2 ⟨?_, ?_⟩
  · exact A 1 4 7 1#32 rfl 71 rfl ![0, 1, 71, 0, 0] rfl _ ![448, 0] ![0, 512] ![0, 4096] (sl1 7) (slb 4) (slx 4) rfl rfl rfl ![0, 1, 64, 0, 0] rfl _ _ rfl _ _ _ _
  refine List.forall_mem_cons.2 ⟨?_, ?_⟩
  · exact A 1 4 6 1#32 rfl 70 rfl ![0, 1, 70, 0, 0] rfl _ ![384, 0] ![0, 512] ![0, 4096] (sl1 6) (slb 4) (slx 4) rfl rfl rfl ![0, 1, 64, 0, 0] rfl _ _ rfl _ _ _ _
  refine List.forall_mem_cons.2 ⟨?_, ?_⟩
  · exact A 1 4 5 1#32 rfl 69 rfl ![0, 1, 69, 0, 0] rfl _ ![320, 0] ![0, 512] ![0, 4096] (sl1 5) (slb 4) (slx 4) rfl rfl rfl ![0, 1, 64, 0, 0] rfl _ _ rfl _ _ _ _
  refine List.forall_mem_cons.2 ⟨?_, ?_⟩
  · exact A 1 4 4 1#32 rfl 68 rfl ![0, 1, 68, 0, 0] rfl _ ![256, 0] ![0, 512] ![0, 4096] (sl1 4) (slb 4) (slx 4) rfl rfl rfl ![0, 1, 64, 0, 0] rfl _ _ rfl _ _ _ _
  refine List.forall_mem_cons.2 ⟨?_, ?_⟩
  · exact A 1 4 3 1#32 rfl 67 rfl ![0, 1, 67, 0, 0] rfl _ ![192, 0] ![0, 512] ![0, 4096] (sl1 3) (slb 4) (slx 4) rfl rfl rfl ![0, 1, 64, 0, 0] rfl _ _ rfl _ _ _ _
  refine List.forall_mem_cons.2 ⟨?_, ?_⟩
  · exact A 1 4 2 1#32 rfl 66 rfl ![0, 1, 66, 0, 0] rfl _ ![128, 0] ![0, 512] ![0, 4096] (sl1 2) (slb 4) (slx 4) rfl rfl rfl ![0, 1, 64, 0, 0] rfl _ _ rfl _ _ _ _
  refine List.forall_mem_cons.2 ⟨?_, ?_⟩
  · exact A 1 4 1 1#32 rfl 65 rfl ![0, 1, 65, 0, 0] rfl _ ![64, 0] ![0, 512] ![0, 4096] (sl1 1) (slb 4) (slx 4) rfl rfl rfl ![0, 1, 64, 0, 0] rfl _ _ rfl _ _ _ _
  refine List.forall_mem_cons.2 ⟨?_, ?_⟩
  · exact A 1 4 0 1#32 rfl 64 rfl ![0, 1, 64, 0, 0] rfl _ ![0, 0] ![0, 512] ![0, 4096] (sl1 0) (slb 4) (slx 4) rfl rfl rfl ![0, 1, 64, 0, 0] rfl _ _ rfl _ _ _ _
  refine List.forall_mem_cons.2 ⟨?_, ?_⟩
  · exact A 0 4 15 0#32 rfl 79 rfl ![0, 0, 79, 0, 0] rfl _ ![960, 0] ![0, 512] ![0, 4096] (sl1 15) (slb 4) (slx 4) rfl rfl rfl ![0, 0, 64, 0, 0] rfl _ _ rfl _ _ _ _
  refine List.forall_mem_cons.2 ⟨?_, ?_⟩
  · exact A 0 4 14 0#32 rfl 78 rfl ![0, 0, 78, 0, 0] rfl _ ![896, 0] ![0, 512] ![0, 4096] (sl1 14) (slb 4) (slx 4) rfl rfl rfl ![0, 0, 64, 0, 0] rfl _ _ rfl _ _ _ _
  refine List.forall_mem_cons.2 ⟨?_, ?_⟩
  · exact A 0 4 13 0#32 rfl 77 rfl ![0, 0, 77, 0, 0] rfl _ ![832, 0] ![0, 512] ![0, 4096] (sl1 13) (slb 4) (slx 4) rfl rfl rfl ![0, 0, 64, 0, 0] rfl _ _ rfl _ _ _ _
  refine List.forall_mem_cons.2 ⟨?_, ?_⟩
  · exact A 0 4 12 0#32 rfl 76 rfl ![0, 0, 76, 0, 0] rfl _ ![768, 0] ![0, 512] ![0, 4096] (sl1 12) (slb 4) (slx 4) rfl rfl rfl ![0, 0, 64, 0, 0] rfl _ _ rfl _ _ _ _
  refine List.forall_mem_cons.2 ⟨?_, ?_⟩
  · exact A 0 4 11 0#32 rfl 75 rfl ![0, 0, 75, 0, 0] rfl _ ![704, 0] ![0, 512] ![0, 4096] (sl1 11) (slb 4) (slx 4) rfl rfl rfl ![0, 0, 64, 0, 0] rfl _ _ rfl _ _ _ _
  refine List.forall_mem_cons.2 ⟨?_, ?_⟩
  · exact A 0 4 10 0#32 rfl 74 rfl ![0, 0, 74, 0, 0] rfl _ ![640, 0] ![0, 512] ![0, 4096] (sl1 10) (slb 4) (slx 4) rfl rfl rfl ![0, 0, 64, 0, 0] rfl _ _ rfl _ _ _ _
  refine List.forall_mem_cons.2 ⟨?_, ?_⟩
  · exact A 0 4 9 0#32 rfl 73 rfl ![0, 0, 73, 0, 0] rfl _ ![576, 0] ![0, 512] ![0, 4096] (sl1 9) (slb 4) (slx 4) rfl rfl rfl ![0, 0, 64, 0, 0] rfl _ _ rfl _ _ _ _
  refine List.forall_mem_cons.2 ⟨?_, ?_⟩
  · exact A 0 4 8 0#32 rfl 72 rfl ![0, 0, 72, 0, 0] rfl _ ![512, 0] ![0, 512] ![0, 4096] (sl1 8) (slb 4) (slx 4) rfl rfl rfl ![0, 0, 64, 0, 0] rfl _ _ rfl _ _ _ _
  refine List.forall_mem_cons.2 ⟨?_, ?_⟩
  · exact A 0 4 7 0#32 rfl 71 rfl ![0, 0, 71, 0, 0] rfl _ ![448, 0] ![0, 512] ![0, 4096] (sl1 7) (slb 4) (slx 4) rfl rfl rfl ![0, 0, 64, 0, 0] rfl _ _ rfl _ _ _ _
  refine List.forall_mem_cons.2 ⟨?_, ?_⟩
  · exact A 0 4 6 0#32 rfl 70 rfl ![0, 0, 70, 0, 0] rfl _ ![384, 0] ![0, 512] ![0, 4096] (sl1 6) (slb 4) (slx 4) rfl rfl rfl ![0, 0, 64, 0, 0] rfl _ _ rfl _ _ _ _
  refine List.forall_mem_cons.2 ⟨?_, ?_⟩
  · exact A 0 4 5 0#32 rfl 69 rfl ![0, 0, 69, 0, 0] rfl _ ![320, 0] ![0, 512] ![0, 4096] (sl1 5) (slb 4) (slx 4) rfl rfl rfl ![0, 0, 64, 0, 0] rfl _ _ rfl _ _ _ _
  refine List.forall_mem_cons.2 ⟨?_, ?_⟩
  · exact A 0 4 4 0#32 rfl 68 rfl ![0, 0, 68, 0, 0] rfl _ ![256, 0] ![0, 512] ![0, 4096] (sl1 4) (slb 4) (slx 4) rfl rfl rfl ![0, 0, 64, 0, 0] rfl _ _ rfl _ _ _ _
  refine List.forall_mem_cons.2 ⟨?_, ?_⟩
  · exact A 0 4 3 0#32 rfl 67 rfl ![0, 0, 67, 0, 0] rfl _ ![192, 0] ![0, 512] ![0, 4096] (sl1 3) (slb 4) (slx 4) rfl rfl rfl ![0, 0, 64, 0, 0] rfl _ _ rfl _ _ _ _
  refine List.forall_mem_cons.2 ⟨?_, ?_⟩
  · exact A 0 4 2 0#32 rfl 66 rfl ![0, 0, 66, 0, 0] rfl _ ![128, 0] ![0, 512] ![0, 4096] (sl1 2) (slb 4) (slx 4) rfl rfl rfl ![0, 0, 64, 0, 0] rfl _ _ rfl _ _ _ _
  refine List.forall_mem_cons.2 ⟨?_, ?_⟩
  · exact A 0 4 1 0#32 rfl 65 rfl ![0, 0, 65, 0, 0] rfl _ ![64, 0] ![0, 512] ![0, 4096] (sl1 1) (slb 4) (slx 4) rfl rfl rfl ![0, 0, 64, 0, 0] rfl _ _ rfl _ _ _ _
  refine List.forall_mem_cons.2 ⟨?_, ?_⟩
  · exact A 0 4 0 0#32 rfl 64 rfl ![0, 0, 64, 0, 0] rfl _ ![0, 0] ![0, 512] ![0, 4096] (sl1 0) (slb 4) (slx 4) rfl rfl rfl ![0, 0, 64, 0, 0] rfl _ _ rfl _ _ _ _
  refine List.forall_mem_cons.2 ⟨?_, ?_⟩
  · exact A 1 3 15 1#32 rfl 63 rfl ![0, 1, 63, 0, 0] rfl _ ![960, 0] ![0, 384] ![0, 3072] (sl1 15) (slb 3) (slx 3) rfl rfl rfl ![0, 1, 48, 0, 0] rfl _ _ rfl _ _ _ _
  refine List.forall_mem_cons.2 ⟨?_, ?_⟩
  · exact A 1 3 14 1#32 rfl 62 rfl ![0, 1, 62, 0, 0] rfl _ ![896, 0] ![0, 384] ![0, 3072] (sl1 14) (slb 3) (slx 3) rfl rfl rfl ![0, 1, 48, 0, 0] rfl _ _ rfl _ _ _ _
  refine List.forall_mem_cons.2 ⟨?_, ?_⟩
  · exact A 1 3 13 1#32 rfl 61 rfl ![0, 1, 61, 0, 0] rfl _ ![832, 0] ![0, 384] ![0, 3072] (sl1 13) (slb 3) (slx 3) rfl rfl rfl ![0, 1, 48, 0, 0] rfl _ _ rfl _ _ _ _
  refine List.forall_mem_cons.2 ⟨?_, ?_⟩
  · exact A 1 3 12 1#32 rfl 60 rfl ![0, 1, 60, 0, 0] rfl _ ![768, 0] ![0, 384] ![0, 3072] (sl1 12) (slb 3) (slx 3) rfl rfl rfl ![0, 1, 48, 0, 0] rfl _ _ rfl _ _ _ _
  refine List.forall_mem_cons.2 ⟨?_, ?_⟩
  · exact A 1 3 11 1#32 rfl 59 rfl ![0, 1, 59, 0, 0] rfl _ ![704, 0] ![0, 384] ![0, 3072] (sl1 11) (slb 3) (slx 3) rfl rfl rfl ![0, 1, 48, 0, 0] rfl _ _ rfl _ _ _ _
  refine List.forall_mem_cons.2 ⟨?_, ?_⟩
  · exact A 1 3 10 1#32 rfl 58 rfl ![0, 1, 58, 0, 0] rfl _ ![640, 0] ![0, 384] ![0, 3072] (sl1 10) (slb 3) (slx 3) rfl rfl rfl ![0, 1, 48, 0, 0] rfl _ _ rfl _ _ _ _
  refine List.forall_mem_cons.2 ⟨?_, ?_⟩
  · exact A 1 3 9 1#32 rfl 57 rfl ![0, 1, 57, 0, 0] rfl _ ![576, 0] ![0, 384] ![0, 3072] (sl1 9) (slb 3) (slx 3) rfl rfl rfl ![0, 1, 48, 0, 0] rfl _ _ rfl _ _ _ _
  refine List.forall_mem_cons.2 ⟨?_, ?_⟩
  · exact A 1 3 8 1#32 rfl 56 rfl ![0, 1, 56, 0, 0] rfl _ ![512, 0] ![0, 384] ![0, 3072] (sl1 8) (slb 3) (slx 3) rfl rfl rfl ![0, 1, 48, 0, 0] rfl _ _ rfl _ _ _ _
  refine List.forall_mem_cons.2 ⟨?_, ?_⟩
  · exact A 1 3 7 1#32 rfl 55 rfl ![0, 1, 55, 0, 0] rfl _ ![448, 0] ![0, 384] ![0, 3072] (sl1 7) (slb 3) (slx 3) rfl rfl rfl ![0, 1, 48, 0, 0] rfl _ _ rfl _ _ _ _
  refine List.forall_mem_cons.2 ⟨?_, ?_⟩
  · exact A 1 3 6 1#32 rfl 54 rfl ![0, 1, 54, 0, 0] rfl _ ![384, 0] ![0, 384] ![0, 3072] (sl1 6) (slb 3) (slx 3) rfl rfl rfl ![0, 1, 48, 0, 0] rfl _ _ rfl _ _ _ _
  refine List.forall_mem_cons.2 ⟨?_, ?_⟩
  · exact A 1 3 5 1#32 rfl 53 rfl ![0, 1, 53, 0, 0] rfl _ ![320, 0] ![0, 384] ![0, 3072] (sl1 5) (slb 3) (slx 3) rfl rfl rfl ![0, 1, 48, 0, 0] rfl _ _ rfl _ _ _ _
  refine List.forall_mem_cons.2 ⟨?_, ?_⟩
  · exact A 1 3 4 1#32 rfl 52 rfl ![0, 1, 52, 0, 0] rfl _ ![256, 0] ![0, 384] ![0, 3072] (sl1 4) (slb 3) (slx 3) rfl rfl rfl ![0, 1, 48, 0, 0] rfl _ _ rfl _ _ _ _
  refine List.forall_mem_cons.2 ⟨?_, ?_⟩
  · exact A 1 3 3 1#32 rfl 51 rfl ![0, 1, 51, 0, 0] rfl _ ![192, 0] ![0, 384] ![0, 3072] (sl1 3) (slb 3) (slx 3) rfl rfl rfl ![0, 1, 48, 0, 0] rfl _ _ rfl _ _ _ _
  refine List.forall_mem_cons.2 ⟨?_, ?_⟩
  · exact A 1 3 2 1#32 rfl 50 rfl ![0, 1, 50, 0, 0] rfl _ ![128, 0] ![0, 384] ![0, 3072] (sl1 2) (slb 3) (slx 3) rfl rfl rfl ![0, 1, 48, 0, 0] rfl _ _ rfl _ _ _ _
  refine List.forall_mem_cons.2 ⟨?_, ?_⟩
  · exact A 1 3 1 1#32 rfl 49 rfl ![0, 1, 49, 0, 0] rfl _ ![64, 0] ![0, 384] ![0, 3072] (sl1 1) (slb 3) (slx 3) rfl rfl rfl ![0, 1, 48, 0, 0] rfl _ _ rfl _ _ _ _
  refine List.forall_mem_cons.2 ⟨?_, ?_⟩
  · exact A 1 3 0 1#32 rfl 48 rfl ![0, 1, 48, 0, 0] rfl _ ![0, 0] ![0, 384] ![0, 3072] (sl1 0) (slb 3) (slx 3) rfl rfl rfl ![0, 1, 48, 0, 0] rfl _ _ rfl _ _ _ _
  refine List.forall_mem_cons.2 ⟨?_, ?_⟩
  · exact A 0 3 15 0#32 rfl 63 rfl ![0, 0, 63, 0, 0] rfl _ ![960, 0] ![0, 384] ![0, 3072] (sl1 15) (slb 3) (slx 3) rfl rfl rfl ![0, 0, 48, 0, 0] rfl _ _ rfl _ _ _ _
  refine List.forall_mem_cons.2 ⟨?_, ?_⟩
  · exact A 0 3 14 0#32 rfl 62 rfl ![0, 0, 62, 0, 0] rfl _ ![896, 0] ![0, 384] ![0, 3072] (sl1 14) (slb 3) (slx 3) rfl rfl rfl ![0, 0, 48, 0, 0] rfl _ _ rfl _ _ _ _
  refine List.forall_mem_cons.2 ⟨?_, ?_⟩
  · exact A 0 3 13 0#32 rfl 61 rfl ![0, 0, 61, 0, 0] rfl _ ![832, 0] ![0, 384] ![0, 3072] (sl1 13) (slb 3) (slx 3) rfl rfl rfl ![0, 0, 48, 0, 0] rfl _ _ rfl _ _ _ _
  refine List.forall_mem_cons.2 ⟨?_, ?_⟩
  · exact A 0 3 12 0#32 rfl 60 rfl ![0, 0, 60, 0, 0] rfl _ ![768, 0] ![0, 384] ![0, 3072] (sl1 12) (slb 3) (slx 3) rfl rfl rfl ![0, 0, 48, 0, 0] rfl _ _ rfl _ _ _ _
  refine List.forall_mem_cons.2 ⟨?_, ?_⟩
  · exact A 0 3 11 0#32 rfl 59 rfl ![0, 0, 59, 0, 0] rfl _ ![704, 0] ![0, 384] ![0, 3072] (sl1 11) (slb 3) (slx 3) rfl rfl rfl ![0, 0, 48, 0, 0] rfl _ _ rfl _ _ _ _
  refine List.forall_mem_cons.2 ⟨?_, ?_⟩
  · exact A 0 3 10 0#32 rfl 58 rfl ![0, 0, 58, 0, 0] rfl _ ![640, 0] ![0, 384] ![0, 3072] (sl1 10) (slb 3) (slx 3) rfl rfl rfl ![0, 0, 48, 0, 0] rfl _ _ rfl _ _ _ _
  refine List.forall_mem_cons.2 ⟨?_, ?_⟩
  · exact A 0 3 9 0#32 rfl 57 rfl ![0, 0, 57, 0, 0] rfl _ ![576, 0] ![0, 384] ![0, 3072] (sl1 9) (slb 3) (slx 3) rfl rfl rfl ![0, 0, 48, 0, 0] rfl _ _ rfl _ _ _ _
  refine List.forall_mem_cons.2 ⟨?_, ?_⟩
  · exact A 0 3 8 0#32 rfl 56 rfl ![0, 0, 56, 0, 0] rfl _ ![512, 0] ![0, 384] ![0, 3072] (sl1 8) (slb 3) (slx 3) rfl rfl rfl ![0, 0, 48, 0, 0] rfl _ _ rfl _ _ _ _
  refine List.forall_mem_cons.2 ⟨?_, ?_⟩
  · exact A 0 3 7 0#32 rfl 55 rfl ![0, 0, 55, 0, 0] rfl _ ![448, 0] ![0, 384] ![0, 3072] (sl1 7) (slb 3) (slx 3) rfl rfl rfl ![0, 0, 48, 0, 0] rfl _ _ rfl _ _ _ _
  refine List.forall_mem_cons.2 ⟨?_, ?_⟩
  · exact A 0 3 6 0#32 rfl 54 rfl ![0, 0, 54, 0, 0] rfl _ ![384, 0] ![0, 384] ![0, 3072] (sl1 6) (slb 3) (slx 3) rfl rfl rfl ![0, 0, 48, 0, 0] rfl _ _ rfl _ _ _ _
  refine List.forall_mem_cons.2 ⟨?_, ?_⟩
  · exact A 0 3 5 0#32 rfl 53 rfl ![0, 0, 53, 0, 0] rfl _ ![320, 0] ![0, 384] ![0, 3072] (sl1 5) (slb 3) (slx 3) rfl rfl rfl ![0, 0, 48, 0, 0] rfl _ _ rfl _ _ _ _
  refine List.forall_mem_cons.2 ⟨?_, ?_⟩
  · exact A 0 3 4 0#32 rfl 52 rfl ![0, 0, 52, 0, 0] rfl _ ![256, 0] ![0, 384] ![0, 3072] (sl1 4) (slb 3) (slx 3) rfl rfl rfl ![0, 0, 48, 0, 0] rfl _ _ rfl _ _ _ _
  refine List.forall_mem_cons.2 ⟨?_, ?_⟩
  · exact A 0 3 3 0#32 rfl 51 rfl ![0, 0, 51, 0, 0] rfl _ ![192, 0] ![0, 384] ![0, 3072] (sl1 3) (slb 3) (slx 3) rfl rfl rfl ![0, 0, 48, 0, 0] rfl _ _ rfl _ _ _ _
  refine List.forall_mem_cons.2 ⟨?_, ?_⟩
  · exact A 0 3 2 0#32 rfl 50 rfl ![0, 0, 50, 0, 0] rfl _ ![128, 0] ![0, 384] ![0, 3072] (sl1 2) (slb 3) (slx 3) rfl rfl rfl ![0, 0, 48, 0, 0] rfl _ _ rfl _ _ _ _
  refine List.forall_mem_cons.2 ⟨?_, ?_⟩
  · exact A 0 3 1 0#32 rfl 49 rfl ![0, 0, 49, 0, 0] rfl _ ![64, 0] ![0, 384] ![0, 3072] (sl1 1) (slb 3) (slx 3) rfl rfl rfl ![0, 0, 48, 0, 0] rfl _ _ rfl _ _ _ _
  refine List.forall_mem_cons.2 ⟨?_, ?_⟩
  · exact A 0 3 0 0#32 rfl 48 rfl ![0, 0, 48, 0, 0] rfl _ ![0, 0] ![0, 384] ![0, 3072] (sl1 0) (slb 3) (slx 3) rfl rfl rfl ![0, 0, 48, 0, 0] rfl _ _ rfl _ _ _ _
  refine List.forall_mem_cons.2 ⟨?_, ?_⟩
  · exact A 1 2 15 1#32 rfl 47 rfl ![0, 1, 47, 0, 0] rfl _ ![960, 0] ![0, 256] ![0, 2048] (sl1 15) (slb 2) (slx 2) rfl rfl rfl ![0, 1, 32, 0, 0] rfl _ _ rfl _ _ _ _
  refine List.forall_mem_cons.2 ⟨?_, ?_⟩
  · exact A 1 2 14 1#32 rfl 46 rfl ![0, 1, 46, 0, 0] rfl _ ![896, 0] ![0, 256] ![0, 2048] (sl1 14) (slb 2) (slx 2) rfl rfl rfl ![0, 1, 32, 0, 0] rfl _ _ rfl _ _ _ _
  refine List.forall_mem_cons.2 ⟨?_, ?_⟩
  · exact A 1 2 13 1#32 rfl 45 rfl ![0, 1, 45, 0, 0] rfl _ ![832, 0] ![0, 256] ![0, 2048] (sl1 13) (slb 2) (slx 2) rfl rfl rfl ![0, 1, 32, 0, 0] rfl _ _ rfl _ _ _ _
  refine List.forall_mem_cons.2 ⟨?_, ?_⟩
  · exact A 1 2 12 1#32 rfl 44 rfl ![0, 1, 44, 0, 0] rfl _ ![768, 0] ![0, 256] ![0, 2048] (sl1 12) (slb 2) (slx 2) rfl rfl rfl ![0, 1, 32, 0, 0] rfl _ _ rfl _ _ _ _
  refine List.forall_mem_cons.2 ⟨?_, ?_⟩
  · exact A 1 2 11 1#32 rfl 43 rfl ![0, 1, 43, 0, 0] rfl _ ![704, 0] ![0, 256] ![0, 2048] (sl1 11) (slb 2) (slx 2) rfl rfl rfl ![0, 1, 32, 0, 0] rfl _ _ rfl _ _ _ _
  refine List.forall_mem_cons.2 ⟨?_, ?_⟩
  · exact A 1 2 10 1#32 rfl 42 rfl ![0, 1, 42, 0, 0] rfl _ ![640, 0] ![0, 256] ![0, 2048] (sl1 10) (slb 2) (slx 2) rfl rfl rfl ![0, 1, 32, 0, 0] rfl _ _ rfl _ _ _ _
  refine List.forall_mem_cons.2 ⟨?_, ?_⟩
  · exact A 1 2 9 1#32 rfl 41 rfl ![0, 1, 41, 0, 0] rfl _ ![576, 0] ![0, 256] ![0, 2048] (sl1 9) (slb 2) (slx 2) rfl rfl rfl ![0, 1, 32, 0, 0] rfl _ _ rfl _ _ _ _
  refine List.forall_mem_cons.2 ⟨?_, ?_⟩
  · exact A 1 2 8 1#32 rfl 40 rfl ![0, 1, 40, 0, 0] rfl _ ![512, 0] ![0, 256] ![0, 2048] (sl1 8) (slb 2) (slx 2) rfl rfl rfl ![0, 1, 32, 0, 0] rfl _ _ rfl _ _ _ _
  refine List.forall_mem_cons.2 ⟨?_, ?_⟩
  · exact A 1 2 7 1#32 rfl 39 rfl ![0, 1, 39, 0, 0] rfl _ ![448, 0] ![0, 256] ![0, 2048] (sl1 7) (slb 2) (slx 2) rfl rfl rfl ![0, 1, 32, 0, 0] rfl _ _ rfl _ _ _ _
  refine List.forall_mem_cons.2 ⟨?_, ?_⟩
  · exact A 1 2 6 1#32 rfl 38 rfl ![0, 1, 38, 0, 0] rfl _ ![384, 0] ![0, 256] ![0, 2048] (sl1 6) (slb 2) (slx 2) rfl rfl rfl ![0, 1, 32, 0, 0] rfl _ _ rfl _ _ _ _
  refine List.forall_mem_cons.2 ⟨?_, ?_⟩
  · exact A 1 2 5 1#32 rfl 37 rfl ![0, 1, 37, 0, 0] rfl _ ![320, 0] ![0, 256] ![0, 2048] (sl1 5) (slb 2) (slx 2) rfl rfl rfl ![0, 1, 32, 0, 0] rfl _ _ rfl _ _ _ _
  refine List.forall_mem_cons.2 ⟨?_, ?_⟩
  · exact A 1 2 4 1#32 rfl 36 rfl ![0, 1, 36, 0, 0] rfl _ ![256, 0] ![0, 256] ![0, 2048] (sl1 4) (slb 2) (slx 2) rfl rfl rfl ![0, 1, 32, 0, 0] rfl _ _ rfl _ _ _ _
  refine List.forall_mem_cons.2 ⟨?_, ?_⟩
  · exact A 1 2 3 1#32 rfl 35 rfl ![0, 1, 35, 0, 0] rfl _ ![192, 0] ![0, 256] ![0, 2048] (sl1 3) (slb 2) (slx 2) rfl rfl rfl ![0, 1, 32, 0, 0] rfl _ _ rfl _ _ _ _
  refine List.forall_mem_cons.2 ⟨?_, ?_⟩
  · exact A 1 2 2 1#32 rfl 34 rfl ![0, 1, 34, 0, 0] rfl _ ![128, 0] ![0, 256] ![0, 2048] (sl1 2) (slb 2) (slx 2) rfl rfl rfl ![0, 1, 32, 0, 0] rfl _ _ rfl _ _ _ _
  refine List.forall_mem_cons.2 ⟨?_, ?_⟩
  · exact A 1 2 1 1#32 rfl 33 rfl ![0, 1, 33, 0, 0] rfl _ ![64, 0] ![0, 256] ![0, 2048] (sl1 1) (slb 2) (slx 2) rfl rfl rfl ![0, 1, 32, 0, 0] rfl _ _ rfl _ _ _ _
  refine List.forall_mem_cons.2 ⟨?_, ?_⟩
  · exact A 1 2 0 1#32 rfl 32 rfl ![0, 1, 32, 0, 0] rfl _ ![0, 0] ![0, 256] ![0, 2048] (sl1 0) (slb 2) (slx 2) rfl rfl rfl ![0, 1, 32, 0, 0] rfl _ _ rfl _ _ _ _
  refine List.forall_mem_cons.2 ⟨?_, ?_⟩
  · exact A 0 2 15 0#32 rfl 47 rfl ![0, 0, 47, 0, 0] rfl _ ![960, 0] ![0, 256] ![0, 2048] (sl1 15) (slb 2) (slx 2) rfl rfl rfl ![0, 0, 32, 0, 0] rfl _ _ rfl _ _ _ _
  refine List.forall_mem_cons.2 ⟨?_, ?_⟩
  · exact A 0 2 14 0#32 rfl 46 rfl ![0, 0, 46, 0, 0] rfl _ ![896, 0] ![0, 256] ![0, 2048] (sl1 14) (slb 2) (slx 2) rfl rfl rfl ![0, 0, 32, 0, 0] rfl _ _ rfl _ _ _ _
  refine List.forall_mem_cons.2 ⟨?_, ?_⟩
  · exact A 0 2 13 0#32 rfl 45 rfl ![0, 0, 45, 0, 0] rfl _ ![832, 0] ![0, 256] ![0, 2048] (sl1 13) (slb 2) (slx 2) rfl rfl rfl ![0, 0, 32, 0, 0] rfl _ _ rfl _ _ _ _
  refine List.forall_mem_cons.2 ⟨?_, ?_⟩
  · exact A 0 2 12 0#32 rfl 44 rfl ![0, 0, 44, 0, 0] rfl _ ![768, 0] ![0, 256] ![0, 2048] (sl1 12) (slb 2) (slx 2) rfl rfl rfl ![0, 0, 32, 0, 0] rfl _ _ rfl _ _ _ _
  refine List.forall_mem_cons.2 ⟨?_, ?_⟩
  · exact A 0 2 11 0#32 rfl 43 rfl ![0, 0, 43, 0, 0] rfl _ ![704, 0] ![0, 256] ![0, 2048] (sl1 11) (slb 2) (slx 2) rfl rfl rfl ![0, 0, 32, 0, 0] rfl _ _ rfl _ _ _ _
  refine List.forall_mem_cons.2 ⟨?_, ?_⟩
  · exact A 0 2 10 0#32 rfl 42 rfl ![0, 0, 42, 0, 0] rfl _ ![640, 0] ![0, 256] ![0, 2048] (sl1 10) (slb 2) (slx 2) rfl rfl rfl ![0, 0, 32, 0, 0] rfl _ _ rfl _ _ _ _
  refine List.forall_mem_cons.2 ⟨?_, ?_⟩
  · exact A 0 2 9 0#32 rfl 41 rfl ![0, 0, 41, 0, 0] rfl _ ![576, 0] ![0, 256] ![0, 2048] (sl1 9) (slb 2) (slx 2) rfl rfl rfl ![0, 0, 32, 0, 0] rfl _ _ rfl _ _ _ _
  refine List.forall_mem_cons.2 ⟨?_, ?_⟩
  · exact A 0 2 8 0#32 rfl 40 rfl ![0, 0, 40, 0, 0] rfl _ ![512, 0] ![0, 256] ![0, 2048] (sl1 8) (slb 2) (slx 2) rfl rfl rfl ![0, 0, 32, 0, 0] rfl _ _ rfl _ _ _ _
  refine List.forall_mem_cons.2 ⟨?_, ?_⟩
  · exact A 0 2 7 0#32 rfl 39 rfl ![0, 0, 39, 0, 0] rfl _ ![448, 0] ![0, 256] ![0, 2048] (sl1 7) (slb 2) (slx 2) rfl rfl rfl ![0, 0, 32, 0, 0] rfl _ _ rfl _ _ _ _
  refine List.forall_mem_cons.2 ⟨?_, ?_⟩
  · exact A 0 2 6 0#32 rfl 38 rfl ![0, 0, 38, 0, 0] rfl _ ![384, 0] ![0, 256] ![0, 2048] (sl1 6) (slb 2) (slx 2) rfl rfl rfl ![0, 0, 32, 0, 0] rfl _ _ rfl _ _ _ _
  refine List.forall_mem_cons.2 ⟨?_, ?_⟩
  · exact A 0 2 5 0#32 rfl 37 rfl ![0, 0, 37, 0, 0] rfl _ ![320, 0] ![0, 256] ![0, 2048] (sl1 5) (slb 2) (slx 2) rfl rfl rfl ![0, 0, 32, 0, 0] rfl _ _ rfl _ _ _ _
  refine List.forall_mem_cons.2 ⟨?_, ?_⟩
  · exact A 0 2 4 0#32 rfl 36 rfl ![0, 0, 36, 0, 0] rfl _ ![256, 0] ![0, 256] ![0, 2048] (sl1 4) (slb 2) (slx 2) rfl rfl rfl ![0, 0, 32, 0, 0] rfl _ _ rfl _ _ _ _
  refine List.forall_mem_cons.2 ⟨?_, ?_⟩
  · exact A 0 2 3 0#32 rfl 35 rfl ![0, 0, 35, 0, 0] rfl _ ![192, 0] ![0, 256] ![0, 2048] (sl1 3) (slb 2) (slx 2) rfl rfl rfl ![0, 0, 32, 0, 0] rfl _ _ rfl _ _ _ _
  refine List.forall_mem_cons.2 ⟨?_, ?_⟩
  · exact A 0 2 2 0#32 rfl 34 rfl ![0, 0, 34, 0, 0] rfl _ ![128, 0] ![0, 256] ![0, 2048] (sl1 2) (slb 2) (slx 2) rfl rfl rfl ![0, 0, 32, 0, 0] rfl _ _ rfl _ _ _ _
  refine List.forall_mem_cons.2 ⟨?_, ?_⟩
  · exact A 0 2 1 0#32 rfl 33 rfl ![0, 0, 33, 0, 0] rfl _ ![64, 0] ![0, 256] ![0, 2048] (sl1 1) (slb 2) (slx 2) rfl rfl rfl ![0, 0, 32, 0, 0] rfl _ _ rfl _ _ _ _
  refine List.forall_mem_cons.2 ⟨?_, ?_⟩
  · exact A 0 2 0 0#32 rfl 32 rfl ![0, 0, 32, 0, 0] rfl _ ![0, 0] ![0, 256] ![0, 2048] (sl1 0) (slb 2) (slx 2) rfl rfl rfl ![0, 0, 32, 0, 0] rfl _ _ rfl _ _ _ _
  refine List.forall_mem_cons.2 ⟨?_, ?_⟩
  · exact A 1 1 15 1#32 rfl 31 rfl ![0, 1, 31, 0, 0] rfl _ ![960, 0] ![0, 128] ![0, 1024] (sl1 15) (slb 1) (slx 1) rfl rfl rfl ![0, 1, 16, 0, 0] rfl _ _ rfl _ _ _ _
  refine List.forall_mem_cons.2 ⟨?_, ?_⟩
  · exact A 1 1 14 1#32 rfl 30 rfl ![0, 1, 30, 0, 0] rfl _ ![896, 0] ![0, 128] ![0, 1024] (sl1 14) (slb 1) (slx 1) rfl rfl rfl ![0, 1, 16, 0, 0] rfl _ _ rfl _ _ _ _
  refine List.forall_mem_cons.2 ⟨?_, ?_⟩
  · exact A 1 1 13 1#32 rfl 29 rfl ![0, 1, 29, 0, 0] rfl _ ![832, 0] ![0, 128] ![0, 1024] (sl1 13) (slb 1) (slx 1) rfl rfl rfl ![0, 1, 16, 0, 0] rfl _ _ rfl _ _ _ _
  refine List.forall_mem_cons.2 ⟨?_, ?_⟩
  · exact A 1 1 12 1#32 rfl 28 rfl ![0, 1, 28, 0, 0] rfl _ ![768, 0] ![0, 128] ![0, 1024] (sl1 12) (slb 1) (slx 1) rfl rfl rfl ![0, 1, 16, 0, 0] rfl _ _ rfl _ _ _ _
  refine List.forall_mem_cons.2 ⟨?_, ?_⟩
  · exact A 1 1 11 1#32 rfl 27 rfl ![0, 1, 27, 0, 0] rfl _ ![704, 0] ![0, 128] ![0, 1024] (sl1 11) (slb 1) (slx 1) rfl rfl rfl ![0, 1, 16, 0, 0] rfl _ _ rfl _ _ _ _
  refine List.forall_mem_cons.2 ⟨?_, ?_⟩
  · exact A 1 1 10 1#32 rfl 26 rfl ![0, 1, 26, 0, 0] rfl _ ![640, 0] ![0, 128] ![0, 1024] (sl1 10) (slb 1) (slx 1) rfl rfl rfl ![0, 1, 16, 0, 0] rfl _ _ rfl _ _ _ _
  refine List.forall_mem_cons.2 ⟨?_, ?_⟩
  · exact A 1 1 9 1#32 rfl 25 rfl ![0, 1, 25, 0, 0] rfl _ ![576, 0] ![0, 128] ![0, 1024] (sl1 9) (slb 1) (slx 1) rfl rfl rfl ![0, 1, 16, 0, 0] rfl _ _ rfl _ _ _ _
  refine List.forall_mem_cons.2 ⟨?_, ?_⟩
  · exact A 1 1 8 1#32 rfl 24 rfl ![0, 1, 24, 0, 0] rfl _ ![512, 0] ![0, 128] ![0, 1024] (sl1 8) (slb 1) (slx 1) rfl rfl rfl ![0, 1, 16, 0, 0] rfl _ _ rfl _ _ _ _
  refine List.forall_mem_cons.2 ⟨?_, ?_⟩
  · exact A 1 1 7 1#32 rfl 23 rfl ![0, 1, 23, 0, 0] rfl _ ![448, 0] ![0, 128] ![0, 1024] (sl1 7) (slb 1) (slx 1) rfl rfl rfl ![0, 1, 16, 0, 0] rfl _ _ rfl _ _ _ _
  refine List.forall_mem_cons.2 ⟨?_, ?_⟩
  · exact A 1 1 6 1#32 rfl 22 rfl ![0, 1, 22, 0, 0] rfl _ ![384, 0] ![0, 128] ![0, 1024] (sl1 6) (slb 1) (slx 1) rfl rfl rfl ![0, 1, 16, 0, 0] rfl _ _ rfl _ _ _ _
  refine List.forall_mem_cons.2 ⟨?_, ?_⟩
  · exact A 1 1 5 1#32 rfl 21 rfl ![0, 1, 21, 0, 0] rfl _ ![320, 0] ![0, 128] ![0, 1024] (sl1 5) (slb 1) (slx 1) rfl rfl rfl ![0, 1, 16, 0, 0] rfl _ _ rfl _ _ _ _
  refine List.forall_mem_cons.2 ⟨?_, ?_⟩
  · exact A 1 1 4 1#32 rfl 20 rfl ![0, 1, 20, 0, 0] rfl _ ![256, 0] ![0, 128] ![0, 1024] (sl1 4) (slb 1) (slx 1) rfl rfl rfl ![0, 1, 16, 0, 0] rfl _ _ rfl _ _ _ _
  refine List.forall_mem_cons.2 ⟨?_, ?_⟩
  · exact A 1 1 3 1#32 rfl 19 rfl ![0, 1, 19, 0, 0] rfl _ ![192, 0] ![0, 128] ![0, 1024] (sl1 3) (slb 1) (slx 1) rfl rfl rfl ![0, 1, 16, 0, 0] rfl _ _ rfl _ _ _ _
  refine List.forall_mem_cons.2 ⟨?_, ?_⟩
  · exact A 1 1 2 1#32 rfl 18 rfl ![0, 1, 18, 0, 0] rfl _ ![128, 0] ![0, 128] ![0, 1024] (sl1 2) (slb 1) (slx 1) rfl rfl rfl ![0, 1, 16, 0, 0] rfl _ _ rfl _ _ _ _
  refine List.forall_mem_cons.2 ⟨?_, ?_⟩
  · exact A 1 1 1 1#32 rfl 17 rfl ![0, 1, 17, 0, 0] rfl _ ![64, 0] ![0, 128] ![0, 1024] (sl1 1) (slb 1) (slx 1) rfl rfl rfl ![0, 1, 16, 0, 0] rfl _ _ rfl _ _ _ _
  refine List.forall_mem_cons.2 ⟨?_, ?_⟩
  · exact A 1 1 0 1#32 rfl 16 rfl ![0, 1, 16, 0, 0] rfl _ ![0, 0] ![0, 128] ![0, 1024] (sl1 0) (slb 1) (slx 1) rfl rfl rfl ![0, 1, 16, 0, 0] rfl _ _ rfl _ _ _ _
  refine List.forall_mem_cons.2 ⟨?_, ?_⟩
  · exact A 0 1 15 0#32 rfl 31 rfl ![0, 0, 31, 0, 0] rfl _ ![960, 0] ![0, 128] ![0, 1024] (sl1 15) (slb 1) (slx 1) rfl rfl rfl ![0, 0, 16, 0, 0] rfl _ _ rfl _ _ _ _
  refine List.forall_mem_cons.2 ⟨?_, ?_⟩
  · exact A 0 1 14 0#32 rfl 30 rfl ![0, 0, 30, 0, 0] rfl _ ![896, 0] ![0, 128] ![0, 1024] (sl1 14) (slb 1) (slx 1) rfl rfl rfl ![0, 0, 16, 0, 0] rfl _ _ rfl _ _ _ _
  refine List.forall_mem_cons.2 ⟨?_, ?_⟩
  · exact A 0 1 13 0#32 rfl 29 rfl ![0, 0, 29, 0, 0] rfl _ ![832, 0] ![0, 128] ![0, 1024] (sl1 13) (slb 1) (slx 1) rfl rfl rfl ![0, 0, 16, 0, 0] rfl _ _ rfl _ _ _ _
  refine List.forall_mem_cons.2 ⟨?_, ?_⟩
  · exact A 0 1 12 0#32 rfl 28 rfl ![0, 0, 28, 0, 0] rfl _ ![768, 0] ![0, 128] ![0, 1024] (sl1 12) (slb 1) (slx 1) rfl rfl rfl ![0, 0, 16, 0, 0] rfl _ _ rfl _ _ _ _
  refine List.forall_mem_cons.2 ⟨?_, ?_⟩
  · exact A 0 1 11 0#32 rfl 27 rfl ![0, 0, 27, 0, 0] rfl _ ![704, 0] ![0, 128] ![0, 1024] (sl1 11) (slb 1) (slx 1) rfl rfl rfl ![0, 0, 16, 0, 0] rfl _ _ rfl _ _ _ _
  refine List.forall_mem_cons.2 ⟨?_, ?_⟩
  · exact A 0 1 10 0#32 rfl 26 rfl ![0, 0, 26, 0, 0] rfl _ ![640, 0] ![0, 128] ![0, 1024] (sl1 10) (slb 1) (slx 1) rfl rfl rfl ![0, 0, 16, 0, 0] rfl _ _ rfl _ _ _ _
  refine List.forall_mem_cons.2 ⟨?_, ?_⟩
  · exact A 0 1 9 0#32 rfl 25 rfl ![0, 0, 25, 0, 0] rfl _ ![576, 0] ![0, 128] ![0, 1024] (sl1 9) (slb 1) (slx 1) rfl rfl rfl ![0, 0, 16, 0, 0] rfl _ _ rfl _ _ _ _
  refine List.forall_mem_cons.2 ⟨?_, ?_⟩
  · exact A 0 1 8 0#32 rfl 24 rfl ![0, 0, 24, 0, 0] rfl _ ![512, 0] ![0, 128] ![0, 1024] (sl1 8) (slb 1) (slx 1) rfl rfl rfl ![0, 0, 16, 0, 0] rfl _ _ rfl _ _ _ _
  refine List.forall_mem_cons.2 ⟨?_, ?_⟩
  · exact A 0 1 7 0#32 rfl 23 rfl ![0, 0, 23, 0, 0] rfl _ ![448, 0] ![0, 128] ![0, 1024] (sl1 7) (slb 1) (slx 1) rfl rfl rfl ![0, 0, 16, 0, 0] rfl _ _ rfl _ _ _ _
  refine List.forall_mem_cons.2 ⟨?_, ?_⟩
  · exact A 0 1 6 0#32 rfl 22 rfl ![0, 0, 22, 0, 0] rfl _ ![384, 0] ![0, 128] ![0, 1024] (sl1 6) (slb 1) (slx 1) rfl rfl rfl ![0, 0, 16, 0, 0] rfl _ _ rfl _ _ _ _
  refine List.forall_mem_cons.2 ⟨?_, ?_⟩
  · exact A 0 1 5 0#32 rfl 21 rfl ![0, 0, 21, 0, 0] rfl _ ![320, 0] ![0, 128] ![0, 1024] (sl1 5) (slb 1) (slx 1) rfl rfl rfl ![0, 0, 16, 0, 0] rfl _ _ rfl _ _ _ _
  refine List.forall_mem_cons.2 ⟨?_, ?_⟩
  · exact A 0 1 4 0#32 rfl 20 rfl ![0, 0, 20, 0, 0] rfl _ ![256, 0] ![0, 128] ![0, 1024] (sl1 4) (slb 1) (slx 1) rfl rfl rfl ![0, 0, 16, 0, 0] rfl _ _ rfl _ _ _ _
  refine List.forall_mem_cons.2 ⟨?_, ?_⟩
  · exact A 0 1 3 0#32 rfl 19 rfl ![0, 0, 19, 0, 0] rfl _ ![192, 0] ![0, 128] ![0, 1024] (sl1 3) (slb 1) (slx 1) rfl rfl rfl ![0, 0, 16, 0, 0] rfl _ _ rfl _ _ _ _
  refine List.forall_mem_cons.2 ⟨?_, ?_⟩
  · exact A 0 1 2 0#32 rfl 18 rfl ![0, 0, 18, 0, 0] rfl _ ![128, 0] ![0, 128] ![0, 1024] (sl1 2) (slb 1) (slx 1) rfl rfl rfl ![0, 0, 16, 0, 0] rfl _ _ rfl _ _ _ _
  refine List.forall_mem_cons.2 ⟨?_, ?_⟩
  · exact A 0 1 1 0#32 rfl 17 rfl ![0, 0, 17, 0, 0] rfl _ ![64, 0] ![0, 128] ![0, 1024] (sl1 1) (slb 1) (slx 1) rfl rfl rfl ![0, 0, 16, 0, 0] rfl _ _ rfl _ _ _ _
  refine List.forall_mem_cons.2 ⟨?_, ?_⟩
  · exact A 0 1 0 0#32 rfl 16 rfl ![0, 0, 16, 0, 0] rfl _ ![0, 0] ![0, 128] ![0, 1024] (sl1 0) (slb 1) (slx 1) rfl rfl rfl ![0, 0, 16, 0, 0] rfl _ _ rfl _ _ _ _
  refine List.forall_mem_cons.2 ⟨?_, ?_⟩
  · exact A 1 0 15 1#32 rfl 15 rfl ![0, 1, 15, 0, 0] rfl _ ![960, 0] ![0, 0] ![0, 0] (sl1 15) (slb 0) (slx 0) rfl rfl rfl ![0, 1, 0, 0, 0] rfl _ _ rfl _ _ _ _
  refine List.forall_mem_cons.2 ⟨?_, ?_⟩
  · exact A 1 0 14 1#32 rfl 14 rfl ![0, 1, 14, 0, 0] rfl _ ![896, 0] ![0, 0] ![0, 0] (sl1 14) (slb 0) (slx 0) rfl rfl rfl ![0, 1, 0, 0, 0] rfl _ _ rfl _ _ _ _
  refine List.forall_mem_cons.2 ⟨?_, ?_⟩
  · exact A 1 0 13 1#32 rfl 13 rfl ![0, 1, 13, 0, 0] rfl _ ![832, 0] ![0, 0] ![0, 0] (sl1 13) (slb 0) (slx 0) rfl rfl rfl ![0, 1, 0, 0, 0] rfl _ _ rfl _ _ _ _
  refine List.forall_mem_cons.2 ⟨?_, ?_⟩
  · exact A 1 0 12 1#32 rfl 12 rfl ![0, 1, 12, 0, 0] rfl _ ![768, 0] ![0, 0] ![0, 0] (sl1 12) (slb 0) (slx 0) rfl rfl rfl ![0, 1, 0, 0, 0] rfl _ _ rfl _ _ _ _
  refine List.forall_mem_cons.2 ⟨?_, ?_⟩
  · exact A 1 0 11 1#32 rfl 11 rfl ![0, 1, 11, 0, 0] rfl _ ![704, 0] ![0, 0] ![0, 0] (sl1 11) (slb 0) (slx 0) rfl rfl rfl ![0, 1, 0, 0, 0] rfl _ _ rfl _ _ _ _
  refine List.forall_mem_cons.2 ⟨?_, ?_⟩
  · exact A 1 0 10 1#32 rfl 10 rfl ![0, 1, 10, 0, 0] rfl _ ![640, 0] ![0, 0] ![0, 0] (sl1 10) (slb 0) (slx 0) rfl rfl rfl ![0, 1, 0, 0, 0] rfl _ _ rfl _ _ _ _
  refine List.forall_mem_cons.2 ⟨?_, ?_⟩
  · exact A 1 0 9 1#32 rfl 9 rfl ![0, 1, 9, 0, 0] rfl _ ![576, 0] ![0, 0] ![0, 0] (sl1 9) (slb 0) (slx 0) rfl rfl rfl ![0, 1, 0, 0, 0] rfl _ _ rfl _ _ _ _
  refine List.forall_mem_cons.2 ⟨?_, ?_⟩
  · exact A 1 0 8 1#32 rfl 8 rfl ![0, 1, 8, 0, 0] rfl _ ![512, 0] ![0, 0] ![0, 0] (sl1 8) (slb 0) (slx 0) rfl rfl rfl ![0, 1, 0, 0, 0] rfl _ _ rfl _ _ _ _
  refine List.forall_mem_cons.2 ⟨?_, ?_⟩
  · exact A 1 0 7 1#32 rfl 7 rfl ![0, 1, 7, 0, 0] rfl _ ![448, 0] ![0, 0] ![0, 0] (sl1 7) (slb 0) (slx 0) rfl rfl rfl ![0, 1, 0, 0, 0] rfl _ _ rfl _ _ _ _
  refine List.forall_mem_cons.2 ⟨?_, ?_⟩
  · exact A 1 0 6 1#32 rfl 6 rfl ![0, 1, 6, 0, 0] rfl _ ![384, 0] ![0, 0] ![0, 0] (sl1 6) (slb 0) (slx 0) rfl rfl rfl ![0, 1, 0, 0, 0] rfl _ _ rfl _ _ _ _
  refine List.forall_mem_cons.2 ⟨?_, ?_⟩
  · exact A 1 0 5 1#32 rfl 5 rfl ![0, 1, 5, 0, 0] rfl _ ![320, 0] ![0, 0] ![0, 0] (sl1 5) (slb 0) (slx 0) rfl rfl rfl ![0, 1, 0, 0, 0] rfl _ _ rfl _ _ _ _
  refine List.forall_mem_cons.2 ⟨?_, ?_⟩
  · exact A 1 0 4 1#32 rfl 4 rfl ![0, 1, 4, 0, 0] rfl _ ![256, 0] ![0, 0] ![0, 0] (sl1 4) (slb 0) (slx 0) rfl rfl rfl ![0, 1, 0, 0, 0] rfl _ _ rfl _ _ _ _
  refine List.forall_mem_cons.2 ⟨?_, ?_⟩
  · exact A 1 0 3 1#32 rfl 3 rfl ![0, 1, 3, 0, 0] rfl _ ![192, 0] ![0, 0] ![0, 0] (sl1 3) (slb 0) (slx 0) rfl rfl rfl ![0, 1, 0, 0, 0] rfl _ _ rfl _ _ _ _
  refine List.forall_mem_cons.2 ⟨?_, ?_⟩
  · exact A 1 0 2 1#32 rfl 2 rfl ![0, 1, 2, 0, 0] rfl _ ![128, 0] ![0, 0] ![0, 0] (sl1 2) (slb 0) (slx 0) rfl rfl rfl ![0, 1, 0, 0, 0] rfl _ _ rfl _ _ _ _
  refine List.forall_mem_cons.2 ⟨?_, ?_⟩
  · exact A 1 0 1 1#32 rfl 1 rfl ![0, 1, 1, 0, 0] rfl _ ![64, 0] ![0, 0] ![0, 0] (sl1 1) (slb 0) (slx 0) rfl rfl rfl ![0, 1, 0, 0, 0] rfl _ _ rfl _ _ _ _
  refine List.forall_mem_cons.2 ⟨?_, ?_⟩
  · exact A 1 0 0 1#32 rfl 0 rfl ![0, 1, 0, 0, 0] rfl _ ![0, 0] ![0, 0] ![0, 0] (sl1 0) (slb 0) (slx 0) rfl rfl rfl ![0, 1, 0, 0, 0] rfl _ _ rfl _ _ _ _
  refine List.forall_mem_cons.2 ⟨?_, ?_⟩
  · exact A 0 0 15 0#32 rfl 15 rfl ![0, 0, 15, 0, 0] rfl _ ![960, 0] ![0, 0] ![0, 0] (sl1 15) (slb 0) (slx 0) rfl rfl rfl ![0, 0, 0, 0, 0] rfl _ _ rfl _ _ _ _
  refine List.forall_mem_cons.2 ⟨?_, ?_⟩
  · exact A 0 0 14 0#32 rfl 14 rfl ![0, 0, 14, 0, 0] rfl _ ![896, 0] ![0, 0] ![0, 0] (sl1 14) (slb 0) (slx 0) rfl rfl rfl ![0, 0, 0, 0, 0] rfl _ _ rfl _ _ _ _
  refine List.forall_mem_cons.2 ⟨?_, ?_⟩
  · exact A 0 0 13 0#32 rfl 13 rfl ![0, 0, 13, 0, 0] rfl _ ![832, 0] ![0, 0] ![0, 0] (sl1 13) (slb 0) (slx 0) rfl rfl rfl ![0, 0, 0, 0, 0] rfl _ _ rfl _ _ _ _
  refine List.forall_mem_cons.2 ⟨?_, ?_⟩
  · exact A 0 0 12 0#32 rfl 12 rfl ![0, 0, 12, 0, 0] rfl _ ![768, 0] ![0, 0] ![0, 0] (sl1 12) (slb 0) (slx 0) rfl rfl rfl ![0, 0, 0, 0, 0] rfl _ _ rfl _ _ _ _
  refine List.forall_mem_cons.2 ⟨?_, ?_⟩
  · exact A 0 0 11 0#32 rfl 11 rfl ![0, 0, 11, 0, 0] rfl _ ![704, 0] ![0, 0] ![0, 0] (sl1 11) (slb 0) (slx 0) rfl rfl rfl ![0, 0, 0, 0, 0] rfl _ _ rfl _ _ _ _
  refine List.forall_mem_cons.2 ⟨?_, ?_⟩
  · exact A 0 0 10 0#32 rfl 10 rfl ![0, 0, 10, 0, 0] rfl _ ![640, 0] ![0, 0] ![0, 0] (sl1 10) (slb 0) (slx 0) rfl rfl rfl ![0, 0, 0, 0, 0] rfl _ _ rfl _ _ _ _
  refine List.forall_mem_cons.2 ⟨?_, ?_⟩
  · exact A 0 0 9 0#32 rfl 9 rfl ![0, 0, 9, 0, 0] rfl _ ![576, 0] ![0, 0] ![0, 0] (sl1 9) (slb 0) (slx 0) rfl rfl rfl ![0, 0, 0, 0, 0] rfl _ _ rfl _ _ _ _
  refine List.forall_mem_cons.2 ⟨?_, ?_⟩
  · exact A 0 0 8 0#32 rfl 8 rfl ![0, 0, 8, 0, 0] rfl _ ![512, 0] ![0, 0] ![0, 0] (sl1 8) (slb 0) (slx 0) rfl rfl rfl ![0, 0, 0, 0, 0] rfl _ _ rfl _ _ _ _
  refine List.forall_mem_cons.2 ⟨?_, ?_⟩
  · exact A 0 0 7 0#32 rfl 7 rfl ![0, 0, 7, 0, 0] rfl _ ![448, 0] ![0, 0] ![0, 0] (sl1 7) (slb 0) (slx 0) rfl rfl rfl ![0, 0, 0, 0, 0] rfl _ _ rfl _ _ _ _
  refine List.forall_mem_cons.2 ⟨?_, ?_⟩
  · exact A 0 0 6 0#32 rfl 6 rfl ![0, 0, 6, 0, 0] rfl _ ![384, 0] ![0, 0] ![0, 0] (sl1 6) (slb 0) (slx 0) rfl rfl rfl ![0, 0, 0, 0, 0] rfl _ _ rfl _ _ _ _
  refine List.forall_mem_cons.2 ⟨?_, ?_⟩
  · exact A 0 0 5 0#32 rfl 5 rfl ![0, 0, 5, 0, 0] rfl _ ![320, 0] ![0, 0] ![0, 0] (sl1 5) (slb 0) (slx 0) rfl rfl rfl ![0, 0, 0, 0, 0] rfl _ _ rfl _ _ _ _
  refine List.forall_mem_cons.2 ⟨?_, ?_⟩
  · exact A 0 0 4 0#32 rfl 4 rfl ![0, 0, 4, 0, 0] rfl _ ![256, 0] ![0, 0] ![0, 0] (sl1 4) (slb 0) (slx 0) rfl rfl rfl ![0, 0, 0, 0, 0] rfl _ _ rfl _ _ _ _
  refine List.forall_mem_cons.2 ⟨?_, ?_⟩
  · exact A 0 0 3 0#32 rfl 3 rfl ![0, 0, 3, 0, 0] rfl _ ![192, 0] ![0, 0] ![0, 0] (sl1 3) (slb 0) (slx 0) rfl rfl rfl ![0, 0, 0, 0, 0] rfl _ _ rfl _ _ _ _
  refine List.forall_mem_cons.2 ⟨?_, ?_⟩
  · exact A 0 0 2 0#32 rfl 2 rfl ![0, 0, 2, 0, 0] rfl _ ![128, 0] ![0, 0] ![0, 0] (sl1 2) (slb 0) (slx 0) rfl rfl rfl ![0, 0, 0, 0, 0] rfl _ _ rfl _ _ _ _
  refine List.forall_mem_cons.2 ⟨?_, ?_⟩
  · exact A 0 0 1 0#32 rfl 1 rfl ![0, 0, 1, 0, 0] rfl _ ![64, 0] ![0, 0] ![0, 0] (sl1 1) (slb 0) (slx 0) rfl rfl rfl ![0, 0, 0, 0, 0] rfl _ _ rfl _ _ _ _
  refine List.forall_mem_cons.2 ⟨?_, ?_⟩
  · exact A 0 0 0 0#32 rfl 0 rfl ![0, 0, 0, 0, 0] rfl _ ![0, 0] ![0, 0] ![0, 0] (sl1 0) (slb 0) (slx 0) rfl rfl rfl ![0, 0, 0, 0, 0] rfl _ _ rfl _ _ _ _
  exact fun _ h => absurd h List.not_mem_nil

end Cert.SsdState
-- ==== Proof.SsdState.lean ====
module

public import proofs.«01_k».proof.Defs
public import proofs.«01_k».proof.Proof.SsdStateBody
public import proofs.«01_k».proof.Proof.Gen.Reference12Ideal.Run

@[expose] public section

set_option maxRecDepth 16384

noncomputable section

open Idealize.ShloMosaic Idealize.ShloMosaic.TcCoe Idealize.SL.Sem

namespace Cert.SsdState

open Cert.Kernel12Ideal Cert.Kernel12Ideal.Gen

variable (m : (ℓ : Loc nD τ sig) → Buf (Elt Ideal) ℓ)

/-- the decays, the states of the two layers, the rows of B and the weighted inputs -/
abbrev dec (c : Dev nD) : S128x128.Idx → EReal := m ((c : Thread nD τ).loc main_arg0)
abbrev hs (c : Dev nD) : S2x128x128x64x128.Idx → EReal := m ((c : Thread nD τ).loc main_arg1)
abbrev bm (c : Dev nD) : S128x4x1024.Idx → EReal := m ((c : Thread nD τ).loc main_arg3)
abbrev xw (c : Dev nD) : S128x4x8192.Idx → EReal := m ((c : Thread nD τ).loc main_arg4)

theorem idx : ∀ t : Fin cfg0.N, win0_0.index t = ![0, 0] ∧ win0_1.index t = ![0, t.val, 0, 0, 0]
    ∧ win0_3.index t = ![t.val, 0] ∧ win0_4.index t = ![t.val, 0] ∧ win0_5.index t = ![0, t.val, 0, 0, 0] :=
  (by decide +kernel : ∀ t : Fin grid0.N, _)

theorem crd : ∀ t : Fin grid0.N, (grid0.coords t 0).val = t.val := by decide +kernel

/-- The new states over the packed rows. -/
def full (D : S128x128.Idx → EReal) (H : S2x128x128x64x128.Idx → EReal) (B : S688x1024.Idx → EReal) (X : S688x8192.Idx → EReal)
    (u : Fin 2) (b h : Fin 128) (p : Fin 64) (n : Fin 128) : EReal :=
  H (ix5 u b h p n) * D (ix2 b h) +
    ∑ q : Fin 4, X (ix2 ⟨(b : ℕ) * 4 + q, by omega⟩ ⟨(h : ℕ) * 64 + p, by omega⟩) * B (ix2 ⟨(b : ℕ) * 4 + q, by omega⟩ ⟨(h : ℕ) / 16 * 128 + n, by omega⟩)

theorem blk_d (c : Dev nD) (t : Fin cfg0.N) (r k i j : Fin 128) (hi : (i : ℕ) = r) (hj : (j : ℕ) = k) :
    (show FVec Ideal S128x128 .f32 from iblk m c 0 t) (ix2 r k) = (V m c main_arg0 : S128x128.Idx → EReal) (ix2 i j) := by
  blk_ext [iblk, idx t]

theorem blk_h (c : Dev nD) (t : Fin cfg0.N) (s : Fin 2) (h : Fin 128) (p : Fin 64) (n : Fin 128) (u : Fin 2) (b h' : Fin 128) (p' : Fin 64) (n' : Fin 128)
    (hu : (u : ℕ) = 0) (hb : (b : ℕ) = t.val * 2 + s) (hh : (h' : ℕ) = h) (hp : (p' : ℕ) = p) (hn : (n' : ℕ) = n) :
    (show FVec Ideal S1x2x128x64x128 .f32 from iblk m c 1 t) (ix5 0 s h p n) = (V m c main_arg1 : S2x128x128x64x128.Idx → EReal) (ix5 u b h' p' n') := by
  blk_ext [iblk, idx t]

theorem blk_b (c : Dev nD) (t : Fin cfg0.N) (r : Fin 8) (k : Fin 1024) (i : Fin 688) (j : Fin 1024) (hi : (i : ℕ) = t.val * 8 + r) (hj : (j : ℕ) = k) :
    (show FVec Ideal S8x1024 .f32 from iblk m c 3 t) (ix2 r k) = (V m c main_v5 : S688x1024.Idx → EReal) (ix2 i j) := by
  blk_ext [iblk, idx t]

theorem blk_x (c : Dev nD) (t : Fin cfg0.N) (r : Fin 8) (k : Fin 8192) (i : Fin 688) (j : Fin 8192) (hi : (i : ℕ) = t.val * 8 + r) (hj : (j : ℕ) = k) :
    (show FVec Ideal S8x8192 .f32 from iblk m c 4 t) (ix2 r k) = (V m c main_v8 : S688x8192.Idx → EReal) (ix2 i j) := by
  blk_ext [iblk, idx t]

theorem out_apply (c : Dev nD) (i : grid0.Coords) (a1 : Memref sig .tc .smem S128x128 .f32) (ha1 : a1.IsWhole) (a2 : Memref sig .tc .vmem S1x2x128x64x128 .f32)
    (ha2 : a2.IsWhole) (a3 : Memref sig .tc .vmem S8x1024 .f32) (ha3 : a3.IsWhole) (a4 : Memref sig .tc .vmem S8x1024 .f32) (ha4 : a4.IsWhole)
    (a5 : Memref sig .tc .vmem S8x8192 .f32) (ha5 : a5.IsWhole) (a7 : Memref sig .tc .vmem S1x2x128x64x128 .f32) (ha7 : a7.IsWhole)
    (a8 : Memref sig .tc .vmem S8x8192 .f32) (ha8 : a8.IsWhole)
    (x0 : Vec Ideal S128x128 .f32) (x1 : Vec Ideal S1x2x128x64x128 .f32) (x2 : Vec Ideal S8x1024 .f32) (x3 : Vec Ideal S8x1024 .f32) (x4 : Vec Ideal S8x8192 .f32)
    (y : S1x2x128x64x128.Idx) :
    out0_A_5 c i a1 ha1 a2 ha2 a3 ha3 a4 ha4 a5 ha5 a7 ha7 a8 ha8 x0 x1 x2 x3 x4 y = target (i 0).val (i 0).isLt x0 x1 x3 x4 (y 1) (y 2) (y 3) (y 4) := by
  have hy := cover0_A_5 c i a1 ha1 a2 ha2 a3 ha3 a4 ha4 a5 ha5 a7 ha7 a8 ha8 x0 x1 x2 x3 x4 y
  have hA := all_ok c i a1 ha1 a2 ha2 a3 ha3 a4 ha4 a5 ha5 a7 ha7 a8 ha8 x0 x1 x2 x3 x4
  unfold Gen.out0_A_5
  generalize (kernelRun0_A c i a1 ha1 a2 ha2 a3 ha3 a4 ha4 a5 ha5 a7 ha7 a8 ha8 x0 x1 x2 x3 x4).1 = L at hy hA ⊢
  exact (View.read_writes_apply_eq_canon _ _ y L hy).trans (ok_canon _ L hA y hy)

theorem point (c : Dev nD) (t : Fin cfg0.N) (y : S1x2x128x64x128.Idx) (u : Fin 2) (b h : Fin 128) (p : Fin 64) (n : Fin 128)
    (hu : (u : ℕ) = 0) (hb : (b : ℕ) = t.val * 2 + (y 1 : ℕ)) (hh : (h : ℕ) = y 2) (hp : (p : ℕ) = y 3) (hn : (n : ℕ) = y 4) :
    (outsAt0 m c t).1 y = full (V m c main_arg0) (V m c main_arg1) (V m c main_v5) (V m c main_v8) u b h p n := by
  have hc := crd t
  unfold Gen.outsAt0
  dsimp only
  refine (out_apply c _ _ _ _ _ _ _ _ _ _ _ _ _ _ _ _ _ _ _ _ y).trans ?_
  unfold target full
  refine congrArg₂ (fun a b : EReal => a + b) (congrArg₂ (fun a b : EReal => a * b)
      (blk_h m c t _ _ _ _ _ _ _ _ _ hu hb hh hp hn) (blk_d m c t _ _ _ _ ?_ hh))
    (Finset.sum_congr rfl fun q _ => congrArg₂ (fun a b : EReal => a * b) (blk_x m c t _ _ _ _ ?_ ?_) (blk_b m c t _ _ _ _ ?_ ?_))
  all_goals dsimp only
  · rw [hc]; exact hb
  · omega
  · rw [hh, hp]
  · omega
  · rw [hh, hn]

theorem flush5 : ∀ t : Fin grid0.N, win0_5.flush t = true := by decide +kernel

theorem final (c : Dev nD) (b h : Fin 128) (p : Fin 64) (n : Fin 128) :
    ((dats m 0 c).arrAt 5 (cfgs 0).N : S2x128x128x64x128.Idx → EReal) (ix5 0 b h p n) =
      full (V m c main_arg0) (V m c main_arg1) (V m c main_v5) (V m c main_v8) 0 b h p n := by
  have hb := b.isLt
  have hh := h.isLt
  have hp := p.isLt
  have hn := n.isLt
  refine (dats m 0 c).arrAt_forall_of_flushed 5 (fun i v => v = full (V m c main_arg0) (V m c main_arg1) (V m c main_v5) (V m c main_v8) (i 0) (i 1) (i 2) (i 3) (i 4))
    (fun t _ y => ?_) _ ⟨(b : ℕ) / 2, Nat.lt_of_lt_of_le (by omega : (b : ℕ) / 2 < 64) (by decide)⟩ (ix5 0 b h p n) (Fin.isLt _) (flush5 _) ?_
  · blk_simp; rw [after0_5]
    exact point m c t y _ _ _ _ _ (by blk_simp [idx t]) (by blk_simp [idx t]) (by blk_simp [idx t]) (by blk_simp [idx t]) (by blk_simp [idx t])
  · mem_blk [idx]
    show (0 ≤ 0 ∧ 0 < 1) ∧ ((b : ℕ) / 2 * 2 ≤ b ∧ (b : ℕ) < b / 2 * 2 + 2) ∧ (0 ≤ (h : ℕ) ∧ (h : ℕ) < 128) ∧ (0 ≤ (p : ℕ) ∧ (p : ℕ) < 64) ∧
      0 ≤ (n : ℕ) ∧ (n : ℕ) < 128
    omega

theorem V_d (c : Dev nD) : V m c main_arg0 = m ((c : Thread nD τ).loc main_arg0) := by
  dsimp only [V, V0]
  simp only [List.flatten_cons, List.flatten_nil, List.append_nil]
  after_results

theorem V_h (c : Dev nD) : V m c main_arg1 = m ((c : Thread nD τ).loc main_arg1) := by
  dsimp only [V, V0]
  simp only [List.flatten_cons, List.flatten_nil, List.append_nil]
  after_results

theorem V_b' (c : Dev nD) : V m c main_v5 = (concatenate S688x1024 0
    [⟨S512x1024, shapeCast _ (m ((c : Thread nD τ).loc main_arg3)) shapeCasts_S128x4x1024_S512x1024⟩,
     ⟨S176x1024, broadcastInDim S176x1024 ![] bcast_S_S176x1024 (constant (F := Ideal) S_ .f32 0x00000000#32)⟩]
     concatenates_S512x1024_S176x1024_S688x1024_d0 : FVec Ideal S688x1024 .f32) := by
  dsimp only [V, V0]
  simp only [List.flatten_cons, List.flatten_nil, List.append_nil]
  after_results
  rfl

theorem V_x' (c : Dev nD) : V m c main_v8 = (concatenate S688x8192 0
    [⟨S512x8192, shapeCast _ (m ((c : Thread nD τ).loc main_arg4)) shapeCasts_S128x4x8192_S512x8192⟩,
     ⟨S176x8192, broadcastInDim S176x8192 ![] bcast_S_S176x8192 (constant (F := Ideal) S_ .f32 0x00000000#32)⟩]
     concatenates_S512x8192_S176x8192_S688x8192_d0 : FVec Ideal S688x8192 .f32) := by
  dsimp only [V, V0]
  simp only [List.flatten_cons, List.flatten_nil, List.append_nil]
  after_results
  rfl

theorem V_b (c : Dev nD) (b : Fin 128) (t : Fin 4) (k : Fin 1024) (i : Fin 688) (hi : (i : ℕ) = b * 4 + t) :
    (V m c main_v5 : S688x1024.Idx → EReal) (ix2 i k) = bm m c (ix3 b t k) := by
  rw [V_b']
  exact Packed.padded_first _ _ _ _ b t k _ hi (by decide)

theorem V_x (c : Dev nD) (b : Fin 128) (t : Fin 4) (k : Fin 8192) (i : Fin 688) (hi : (i : ℕ) = b * 4 + t) :
    (V m c main_v8 : S688x8192.Idx → EReal) (ix2 i k) = xw m c (ix3 b t k) := by
  rw [V_x']
  exact Packed.padded_first _ _ _ _ b t k _ hi (by decide)

theorem tail (c : Dev nD) (b h : Fin 128) (p : Fin 64) (n : Fin 128) :
    Pipeline.afterTail₀ cfgs (dats m) 0 (V0 m) [hostOps1] c main_v12 (ix4 b h p n) =
      hs m c (ix5 0 b h p n) * dec m c (ix2 b h) +
        ∑ q : Fin 4, xw m c (ix3 b q ⟨(h : ℕ) * 64 + p, by omega⟩) * bm m c (ix3 b q ⟨(h : ℕ) / 16 * 128 + n, by omega⟩) := by
  unfold Pipeline.afterTail₀
  simp only [List.flatten_cons, List.flatten_nil, List.append_nil]
  after_results
  rw [Pipeline.withArrays_arr _ launch0.win.arr_inj c _ _ 5]
  pointwise
  refine (final m c b h p n).trans ?_
  unfold full
  refine congrArg₂ (fun a b : EReal => a + b) (by rw [V_d, V_h])
    (Finset.sum_congr rfl fun q _ => congrArg₂ (fun a b : EReal => a * b) (V_x m c b q _ _ rfl) (V_b m c b q _ _ rfl))

set_option maxHeartbeats 2000000 in
theorem algebraic : Cert.algebraic_Kernel12Ideal_Reference12Ideal := by
  pair_intro
  · run_from Cert.Kernel12Ideal.Gen.run_main m g
    · exact W_main_arg2 m (dats m) c
    · exact W_main_arg3 m (dats m) c
    · exact W_main_arg4 m (dats m) c
  · hlo_run
    funext i
    rw [eq_ix4 i]
    refine Eq.trans ?_ (tail m c (i 0) (i 1) (i 2) (i 3)).symm
    pointwise
    refine congrArg₂ (fun a b : EReal => a + b) rfl (Finset.sum_congr rfl fun q _ => congrArg₂ (fun a b : EReal => a * b) (congrArg (xw m c) ?_) rfl)
    refine congrArg (ix3 (i 0) q) (Fin.ext ?_)
    show (i 1 : ℕ) / 16 * 1024 + (i 1 : ℕ) % 16 * 64 + (i 2 : ℕ) = (i 1 : ℕ) * 64 + (i 2 : ℕ)
    omega

end Cert.SsdState
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Pre_finite
public import proofs.«01_k».proof.Proof.NormOut
public import proofs.«01_k».proof.Proof.NormSample
public import proofs.«01_k».proof.Proof.WDown
public import proofs.«01_k».proof.Proof.Proj
public import proofs.«01_k».proof.Proof.WbOut
public import proofs.«01_k».proof.Proof.WaOut
public import proofs.«01_k».proof.Proof.WO
public import proofs.«01_k».proof.Proof.SconvPrompt
public import proofs.«01_k».proof.Proof.SconvSample
public import proofs.«01_k».proof.Proof.FfnState
public import proofs.«01_k».proof.Proof.FfnUp
public import proofs.«01_k».proof.Proof.FfnGate
public import proofs.«01_k».proof.Proof.SsdState

@[expose] public section

set_option maxRecDepth 16384

noncomputable section

open Idealize.ShloMosaic Idealize.ShloMosaic.TcCoe Idealize.SL.Sem

namespace Cert.Proof

/-! The frames of the references, read off their runs: a reference declares no semaphore, so its counters read zero. -/

theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

theorem frame_reference2 : Cert.quiescent_Reference2Ideal := fun m g _ =>
  (θ_run Cert.Reference2Ideal.defs _ _).mono
    (fun r h => ⟨fun c => (h c).2, sem_eq_zero_of_no_sems (by decide) r.2⟩)
    (Cert.Reference2Ideal.Value.run (F := Ideal) m g)

theorem frame_reference3 : Cert.quiescent_Reference3Ideal := fun m g _ =>
  (θ_run Cert.Reference3Ideal.defs _ _).mono
    (fun r h => ⟨fun c => (h c).2.2, sem_eq_zero_of_no_sems (by decide) r.2⟩)
    (Cert.Reference3Ideal.Value.run (F := Ideal) m g)

theorem frame_reference4 : Cert.quiescent_Reference4Ideal := fun m g _ =>
  (θ_run Cert.Reference4Ideal.defs _ _).mono
    (fun r h => ⟨fun c => (h c).2.2.2.2.2.2.2.2, sem_eq_zero_of_no_sems (by decide) r.2⟩)
    (Cert.Reference4Ideal.Value.run (F := Ideal) m g)

theorem frame_reference5 : Cert.quiescent_Reference5Ideal := fun m g _ =>
  (θ_run Cert.Reference5Ideal.defs _ _).mono
    (fun r h => ⟨fun c => (h c).2.2, sem_eq_zero_of_no_sems (by decide) r.2⟩)
    (Cert.Reference5Ideal.Value.run (F := Ideal) m g)

theorem frame_reference6 : Cert.quiescent_Reference6Ideal := fun m g _ =>
  (θ_run Cert.Reference6Ideal.defs _ _).mono
    (fun r h => ⟨fun c => (h c).2.2, sem_eq_zero_of_no_sems (by decide) r.2⟩)
    (Cert.Reference6Ideal.Value.run (F := Ideal) m g)

theorem frame_reference7 : Cert.quiescent_Reference7Ideal := fun m g _ =>
  (θ_run Cert.Reference7Ideal.defs _ _).mono
    (fun r h => ⟨fun c => (h c).2.2, sem_eq_zero_of_no_sems (by decide) r.2⟩)
    (Cert.Reference7Ideal.Value.run (F := Ideal) m g)

theorem frame_reference8 : Cert.quiescent_Reference8Ideal := fun m g _ =>
  (θ_run Cert.Reference8Ideal.defs _ _).mono
    (fun r h => ⟨fun c => (h c).2.2, sem_eq_zero_of_no_sems (by decide) r.2⟩)
    (Cert.Reference8Ideal.Value.run (F := Ideal) m g)

theorem frame_reference9 : Cert.quiescent_Reference9Ideal := fun m g _ =>
  (θ_run Cert.Reference9Ideal.defs _ _).mono
    (fun r h => ⟨fun c => (h c).2.2, sem_eq_zero_of_no_sems (by decide) r.2⟩)
    (Cert.Reference9Ideal.Value.run (F := Ideal) m g)

theorem frame_reference10 : Cert.quiescent_Reference10Ideal := fun m g _ =>
  (θ_run Cert.Reference10Ideal.defs _ _).mono
    (fun r h => ⟨fun c => (h c).2.2.2, sem_eq_zero_of_no_sems (by decide) r.2⟩)
    (Cert.Reference10Ideal.Value.run (F := Ideal) m g)

theorem frame_reference11 : Cert.quiescent_Reference11Ideal := fun m g _ =>
  (θ_run Cert.Reference11Ideal.defs _ _).mono
    (fun r h => ⟨fun c => (h c).2.2, sem_eq_zero_of_no_sems (by decide) r.2⟩)
    (Cert.Reference11Ideal.Value.run (F := Ideal) m g)

theorem frame_reference12 : Cert.quiescent_Reference12Ideal := fun m g _ =>
  (θ_run Cert.Reference12Ideal.defs _ _).mono
    (fun r h => ⟨fun c => (h c).2, sem_eq_zero_of_no_sems (by decide) r.2⟩)
    (Cert.Reference12Ideal.Value.run (F := Ideal) m g)

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts, Cert.Pre_finite.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ,
    fun m ρ _ => Cert.Kernel11Ideal.Gen.frame m ρ, frame_reference11, fun m ρ _ => frame_reference11 m ρ trivial,
    fun m ρ _ => Cert.Kernel12.Gen.frame m ρ, fun m ρ _ => Cert.Kernel12Ideal.Gen.frame m ρ, frame_reference12,
    trivial, Cert.NormOut.algebraic,
    trivial, Cert.NormSample.algebraic,
    trivial, Cert.WDown.algebraic,
    trivial, Cert.Proj.algebraic,
    trivial, Cert.WbOut.algebraic,
    trivial, Cert.WaOut.algebraic,
    trivial, Cert.WO.algebraic,
    trivial, Cert.SconvPrompt.algebraic,
    trivial, Cert.SconvSample.algebraic,
    trivial, Cert.FfnState.algebraic,
    trivial, Cert.FfnUp.algebraic,
    trivial, Cert.SsdState.algebraic⟩

end Cert.Proof
